-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v108_0)) (v2 : (c : Dev Cert.KernelIdeal.nD) → Buf (Elt Ideal) ((c.tc : Thread Cert.KernelIdeal.nD Cert.KernelIdeal.τ).loc Cert.KernelIdeal.main_v108_1)) (v3 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v108_0) = v1 c
          ∧ r.2.mem ((c.tc : Thread Cert.KernelIdeal.nD Cert.KernelIdeal.τ).loc Cert.KernelIdeal.main_v108_1) = v2 c
          ∧ r.2.mem ((c.tc : Thread Cert.KernelIdeal.nD Cert.KernelIdeal.τ).loc Cert.KernelIdeal.main_v112) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)) (v1 : (c : Dev Cert.Kernel4Ideal.nD) → Buf (Elt Ideal) ((c.tc : Thread Cert.Kernel4Ideal.nD Cert.Kernel4Ideal.τ).loc Cert.Kernel4Ideal.main_v9)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_v9) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v19_2)) (v1 : (c : Dev Cert.Kernel5Ideal.nD) → Buf (Elt Ideal) ((c.tc : Thread Cert.Kernel5Ideal.nD Cert.Kernel5Ideal.τ).loc Cert.Kernel5Ideal.main_v20)) (v2 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_2) = v0 c
          ∧ r.2.mem ((c.tc : Thread Cert.Kernel5Ideal.nD Cert.Kernel5Ideal.τ).loc Cert.Kernel5Ideal.main_v20) = v1 c
          ∧ r.2.mem ((c.tc : Thread Cert.Kernel5Ideal.nD Cert.Kernel5Ideal.τ).loc Cert.Kernel5Ideal.main_v21) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v5) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x768 : Shape := ⟨2, ![4096, 768]⟩
abbrev S4096x12 : Shape := ⟨2, ![4096, 12]⟩
abbrev S_ : Shape := ⟨0, ![]⟩

class Facts : Prop where
  bcast_S_S4096x768 : S_.BroadcastsInDim S4096x768 (![] : Fin 0 → Fin S4096x768.rank)
  bcast_S_S4096x12 : S_.BroadcastsInDim S4096x12 (![] : Fin 0 → Fin S4096x12.rank)

variable [Facts]

def fn {F : FTy → Type} [FloatOps F] (main_arg0 : FVec F S4096x768 .f32) (main_arg1 : FVec F S4096x768 .f32) (main_arg2 : FVec F S4096x768 .f32) (main_arg3 : FVec F S4096x12 .f32) (main_arg4 : FVec F S4096x768 .f32) : IVec S4096x768 1 × IVec S4096x768 1 × IVec S4096x768 1 × IVec S4096x12 1 × IVec S4096x768 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S4096x768 .f32 := Host.absf main_arg1
  let main_cst_0 : FVec F S_ .f32 := constant S_ .f32 0x7F800000#32
  let main_v4 : FVec F S4096x768 .f32 := broadcastInDim S4096x768 ![] bcast_S_S4096x768 main_cst_0
  let main_v5 : IVec S4096x768 1 := cmpf .olt main_v3 main_v4
  let main_v6 : FVec F S4096x768 .f32 := Host.absf main_arg2
  let main_cst_1 : FVec F S_ .f32 := constant S_ .f32 0x7F800000#32
  let main_v7 : FVec F S4096x768 .f32 := broadcastInDim S4096x768 ![] bcast_S_S4096x768 main_cst_1
  let main_v8 : IVec S4096x768 1 := cmpf .olt main_v6 main_v7
  let main_v9 : FVec F S4096x12 .f32 := Host.absf main_arg3
  let main_cst_2 : FVec F S_ .f32 := constant S_ .f32 0x7F800000#32
  let main_v10 : FVec F S4096x12 .f32 := broadcastInDim S4096x12 ![] bcast_S_S4096x12 main_cst_2
  let main_v11 : IVec S4096x12 1 := cmpf .olt main_v9 main_v10
  let main_v12 : FVec F S4096x768 .f32 := Host.absf main_arg4
  let main_cst_3 : FVec F S_ .f32 := constant S_ .f32 0x7F800000#32
  let main_v13 : FVec F S4096x768 .f32 := broadcastInDim S4096x768 ![] bcast_S_S4096x768 main_cst_3
  let main_v14 : IVec S4096x768 1 := cmpf .olt main_v12 main_v13
  (main_v2, main_v5, main_v8, main_v11, main_v14)
-- ==== Pre_finite5.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x5632 .f32) (main_arg2 : FVec F S2816x1024 .f32) (main_arg3 : FVec F S1024 .f32) (main_arg4 : FVec F S1024 .f32) (main_arg5 : FVec F S4096x1024 .f32) : IVec S4096x1024 1 × IVec S1024x5632 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg5
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x768 : Shape := ⟨2, ![4096, 768]⟩
abbrev S4096x12 : Shape := ⟨2, ![4096, 12]⟩
abbrev S4096x12x64 : Shape := ⟨3, ![4096, 12, 64]⟩
abbrev S12x4096 : Shape := ⟨2, ![12, 4096]⟩
abbrev S12x4096x4096 : Shape := ⟨3, ![12, 4096, 4096]⟩
abbrev S_ : Shape := ⟨0, ![]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x64x4096 : Shape := ⟨3, ![12, 64, 4096]⟩
abbrev S4096x2304 : Shape := ⟨2, ![4096, 2304]⟩
abbrev S1x768 : Shape := ⟨2, ![1, 768]⟩
abbrev S512x128 : Shape := ⟨2, ![512, 128]⟩
abbrev S4096x128 : Shape := ⟨2, ![4096, 128]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S1x256 : Shape := ⟨2, ![1, 256]⟩

abbrev nBuf : Space → Nat
  | .hbm => 183
  | .vmem => 26
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x12, .f32⟩
  | 4 => ⟨S4096x768, .f32⟩
  | 5 => ⟨S4096x12x64, .f32⟩
  | 6 => ⟨S4096x12x64, .f32⟩
  | 7 => ⟨S12x4096, .f32⟩
  | 8 => ⟨S12x4096x4096, .f32⟩
  | 9 => ⟨S_, .f32⟩
  | 10 => ⟨S12x4096x4096, .f32⟩
  | 11 => ⟨S12x4096x4096, .f32⟩
  | 12 => ⟨S12x4096x1, .f32⟩
  | 13 => ⟨S12x4096x4096, .f32⟩
  | 14 => ⟨S12x4096x4096, .f32⟩
  | 15 => ⟨S12x1x4096, .f32⟩
  | 16 => ⟨S12x4096x4096, .f32⟩
  | 17 => ⟨S12x4096x4096, .f32⟩
  | 18 => ⟨S4096, .i32⟩
  | 19 => ⟨S1x4096, .i32⟩
  | 20 => ⟨S4096x1, .i32⟩
  | 21 => ⟨S4096x4096, .i32⟩
  | 22 => ⟨S4096x4096, .i32⟩
  | 23 => ⟨S4096x4096, .i1⟩
  | 24 => ⟨S_, .f32⟩
  | 25 => ⟨S_, .f32⟩
  | 26 => ⟨S12x4096x4096, .i1⟩
  | 27 => ⟨S12x4096x4096, .f32⟩
  | 28 => ⟨S12x4096x4096, .f32⟩
  | 29 => ⟨S_, .f32⟩
  | 30 => ⟨S12x4096, .f32⟩
  | 31 => ⟨S_, .f32⟩
  | 32 => ⟨S12x4096, .f32⟩
  | 33 => ⟨S12x4096, .f32⟩
  | 34 => ⟨S12x4096x1, .f32⟩
  | 35 => ⟨S12x4096x4096, .f32⟩
  | 36 => ⟨S12x4096x4096, .f32⟩
  | 37 => ⟨S12x4096x4096, .f32⟩
  | 38 => ⟨S_, .f32⟩
  | 39 => ⟨S12x4096, .f32⟩
  | 40 => ⟨S12x4096x1, .f32⟩
  | 41 => ⟨S12x4096x4096, .f32⟩
  | 42 => ⟨S12x4096x4096, .f32⟩
  | 43 => ⟨S4096x12x64, .f32⟩
  | 44 => ⟨S12x64x4096, .f32⟩
  | 45 => ⟨S4096x12x64, .f32⟩
  | 46 => ⟨S4096x768, .f32⟩
  | 47 => ⟨S4096x12x64, .f32⟩
  | 48 => ⟨S4096x12x64, .f32⟩
  | 49 => ⟨S12x4096, .f32⟩
  | 50 => ⟨S12x4096x4096, .f32⟩
  | 51 => ⟨S_, .f32⟩
  | 52 => ⟨S12x4096x4096, .f32⟩
  | 53 => ⟨S12x4096x4096, .f32⟩
  | 54 => ⟨S12x4096x1, .f32⟩
  | 55 => ⟨S12x4096x4096, .f32⟩
  | 56 => ⟨S12x4096x4096, .f32⟩
  | 57 => ⟨S12x1x4096, .f32⟩
  | 58 => ⟨S12x4096x4096, .f32⟩
  | 59 => ⟨S12x4096x4096, .f32⟩
  | 60 => ⟨S4096, .i32⟩
  | 61 => ⟨S1x4096, .i32⟩
  | 62 => ⟨S4096x1, .i32⟩
  | 63 => ⟨S4096x4096, .i32⟩
  | 64 => ⟨S4096x4096, .i32⟩
  | 65 => ⟨S4096x4096, .i1⟩
  | 66 => ⟨S_, .f32⟩
  | 67 => ⟨S_, .f32⟩
  | 68 => ⟨S12x4096x4096, .i1⟩
  | 69 => ⟨S12x4096x4096, .f32⟩
  | 70 => ⟨S12x4096x4096, .f32⟩
  | 71 => ⟨S_, .f32⟩
  | 72 => ⟨S12x4096, .f32⟩
  | 73 => ⟨S12x4096x1, .f32⟩
  | 74 => ⟨S12x4096x4096, .f32⟩
  | 75 => ⟨S12x4096x4096, .f32⟩
  | 76 => ⟨S12x4096x4096, .f32⟩
  | 77 => ⟨S_, .f32⟩
  | 78 => ⟨S12x4096, .f32⟩
  | 79 => ⟨S12x4096, .f32⟩
  | 80 => ⟨S12x4096, .f32⟩
  | 81 => ⟨S4096x12, .f32⟩
  | 82 => ⟨S_, .f32⟩
  | 83 => ⟨S4096x768, .f32⟩
  | 84 => ⟨S4096x768, .f32⟩
  | 85 => ⟨S4096x768, .bf16⟩
  | 86 => ⟨S4096x768, .bf16⟩
  | 87 => ⟨S4096x768, .bf16⟩
  | 88 => ⟨S4096x2304, .bf16⟩
  | 89 => ⟨S4096x12x64, .f32⟩
  | 90 => ⟨S4096x768, .f32⟩
  | 91 => ⟨S4096x768, .bf16⟩
  | 92 => ⟨S4096x768, .f32⟩
  | 93 => ⟨S4096x768, .f32⟩
  | 94 => ⟨S4096x768, .bf16⟩
  | 95 => ⟨S4096x768, .f32⟩
  | 96 => ⟨S4096x768, .f32⟩
  | 97 => ⟨S4096x768, .bf16⟩
  | 98 => ⟨S1x768, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S1x768, .i32⟩
  | 106 => ⟨S1x768, .i32⟩
  | 107 => ⟨S_, .i32⟩
  | 108 => ⟨S1x768, .i32⟩
  | 109 => ⟨S1x768, .i1⟩
  | 110 => ⟨S_, .i32⟩
  | 111 => ⟨S1x768, .i32⟩
  | 112 => ⟨S1x768, .i1⟩
  | 113 => ⟨S_, .i32⟩
  | 114 => ⟨S_, .i1⟩
  | 115 => ⟨S1x768, .i1⟩
  | 116 => ⟨S1x768, .i1⟩
  | 117 => ⟨S1x768, .i1⟩
  | 118 => ⟨S1x768, .i32⟩
  | 119 => ⟨S1x768, .i32⟩
  | 120 => ⟨S1x768, .i32⟩
  | 121 => ⟨S_, .i32⟩
  | 122 => ⟨S1x768, .i32⟩
  | 123 => ⟨S1x768, .i1⟩
  | 124 => ⟨S_, .i32⟩
  | 125 => ⟨S1x768, .i32⟩
  | 126 => ⟨S1x768, .i1⟩
  | 127 => ⟨S_, .i32⟩
  | _ => ⟨S4096x768, .f32⟩

abbrev hbmTy0_1 (i : Nat) : BufTy := match i % 128 with
  | 0 => ⟨S1x768, .i32⟩
  | 1 => ⟨S1x768, .i1⟩
  | 2 => ⟨S_, .i32⟩
  | 3 => ⟨S1x768, .i32⟩
  | 4 => ⟨S1x768, .i1⟩
  | 5 => ⟨S_, .bf16⟩
  | 6 => ⟨S_, .bf16⟩
  | 7 => ⟨S1x768, .bf16⟩
  | 8 => ⟨S1x768, .bf16⟩
  | 9 => ⟨S1x768, .bf16⟩
  | 10 => ⟨S4096x768, .i1⟩
  | 11 => ⟨S4096x768, .bf16⟩
  | 12 => ⟨S4096x768, .bf16⟩
  | 13 => ⟨S4096x768, .i1⟩
  | 14 => ⟨S4096x768, .bf16⟩
  | 15 => ⟨S4096x768, .i1⟩
  | 16 => ⟨S4096x768, .bf16⟩
  | 17 => ⟨S_, .i32⟩
  | 18 => ⟨S1x768, .i32⟩
  | 19 => ⟨S1x768, .i1⟩
  | 20 => ⟨S_, .i32⟩
  | 21 => ⟨S1x768, .i32⟩
  | 22 => ⟨S1x768, .i1⟩
  | 23 => ⟨S4096x768, .bf16⟩
  | 24 => ⟨S_, .i32⟩
  | 25 => ⟨S1x768, .i32⟩
  | 26 => ⟨S1x768, .i1⟩
  | 27 => ⟨S4096x768, .bf16⟩
  | 28 => ⟨S_, .i32⟩
  | 29 => ⟨S1x768, .i32⟩
  | 30 => ⟨S1x768, .i1⟩
  | 31 => ⟨S4096x768, .bf16⟩
  | 32 => ⟨S_, .bf16⟩
  | 33 => ⟨S4096x768, .i1⟩
  | 34 => ⟨S4096x768, .bf16⟩
  | 35 => ⟨S4096x768, .bf16⟩
  | 36 => ⟨S4096x768, .i1⟩
  | 37 => ⟨S4096x768, .bf16⟩
  | 38 => ⟨S4096x768, .i1⟩
  | 39 => ⟨S4096x768, .bf16⟩
  | 40 => ⟨S_, .bf16⟩
  | 41 => ⟨S4096x768, .i1⟩
  | 42 => ⟨S4096x768, .bf16⟩
  | 43 => ⟨S4096x768, .bf16⟩
  | 44 => ⟨S4096x12x64, .f32⟩
  | 45 => ⟨S4096x768, .f32⟩
  | 46 => ⟨S4096x768, .f32⟩
  | 47 => ⟨S4096x768, .f32⟩
  | 48 => ⟨S4096x768, .f32⟩
  | 49 => ⟨S4096x768, .f32⟩
  | 50 => ⟨S_, .f32⟩
  | 51 => ⟨S4096x768, .f32⟩
  | 52 => ⟨S4096x768, .f32⟩
  | 53 => ⟨S4096x12, .f32⟩
  | 54 => ⟨S4096x12, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S4096x128, .f32⟩
  | .local _ .vmem, ⟨23, _⟩ => ⟨S4096x128, .f32⟩
  | .local _ .vmem, ⟨24, _⟩ => ⟨S512x256, .f32⟩
  | .local _ .vmem, ⟨25, _⟩ => ⟨S512x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c : Ref sig .tc := ⟨.hbm, 99, rfl⟩
abbrev main_call2_v0 : Ref sig .tc := ⟨.hbm, 100, rfl⟩
abbrev main_call2_c : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_1 : Ref sig .tc := ⟨.hbm, 107, rfl⟩
abbrev main_call2_v5 : Ref sig .tc := ⟨.hbm, 108, rfl⟩
abbrev main_call2_v6 : Ref sig .tc := ⟨.hbm, 109, rfl⟩
abbrev main_call2_c_2 : Ref sig .tc := ⟨.hbm, 110, rfl⟩
abbrev main_call2_v7 : Ref sig .tc := ⟨.hbm, 111, rfl⟩
abbrev main_call2_v8 : Ref sig .tc := ⟨.hbm, 112, rfl⟩
abbrev main_call2_c_3 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_v78 : Ref sig .tc := ⟨.hbm, 120, rfl⟩
abbrev main_c_9 : Ref sig .tc := ⟨.hbm, 121, rfl⟩
abbrev main_v79 : Ref sig .tc := ⟨.hbm, 122, rfl⟩
abbrev main_v80 : Ref sig .tc := ⟨.hbm, 123, rfl⟩
abbrev main_c_10 : Ref sig .tc := ⟨.hbm, 124, rfl⟩
abbrev main_v81 : Ref sig .tc := ⟨.hbm, 125, rfl⟩
abbrev main_v82 : Ref sig .tc := ⟨.hbm, 126, rfl⟩
abbrev main_c_11 : Ref sig .tc := ⟨.hbm, 127, rfl⟩
abbrev main_v83 : Ref sig .tc := ⟨.hbm, 128, rfl⟩
abbrev main_v84 : Ref sig .tc := ⟨.hbm, 129, rfl⟩
abbrev main_c_12 : Ref sig .tc := ⟨.hbm, 130, rfl⟩
abbrev main_v85 : Ref sig .tc := ⟨.hbm, 131, rfl⟩
abbrev main_v86 : Ref sig .tc := ⟨.hbm, 132, rfl⟩
abbrev main_cst_13 : Ref sig .tc := ⟨.hbm, 133, rfl⟩
abbrev main_cst_14 : Ref sig .tc := ⟨.hbm, 134, rfl⟩
abbrev main_call3_v0 : Ref sig .tc := ⟨.hbm, 135, rfl⟩
abbrev main_call3_v1 : Ref sig .tc := ⟨.hbm, 136, rfl⟩
abbrev main_v87 : Ref sig .tc := ⟨.hbm, 137, rfl⟩
abbrev main_call4_v0 : Ref sig .tc := ⟨.hbm, 138, rfl⟩
abbrev main_call4_v1 : Ref sig .tc := ⟨.hbm, 139, rfl⟩
abbrev main_v88 : Ref sig .tc := ⟨.hbm, 140, rfl⟩
abbrev main_call5_v0 : Ref sig .tc := ⟨.hbm, 141, rfl⟩
abbrev main_v89 : Ref sig .tc := ⟨.hbm, 142, rfl⟩
abbrev main_call6_v0 : Ref sig .tc := ⟨.hbm, 143, rfl⟩
abbrev main_v90 : Ref sig .tc := ⟨.hbm, 144, rfl⟩
abbrev main_c_15 : Ref sig .tc := ⟨.hbm, 145, rfl⟩
abbrev main_v91 : Ref sig .tc := ⟨.hbm, 146, rfl⟩
abbrev main_v92 : Ref sig .tc := ⟨.hbm, 147, rfl⟩
abbrev main_c_16 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_17 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_18 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_19 : Ref sig .tc := ⟨.hbm, 160, rfl⟩
abbrev main_call7_v0 : Ref sig .tc := ⟨.hbm, 161, rfl⟩
abbrev main_call7_v1 : Ref sig .tc := ⟨.hbm, 162, rfl⟩
abbrev main_v102 : Ref sig .tc := ⟨.hbm, 163, rfl⟩
abbrev main_call8_v0 : Ref sig .tc := ⟨.hbm, 164, rfl⟩
abbrev main_v103 : Ref sig .tc := ⟨.hbm, 165, rfl⟩
abbrev main_call9_v0 : Ref sig .tc := ⟨.hbm, 166, rfl⟩
abbrev main_v104 : Ref sig .tc := ⟨.hbm, 167, rfl⟩
abbrev main_cst_20 : Ref sig .tc := ⟨.hbm, 168, rfl⟩
abbrev main_call10_v0 : Ref sig .tc := ⟨.hbm, 169, rfl⟩
abbrev main_call10_v1 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108_0 : Ref sig .tc := ⟨.hbm, 174, rfl⟩
abbrev main_v108_1 : Ref sig .tc := ⟨.hbm, 175, rfl⟩
abbrev main_v108_2 : Ref sig .tc := ⟨.hbm, 176, rfl⟩
abbrev main_v108_3 : Ref sig .tc := ⟨.hbm, 177, rfl⟩
abbrev main_cst_21 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![6, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sge arg2 arg1
  let v9 : BitVec 1 := Scalar.cmpi .eq arg2 arg1
  let v10 : BitVec 1 := Scalar.andi v8 v9
  let v11 : BitVec 32 := Scalar.extui v10
  let c0_i32_4 : BitVec 32 := 0#32
  let v12 : BitVec 1 := Scalar.cmpi .ne v11 c0_i32_4
  v12

def k0_mult1 (i : grid0.Coords) : BitVec 32 :=
  let arg2 : BitVec 32 := BitVec.ofNat 32 (i 2).val
  let c512_i32_84 : BitVec 32 := 512#32
  let v224 : BitVec 32 := Scalar.muli arg2 c512_i32_84
  v224
def k0_off1 (i : grid0.Coords) : Fin 2 → Nat :=
  let arg2 : BitVec 32 := BitVec.ofNat 32 (i 2).val
  let c512_i32_84 : BitVec 32 := 512#32
  let v224 : BitVec 32 := Scalar.muli arg2 c512_i32_84
  let v225 : BitVec 32 := v224
  let v226 : Index := Scalar.indexCast v225
  let c0_85 : Index := 0#32
  ![v226.toNat, 0]
def k0_cond4 (i : grid0.Coords) : BitVec 1 :=
  let arg2 : BitVec 32 := BitVec.ofNat 32 (i 2).val
  let arg1 : BitVec 32 := BitVec.ofNat 32 (i 1).val
  let v8 : BitVec 1 := Scalar.cmpi .sge arg2 arg1
  let v9 : BitVec 1 := Scalar.cmpi .eq arg2 arg1
  let v_true : BitVec 1 := 1#1
  let v13 : BitVec 1 := Scalar.xori v9 v_true
  let v14 : BitVec 1 := Scalar.andi v8 v13
  let v15 : BitVec 32 := Scalar.extui v14
  let c0_i32_5 : BitVec 32 := 0#32
  let v16 : BitVec 1 := Scalar.cmpi .ne v15 c0_i32_5
  v16

def k0_mult2 (i : grid0.Coords) : BitVec 32 :=
  let arg2 : BitVec 32 := BitVec.ofNat 32 (i 2).val
  let c512_i32 : BitVec 32 := 512#32
  let v211 : BitVec 32 := Scalar.muli arg2 c512_i32
  v211
def k0_off2 (i : grid0.Coords) : Fin 2 → Nat :=
  let arg2 : BitVec 32 := BitVec.ofNat 32 (i 2).val
  let c512_i32 : BitVec 32 := 512#32
  let v211 : BitVec 32 := Scalar.muli arg2 c512_i32
  let v212 : BitVec 32 := v211
  let v213 : Index := Scalar.indexCast v212
  let c0_81 : Index := 0#32
  ![v213.toNat, 0]
def k0_cond5 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S4096x768 : Shape := ⟨2, ![4096, 768]⟩
abbrev S4096x12 : Shape := ⟨2, ![4096, 12]⟩
abbrev S4096x12x64 : Shape := ⟨3, ![4096, 12, 64]⟩
abbrev S12x4096 : Shape := ⟨2, ![12, 4096]⟩
abbrev S12x4096x4096 : Shape := ⟨3, ![12, 4096, 4096]⟩
abbrev S_ : Shape := ⟨0, ![]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S12x64x4096 : Shape := ⟨3, ![12, 64, 4096]⟩
abbrev S12x4096x64 : Shape := ⟨3, ![12, 4096, 64]⟩

abbrev nBuf : Space → Nat
  | .hbm => 118
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x12, .f32⟩
  | .hbm, ⟨4, _⟩ => ⟨S4096x768, .f32⟩
  | .hbm, ⟨5, _⟩ => ⟨S4096x12x64, .f32⟩
  | .hbm, ⟨6, _⟩ => ⟨S4096x12x64, .f32⟩
  | .hbm, ⟨7, _⟩ => ⟨S12x4096, .f32⟩
  | .hbm, ⟨8, _⟩ => ⟨S12x4096x4096, .f32⟩
  | .hbm, ⟨9, _⟩ => ⟨S_, .f32⟩
  | .hbm, ⟨10, _⟩ => ⟨S12x4096x4096, .f32⟩
  | .hbm, ⟨11, _⟩ => ⟨S12x4096x4096, .f32⟩
  | .hbm, ⟨12, _⟩ => ⟨S12x4096x1, .f32⟩
  | .hbm, ⟨13, _⟩ => ⟨S12x4096x4096, .f32⟩
  | .hbm, ⟨14, _⟩ => ⟨S12x4096x4096, .f32⟩
  | .hbm, ⟨15, _⟩ => ⟨S12x1x4096, .f32⟩
  | .hbm, ⟨16, _⟩ => ⟨S12x4096x4096, .f32⟩
  | .hbm, ⟨17, _⟩ => ⟨S12x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S12x4096x4096, .i1⟩
  | .hbm, ⟨27, _⟩ => ⟨S12x4096x4096, .f32⟩
  | .hbm, ⟨28, _⟩ => ⟨S12x4096x4096, .f32⟩
  | .hbm, ⟨29, _⟩ => ⟨S_, .f32⟩
  | .hbm, ⟨30, _⟩ => ⟨S12x4096x4096, .f32⟩
  | .hbm, ⟨31, _⟩ => ⟨S_, .f32⟩
  | .hbm, ⟨32, _⟩ => ⟨S12x4096, .f32⟩
  | .hbm, ⟨33, _⟩ => ⟨S12x4096x1, .f32⟩
  | .hbm, ⟨34, _⟩ => ⟨S12x4096x4096, .f32⟩
  | .hbm, ⟨35, _⟩ => ⟨S12x4096x4096, .i1⟩
  | .hbm, ⟨36, _⟩ => ⟨S12x4096x4096, .f32⟩
  | .hbm, ⟨37, _⟩ => ⟨S_, .f32⟩
  | .hbm, ⟨38, _⟩ => ⟨S12x4096, .f32⟩
  | .hbm, ⟨39, _⟩ => ⟨S_, .f32⟩
  | .hbm, ⟨40, _⟩ => ⟨S12x4096, .f32⟩
  | .hbm, ⟨41, _⟩ => ⟨S12x4096, .f32⟩
  | .hbm, ⟨42, _⟩ => ⟨S_, .f32⟩
  | .hbm, ⟨43, _⟩ => ⟨S12x4096, .f32⟩
  | .hbm, ⟨44, _⟩ => ⟨S12x4096, .i1⟩
  | .hbm, ⟨45, _⟩ => ⟨S_, .f32⟩
  | .hbm, ⟨46, _⟩ => ⟨S12x4096, .f32⟩
  | .hbm, ⟨47, _⟩ => ⟨S12x4096, .i1⟩
  | .hbm, ⟨48, _⟩ => ⟨S_, .f32⟩
  | .hbm, ⟨49, _⟩ => ⟨S12x4096, .f32⟩
  | .hbm, ⟨50, _⟩ => ⟨S_, .f32⟩
  | .hbm, ⟨51, _⟩ => ⟨S12x4096, .f32⟩
  | .hbm, ⟨52, _⟩ => ⟨S_, .f32⟩
  | .hbm, ⟨53, _⟩ => ⟨S12x4096, .f32⟩
  | .hbm, ⟨54, _⟩ => ⟨S12x4096, .f32⟩
  | .hbm, ⟨55, _⟩ => ⟨S12x4096, .f32⟩
  | .hbm, ⟨56, _⟩ => ⟨S12x4096x1, .f32⟩
  | .hbm, ⟨57, _⟩ => ⟨S12x4096x4096, .f32⟩
  | .hbm, ⟨58, _⟩ => ⟨S12x4096x4096, .f32⟩
  | .hbm, ⟨59, _⟩ => ⟨S12x4096x4096, .f32⟩
  | .hbm, ⟨60, _⟩ => ⟨S_, .f32⟩
  | .hbm, ⟨61, _⟩ => ⟨S12x4096, .f32⟩
  | .hbm, ⟨62, _⟩ => ⟨S12x4096x1, .f32⟩
  | .hbm, ⟨63, _⟩ => ⟨S12x4096x4096, .f32⟩
  | .hbm, ⟨64, _⟩ => ⟨S12x4096x4096, .f32⟩
  | .hbm, ⟨65, _⟩ => ⟨S12x4096x1, .f32⟩
  | .hbm, ⟨66, _⟩ => ⟨S_, .f32⟩
  | .hbm, ⟨67, _⟩ => ⟨S12x4096x1, .f32⟩
  | .hbm, ⟨68, _⟩ => ⟨S12x4096x1, .f32⟩
  | .hbm, ⟨69, _⟩ => ⟨S4096x12x64, .f32⟩
  | .hbm, ⟨70, _⟩ => ⟨S12x64x4096, .f32⟩
  | .hbm, ⟨71, _⟩ => ⟨S4096x12x64, .f32⟩
  | .hbm, ⟨72, _⟩ => ⟨S4096x768, .f32⟩
  | .hbm, ⟨73, _⟩ => ⟨S4096x12x64, .f32⟩
  | .hbm, ⟨74, _⟩ => ⟨S12x64x4096, .f32⟩
  | .hbm, ⟨75, _⟩ => ⟨S12x4096x4096, .f32⟩
  | .hbm, ⟨76, _⟩ => ⟨S12x64x4096, .f32⟩
  | .hbm, ⟨77, _⟩ => ⟨S4096x12x64, .f32⟩
  | .hbm, ⟨78, _⟩ => ⟨S4096x768, .f32⟩
  | .hbm, ⟨79, _⟩ => ⟨S12x4096x4096, .f32⟩
  | .hbm, ⟨80, _⟩ => ⟨S12x4096x4096, .f32⟩
  | .hbm, ⟨81, _⟩ => ⟨S12x4096x4096, .f32⟩
  | .hbm, ⟨82, _⟩ => ⟨S_, .f32⟩
  | .hbm, ⟨83, _⟩ => ⟨S12x4096, .f32⟩
  | .hbm, ⟨84, _⟩ => ⟨S12x4096x1, .f32⟩
  | .hbm, ⟨85, _⟩ => ⟨S12x4096x1, .f32⟩
  | .hbm, ⟨86, _⟩ => ⟨S12x4096x4096, .f32⟩
  | .hbm, ⟨87, _⟩ => ⟨S12x4096x4096, .f32⟩
  | .hbm, ⟨88, _⟩ => ⟨S_, .f32⟩
  | .hbm, ⟨89, _⟩ => ⟨S12x4096, .f32⟩
  | .hbm, ⟨90, _⟩ => ⟨S12x4096x4096, .f32⟩
  | .hbm, ⟨91, _⟩ => ⟨S12x4096x4096, .f32⟩
  | .hbm, ⟨92, _⟩ => ⟨S12x4096x4096, .f32⟩
  | .hbm, ⟨93, _⟩ => ⟨S_, .f32⟩
  | .hbm, ⟨94, _⟩ => ⟨S12x4096x4096, .f32⟩
  | .hbm, ⟨95, _⟩ => ⟨S12x4096x4096, .f32⟩
  | .hbm, ⟨96, _⟩ => ⟨S12x4096x4096, .f32⟩
  | .hbm, ⟨97, _⟩ => ⟨S_, .f32⟩
  | .hbm, ⟨98, _⟩ => ⟨S12x4096, .f32⟩
  | .hbm, ⟨99, _⟩ => ⟨S12x1x4096, .f32⟩
  | .hbm, ⟨100, _⟩ => ⟨S_, .f32⟩
  | .hbm, ⟨101, _⟩ => ⟨S12x4096, .f32⟩
  | .hbm, ⟨102, _⟩ => ⟨S_, .f32⟩
  | .hbm, ⟨103, _⟩ => ⟨S12x4096, .f32⟩
  | .hbm, ⟨104, _⟩ => ⟨S12x4096x1, .f32⟩
  | .hbm, ⟨105, _⟩ => ⟨S_, .f32⟩
  | .hbm, ⟨106, _⟩ => ⟨S12x4096, .f32⟩
  | .hbm, ⟨107, _⟩ => ⟨S12x4096, .f32⟩
  | .hbm, ⟨108, _⟩ => ⟨S_, .f32⟩
  | .hbm, ⟨109, _⟩ => ⟨S12x4096x4096, .f32⟩
  | .hbm, ⟨110, _⟩ => ⟨S12x4096x4096, .f32⟩
  | .hbm, ⟨111, _⟩ => ⟨S12x4096x64, .f32⟩
  | .hbm, ⟨112, _⟩ => ⟨S4096x12x64, .f32⟩
  | .hbm, ⟨113, _⟩ => ⟨S12x4096x64, .f32⟩
  | .hbm, ⟨114, _⟩ => ⟨S4096x12x64, .f32⟩
  | .hbm, ⟨115, _⟩ => ⟨S4096x12, .f32⟩
  | .hbm, ⟨116, _⟩ => ⟨S4096x768, .f32⟩
  | .hbm, ⟨117, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S4096x1408 : Shape := ⟨2, ![4096, 1408]⟩
abbrev S1x1024x1408 : Shape := ⟨3, ![1, 1024, 1408]⟩
abbrev S8x128 : Shape := ⟨2, ![8, 128]⟩
abbrev S1024x1408 : Shape := ⟨2, ![1024, 1408]⟩
abbrev S1024x4x1408 : Shape := ⟨3, ![1024, 4, 1408]⟩
abbrev S1024x5632 : Shape := ⟨2, ![1024, 5632]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1x1024x1408, .f32⟩
  | .local _ .vmem, ⟨4, _⟩ => ⟨S1x1024x1408, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | .local _ .vmem, ⟨5, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S1x1024, .f32⟩
  | .hbm, ⟨11, _⟩ => ⟨S1x1024, .f32⟩
  | .hbm, ⟨12, _⟩ => ⟨S4096x2816, .bf16⟩
  | .hbm, ⟨13, _⟩ => ⟨S4096x2816, .bf16⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x2816, .f32⟩
  | .hbm, ⟨18, _⟩ => ⟨S4096x2816, .f32⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S2x1408x1024, .bf16⟩
  | .local _ .vmem, ⟨4, _⟩ => ⟨S1x1024, .f32⟩
  | .local _ .vmem, ⟨5, _⟩ => ⟨S1x1024, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 43
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x5632, .bf16⟩
  | .hbm, ⟨28, _⟩ => ⟨S1024x4x1408, .bf16⟩
  | .hbm, ⟨29, _⟩ => ⟨S4x1024x1408, .bf16⟩
  | .hbm, ⟨30, _⟩ => ⟨S2816x1024, .bf16⟩
  | .hbm, ⟨31, _⟩ => ⟨S2x1408x1024, .bf16⟩
  | .hbm, ⟨32, _⟩ => ⟨S4096x2816, .bf16⟩
  | .hbm, ⟨33, _⟩ => ⟨S4096x2816, .bf16⟩
  | .hbm, ⟨34, _⟩ => ⟨S1x1024, .f32⟩
  | .hbm, ⟨35, _⟩ => ⟨S4096x5632, .bf16⟩
  | .hbm, ⟨36, _⟩ => ⟨S4096x2816, .bf16⟩
  | .hbm, ⟨37, _⟩ => ⟨S4096x1024, .f32⟩
  | .hbm, ⟨38, _⟩ => ⟨S4096x1024, .bf16⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v19_4 : Ref sig .tc := ⟨.hbm, 39, rfl⟩
abbrev main_v19_5 : Ref sig .tc := ⟨.hbm, 40, rfl⟩
abbrev main_v20 : Ref sig .tc := ⟨.hbm, 41, rfl⟩
abbrev main_v21 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096x5632 : Shape := ⟨2, ![4096, 5632]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x5632, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S_, .f32⟩
  | .hbm, ⟨113, _⟩ => ⟨S4096x1024, .f32⟩
  | .hbm, ⟨114, _⟩ => ⟨S4096x1024, .f32⟩
  | .hbm, ⟨115, _⟩ => ⟨S4096x2816, .f32⟩
  | .hbm, ⟨116, _⟩ => ⟨S4096x2816, .f32⟩
  | .hbm, ⟨117, _⟩ => ⟨S4096x2816, .f32⟩
  | .hbm, ⟨118, _⟩ => ⟨S4096x2816, .f32⟩
  | .hbm, ⟨119, _⟩ => ⟨S4096x2816, .f32⟩
  | .hbm, ⟨120, _⟩ => ⟨S4096x2816, .f32⟩
  | .hbm, ⟨121, _⟩ => ⟨S4096x2816, .f32⟩
  | .hbm, ⟨122, _⟩ => ⟨S4096x5632, .f32⟩
  | .hbm, ⟨123, _⟩ => ⟨S4096x1024, .f32⟩
  | .hbm, ⟨124, _⟩ => ⟨S_, .f32⟩
  | .hbm, ⟨125, _⟩ => ⟨S4096x1024, .f32⟩
  | .hbm, ⟨126, _⟩ => ⟨S4096x1024, .f32⟩
  | .hbm, ⟨127, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v5_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v5_1 : Ref sig .tc := ⟨.hbm, 23, rfl⟩
abbrev main_v5_0 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩

abbrev nD : Nat := 1
abbrev τ : Topo := Topo.v7x

variable {F : FTy → Type} [FloatOps F]
-- ==== Kernel6.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S1024x640 : Shape := ⟨2, ![1024, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1024x643 : Shape := ⟨2, ![1024, 643]⟩
abbrev S256x643 : Shape := ⟨2, ![256, 643]⟩

abbrev nBuf : Space → Nat
  | .hbm => 7
  | .vmem => 14
  | .smem => 0
  | _ => 0

abbrev bufTy : (tb : Table) → Fin (tcTables nBuf tb) → BufTy
  | .hbm, ⟨0, _⟩ => ⟨S1024x643, .f32⟩
  | .hbm, ⟨1, _⟩ => ⟨S1024x643, .f32⟩
  | .hbm, ⟨2, _⟩ => ⟨S1024x643, .f32⟩
  | .hbm, ⟨3, _⟩ => ⟨S1024x643, .f32⟩
  | .hbm, ⟨4, _⟩ => ⟨S1024x643, .f32⟩
  | .hbm, ⟨5, _⟩ => ⟨S1024x643, .f32⟩
  | .hbm, ⟨6, _⟩ => ⟨S1024x643, .f32⟩
  | .local _ .vmem, ⟨0, _⟩ => ⟨S256x643, .f32⟩
  | .local _ .vmem, ⟨1, _⟩ => ⟨S256x643, .f32⟩
  | .local _ .vmem, ⟨2, _⟩ => ⟨S256x643, .f32⟩
  | .local _ .vmem, ⟨3, _⟩ => ⟨S256x643, .f32⟩
  | .local _ .vmem, ⟨4, _⟩ => ⟨S256x643, .f32⟩
  | .local _ .vmem, ⟨5, _⟩ => ⟨S256x643, .f32⟩
  | .local _ .vmem, ⟨6, _⟩ => ⟨S256x643, .f32⟩
  | .local _ .vmem, ⟨7, _⟩ => ⟨S256x643, .f32⟩
  | .local _ .vmem, ⟨8, _⟩ => ⟨S256x643, .f32⟩
  | .local _ .vmem, ⟨9, _⟩ => ⟨S256x643, .f32⟩
  | .local _ .vmem, ⟨10, _⟩ => ⟨S256x643, .f32⟩
  | .local _ .vmem, ⟨11, _⟩ => ⟨S256x643, .f32⟩
  | .local _ .vmem, ⟨12, _⟩ => ⟨S256x643, .f32⟩
  | .local _ .vmem, ⟨13, _⟩ => ⟨S256x643, .f32⟩
  | _, _ => ⟨S1024x643, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x643 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x643 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x643 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x643 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x643 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x643 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x643 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1024x643 : Shape := ⟨2, ![1024, 643]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x643, .f32⟩
  | .hbm, ⟨1, _⟩ => ⟨S1024x643, .f32⟩
  | .hbm, ⟨2, _⟩ => ⟨S1024x643, .f32⟩
  | .hbm, ⟨3, _⟩ => ⟨S1024x643, .f32⟩
  | .hbm, ⟨4, _⟩ => ⟨S_, .f32⟩
  | .hbm, ⟨5, _⟩ => ⟨S1024x643, .f32⟩
  | .hbm, ⟨6, _⟩ => ⟨S1024x643, .f32⟩
  | .hbm, ⟨7, _⟩ => ⟨S_, .f32⟩
  | .hbm, ⟨8, _⟩ => ⟨S1024x643, .f32⟩
  | .hbm, ⟨9, _⟩ => ⟨S1024x643, .f32⟩
  | .hbm, ⟨10, _⟩ => ⟨S1024x643, .f32⟩
  | .hbm, ⟨11, _⟩ => ⟨S_, .f32⟩
  | .hbm, ⟨12, _⟩ => ⟨S1024x643, .f32⟩
  | .hbm, ⟨13, _⟩ => ⟨S1024x643, .f32⟩
  | .hbm, ⟨14, _⟩ => ⟨S1024x643, .f32⟩
  | .hbm, ⟨15, _⟩ => ⟨S_, .f32⟩
  | .hbm, ⟨16, _⟩ => ⟨S1024x643, .f32⟩
  | .hbm, ⟨17, _⟩ => ⟨S1024x643, .f32⟩
  | .hbm, ⟨18, _⟩ => ⟨S1024x643, .f32⟩
  | .hbm, ⟨19, _⟩ => ⟨S_, .f32⟩
  | .hbm, ⟨20, _⟩ => ⟨S1024x643, .f32⟩
  | .hbm, ⟨21, _⟩ => ⟨S1024x643, .f32⟩
  | .hbm, ⟨22, _⟩ => ⟨S_, .f32⟩
  | .hbm, ⟨23, _⟩ => ⟨S1024x643, .f32⟩
  | .hbm, ⟨24, _⟩ => ⟨S1024x643, .f32⟩
  | .hbm, ⟨25, _⟩ => ⟨S1024x643, .f32⟩
  | .hbm, ⟨26, _⟩ => ⟨S_, .f32⟩
  | .hbm, ⟨27, _⟩ => ⟨S1024x643, .f32⟩
  | .hbm, ⟨28, _⟩ => ⟨S1024x643, .f32⟩
  | .hbm, ⟨29, _⟩ => ⟨S1024x643, .f32⟩
  | .hbm, ⟨30, _⟩ => ⟨S_, .f32⟩
  | .hbm, ⟨31, _⟩ => ⟨S1024x643, .f32⟩
  | .hbm, ⟨32, _⟩ => ⟨S1024x643, .f32⟩
  | .hbm, ⟨33, _⟩ => ⟨S1024x643, .f32⟩
  | .hbm, ⟨34, _⟩ => ⟨S_, .f32⟩
  | .hbm, ⟨35, _⟩ => ⟨S1024x643, .f32⟩
  | .hbm, ⟨36, _⟩ => ⟨S1024x643, .f32⟩
  | _, _ => ⟨S1024x643, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x1408 : Shape := ⟨2, ![2048, 1408]⟩
abbrev S1024x1408 : Shape := ⟨2, ![1024, 1408]⟩
abbrev S128x1408 : Shape := ⟨2, ![128, 1408]⟩

abbrev nBuf : Space → Nat
  | .hbm => 11
  | .vmem => 28
  | .smem => 0
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .vmem, ⟨18, _⟩ => ⟨S128x1408, .f32⟩
  | .local _ .vmem, ⟨19, _⟩ => ⟨S128x1408, .f32⟩
  | .local _ .vmem, ⟨20, _⟩ => ⟨S128x1408, .f32⟩
  | .local _ .vmem, ⟨21, _⟩ => ⟨S128x1408, .f32⟩
  | .local _ .vmem, ⟨22, _⟩ => ⟨S128x1408, .f32⟩
  | .local _ .vmem, ⟨23, _⟩ => ⟨S128x1408, .f32⟩
  | .local _ .vmem, ⟨24, _⟩ => ⟨S128x1408, .f32⟩
  | .local _ .vmem, ⟨25, _⟩ => ⟨S128x1408, .f32⟩
  | .local _ .vmem, ⟨26, _⟩ => ⟨S128x1408, .f32⟩
  | .local _ .vmem, ⟨27, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S128x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference14Ideal.lean ====
abbrev S2048x1408 : Shape := ⟨2, ![2048, 1408]⟩
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S1024x1408, .f32⟩
  | .hbm, ⟨2, _⟩ => ⟨S1024x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S1408x1024 : Shape := ⟨2, ![1408, 1024]⟩
abbrev S704x1024 : Shape := ⟨2, ![704, 1024]⟩
abbrev S176x1024 : Shape := ⟨2, ![176, 1024]⟩

abbrev nBuf : Space → Nat
  | .hbm => 11
  | .vmem => 28
  | .smem => 0
  | _ => 0

abbrev bufTy : (tb : Table) → Fin (tcTables nBuf tb) → BufTy
  | .hbm, ⟨0, _⟩ => ⟨S1408x1024, .f32⟩
  | .hbm, ⟨1, _⟩ => ⟨S704x1024, .f32⟩
  | .hbm, ⟨2, _⟩ => ⟨S704x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference15Ideal.lean ====
abbrev S1408x1024 : Shape := ⟨2, ![1408, 1024]⟩
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S704x1024, .f32⟩
  | .hbm, ⟨2, _⟩ => ⟨S704x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Halves.lean ====
module

public import Idealize.ShloMosaic.Lib.Pipeline.Value

/-!
# Rows in two halves

Facts about arrays of two axes for a weight whose gradient arrives as an upper and a lower half.
-/

@[expose] public section

namespace Cert.Halves

open Idealize.ShloMosaic

/-- The shape of `n` rows of `k` entries. -/
abbrev Box (n k : ℕ) : Shape := ⟨2, ![n, k]⟩

variable {α : Type} {n k h : ℕ}

/-- Two blocks of the same size and the same block index put entry `(u, v)` at the same place. -/
theorem place {i j : (Box n k).Idx} {p q : Fin 2 → ℕ} (a b u v : ℕ) (e : p = q) (i0 : (i 0).val = p 0 * a + 1 * u)
    (i1 : (i 1).val = p 1 * b + 1 * v) (j0 : (j 0).val = q 0 * a + 1 * u) (j1 : (j 1).val = q 1 * b + 1 * v) : i = j := by
  subst e
  funext x; apply Fin.ext
  match x with
  | ⟨0, _⟩ => exact i0.trans j0.symm
  | ⟨1, _⟩ => exact i1.trans j1.symm

/-- Of two halves one above the other, the upper rows are the first half's. -/
theorem upper (x y : (Box h k).Idx → α) (H : Shape.Concatenates [Box h k, Box h k] (Box n k) 0) (i : (Box n k).Idx) (j : (Box h k).Idx)
    (h0 : (j 0).val = (i 0).val) (h1 : (j 1).val = (i 1).val) : concatenate (Box n k) 0 [⟨Box h k, x⟩, ⟨Box h k, y⟩] H i = x j :=
  concatenate_pair_apply_left 0 x y _ i rfl j fun z => by
    match z with
    | ⟨0, _⟩ => exact h0
    | ⟨1, _⟩ => exact h1

/-- The lower rows are the second half's. -/
theorem lower (x y : (Box h k).Idx → α) (H : Shape.Concatenates [Box h k, Box h k] (Box n k) 0) (i : (Box n k).Idx) (j : (Box h k).Idx)
    (h0 : (j 0).val + h = (i 0).val) (h1 : (j 1).val = (i 1).val) : concatenate (Box n k) 0 [⟨Box h k, x⟩, ⟨Box h k, y⟩] H i = y j :=
  concatenate_pair_apply_right 0 x y _ i rfl rfl j (fun z hz => by
    match z, hz with
    | ⟨0, _⟩, hz => exact absurd rfl hz
    | ⟨1, _⟩, _ => exact h1) h0

end Cert.Halves
-- ==== Proof.AdamPair.lean ====
module

public import proofs.«01_k».proof.Defs
public import Idealize.ShloMosaic.Lib.Pipeline.ValueKit
public import Idealize.ShloMosaic.Lib.Pipeline.ValueKit.Partial
public import Idealize.ShloMosaic.Lib.Claim
public import proofs.«01_k».proof.Proof.Halves
public import proofs.«01_k».proof.Proof.Gen.Kernel14Ideal.Frame
public import proofs.«01_k».proof.Proof.Gen.Kernel6Ideal.Value
public import proofs.«01_k».proof.Proof.Gen.Reference14Ideal.Run

/-!
# The optimiser for the first sublayer's w_gate_up

Two calls share their three result arrays. The first updates the lower half of the rows from the second gradient. The second
takes its results over and updates the upper half from the first gradient. Together they update the whole weight from the two
gradients one above the other.
-/

@[expose] public section

set_option maxRecDepth 16384

noncomputable section

namespace Cert.AdamPair14

open Idealize.ShloMosaic Idealize.ShloMosaic.TcCoe Idealize.ShloMosaic.Tactic Idealize.ShloMosaic.Pipeline Idealize.ShloMosaic.Rounds
open Idealize.SL Idealize.SL.RA Idealize.SL.BI Idealize.SL.Sem
open scoped Idealize.SL.BI
open Idealize.SL.BI.BIBase Idealize.SL.BI.Laws Idealize.SL.ProofMode
open Cert.Kernel14Ideal Cert.Kernel14Ideal.Gen Cert.Halves

/-- An array as large as the weight. -/
abbrev Whole := S2048x1408.Idx → Elt Ideal .f32
/-- A block of its rows. -/
abbrev Block := Vec Ideal S128x1408 .f32

/-- The payloads at an entry are the whole arrays' expressions at its place. -/
theorem step_at (w g μ ν : Block) (W G M V : Whole) (y : S128x1408.Idx) (i : S2048x1408.Idx) (h0 : w y = W i) (h1 : g y = G i)
    (h2 : μ y = M i) (h3 : ν y = V i) : k0_pay3 g μ ν w y = Cert.Kernel6Ideal.Value.G4 G M V W i := by
  show k0_pay3 (fun _ => g y) (fun _ => μ y) (fun _ => ν y) (fun _ => w y) y = _
  rw [h0, h1, h2, h3]; rfl
theorem mean_at (g μ : Block) (G M : Whole) (y : S128x1408.Idx) (i : S2048x1408.Idx) (h1 : g y = G i) (h2 : μ y = M i) :
    k0_pay1 g μ y = Cert.Kernel6Ideal.Value.G5 G M i := by
  show k0_pay1 (fun _ => g y) (fun _ => μ y) y = _
  rw [h1, h2]; rfl
theorem square_at (g ν : Block) (G V : Whole) (y : S128x1408.Idx) (i : S2048x1408.Idx) (h1 : g y = G i) (h3 : ν y = V i) :
    k0_pay2 g ν y = Cert.Kernel6Ideal.Value.G6 G V i := by
  show k0_pay2 (fun _ => g y) (fun _ => ν y) y = _
  rw [h1, h3]; rfl

variable (m : (ℓ : Loc nD τ sig) → Buf (Elt Ideal) ℓ) (ρ : Dev nD → PrngReg) (c : Dev nD)

/-- The weight, the gradients one above the other, and the two running means. -/
abbrev aw : Whole := m ((c : Thread nD τ).loc main_arg0)
def ag : Whole := concatenate S2048x1408 0 [⟨S1024x1408, m ((c : Thread nD τ).loc main_arg1)⟩, ⟨S1024x1408, m ((c : Thread nD τ).loc main_arg2)⟩]
  Cert.Reference14Ideal.Gen.facts.concatenates_S1024x1408_S1024x1408_S2048x1408_d0
abbrev am : Whole := m ((c : Thread nD τ).loc main_arg3)
abbrev av : Whole := m ((c : Thread nD τ).loc main_arg4)
/-- The step, the new mean and the new mean of squares. -/
abbrev Step : Whole := Cert.Kernel6Ideal.Value.G4 (ag m c) (am m c) (av m c) (aw m c)
abbrev Mean : Whole := Cert.Kernel6Ideal.Value.G5 (ag m c) (am m c)
abbrev Square : Whole := Cert.Kernel6Ideal.Value.G6 (ag m c) (av m c)

/-- Where call 0's blocks lie: at the results' rows, the gradient's counted from its own first row. -/
theorem index0 : ∀ t : Fin cfg0.N, win0_0.index t = win0_4.index t ∧ win0_2.index t = win0_4.index t ∧ win0_3.index t = win0_4.index t
    ∧ win0_5.index t = win0_4.index t ∧ win0_6.index t = win0_4.index t ∧ win0_1.index t 0 + 8 = win0_4.index t 0 ∧ win0_1.index t 1 = win0_4.index t 1 :=
  (by decide +kernel : ∀ t : Fin grid0.N, _)

/-- Call 0's blocks at an entry, and the places of the three results' blocks. -/
theorem read0 (t : Fin cfg0.N) (y : S128x1408.Idx) (i : S2048x1408.Idx) (hi : i = ((cfg0.win 4).blk t).view.emb y) :
    iblk0 (V0 m ρ) c 0 t y = aw m c i ∧ iblk0 (V0 m ρ) c 1 t y = ag m c i ∧ iblk0 (V0 m ρ) c 2 t y = am m c i
      ∧ iblk0 (V0 m ρ) c 3 t y = av m c i ∧ ((cfg0.win 5).blk t).view.emb y = i ∧ ((cfg0.win 6).blk t).view.emb y = i := by
  subst hi
  obtain ⟨e0, e2, e3, e5, e6, e1, e1'⟩ := index0 t
  have pl {p : Fin 2 → ℕ} {j : S2048x1408.Idx} (e : p = win0_4.index t) (h0 : (j 0).val = p 0 * 128 + 1 * (y 0).val)
      (h1 : (j 1).val = p 1 * 1408 + 1 * (y 1).val) : j = ((cfg0.win 4).blk t).view.emb y := place 128 1408 _ _ e h0 h1 rfl rfl
  refine ⟨(congrFun (W0_args m ρ c main_arg0 (by decide)) _).trans (congrArg (aw m c) (pl e0 rfl rfl)), ?_,
    (congrFun (W0_args m ρ c main_arg3 (by decide)) _).trans (congrArg (am m c) (pl e2 rfl rfl)),
    (congrFun (W0_args m ρ c main_arg4 (by decide)) _).trans (congrArg (av m c) (pl e3 rfl rfl)), pl e5 rfl rfl, pl e6 rfl rfl⟩
  refine (congrFun (W0_args m ρ c main_arg2 (by decide)) (((cfg0.win 1).blk t).view.emb y)).trans (lower _ _ _ _ _ ?_ ?_).symm
  · show win0_1.index t 0 * 128 + 1 * (y 0).val + 1024 = win0_4.index t 0 * 128 + 1 * (y 0).val; omega
  · exact congrArg (· * 1408 + 1 * (y 1).val) e1'

/-- After the first call the lower half of the result stands. -/
theorem lower4 (i : S2048x1408.Idx) (hi : 8 ≤ (i 0).val / 128) : (dat0 (V0 m ρ) c).arrAt 4 cfg0.N i = Step m c i :=
  ((dat0 (V0 m ρ) c).arrAt_apply_of_coversWhere 4 (Step m c) (P := fun i : S2048x1408.Idx => 8 ≤ (i 0).val / 128)
    (fun β => 8 ≤ β (0 : Fin 2)) (by decide +kernel) (fun t hf y => by
    blk_simp; rw [after0_4]; frame_out
    obtain ⟨h0, h1, h2, h3, e5, e6⟩ := read0 m ρ c t y _ rfl
    exact step_at _ _ _ _ (aw m c) (ag m c) (am m c) (av m c) y _ h0 h1 h2 h3) (fun j => Iff.rfl) i).trans (if_pos hi)
/-- After the first call the lower half of the result stands. -/
theorem lower5 (i : S2048x1408.Idx) (hi : 8 ≤ (i 0).val / 128) : (dat0 (V0 m ρ) c).arrAt 5 cfg0.N i = Mean m c i :=
  ((dat0 (V0 m ρ) c).arrAt_apply_of_coversWhere 5 (Mean m c) (P := fun i : S2048x1408.Idx => 8 ≤ (i 0).val / 128)
    (fun β => 8 ≤ β (0 : Fin 2)) (by decide +kernel) (fun t hf y => by
    blk_simp; rw [after0_5]; frame_out
    obtain ⟨h0, h1, h2, h3, e5, e6⟩ := read0 m ρ c t y _ rfl
    exact (mean_at _ _ (ag m c) (am m c) y _ h1 h2).trans (congrArg (Mean m c) e5.symm)) (fun j => Iff.rfl) i).trans (if_pos hi)
/-- After the first call the lower half of the result stands. -/
theorem lower6 (i : S2048x1408.Idx) (hi : 8 ≤ (i 0).val / 128) : (dat0 (V0 m ρ) c).arrAt 6 cfg0.N i = Square m c i :=
  ((dat0 (V0 m ρ) c).arrAt_apply_of_coversWhere 6 (Square m c) (P := fun i : S2048x1408.Idx => 8 ≤ (i 0).val / 128)
    (fun β => 8 ≤ β (0 : Fin 2)) (by decide +kernel) (fun t hf y => by
    blk_simp; rw [after0_6]; frame_out
    obtain ⟨h0, h1, h2, h3, e5, e6⟩ := read0 m ρ c t y _ rfl
    exact (square_at _ _ (ag m c) (av m c) y _ h1 h3).trans (congrArg (Square m c) e6.symm)) (fun j => Iff.rfl) i).trans (if_pos hi)

/-- The second call starts from what the first left. -/
theorem carried4 : W2 m ρ c (Proc.devRef .tc main_v1_0) = W1 m ρ c (Proc.devRef .tc main_v0_0) := by
  unfold_abbrev_sides
  after_results
  rfl
theorem carried5 : W2 m ρ c (Proc.devRef .tc main_v1_1) = W1 m ρ c (Proc.devRef .tc main_v0_1) := by
  unfold_abbrev_sides
  after_results
  rfl
theorem carried6 : W2 m ρ c (Proc.devRef .tc main_v1_2) = W1 m ρ c (Proc.devRef .tc main_v0_2) := by
  unfold_abbrev_sides
  after_results
  rfl

/-- Where call 1's blocks lie: at the results' rows. -/
theorem index1 : ∀ t : Fin cfg1.N, win1_0.index t = win1_4.index t ∧ win1_2.index t = win1_4.index t ∧ win1_3.index t = win1_4.index t
    ∧ win1_5.index t = win1_4.index t ∧ win1_6.index t = win1_4.index t ∧ win1_1.index t = win1_4.index t :=
  (by decide +kernel : ∀ t : Fin grid1.N, _)

/-- Call 1's blocks at an entry, and the places of the three results' blocks. -/
theorem read1 (t : Fin cfg1.N) (y : S128x1408.Idx) (i : S2048x1408.Idx) (hi : i = ((cfg1.win 4).blk t).view.emb y) :
    iblk1 (V2 m ρ) c 0 t y = aw m c i ∧ iblk1 (V2 m ρ) c 1 t y = ag m c i ∧ iblk1 (V2 m ρ) c 2 t y = am m c i
      ∧ iblk1 (V2 m ρ) c 3 t y = av m c i ∧ ((cfg1.win 5).blk t).view.emb y = i ∧ ((cfg1.win 6).blk t).view.emb y = i := by
  subst hi
  obtain ⟨e0, e2, e3, e5, e6, e1⟩ := index1 t
  have pl {p : Fin 2 → ℕ} {j : S2048x1408.Idx} (e : p = win1_4.index t) (h0 : (j 0).val = p 0 * 128 + 1 * (y 0).val)
      (h1 : (j 1).val = p 1 * 1408 + 1 * (y 1).val) : j = ((cfg1.win 4).blk t).view.emb y := place 128 1408 _ _ e h0 h1 rfl rfl
  refine ⟨(congrFun (W2_args m ρ c main_arg0 (by decide)) _).trans (congrArg (aw m c) (pl e0 rfl rfl)), ?_,
    (congrFun (W2_args m ρ c main_arg3 (by decide)) _).trans (congrArg (am m c) (pl e2 rfl rfl)),
    (congrFun (W2_args m ρ c main_arg4 (by decide)) _).trans (congrArg (av m c) (pl e3 rfl rfl)), pl e5 rfl rfl, pl e6 rfl rfl⟩
  exact (congrFun (W2_args m ρ c main_arg1 (by decide)) (((cfg1.win 1).blk t).view.emb y)).trans (upper _ _ _ _ _
    (congrArg (fun p : Fin 2 → ℕ => p 0 * 128 + 1 * (y 0).val) e1) (congrArg (fun p : Fin 2 → ℕ => p 1 * 1408 + 1 * (y 1).val) e1)).symm

/-- After the second call the whole result stands. -/
theorem whole4 : (dat1 (V2 m ρ) c).arrAt 4 cfg1.N = Step m c :=
  (dat1 (V2 m ρ) c).arrAt_eq_of_coversWhere_of_agree 4 (Step m c) (fun β => β (0 : Fin 2) < 8) (by decide +kernel)
    (fun t hf y => by
    blk_simp; rw [after1_4]; unfold outsAt1; frame_out
    obtain ⟨h0, h1, h2, h3, e5, e6⟩ := read1 m ρ c t y _ rfl
    exact step_at _ _ _ _ (aw m c) (ag m c) (am m c) (av m c) y _ h0 h1 h2 h3)
    fun j hj => (congrFun ((carried4 m ρ c).trans (W1_arr m ρ c 4)) j).trans (lower4 m ρ c j (Nat.le_of_not_lt hj))
/-- After the second call the whole result stands. -/
theorem whole5 : (dat1 (V2 m ρ) c).arrAt 5 cfg1.N = Mean m c :=
  (dat1 (V2 m ρ) c).arrAt_eq_of_coversWhere_of_agree 5 (Mean m c) (fun β => β (0 : Fin 2) < 8) (by decide +kernel)
    (fun t hf y => by
    blk_simp; rw [after1_5]; unfold outsAt1; frame_out
    obtain ⟨h0, h1, h2, h3, e5, e6⟩ := read1 m ρ c t y _ rfl
    exact (mean_at _ _ (ag m c) (am m c) y _ h1 h2).trans (congrArg (Mean m c) e5.symm))
    fun j hj => (congrFun ((carried5 m ρ c).trans (W1_arr m ρ c 5)) j).trans (lower5 m ρ c j (Nat.le_of_not_lt hj))
/-- After the second call the whole result stands. -/
theorem whole6 : (dat1 (V2 m ρ) c).arrAt 6 cfg1.N = Square m c :=
  (dat1 (V2 m ρ) c).arrAt_eq_of_coversWhere_of_agree 6 (Square m c) (fun β => β (0 : Fin 2) < 8) (by decide +kernel)
    (fun t hf y => by
    blk_simp; rw [after1_6]; unfold outsAt1; frame_out
    obtain ⟨h0, h1, h2, h3, e5, e6⟩ := read1 m ρ c t y _ rfl
    exact (square_at _ _ (ag m c) (av m c) y _ h1 h3).trans (congrArg (Square m c) e6.symm))
    fun j hj => (congrFun ((carried6 m ρ c).trans (W1_arr m ρ c 6)) j).trans (lower6 m ρ c j (Nat.le_of_not_lt hj))

set_option backward.isDefEq.respectTransparency.types false in
/-- What the two calls leave. -/
theorem run : θ_run defs (onTc (τ := τ) (main (F := Ideal))) ⟨m, fun _ => 0, ρ⟩ (fun r => ∀ c : Dev nD,
      r.2.mem ((c : Thread nD τ).loc main_v1_0) = Step m c ∧ r.2.mem ((c : Thread nD τ).loc main_v1_1) = Mean m c
      ∧ r.2.mem ((c : Thread nD τ).loc main_v1_2) = Square m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  θ_run_regions_kit_sems (pcfgs (F := Ideal)) adm (pdats m ρ) () cellOf_inj emb₁ defs₀ 𝒱₀ L lv m ρ main (segs m ρ)
    (fun c Q => by rw [main_run m ρ c]) (by simp only [segs, Seg.pipes_host, Seg.pipes_region, Seg.pipes_nil]; decide)
    (O₀ := 0) (hL := fun _ _ => rfl) (G := fun _ => iprop(emp)) (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp (MT nD τ sig Unit (Elt Ideal) ℕ (UR sig nD τ) ℕ))
            ⊢ BI.own (emb₁ (initOf (cells cfgs cellOf_inj) (launchToks cfgs cellOf_inj))) from .rfl)
        iexact Hu
      iapply (show (BI.emp : sProp (MT nD τ sig Unit (Elt Ideal) ℕ (UR sig nD τ) ℕ)) ⊢ bigSep Finset.univ fun _ : Dev nD => BI.emp from by rw [BI.bigSep_emp_const])
      iempintro)
    (T₀ := fun c => iprop(StableHlo.held (c : Thread nD τ) (ucRefs τ sig) (W0 m ρ c) ∗ R c)) (Tₙ := Tₙ m ρ)
    (hch := ⟨fun _ => .rfl, fun _ => .rfl, fun _ => .rfl, fun _ => .rfl⟩)
    (hinit := by
      refine initEach L lv fun c => ?_
      rw [show unscopedBufs c (fun b => m ((c : Thread nD τ).loc b)) = _ from unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W3 m ρ c b)
    (hfin := fun c s' => by
      iintro ⟨⟨Hh, -⟩, HSI⟩
      unfold StableHlo.held
      imodintro
      iapply (pointsTo_read_all (ucRefs τ sig) (fun b => (((c : Thread nD τ)).1, b)) (W3 m ρ c) s')
      isplitl [Hh] <;> iassumption)
    (hQ := fun s h hz c =>
      have out (b : Ref sig .tc) (hb) := h c _ (mem_uc b hb)
      ⟨((out main_v1_0 (by decide)).trans (W3_arr m ρ c 4)).trans (whole4 m ρ c),
      ((out main_v1_1 (by decide)).trans (W3_arr m ρ c 5)).trans (whole5 m ρ c),
      ((out main_v1_2 (by decide)).trans (W3_arr m ρ c 6)).trans (whole6 m ρ c),
      (out main_arg0 (by decide)).trans (W3_main_arg0 m ρ c), (out main_arg1 (by decide)).trans (W3_main_arg1 m ρ c), (out main_arg2 (by decide)).trans (W3_main_arg2 m ρ c), (out main_arg3 (by decide)).trans (W3_main_arg3 m ρ c), (out main_arg4 (by decide)).trans (W3_main_arg4 m ρ c)⟩)

/-- Kernel and reference end with the same step and the same two running means. -/
theorem algebraic : Cert.algebraic_Kernel14Ideal_Reference14Ideal (hKernel14Ideal := Cert.Kernel14Ideal.Gen.facts) (hReference14Ideal := Cert.Reference14Ideal.Gen.facts) := by
  intro m g m' g' hpre hagree
  refine ⟨_, _, _, run m g, (θ_run _ _ _).mono (fun r h c => ?_) (Cert.Reference14Ideal.Value.run m' g')⟩
  obtain ⟨h0, h1, h2, hu⟩ := h c
  obtain ⟨a0, a1, a2, a3, a4⟩ := hagree c
  rw [a0, a1, a2, a3, a4] at h0
  rw [a1, a2, a3] at h1
  rw [a1, a2, a4] at h2
  exact ⟨h0.trans rfl, h1.trans rfl, h2.trans rfl, hu⟩

end Cert.AdamPair14

end
-- ==== Proof.AdamPairDown.lean ====
module

public import proofs.«01_k».proof.Defs
public import Idealize.ShloMosaic.Lib.Pipeline.ValueKit
public import Idealize.ShloMosaic.Lib.Pipeline.ValueKit.Partial
public import Idealize.ShloMosaic.Lib.Claim
public import proofs.«01_k».proof.Proof.Halves
public import proofs.«01_k».proof.Proof.Gen.Kernel15Ideal.Frame
public import proofs.«01_k».proof.Proof.Gen.Kernel7Ideal.Value
public import proofs.«01_k».proof.Proof.Gen.Reference15Ideal.Run

/-!
# The optimiser for the first sublayer's w_down

Two calls share their three result arrays. The first updates the lower half of the rows from the second gradient. The second
takes its results over and updates the upper half from the first gradient. Together they update the whole weight from the two
gradients one above the other.
-/

@[expose] public section

set_option maxRecDepth 16384

noncomputable section

namespace Cert.AdamPair15

open Idealize.ShloMosaic Idealize.ShloMosaic.TcCoe Idealize.ShloMosaic.Tactic Idealize.ShloMosaic.Pipeline Idealize.ShloMosaic.Rounds
open Idealize.SL Idealize.SL.RA Idealize.SL.BI Idealize.SL.Sem
open scoped Idealize.SL.BI
open Idealize.SL.BI.BIBase Idealize.SL.BI.Laws Idealize.SL.ProofMode
open Cert.Kernel15Ideal Cert.Kernel15Ideal.Gen Cert.Halves

/-- An array as large as the weight. -/
abbrev Whole := S1408x1024.Idx → Elt Ideal .f32
/-- A block of its rows. -/
abbrev Block := Vec Ideal S176x1024 .f32

/-- The payloads at an entry are the whole arrays' expressions at its place. -/
theorem step_at (w g μ ν : Block) (W G M V : Whole) (y : S176x1024.Idx) (i : S1408x1024.Idx) (h0 : w y = W i) (h1 : g y = G i)
    (h2 : μ y = M i) (h3 : ν y = V i) : k0_pay3 g μ ν w y = Cert.Kernel7Ideal.Value.G4 G M V W i := by
  show k0_pay3 (fun _ => g y) (fun _ => μ y) (fun _ => ν y) (fun _ => w y) y = _
  rw [h0, h1, h2, h3]; rfl
theorem mean_at (g μ : Block) (G M : Whole) (y : S176x1024.Idx) (i : S1408x1024.Idx) (h1 : g y = G i) (h2 : μ y = M i) :
    k0_pay1 g μ y = Cert.Kernel7Ideal.Value.G5 G M i := by
  show k0_pay1 (fun _ => g y) (fun _ => μ y) y = _
  rw [h1, h2]; rfl
theorem square_at (g ν : Block) (G V : Whole) (y : S176x1024.Idx) (i : S1408x1024.Idx) (h1 : g y = G i) (h3 : ν y = V i) :
    k0_pay2 g ν y = Cert.Kernel7Ideal.Value.G6 G V i := by
  show k0_pay2 (fun _ => g y) (fun _ => ν y) y = _
  rw [h1, h3]; rfl

variable (m : (ℓ : Loc nD τ sig) → Buf (Elt Ideal) ℓ) (ρ : Dev nD → PrngReg) (c : Dev nD)

/-- The weight, the gradients one above the other, and the two running means. -/
abbrev aw : Whole := m ((c : Thread nD τ).loc main_arg0)
def ag : Whole := concatenate S1408x1024 0 [⟨S704x1024, m ((c : Thread nD τ).loc main_arg1)⟩, ⟨S704x1024, m ((c : Thread nD τ).loc main_arg2)⟩]
  Cert.Reference15Ideal.Gen.facts.concatenates_S704x1024_S704x1024_S1408x1024_d0
abbrev am : Whole := m ((c : Thread nD τ).loc main_arg3)
abbrev av : Whole := m ((c : Thread nD τ).loc main_arg4)
/-- The step, the new mean and the new mean of squares. -/
abbrev Step : Whole := Cert.Kernel7Ideal.Value.G4 (ag m c) (am m c) (av m c) (aw m c)
abbrev Mean : Whole := Cert.Kernel7Ideal.Value.G5 (ag m c) (am m c)
abbrev Square : Whole := Cert.Kernel7Ideal.Value.G6 (ag m c) (av m c)

/-- Where call 0's blocks lie: at the results' rows, the gradient's counted from its own first row. -/
theorem index0 : ∀ t : Fin cfg0.N, win0_0.index t = win0_4.index t ∧ win0_2.index t = win0_4.index t ∧ win0_3.index t = win0_4.index t
    ∧ win0_5.index t = win0_4.index t ∧ win0_6.index t = win0_4.index t ∧ win0_1.index t 0 + 4 = win0_4.index t 0 ∧ win0_1.index t 1 = win0_4.index t 1 :=
  (by decide +kernel : ∀ t : Fin grid0.N, _)

/-- Call 0's blocks at an entry, and the places of the three results' blocks. -/
theorem read0 (t : Fin cfg0.N) (y : S176x1024.Idx) (i : S1408x1024.Idx) (hi : i = ((cfg0.win 4).blk t).view.emb y) :
    iblk0 (V0 m ρ) c 0 t y = aw m c i ∧ iblk0 (V0 m ρ) c 1 t y = ag m c i ∧ iblk0 (V0 m ρ) c 2 t y = am m c i
      ∧ iblk0 (V0 m ρ) c 3 t y = av m c i ∧ ((cfg0.win 5).blk t).view.emb y = i ∧ ((cfg0.win 6).blk t).view.emb y = i := by
  subst hi
  obtain ⟨e0, e2, e3, e5, e6, e1, e1'⟩ := index0 t
  have pl {p : Fin 2 → ℕ} {j : S1408x1024.Idx} (e : p = win0_4.index t) (h0 : (j 0).val = p 0 * 176 + 1 * (y 0).val)
      (h1 : (j 1).val = p 1 * 1024 + 1 * (y 1).val) : j = ((cfg0.win 4).blk t).view.emb y := place 176 1024 _ _ e h0 h1 rfl rfl
  refine ⟨(congrFun (W0_args m ρ c main_arg0 (by decide)) _).trans (congrArg (aw m c) (pl e0 rfl rfl)), ?_,
    (congrFun (W0_args m ρ c main_arg3 (by decide)) _).trans (congrArg (am m c) (pl e2 rfl rfl)),
    (congrFun (W0_args m ρ c main_arg4 (by decide)) _).trans (congrArg (av m c) (pl e3 rfl rfl)), pl e5 rfl rfl, pl e6 rfl rfl⟩
  refine (congrFun (W0_args m ρ c main_arg2 (by decide)) (((cfg0.win 1).blk t).view.emb y)).trans (lower _ _ _ _ _ ?_ ?_).symm
  · show win0_1.index t 0 * 176 + 1 * (y 0).val + 704 = win0_4.index t 0 * 176 + 1 * (y 0).val; omega
  · exact congrArg (· * 1024 + 1 * (y 1).val) e1'

/-- After the first call the lower half of the result stands. -/
theorem lower4 (i : S1408x1024.Idx) (hi : 4 ≤ (i 0).val / 176) : (dat0 (V0 m ρ) c).arrAt 4 cfg0.N i = Step m c i :=
  ((dat0 (V0 m ρ) c).arrAt_apply_of_coversWhere 4 (Step m c) (P := fun i : S1408x1024.Idx => 4 ≤ (i 0).val / 176)
    (fun β => 4 ≤ β (0 : Fin 2)) (by decide +kernel) (fun t hf y => by
    blk_simp; rw [after0_4]; frame_out
    obtain ⟨h0, h1, h2, h3, e5, e6⟩ := read0 m ρ c t y _ rfl
    exact step_at _ _ _ _ (aw m c) (ag m c) (am m c) (av m c) y _ h0 h1 h2 h3) (fun j => Iff.rfl) i).trans (if_pos hi)
/-- After the first call the lower half of the result stands. -/
theorem lower5 (i : S1408x1024.Idx) (hi : 4 ≤ (i 0).val / 176) : (dat0 (V0 m ρ) c).arrAt 5 cfg0.N i = Mean m c i :=
  ((dat0 (V0 m ρ) c).arrAt_apply_of_coversWhere 5 (Mean m c) (P := fun i : S1408x1024.Idx => 4 ≤ (i 0).val / 176)
    (fun β => 4 ≤ β (0 : Fin 2)) (by decide +kernel) (fun t hf y => by
    blk_simp; rw [after0_5]; frame_out
    obtain ⟨h0, h1, h2, h3, e5, e6⟩ := read0 m ρ c t y _ rfl
    exact (mean_at _ _ (ag m c) (am m c) y _ h1 h2).trans (congrArg (Mean m c) e5.symm)) (fun j => Iff.rfl) i).trans (if_pos hi)
/-- After the first call the lower half of the result stands. -/
theorem lower6 (i : S1408x1024.Idx) (hi : 4 ≤ (i 0).val / 176) : (dat0 (V0 m ρ) c).arrAt 6 cfg0.N i = Square m c i :=
  ((dat0 (V0 m ρ) c).arrAt_apply_of_coversWhere 6 (Square m c) (P := fun i : S1408x1024.Idx => 4 ≤ (i 0).val / 176)
    (fun β => 4 ≤ β (0 : Fin 2)) (by decide +kernel) (fun t hf y => by
    blk_simp; rw [after0_6]; frame_out
    obtain ⟨h0, h1, h2, h3, e5, e6⟩ := read0 m ρ c t y _ rfl
    exact (square_at _ _ (ag m c) (av m c) y _ h1 h3).trans (congrArg (Square m c) e6.symm)) (fun j => Iff.rfl) i).trans (if_pos hi)

/-- The second call starts from what the first left. -/
theorem carried4 : W2 m ρ c (Proc.devRef .tc main_v1_0) = W1 m ρ c (Proc.devRef .tc main_v0_0) := by
  unfold_abbrev_sides
  after_results
  rfl
theorem carried5 : W2 m ρ c (Proc.devRef .tc main_v1_1) = W1 m ρ c (Proc.devRef .tc main_v0_1) := by
  unfold_abbrev_sides
  after_results
  rfl
theorem carried6 : W2 m ρ c (Proc.devRef .tc main_v1_2) = W1 m ρ c (Proc.devRef .tc main_v0_2) := by
  unfold_abbrev_sides
  after_results
  rfl

/-- Where call 1's blocks lie: at the results' rows. -/
theorem index1 : ∀ t : Fin cfg1.N, win1_0.index t = win1_4.index t ∧ win1_2.index t = win1_4.index t ∧ win1_3.index t = win1_4.index t
    ∧ win1_5.index t = win1_4.index t ∧ win1_6.index t = win1_4.index t ∧ win1_1.index t = win1_4.index t :=
  (by decide +kernel : ∀ t : Fin grid1.N, _)

/-- Call 1's blocks at an entry, and the places of the three results' blocks. -/
theorem read1 (t : Fin cfg1.N) (y : S176x1024.Idx) (i : S1408x1024.Idx) (hi : i = ((cfg1.win 4).blk t).view.emb y) :
    iblk1 (V2 m ρ) c 0 t y = aw m c i ∧ iblk1 (V2 m ρ) c 1 t y = ag m c i ∧ iblk1 (V2 m ρ) c 2 t y = am m c i
      ∧ iblk1 (V2 m ρ) c 3 t y = av m c i ∧ ((cfg1.win 5).blk t).view.emb y = i ∧ ((cfg1.win 6).blk t).view.emb y = i := by
  subst hi
  obtain ⟨e0, e2, e3, e5, e6, e1⟩ := index1 t
  have pl {p : Fin 2 → ℕ} {j : S1408x1024.Idx} (e : p = win1_4.index t) (h0 : (j 0).val = p 0 * 176 + 1 * (y 0).val)
      (h1 : (j 1).val = p 1 * 1024 + 1 * (y 1).val) : j = ((cfg1.win 4).blk t).view.emb y := place 176 1024 _ _ e h0 h1 rfl rfl
  refine ⟨(congrFun (W2_args m ρ c main_arg0 (by decide)) _).trans (congrArg (aw m c) (pl e0 rfl rfl)), ?_,
    (congrFun (W2_args m ρ c main_arg3 (by decide)) _).trans (congrArg (am m c) (pl e2 rfl rfl)),
    (congrFun (W2_args m ρ c main_arg4 (by decide)) _).trans (congrArg (av m c) (pl e3 rfl rfl)), pl e5 rfl rfl, pl e6 rfl rfl⟩
  exact (congrFun (W2_args m ρ c main_arg1 (by decide)) (((cfg1.win 1).blk t).view.emb y)).trans (upper _ _ _ _ _
    (congrArg (fun p : Fin 2 → ℕ => p 0 * 176 + 1 * (y 0).val) e1) (congrArg (fun p : Fin 2 → ℕ => p 1 * 1024 + 1 * (y 1).val) e1)).symm

/-- After the second call the whole result stands. -/
theorem whole4 : (dat1 (V2 m ρ) c).arrAt 4 cfg1.N = Step m c :=
  (dat1 (V2 m ρ) c).arrAt_eq_of_coversWhere_of_agree 4 (Step m c) (fun β => β (0 : Fin 2) < 4) (by decide +kernel)
    (fun t hf y => by
    blk_simp; rw [after1_4]; unfold outsAt1; frame_out
    obtain ⟨h0, h1, h2, h3, e5, e6⟩ := read1 m ρ c t y _ rfl
    exact step_at _ _ _ _ (aw m c) (ag m c) (am m c) (av m c) y _ h0 h1 h2 h3)
    fun j hj => (congrFun ((carried4 m ρ c).trans (W1_arr m ρ c 4)) j).trans (lower4 m ρ c j (Nat.le_of_not_lt hj))
/-- After the second call the whole result stands. -/
theorem whole5 : (dat1 (V2 m ρ) c).arrAt 5 cfg1.N = Mean m c :=
  (dat1 (V2 m ρ) c).arrAt_eq_of_coversWhere_of_agree 5 (Mean m c) (fun β => β (0 : Fin 2) < 4) (by decide +kernel)
    (fun t hf y => by
    blk_simp; rw [after1_5]; unfold outsAt1; frame_out
    obtain ⟨h0, h1, h2, h3, e5, e6⟩ := read1 m ρ c t y _ rfl
    exact (mean_at _ _ (ag m c) (am m c) y _ h1 h2).trans (congrArg (Mean m c) e5.symm))
    fun j hj => (congrFun ((carried5 m ρ c).trans (W1_arr m ρ c 5)) j).trans (lower5 m ρ c j (Nat.le_of_not_lt hj))
/-- After the second call the whole result stands. -/
theorem whole6 : (dat1 (V2 m ρ) c).arrAt 6 cfg1.N = Square m c :=
  (dat1 (V2 m ρ) c).arrAt_eq_of_coversWhere_of_agree 6 (Square m c) (fun β => β (0 : Fin 2) < 4) (by decide +kernel)
    (fun t hf y => by
    blk_simp; rw [after1_6]; unfold outsAt1; frame_out
    obtain ⟨h0, h1, h2, h3, e5, e6⟩ := read1 m ρ c t y _ rfl
    exact (square_at _ _ (ag m c) (av m c) y _ h1 h3).trans (congrArg (Square m c) e6.symm))
    fun j hj => (congrFun ((carried6 m ρ c).trans (W1_arr m ρ c 6)) j).trans (lower6 m ρ c j (Nat.le_of_not_lt hj))

set_option backward.isDefEq.respectTransparency.types false in
/-- What the two calls leave. -/
theorem run : θ_run defs (onTc (τ := τ) (main (F := Ideal))) ⟨m, fun _ => 0, ρ⟩ (fun r => ∀ c : Dev nD,
      r.2.mem ((c : Thread nD τ).loc main_v1_0) = Step m c ∧ r.2.mem ((c : Thread nD τ).loc main_v1_1) = Mean m c
      ∧ r.2.mem ((c : Thread nD τ).loc main_v1_2) = Square m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  θ_run_regions_kit_sems (pcfgs (F := Ideal)) adm (pdats m ρ) () cellOf_inj emb₁ defs₀ 𝒱₀ L lv m ρ main (segs m ρ)
    (fun c Q => by rw [main_run m ρ c]) (by simp only [segs, Seg.pipes_host, Seg.pipes_region, Seg.pipes_nil]; decide)
    (O₀ := 0) (hL := fun _ _ => rfl) (G := fun _ => iprop(emp)) (u₀ := initOf (cells cfgs cellOf_inj) (launchToks cfgs cellOf_inj))
    (hu₀ := by
      iintro Hu; imodintro
      isplitl [Hu]
      · iapply (show (ownU (initOf (cells cfgs cellOf_inj) (launchToks cfgs cellOf_inj)) : sProp (MT nD τ sig Unit (Elt Ideal) ℕ (UR sig nD τ) ℕ))
            ⊢ BI.own (emb₁ (initOf (cells cfgs cellOf_inj) (launchToks cfgs cellOf_inj))) from .rfl)
        iexact Hu
      iapply (show (BI.emp : sProp (MT nD τ sig Unit (Elt Ideal) ℕ (UR sig nD τ) ℕ)) ⊢ bigSep Finset.univ fun _ : Dev nD => BI.emp from by rw [BI.bigSep_emp_const])
      iempintro)
    (T₀ := fun c => iprop(StableHlo.held (c : Thread nD τ) (ucRefs τ sig) (W0 m ρ c) ∗ R c)) (Tₙ := Tₙ m ρ)
    (hch := ⟨fun _ => .rfl, fun _ => .rfl, fun _ => .rfl, fun _ => .rfl⟩)
    (hinit := by
      refine initEach L lv fun c => ?_
      rw [show unscopedBufs c (fun b => m ((c : Thread nD τ).loc b)) = _ from unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W3 m ρ c b)
    (hfin := fun c s' => by
      iintro ⟨⟨Hh, -⟩, HSI⟩
      unfold StableHlo.held
      imodintro
      iapply (pointsTo_read_all (ucRefs τ sig) (fun b => (((c : Thread nD τ)).1, b)) (W3 m ρ c) s')
      isplitl [Hh] <;> iassumption)
    (hQ := fun s h hz c =>
      have out (b : Ref sig .tc) (hb) := h c _ (mem_uc b hb)
      ⟨((out main_v1_0 (by decide)).trans (W3_arr m ρ c 4)).trans (whole4 m ρ c),
      ((out main_v1_1 (by decide)).trans (W3_arr m ρ c 5)).trans (whole5 m ρ c),
      ((out main_v1_2 (by decide)).trans (W3_arr m ρ c 6)).trans (whole6 m ρ c),
      (out main_arg0 (by decide)).trans (W3_main_arg0 m ρ c), (out main_arg1 (by decide)).trans (W3_main_arg1 m ρ c), (out main_arg2 (by decide)).trans (W3_main_arg2 m ρ c), (out main_arg3 (by decide)).trans (W3_main_arg3 m ρ c), (out main_arg4 (by decide)).trans (W3_main_arg4 m ρ c)⟩)

/-- Kernel and reference end with the same step and the same two running means. -/
theorem algebraic : Cert.algebraic_Kernel15Ideal_Reference15Ideal (hKernel15Ideal := Cert.Kernel15Ideal.Gen.facts) (hReference15Ideal := Cert.Reference15Ideal.Gen.facts) := by
  intro m g m' g' hpre hagree
  refine ⟨_, _, _, run m g, (θ_run _ _ _).mono (fun r h c => ?_) (Cert.Reference15Ideal.Value.run m' g')⟩
  obtain ⟨h0, h1, h2, hu⟩ := h c
  obtain ⟨a0, a1, a2, a3, a4⟩ := hagree c
  rw [a0, a1, a2, a3, a4] at h0
  rw [a1, a2, a3] at h1
  rw [a1, a2, a4] at h2
  exact ⟨h0.trans rfl, h1.trans rfl, h2.trans rfl, hu⟩

end Cert.AdamPair15

end
-- ==== Proof.FoxReal.lean ====
module

public import Mathlib.Data.EReal.Inv
public import Mathlib.Analysis.SpecialFunctions.Log.Basic
public import Mathlib.Algebra.BigOperators.Fin
public import Mathlib.Algebra.BigOperators.Field

/-!
# The gradient of the forgetting attention over the reals

Everything here is about real numbers. A head `h` has the logits
`sc h t r = (Σ_d q_t k_r) / 8 + c_t - c_r` for `r ≤ t`, the weights `pr = softmax sc`, the output
`att = Σ_r pr v_r`, and, for an incoming gradient `D`, the logit gradient
`ds = pr (dp - Σ pr dp)` with `dp = Σ_d D v`. The second half states the same numbers the way a kernel that
walks pairs of heads over 128 lanes meets them, and shows that the two agree.
-/

@[expose] public section

noncomputable section

namespace Cert.Fox

open Finset

/-- A finite sum of real numbers, read in the extended reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [sum_insert ha, sum_insert ha, ih, EReal.coe_add]

/-- The lane of feature `d` of head `h`. -/
def col (h : Fin 12) (d : Fin 64) : Fin 768 := ⟨64 * h.val + d.val, by omega⟩

/-- The head a lane belongs to. -/
def headOf (j : Fin 768) : Fin 12 := ⟨j.val / 64, by omega⟩

/-- The real arrays of one backward pass; `M` is the row maximum the softmax subtracts (any real does). -/
structure In where
  Q : Fin 4096 → Fin 768 → ℝ
  K : Fin 4096 → Fin 768 → ℝ
  V : Fin 4096 → Fin 768 → ℝ
  D : Fin 4096 → Fin 768 → ℝ
  C : Fin 4096 → Fin 12 → ℝ
  M : Fin 12 → Fin 4096 → ℝ

namespace In

variable (x : In)

/-- The logit of query `t` and key `r` before the causal mask. -/
def sc (h : Fin 12) (t r : Fin 4096) : ℝ :=
  (∑ d : Fin 64, x.Q t (col h d) * x.K r (col h d)) * (1 / 8) + x.C t h - x.C r h

/-- The exponential the softmax sums, zero above the diagonal. -/
def ex (h : Fin 12) (t r : Fin 4096) : ℝ := if r ≤ t then Real.exp (x.sc h t r - x.M h t) else 0

/-- The softmax's denominator. -/
def den (h : Fin 12) (t : Fin 4096) : ℝ := ∑ r, x.ex h t r

/-- The attention weight. -/
def pr (h : Fin 12) (t r : Fin 4096) : ℝ := x.ex h t r / x.den h t

/-- The attention's output at a lane. -/
def att (t : Fin 4096) (j : Fin 768) : ℝ := ∑ r, x.V r j * x.pr (headOf j) t r

/-- The gradient of a weight. -/
def dp (h : Fin 12) (t r : Fin 4096) : ℝ := ∑ d : Fin 64, x.D t (col h d) * x.V r (col h d)

/-- The softmax's correction: the weighted sum of the weights' gradients. -/
def dl (h : Fin 12) (t : Fin 4096) : ℝ := ∑ r, x.pr h t r * x.dp h t r

/-- The gradient of a logit. -/
def ds (h : Fin 12) (t r : Fin 4096) : ℝ := x.pr h t r * (x.dp h t r - x.dl h t)

/-- The logarithm of the sum of exponentials. -/
def lse (t : Fin 4096) (h : Fin 12) : ℝ := x.M h t + Real.log (x.den h t)

theorem ex_nonneg (h : Fin 12) (t r : Fin 4096) : 0 ≤ x.ex h t r := by
  unfold ex; split
  · exact (Real.exp_pos _).le
  · exact le_rfl

theorem ex_of_gt {h : Fin 12} {t r : Fin 4096} (hr : ¬ r ≤ t) : x.ex h t r = 0 := if_neg hr

theorem den_pos (h : Fin 12) (t : Fin 4096) : 0 < x.den h t := by
  refine Finset.sum_pos' (fun r _ => x.ex_nonneg h t r) ⟨t, mem_univ _, ?_⟩
  unfold ex; rw [if_pos le_rfl]; exact Real.exp_pos _

theorem den_ne (h : Fin 12) (t : Fin 4096) : x.den h t ≠ 0 := (x.den_pos h t).ne'

/-- The exponential of a masked logit less the log-sum is the weight. -/
theorem exp_lse (h : Fin 12) (t r : Fin 4096) :
    (if r ≤ t then Real.exp (x.sc h t r - x.lse t h) else 0) = x.pr h t r := by
  unfold pr ex lse
  split
  · rw [← sub_sub, Real.exp_sub, Real.exp_log (x.den_pos h t)]
  · simp

/-- The weights of a row sum to one. -/
theorem sum_pr (h : Fin 12) (t : Fin 4096) : ∑ r, x.pr h t r = 1 := by
  unfold pr
  rw [← sum_div]
  exact div_self (x.den_ne h t)

/-- The logit gradients of a row sum to zero: adding a constant to a row of logits changes nothing. -/
theorem sum_ds (h : Fin 12) (t : Fin 4096) : ∑ r, x.ds h t r = 0 := by
  unfold ds
  simp only [mul_sub, sum_sub_distrib]
  rw [← sum_mul, x.sum_pr h t, one_mul]
  exact sub_self _

/-- The correction is the sum over a head's lanes of gradient times output. -/
theorem dl_eq (h : Fin 12) (t : Fin 4096) :
    x.dl h t = ∑ d : Fin 64, x.D t (col h d) * x.att t (col h d) := by
  have hc : ∀ d, headOf (col h d) = h := fun d => by
    apply Fin.ext; show (64 * h.val + d.val) / 64 = h.val; omega
  unfold dl dp att
  simp only [mul_sum, hc]
  rw [sum_comm]
  refine sum_congr rfl fun d _ => sum_congr rfl fun r _ => ?_
  ring

theorem ds_of_gt {h : Fin 12} {t r : Fin 4096} (hr : ¬ r ≤ t) : x.ds h t r = 0 := by
  unfold ds pr; rw [x.ex_of_gt hr]; simp

/-- The logit gradient as the chain rule through the quotient writes it. -/
theorem ds_chain (h : Fin 12) (t r : Fin 4096) :
    (x.dp h t r * (1 / x.den h t)
      + ∑ r', -(x.dp h t r' * (1 * (1 / (x.den h t * x.den h t))) * x.ex h t r')) * x.ex h t r = x.ds h t r := by
  have hd := x.den_ne h t
  have e : ∑ r', -(x.dp h t r' * (1 * (1 / (x.den h t * x.den h t))) * x.ex h t r') = -(x.dl h t * (1 / x.den h t)) := by
    unfold dl pr
    rw [sum_mul, ← sum_neg_distrib]
    refine sum_congr rfl fun r' _ => ?_
    field_simp
  rw [e]; unfold ds pr; field_simp; ring

/-- The gradient of the queries. -/
def DQ (t : Fin 4096) (j : Fin 768) : ℝ := ∑ r, x.ds (headOf j) t r * (1 / 8) * x.K r j

/-- The gradient of the keys. -/
def DK (r : Fin 4096) (j : Fin 768) : ℝ := ∑ t, x.ds (headOf j) t r * (1 / 8) * x.Q t j

/-- The gradient of the values. -/
def DV (r : Fin 4096) (j : Fin 768) : ℝ := ∑ t, x.pr (headOf j) t r * x.D t j

/-- The gradient of the cumulative gate. -/
def DC (r : Fin 4096) (h : Fin 12) : ℝ := -∑ t, x.ds h t r

end In

/-! ## Sums over the lanes of one half and over tiles of rows -/

/-- A sum over the 128 lanes of a pair of heads that keeps one head's lanes. -/
theorem sum_half (hh : ℕ) (hhh : hh < 2) (f : Fin 128 → ℝ) :
    (∑ l : Fin 128, if l.val / 64 = hh then f l else 0) = ∑ d : Fin 64, f ⟨64 * hh + d.val, by omega⟩ := by
  rw [← Fin.sum_congr' (fun l : Fin 128 => if l.val / 64 = hh then f l else 0) (show 64 + 64 = 128 from rfl), Fin.sum_univ_add]
  obtain rfl | rfl : hh = 0 ∨ hh = 1 := by omega
  · rw [show (∑ i : Fin 64, if (Fin.cast (show 64 + 64 = 128 from rfl) (Fin.natAdd 64 i)).val / 64 = 0 then
        f (Fin.cast (show 64 + 64 = 128 from rfl) (Fin.natAdd 64 i)) else 0) = 0 from
      sum_eq_zero fun i _ => if_neg (by simp only [Fin.val_cast, Fin.val_natAdd]; omega), add_zero]
    refine sum_congr rfl fun i _ => ?_
    rw [if_pos (by simp only [Fin.val_cast, Fin.val_castAdd]; omega)]
    exact congrArg f (Fin.ext (by simp))
  · rw [show (∑ i : Fin 64, if (Fin.cast (show 64 + 64 = 128 from rfl) (Fin.castAdd 64 i)).val / 64 = 1 then
        f (Fin.cast (show 64 + 64 = 128 from rfl) (Fin.castAdd 64 i)) else 0) = 0 from
      sum_eq_zero fun i _ => if_neg (by simp only [Fin.val_cast, Fin.val_castAdd]; omega), zero_add]
    refine sum_congr rfl fun i _ => ?_
    rw [if_pos (by simp only [Fin.val_cast, Fin.val_natAdd]; omega)]
    exact congrArg f (Fin.ext (by simp; omega))

/-- Row `u` of the `n`-th tile of 512 rows (taken modulo the number of rows, so that it is total). -/
def row (n : ℕ) (u : Fin 512) : Fin 4096 := ⟨(512 * n + u.val) % 4096, Nat.mod_lt _ (by norm_num)⟩

/-- The sum over one tile of rows. -/
def tile (f : Fin 4096 → ℝ) (n : ℕ) : ℝ := ∑ u : Fin 512, f (row n u)

/-- The eight tiles make up all rows. -/
theorem sum_tile (f : Fin 4096 → ℝ) : ∑ n ∈ range 8, tile f n = ∑ t, f t := by
  rw [Finset.sum_range (fun n => tile f n)]
  unfold tile
  rw [← Fintype.sum_prod_type' (fun (n : Fin 8) (u : Fin 512) => f (row n.val u))]
  refine Fintype.sum_equiv ((finProdFinEquiv (m := 8) (n := 512)).trans (finCongr (by norm_num))) _ _ fun p => ?_
  refine congrArg f (Fin.ext ?_)
  simp [row, finProdFinEquiv]
  omega

theorem tile_zero {f : Fin 4096 → ℝ} {n : ℕ} (h : ∀ u, f (row n u) = 0) : tile f n = 0 := sum_eq_zero fun u _ => h u

/-! ## The numbers of one pair of heads, as blocks meet them -/

section pair
variable {ι κ : Type} (qc : ι → Fin 256 → ℝ) (kc : κ → Fin 256 → ℝ) (ls : ι → Fin 128 → ℝ) (dd oo : ι → Fin 128 → ℝ)
  (vv : κ → Fin 128 → ℝ) (le : κ → ι → Prop) [∀ v u, Decidable (le v u)]

/-- The logit of half `hh`: a product over 256 lanes of which one half of each 128 counts. -/
def bs (hh : ℕ) (u : ι) (v : κ) : ℝ := ∑ l : Fin 256, (if l.val % 128 / 64 = hh then qc u l else 0) * kc v l
/-- The weight of half `hh`. -/
def bp (hh : Fin 2) (u : ι) (v : κ) : ℝ :=
  if le v u then Real.exp (bs qc kc hh.val u v - ls u ⟨64 * hh.val, by omega⟩) else 0
/-- The gradient of the weight of half `hh`. -/
def bdp (hh : ℕ) (u : ι) (v : κ) : ℝ := ∑ l : Fin 128, (if l.val / 64 = hh then dd u l else 0) * vv v l
/-- The correction of half `hh`. -/
def bdl (hh : ℕ) (u : ι) : ℝ := ∑ l : Fin 128, if l.val / 64 = hh then dd u l * oo u l else 0
/-- The gradient of the logit of half `hh`. -/
def bds (hh : Fin 2) (u : ι) (v : κ) : ℝ := bp qc kc ls le hh u v * (bdp dd vv hh.val u v - bdl dd oo hh.val u)
end pair

/-! ## The kernel's arrays -/

namespace In
variable (x : In)

/-- Lane `l` of the pair of heads `o`. -/
def lane (o : Fin 6) (l : Fin 128) : Fin 768 := ⟨128 * o.val + l.val, by omega⟩

/-- The scaled queries. -/
def Qs (t : Fin 4096) (j : Fin 768) : ℝ := x.Q t j * (1 / 8)
/-- The six extra lanes of the queries: the gate's value in three parts (the second and third are zero over the
reals), then three ones. -/
def QA (t : Fin 4096) (j : Fin 768) : ℝ :=
  if j.val % 64 = 0 then x.C t (headOf j) else if j.val % 64 = 1 then 0 else if j.val % 64 = 2 then 0 else
    if j.val % 64 < 6 then 1 else 0
/-- The six extra lanes of the keys: three ones, then the gate's negated value in three parts. -/
def KA (r : Fin 4096) (j : Fin 768) : ℝ :=
  if j.val % 64 < 3 then 1 else if j.val % 64 = 3 then -x.C r (headOf j) else 0
/-- The log-sum spread over the lanes of its head. -/
def LS (t : Fin 4096) (j : Fin 768) : ℝ := x.lse t (headOf j)

/-- Queries and their extra lanes side by side. -/
def qc (o : Fin 6) (t : Fin 4096) (l : Fin 256) : ℝ :=
  if h : l.val < 128 then x.Qs t (lane o ⟨l.val, h⟩) else x.QA t (lane o ⟨l.val - 128, by omega⟩)
/-- Keys and their extra lanes side by side. -/
def kc (o : Fin 6) (r : Fin 4096) (l : Fin 256) : ℝ :=
  if h : l.val < 128 then x.K r (lane o ⟨l.val, h⟩) else x.KA r (lane o ⟨l.val - 128, by omega⟩)

/-- The head of half `hh` of pair `o`. -/
def head (o : Fin 6) (hh : Fin 2) : Fin 12 := ⟨2 * o.val + hh.val, by omega⟩

/-- The kernel's weight of half `hh` of pair `o`. -/
def kp (o : Fin 6) (hh : Fin 2) (t r : Fin 4096) : ℝ :=
  bp (x.qc o) (x.kc o) (fun t l => x.LS t (lane o l)) (fun r t : Fin 4096 => r ≤ t) hh t r
/-- The kernel's logit gradient of half `hh` of pair `o`. -/
def kds (o : Fin 6) (hh : Fin 2) (t r : Fin 4096) : ℝ :=
  bds (x.qc o) (x.kc o) (fun t l => x.LS t (lane o l)) (fun t l => x.D t (lane o l)) (fun t l => x.att t (lane o l))
    (fun r l => x.V r (lane o l)) (fun r t : Fin 4096 => r ≤ t) hh t r

theorem lane_col (o : Fin 6) (hh : Fin 2) (d : Fin 64) (h : 64 * hh.val + d.val < 128) :
    lane o ⟨64 * hh.val + d.val, h⟩ = col (head o hh) d := by
  apply Fin.ext; show 128 * o.val + (64 * hh.val + d.val) = 64 * (2 * o.val + hh.val) + d.val; omega

theorem headOf_col (h : Fin 12) (d : Fin 64) : headOf (col h d) = h := by
  apply Fin.ext; show (64 * h.val + d.val) / 64 = h.val; omega

theorem col_mod (h : Fin 12) (d : Fin 64) : (col h d).val % 64 = d.val := by
  show (64 * h.val + d.val) % 64 = d.val; omega

theorem headOf_lane (o : Fin 6) (l : Fin 128) : headOf (lane o l) = head o ⟨l.val / 64, by omega⟩ := by
  apply Fin.ext; show (128 * o.val + l.val) / 64 = 2 * o.val + l.val / 64; omega

/-- The extra lanes of one head multiply to the difference of the gates. -/
theorem sum_aug (h : Fin 12) (t r : Fin 4096) :
    ∑ d : Fin 64, x.QA t (col h d) * x.KA r (col h d) = x.C t h - x.C r h := by
  have e : ∀ d : Fin 64, x.QA t (col h d) * x.KA r (col h d)
      = (if d = 0 then x.C t h else 0) + (if d = 3 then -x.C r h else 0) := by
    intro d
    unfold QA KA
    rw [headOf_col, col_mod]
    have h0 : d = 0 ↔ d.val = 0 := ⟨fun h => by rw [h]; rfl, fun h => Fin.ext h⟩
    have h3 : d = 3 ↔ d.val = 3 := ⟨fun h => by rw [h]; rfl, fun h => Fin.ext h⟩
    simp only [h0, h3]
    by_cases a0 : d.val = 0
    · simp [a0]
    by_cases a3 : d.val = 3
    · simp [a3]
    simp only [a0, a3, if_false]
    by_cases a1 : d.val = 1
    · simp [a1]
    by_cases a2 : d.val = 2
    · simp [a2]
    have a4 : ¬ d.val < 3 := by omega
    simp [a1, a2, a4]
  simp only [e, sum_add_distrib, sum_ite_eq', mem_univ, if_true]
  ring

/-- The kernel's logit is the attention's logit. -/
theorem ks_eq (o : Fin 6) (hh : Fin 2) (t r : Fin 4096) : bs (x.qc o) (x.kc o) hh.val t r = x.sc (head o hh) t r := by
  unfold bs
  rw [← Fin.sum_congr' _ (show 128 + 128 = 256 from rfl), Fin.sum_univ_add]
  have e1 : ∀ i : Fin 128, (if (Fin.cast (show 128 + 128 = 256 from rfl) (Fin.castAdd 128 i)).val % 128 / 64 = hh.val
        then x.qc o t (Fin.cast (show 128 + 128 = 256 from rfl) (Fin.castAdd 128 i)) else 0)
        * x.kc o r (Fin.cast (show 128 + 128 = 256 from rfl) (Fin.castAdd 128 i))
      = if i.val / 64 = hh.val then x.Qs t (lane o i) * x.K r (lane o i) else 0 := by
    intro i
    have hv : (Fin.cast (show 128 + 128 = 256 from rfl) (Fin.castAdd 128 i)).val = i.val := rfl
    unfold qc kc
    rw [dif_pos (by rw [hv]; exact i.isLt), dif_pos (by rw [hv]; exact i.isLt)]
    simp only [hv, Nat.mod_eq_of_lt i.isLt]
    split <;> simp
  have e2 : ∀ i : Fin 128, (if (Fin.cast (show 128 + 128 = 256 from rfl) (Fin.natAdd 128 i)).val % 128 / 64 = hh.val
        then x.qc o t (Fin.cast (show 128 + 128 = 256 from rfl) (Fin.natAdd 128 i)) else 0)
        * x.kc o r (Fin.cast (show 128 + 128 = 256 from rfl) (Fin.natAdd 128 i))
      = if i.val / 64 = hh.val then x.QA t (lane o i) * x.KA r (lane o i) else 0 := by
    intro i
    have hv : (Fin.cast (show 128 + 128 = 256 from rfl) (Fin.natAdd 128 i)).val = 128 + i.val := rfl
    have hw : (⟨128 + i.val - 128, by omega⟩ : Fin 128) = i := Fin.ext (by simp)
    unfold qc kc
    rw [dif_neg (by rw [hv]; omega), dif_neg (by rw [hv]; omega)]
    simp only [hv, hw]
    rw [show (128 + i.val) % 128 = i.val by omega]
    split <;> simp
  rw [sum_congr rfl fun i _ => e1 i, sum_congr rfl fun i _ => e2 i, sum_half _ hh.isLt, sum_half _ hh.isLt]
  simp only [lane_col]
  rw [x.sum_aug]
  unfold sc Qs
  rw [sum_mul]
  have : ∀ a b c : ℝ, a + (b - c) = a + b - c := fun a b c => by ring
  rw [this]
  refine congrArg (fun z => z + _ - _) (sum_congr rfl fun d _ => ?_)
  ring

/-- The kernel's weight is the attention's weight. -/
theorem kp_eq (o : Fin 6) (hh : Fin 2) (t r : Fin 4096) : x.kp o hh t r = x.pr (head o hh) t r := by
  unfold kp bp
  rw [x.ks_eq, ← x.exp_lse]
  have : headOf (lane o ⟨64 * hh.val, by omega⟩) = head o hh := by
    rw [headOf_lane]; apply Fin.ext; show 2 * o.val + 64 * hh.val / 64 = 2 * o.val + hh.val; omega
  unfold LS
  simp only [this]

/-- The kernel's logit gradient is the attention's logit gradient. -/
theorem kds_eq (o : Fin 6) (hh : Fin 2) (t r : Fin 4096) : x.kds o hh t r = x.ds (head o hh) t r := by
  have h1 : bdp (fun t l => x.D t (lane o l)) (fun r l => x.V r (lane o l)) hh.val t r = x.dp (head o hh) t r := by
    unfold bdp dp
    have e : ∀ l : Fin 128, (if l.val / 64 = hh.val then x.D t (lane o l) else 0) * x.V r (lane o l)
        = if l.val / 64 = hh.val then x.D t (lane o l) * x.V r (lane o l) else 0 := fun l => by split <;> simp
    rw [sum_congr rfl fun l _ => e l, sum_half _ hh.isLt]
    simp only [lane_col]
  have h2 : bdl (fun t l => x.D t (lane o l)) (fun t l => x.att t (lane o l)) hh.val t = x.dl (head o hh) t := by
    unfold bdl
    rw [sum_half _ hh.isLt, x.dl_eq]
    simp only [lane_col]
  have h3 := x.kp_eq o hh t r
  unfold kp at h3
  unfold kds bds
  rw [h1, h2, h3]; rfl

theorem kds_of_gt {o : Fin 6} {hh : Fin 2} {t r : Fin 4096} (hr : ¬ r ≤ t) : x.kds o hh t r = 0 := by
  rw [kds_eq, x.ds_of_gt hr]

theorem kp_of_gt {o : Fin 6} {hh : Fin 2} {t r : Fin 4096} (hr : ¬ r ≤ t) : x.kp o hh t r = 0 := by
  rw [kp_eq]; unfold pr; rw [x.ex_of_gt hr]; simp

/-- What one query row adds to the accumulator of the keys' gradients, 256 lanes. -/
def tk (o : Fin 6) (r : Fin 4096) (l : Fin 256) (t : Fin 4096) : ℝ :=
  x.kds o 0 t r * (if l.val % 128 / 64 = 0 then x.qc o t l else 0)
    + x.kds o 1 t r * (if l.val % 128 / 64 = 1 then x.qc o t l else 0)
/-- What one query row adds to the accumulator of the values' gradients. -/
def tv (o : Fin 6) (r : Fin 4096) (l : Fin 128) (t : Fin 4096) : ℝ :=
  x.kp o 0 t r * (if l.val / 64 = 0 then x.D t (lane o l) else 0)
    + x.kp o 1 t r * (if l.val / 64 = 1 then x.D t (lane o l) else 0)
/-- What one key row adds to the gradient of the queries. -/
def tq (o : Fin 6) (t : Fin 4096) (l : Fin 128) (r : Fin 4096) : ℝ :=
  x.kds o 0 t r * (if l.val / 64 = 0 then x.K r (lane o l) else 0)
    + x.kds o 1 t r * (if l.val / 64 = 1 then x.K r (lane o l) else 0)

theorem tk_of_gt {o : Fin 6} {r t : Fin 4096} {l : Fin 256} (hr : ¬ r ≤ t) : x.tk o r l t = 0 := by
  unfold tk; rw [x.kds_of_gt hr, x.kds_of_gt hr]; simp
theorem tv_of_gt {o : Fin 6} {r t : Fin 4096} {l : Fin 128} (hr : ¬ r ≤ t) : x.tv o r l t = 0 := by
  unfold tv; rw [x.kp_of_gt hr, x.kp_of_gt hr]; simp
theorem tq_of_gt {o : Fin 6} {r t : Fin 4096} {l : Fin 128} (hr : ¬ r ≤ t) : x.tq o t l r = 0 := by
  unfold tq; rw [x.kds_of_gt hr, x.kds_of_gt hr]; simp

/-- A sum of the two halves' terms of which a lane keeps its own. -/
theorem pick (f : Fin 2 → ℝ) (n : ℕ) (hn : n < 2) (a : ℝ) :
    f 0 * (if n = 0 then a else 0) + f 1 * (if n = 1 then a else 0) = f ⟨n, hn⟩ * a := by
  obtain rfl | rfl : n = 0 ∨ n = 1 := by omega
  · simp
  · simp

/-- All query rows together: the keys' gradient. -/
theorem sum_tk (r : Fin 4096) (o : Fin 6) (l : Fin 128) :
    ∑ t, x.tk o r ⟨l.val, by omega⟩ t = x.DK r (lane o l) := by
  unfold tk DK
  refine sum_congr rfl fun t _ => ?_
  rw [pick (fun hh => x.kds o hh t r) _ (by omega : l.val % 128 / 64 < 2), x.kds_eq, headOf_lane]
  unfold qc; rw [dif_pos l.isLt]; unfold Qs
  have : l.val % 128 = l.val := Nat.mod_eq_of_lt l.isLt
  simp only [this]
  ring

/-- All query rows together: the values' gradient. -/
theorem sum_tv (r : Fin 4096) (o : Fin 6) (l : Fin 128) : ∑ t, x.tv o r l t = x.DV r (lane o l) := by
  unfold tv DV
  refine sum_congr rfl fun t _ => ?_
  rw [pick (fun hh => x.kp o hh t r) _ (by omega : l.val / 64 < 2), x.kp_eq, headOf_lane]

/-- All key rows together: eight times the queries' gradient. -/
theorem sum_tq (t : Fin 4096) (o : Fin 6) (l : Fin 128) :
    (∑ r, x.tq o t l r) * (1 / 8) = x.DQ t (lane o l) := by
  unfold tq DQ
  rw [sum_mul]
  refine sum_congr rfl fun r _ => ?_
  rw [pick (fun hh => x.kds o hh t r) _ (by omega : l.val / 64 < 2), x.kds_eq, headOf_lane]
  ring

/-- The fourth extra lane of a head collects the column sums of the logit gradients. -/
theorem sum_tk_gate (r : Fin 4096) (o : Fin 6) (l : Fin 128) (hl : l.val % 64 = 3) :
    -∑ t, x.tk o r ⟨128 + l.val, by omega⟩ t = x.DC r (headOf (lane o l)) := by
  unfold tk DC
  refine congrArg Neg.neg (sum_congr rfl fun t _ => ?_)
  rw [pick (fun hh => x.kds o hh t r) _ (by omega : (128 + l.val) % 128 / 64 < 2), x.kds_eq, headOf_lane]
  unfold qc
  rw [dif_neg (by simp)]
  have : (lane o ⟨128 + l.val - 128, by omega⟩).val % 64 = 3 := by
    show (128 * o.val + (128 + l.val - 128)) % 64 = 3; omega
  unfold QA
  simp only [this]
  have h2 : (128 + l.val) % 128 = l.val := by omega
  norm_num [h2]

/-- The gate's gradient with the vanishing row sum in it. -/
theorem DC_eq (r : Fin 4096) (h : Fin 12) : (∑ t, -x.ds h t r) + ∑ r', x.ds h r r' = x.DC r h := by
  rw [x.sum_ds, add_zero, sum_neg_distrib]; rfl

end In
end Cert.Fox
-- ==== Proof.FoxRef.lean ====
module

public import Idealize.ShloMosaic.Lib.Pointwise
public import proofs.«01_k».proof.Proof.Gen.ReferenceIdeal
public import proofs.«01_k».proof.Proof.FoxReal

/-!
# The reference's arrays over the reals

The host operations of the reference, named: the logits, the softmax, and its derivative. Each array is read at an
index and found to be the real number `FoxReal` gives it, when the arguments hold real numbers.
-/

@[expose] public section

set_option maxRecDepth 16384

noncomputable section

namespace Cert.ReferenceIdeal.Fox

open Idealize.ShloMosaic Idealize.ShloMosaic.TcCoe Idealize.SL.Sem
open Cert.ReferenceIdeal Cert.ReferenceIdeal.Gen Cert.Fox

abbrev A := FVec Ideal S4096x768 .f32
abbrev B := FVec Ideal S4096x12 .f32
abbrev T := FVec Ideal S12x4096x4096 .f32
abbrev R := FVec Ideal S12x4096 .f32

/-- The largest entry along the last axis of a rank-three array, at any sizes. -/
theorem max_along {a b n : Nat} {s : Shape} (y : FVec Ideal ⟨3, ![a, b, n]⟩ .f32) (z : FVec Ideal s .f32)
    (h : (⟨3, ![a, b, n]⟩ : Shape).ReducesTo [2] ⟨2, ![a, b]⟩) (hs : 0 < s.numel) (i : Fin a) (j : Fin b) :
    Host.reduce (FloatOps.maximumf (F := Ideal) (φ := .f32)) y z h hs (ix2 i j)
      = (Finset.univ : Finset (Fin n)).fold max (z (Shape.Idx.first hs)) (fun r => y (ix3 i j r)) := by
  pointwise []

/-- One head per middle coordinate. -/
def heads (a : A) : FVec Ideal S4096x12x64 .f32 := shapeCast _ a shapeCasts_S4096x768_S4096x12x64
/-- Heads back side by side. -/
def flat (a : FVec Ideal S4096x12x64 .f32) : A := shapeCast _ a shapeCasts_S4096x12x64_S4096x768
/-- A row vector repeated along the keys. -/
def rows (r : R) : T := broadcastInDim S12x4096x4096 ![0, 1, 2] bcast_S12x4096x1_S12x4096x4096_0_1_2 (broadcastInDim S12x4096x1 ![0, 1] bcast_S12x4096_S12x4096x1_0_1 r)
/-- A row vector repeated along the queries. -/
def cols (r : R) : T := broadcastInDim S12x4096x4096 ![0, 1, 2] bcast_S12x1x4096_S12x4096x4096_0_1_2 (broadcastInDim S12x1x4096 ![0, 2] bcast_S12x4096_S12x1x4096_0_2 r)
/-- One number everywhere. -/
def all (b : BitVec 32) : T := broadcastInDim S12x4096x4096 ![] bcast_S_S12x4096x4096 (constant S_ .f32 b)
/-- The causal mask. -/
def causal : IVec S12x4096x4096 1 :=
  broadcastInDim S12x4096x4096 ![1, 2] bcast_S4096x4096_S12x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
/-- The gate, one row per head. -/
def gate (c : B) : R := transpose S12x4096 [1, 0] c transposes_S4096x12_S12x4096_1_0
/-- Logits before the mask. -/
def score (q k : A) (c : B) : T :=
  subf (addf (mulf (Host.dotGeneral (F := Ideal) dot_S4096x12x64_S4096x12x64_S12x4096x4096_2_2_0_0_1_1 none (heads q) (heads k)) (all 0x3E000000#32)) (rows (gate c))) (cols (gate c))
/-- Logits. -/
def logit (q k : A) (c : B) : T :=
  select causal (score q k c) (broadcastInDim S12x4096x4096 ![] bcast_S_S12x4096x4096 (id (constant S_ .f32 0xFF800000#32)))
/-- The largest entry of each row. -/
def top (t : T) : R := Host.reduce FloatOps.maximumf t (constant S_ .f32 0xFF800000#32) reducesTo_S12x4096x4096_S12x4096_d2 h_S_
/-- The largest logit of a row. -/
def rowmax (q k : A) (c : B) : R :=
  maximumf (broadcastInDim S12x4096 ![] bcast_S_S12x4096 (constant S_ .f32 0xFF800000#32)) (top (logit q k c))
/-- Exponentials. -/
def expo (q k : A) (c : B) : T := Host.exp (subf (logit q k c) (rows (rowmax q k c)))
/-- A row sum. -/
def rowsum (t : T) : R := Host.reduceAdd t (constant S_ .f32 0x00000000#32) reducesTo_S12x4096x4096_S12x4096_d2 h_S_
/-- Weights. -/
def prob (q k : A) (c : B) : T := Host.divf (expo q k c) (rows (rowsum (expo q k c)))
/-- The incoming gradient, one matrix per head. -/
def inc (d : A) : FVec Ideal S12x64x4096 .f32 := transpose S12x64x4096 [1, 2, 0] (heads d) transposes_S4096x12x64_S12x64x4096_1_2_0
/-- The gradient of the weights. -/
def dprob (d v : A) : T := Host.dotGeneral (F := Ideal) dot_S12x64x4096_S4096x12x64_S12x4096x4096_1_2_2_0_0_1 none (inc d) (heads v)
/-- The gradient of the values. -/
def gradV (q k : A) (c : B) (d : A) : A :=
  flat (transpose S4096x12x64 [2, 0, 1] (Host.dotGeneral (F := Ideal) dot_S12x64x4096_S12x4096x4096_S12x64x4096_2_1_1_2_0_0 none (inc d) (prob q k c)) transposes_S12x64x4096_S4096x12x64_2_0_1)
/-- One over the square of the denominator. -/
def invsq (q k : A) (c : B) : FVec Ideal S12x4096x1 .f32 :=
  Host.divf (broadcastInDim S12x4096x1 ![] bcast_S_S12x4096x1 (constant S_ .f32 0x3F800000#32))
    (mulf (broadcastInDim S12x4096x1 ![0, 1] bcast_S12x4096_S12x4096x1_0_1 (rowsum (expo q k c)))
      (broadcastInDim S12x4096x1 ![0, 1] bcast_S12x4096_S12x4096x1_0_1 (rowsum (expo q k c))))
/-- The gradient of the denominator. -/
def dden (q k : A) (c : B) (d v : A) : R :=
  Host.reduceAdd (Host.negf (shapeCast S12x4096x1
    (rowsum (mulf (mulf (dprob d v) (broadcastInDim S12x4096x4096 ![0, 1, 2] bcast_S12x4096x1_S12x4096x4096_0_1_2 (invsq q k c))) (expo q k c)))
    shapeCasts_S12x4096_S12x4096x1)) (constant S_ .f32 0x00000000#32) reducesTo_S12x4096x1_S12x4096_d2 h_S_
/-- The gradient of the logits. -/
def dlogit (q k : A) (c : B) (d v : A) : T :=
  select causal (mulf (addf (Host.divf (dprob d v) (rows (rowsum (expo q k c))))
      (broadcastInDim S12x4096x4096 ![0, 1] bcast_S12x4096_S12x4096x4096_0_1 (dden q k c d v))) (expo q k c)) (all 0x00000000#32)
/-- The gradient of the gate. -/
def gradC (q k : A) (c : B) (d v : A) : B :=
  transpose S4096x12 [1, 0]
    (addf (Host.reduceAdd (shapeCast S12x1x4096 (Host.reduceAdd (Host.negf (dlogit q k c d v)) (constant S_ .f32 0x00000000#32) reducesTo_S12x4096x4096_S12x4096_d1 h_S_)
          shapeCasts_S12x4096_S12x1x4096) (constant S_ .f32 0x00000000#32) reducesTo_S12x1x4096_S12x4096_d1 h_S_)
      (Host.reduceAdd (shapeCast S12x4096x1 (rowsum (dlogit q k c d v)) shapeCasts_S12x4096_S12x4096x1)
        (constant S_ .f32 0x00000000#32) reducesTo_S12x4096x1_S12x4096_d2 h_S_)) transposes_S12x4096_S4096x12_1_0
/-- The gradient of the keys. -/
def gradK (q k : A) (c : B) (d v : A) : A :=
  flat (transpose S4096x12x64 [1, 0, 2] (Host.dotGeneral (F := Ideal) dot_S12x4096x4096_S4096x12x64_S12x4096x64_1_0_2_2_0_1 none
    (mulf (dlogit q k c d v) (all 0x3E000000#32)) (heads q)) transposes_S12x4096x64_S4096x12x64_1_0_2)
/-- The gradient of the queries. -/
def gradQ (q k : A) (c : B) (d v : A) : A :=
  flat (transpose S4096x12x64 [1, 0, 2] (Host.dotGeneral (F := Ideal) dot_S12x4096x4096_S4096x12x64_S12x4096x64_2_0_1_2_0_1 none
    (mulf (dlogit q k c d v) (all 0x3E000000#32)) (heads k)) transposes_S12x4096x64_S4096x12x64_1_0_2)

/-! ## Constants -/

theorem eighth : Ideal.ofBits .f32 0x3E000000#32 = ((1 / 8 : ℝ) : EReal) := by
  simp [Ideal.ofBits, Ideal.ieee, -EReal.coe_mul]; norm_num
theorem ninf : Ideal.ofBits .f32 0xFF800000#32 = (⊥ : EReal) := by
  simp [Ideal.ofBits, Ideal.ieee, -EReal.coe_mul]

variable (q k v d : A) (c : B) (x : In)

/-- The arguments hold the real numbers of `x`. -/
structure Args : Prop where
  q : ∀ t j, q (ix2 t j) = ((x.Q t j : ℝ) : EReal)
  k : ∀ t j, k (ix2 t j) = ((x.K t j : ℝ) : EReal)
  v : ∀ t j, v (ix2 t j) = ((x.V t j : ℝ) : EReal)
  d : ∀ t j, d (ix2 t j) = ((x.D t j : ℝ) : EReal)
  c : ∀ t h, c (ix2 t h) = ((x.C t h : ℝ) : EReal)

theorem heads_at (a : A) (t : Fin 4096) (h : Fin 12) (e : Fin 64) : heads a (ix3 t h e) = a (ix2 t (col h e)) := by
  pointwise [heads]
  exact congrArg a (congrArg (ix2 t) (Fin.ext (by show h.val * 64 + e.val = 64 * h.val + e.val; omega)))
theorem flat_at (a : FVec Ideal S4096x12x64 .f32) (t : Fin 4096) (j : Fin 768) :
    flat a (ix2 t j) = a (ix3 t (headOf j) ⟨j.val % 64, by omega⟩) := by
  pointwise [flat]
  rfl
theorem causal_at (h : Fin 12) (t r : Fin 4096) : causal (ix3 h t r) = if r ≤ t then 1#1 else 0#1 := by
  pointwise [causal]
  have h1 := t.isLt
  have h2 := r.isLt
  have e : ∀ n : ℕ, n < 4096 → (BitVec.ofNat 32 n).toInt = (n : ℤ) := by
    intro n hn
    have b : (BitVec.ofNat 32 n).toNat = n := by rw [BitVec.toNat_ofNat]; omega
    rw [BitVec.toInt_eq_toNat_of_lt (by rw [b]; omega), b]
  simp only [IntOp.cmpi, BitVec.sle, e _ h1, e _ h2, Nat.cast_le]
  by_cases hr : r.val ≤ t.val
  · rw [if_pos (show r ≤ t from hr)]; simp [hr]
  · rw [if_neg (show ¬ r ≤ t from hr)]; simp [hr]
theorem rows_at (a : R) (h : Fin 12) (t r : Fin 4096) : rows a (ix3 h t r) = a (ix2 h t) := by
  pointwise [rows]
theorem cols_at (a : R) (h : Fin 12) (t r : Fin 4096) : cols a (ix3 h t r) = a (ix2 h r) := by
  pointwise [cols]
theorem all_at (b : BitVec 32) (h : Fin 12) (t r : Fin 4096) : all b (ix3 h t r) = Ideal.ofBits .f32 b := by
  pointwise [all]
theorem gate_at (h : Fin 12) (t : Fin 4096) : gate c (ix2 h t) = c (ix2 t h) := by
  pointwise [gate]
theorem top_at (a : T) (h : Fin 12) (t : Fin 4096) :
    top a (ix2 h t) = (Finset.univ : Finset (Fin 4096)).fold max ⊥ (fun r => a (ix3 h t r)) := by
  unfold top
  rw [max_along]
  rw [show (constant (F := Ideal) S_ .f32 0xFF800000#32) (Shape.Idx.first h_S_) = (⊥ : EReal) from ninf]
theorem rowsum_at (a : T) (h : Fin 12) (t : Fin 4096) : rowsum a (ix2 h t) = ∑ r : Fin 4096, a (ix3 h t r) := by
  pointwise [rowsum]

/-! ## The softmax -/

/-- A fold of maxima from −∞ over reals and −∞, one of them real, is real. -/
theorem fold_real {ι : Type*} (s : Finset ι) (f : ι → EReal) (hf : ∀ i ∈ s, f i ≠ ⊤) (i : ι) (hi : i ∈ s) (hb : f i ≠ ⊥) :
    ∃ m : ℝ, s.fold max ⊥ f = (m : EReal) := by
  have ht : s.fold max ⊥ f < ⊤ := Finset.fold_max_lt ⊤ |>.2 ⟨bot_lt_top, fun j hj => lt_top_iff_ne_top.2 (hf j hj)⟩
  have hl : ⊥ < s.fold max ⊥ f := Finset.lt_fold_max ⊥ |>.2 (Or.inr ⟨i, hi, bot_lt_iff_ne_bot.2 hb⟩)
  exact ⟨_, (EReal.coe_toReal ht.ne hl.ne').symm⟩

section values
variable {q k v d c x}
variable (H : Args q k v d c x)
include H

theorem score_at (h : Fin 12) (t r : Fin 4096) : score q k c (ix3 h t r) = ((x.sc h t r : ℝ) : EReal) := by
  pointwise [score, rows_at, cols_at, all_at, gate_at, heads_at]
  simp only [H.q, H.k, H.c, eighth, ← EReal.coe_mul, coe_sum, ← EReal.coe_add, ← EReal.coe_sub]
  rfl

theorem logit_at (h : Fin 12) (t r : Fin 4096) :
    logit q k c (ix3 h t r) = if r ≤ t then ((x.sc h t r : ℝ) : EReal) else ⊥ := by
  pointwise [logit, causal_at]
  rw [score_at H, show (id (constant (F := Ideal) S_ .f32 0xFF800000#32) ix0) = (⊥ : EReal) from ninf]
  by_cases hr : r ≤ t
  · rw [if_pos hr, if_pos hr]; rfl
  · rw [if_neg hr, if_neg hr]; rfl

theorem top_real (h : Fin 12) (t : Fin 4096) : ∃ m : ℝ, top (logit q k c) (ix2 h t) = (m : EReal) := by
  rw [top_at]
  refine fold_real _ _ (fun r _ => ?_) t (Finset.mem_univ _) ?_
  · rw [logit_at H]; split
    · exact EReal.coe_ne_top _
    · exact bot_ne_top
  · rw [logit_at H, if_pos le_rfl]; exact EReal.coe_ne_bot _

omit H in
theorem bot_max (w : R) (h : Fin 12) (t : Fin 4096) :
    maximumf (broadcastInDim S12x4096 ![] bcast_S_S12x4096 (constant S_ .f32 0xFF800000#32)) w (ix2 h t) = w (ix2 h t) := by
  pointwise []
  rw [ninf]
  exact max_eq_right bot_le

omit H in
theorem rowmax_at (h : Fin 12) (t : Fin 4096) : rowmax q k c (ix2 h t) = top (logit q k c) (ix2 h t) :=
  bot_max (top (logit q k c)) h t

variable (HM : ∀ h t, top (logit q k c) (ix2 h t) = ((x.M h t : ℝ) : EReal))
include HM

theorem expo_at (h : Fin 12) (t r : Fin 4096) : expo q k c (ix3 h t r) = ((x.ex h t r : ℝ) : EReal) := by
  pointwise [expo, rows_at]
  rw [logit_at H, rowmax_at, HM]
  unfold In.ex
  split
  · rw [← EReal.coe_sub, Ideal.exp_coe]
  · rw [EReal.bot_sub]; rfl

theorem den_at (h : Fin 12) (t : Fin 4096) : rowsum (expo q k c) (ix2 h t) = ((x.den h t : ℝ) : EReal) := by
  rw [rowsum_at]
  simp only [expo_at H HM, coe_sum]
  rfl

theorem prob_at (h : Fin 12) (t r : Fin 4096) : prob q k c (ix3 h t r) = ((x.pr h t r : ℝ) : EReal) := by
  pointwise [prob, rows_at]
  rw [expo_at H HM, den_at H HM, Ideal.div_coe (x.den_ne h t), ← EReal.coe_mul, mul_one_div]
  rfl

omit HM in
theorem dprob_at (h : Fin 12) (t r : Fin 4096) : dprob d v (ix3 h t r) = ((x.dp h t r : ℝ) : EReal) := by
  pointwise [dprob, inc, heads_at]
  simp only [H.d, H.v, ← EReal.coe_mul, coe_sum]
  rfl

theorem invsq_at (h : Fin 12) (t : Fin 4096) (e : Fin 1) :
    invsq q k c (ix3 h t e) = ((1 / (x.den h t * x.den h t) : ℝ) : EReal) := by
  pointwise [invsq]
  rw [den_at H HM, ← EReal.coe_mul, Ideal.div_coe (mul_ne_zero (x.den_ne h t) (x.den_ne h t)), one_mul]

theorem dden_at (h : Fin 12) (t : Fin 4096) : dden q k c d v (ix2 h t)
    = ((∑ r', -(x.dp h t r' * (1 * (1 / (x.den h t * x.den h t))) * x.ex h t r') : ℝ) : EReal) := by
  simp only [one_mul]
  have e : rowsum (mulf (mulf (dprob d v) (broadcastInDim S12x4096x4096 ![0, 1, 2] bcast_S12x4096x1_S12x4096x4096_0_1_2 (invsq q k c))) (expo q k c)) (ix2 h t)
      = ((∑ r', x.dp h t r' * (1 / (x.den h t * x.den h t)) * x.ex h t r' : ℝ) : EReal) := by
    rw [rowsum_at]
    pointwise []
    simp only [dprob_at H, invsq_at H HM, expo_at H HM, ← EReal.coe_mul, coe_sum]
  pointwise [dden]
  rw [e, ← EReal.coe_neg, Finset.sum_neg_distrib]
  simp only [Finset.univ_unique, Finset.sum_const, Finset.card_singleton, one_smul]

theorem dlogit_at (h : Fin 12) (t r : Fin 4096) : dlogit q k c d v (ix3 h t r) = ((x.ds h t r : ℝ) : EReal) := by
  pointwise [dlogit, rows_at, all_at, causal_at]
  by_cases hr : r ≤ t
  · rw [if_pos hr, dprob_at H, den_at H HM, dden_at H HM, expo_at H HM, Ideal.div_coe (x.den_ne h t),
      ← EReal.coe_mul, ← EReal.coe_add, ← EReal.coe_mul, x.ds_chain h t r]
    rfl
  · rw [if_neg hr, x.ds_of_gt hr]
    rfl

/-! ## The four gradients -/

theorem gradC_at (t : Fin 4096) (h : Fin 12) : gradC q k c d v (ix2 t h) = ((x.DC t h : ℝ) : EReal) := by
  pointwise [gradC, rowsum_at]
  simp only [dlogit_at H HM, ← EReal.coe_neg, coe_sum, ← EReal.coe_add]
  simp only [Finset.univ_unique, Finset.sum_const, Finset.card_singleton, one_smul]
  rw [x.DC_eq]

theorem gradK_at (t : Fin 4096) (j : Fin 768) : gradK q k c d v (ix2 t j) = ((x.DK t j : ℝ) : EReal) := by
  unfold gradK; rw [flat_at]
  pointwise []
  simp only [dlogit_at H HM, all_at, heads_at, H.q, eighth, ← EReal.coe_mul, coe_sum]
  rw [show col (headOf j) ⟨j.val % 64, by omega⟩ = j from Fin.ext (by show 64 * (j.val / 64) + j.val % 64 = j.val; omega)]
  rfl

theorem gradQ_at (t : Fin 4096) (j : Fin 768) : gradQ q k c d v (ix2 t j) = ((x.DQ t j : ℝ) : EReal) := by
  unfold gradQ; rw [flat_at]
  pointwise []
  simp only [dlogit_at H HM, all_at, heads_at, H.k, eighth, ← EReal.coe_mul, coe_sum]
  rw [show col (headOf j) ⟨j.val % 64, by omega⟩ = j from Fin.ext (by show 64 * (j.val / 64) + j.val % 64 = j.val; omega)]
  rfl

omit H HM in
theorem inc_at (h : Fin 12) (e : Fin 64) (t : Fin 4096) : inc d (ix3 h e t) = d (ix2 t (col h e)) := by
  pointwise [inc, heads_at]

theorem gradV_at (t : Fin 4096) (j : Fin 768) : gradV q k c d (ix2 t j) = ((x.DV t j : ℝ) : EReal) := by
  unfold gradV; rw [flat_at]
  pointwise [inc_at]
  simp only [prob_at H HM, inc_at, H.d, ← EReal.coe_mul, coe_sum]
  rw [show col (headOf j) ⟨j.val % 64, by omega⟩ = j from Fin.ext (by show 64 * (j.val / 64) + j.val % 64 = j.val; omega)]
  unfold In.DV
  simp only [mul_comm]

end values

/-- Arguments of reals have a real row maximum, so the reals of the softmax can be named. -/
theorem Args.withMax {q k v d : A} {c : B} {x : In} (H : Args q k v d c x) :
    ∃ M : Fin 12 → Fin 4096 → ℝ, Args q k v d c { x with M := M } ∧ ∀ h t, top (logit q k c) (ix2 h t) = ((M h t : ℝ) : EReal) := by
  choose M hM using top_real H
  exact ⟨M, ⟨H.q, H.k, H.v, H.d, H.c⟩, hM⟩

end Cert.ReferenceIdeal.Fox
-- ==== Proof.FoxHost.lean ====
module

public import Idealize.ShloMosaic.Lib.StableHlo.Run
public import Idealize.ShloMosaic.Lib.Pipeline.Regions
public import proofs.«01_k».proof.Proof.Gen.KernelIdeal.Frame
public import proofs.«01_k».proof.Proof.FoxRef

/-!
# What the host hands to the grid

Before the kernel runs, the host computes the attention's output and its log-sum of exponentials, scales the queries,
joins queries, keys and values, and lays the gate out over extra lanes. The host's line is cut into stretches; each
stretch is read back on its own, from any contents of the buffers.
-/

@[expose] public section

set_option maxRecDepth 16384

noncomputable section

namespace Cert.KernelIdeal.Fox

open Idealize.ShloMosaic Idealize.ShloMosaic.TcCoe Idealize.ShloMosaic.StableHlo Idealize.SL.Sem
open Cert.KernelIdeal Cert.KernelIdeal.Gen
open Cert.ReferenceIdeal.Fox (logit top rows rowsum heads flat A B T R)

/-- Half-precision lanes. -/
abbrev H := FVec Ideal S4096x768 .bf16
abbrev Ops := List (HloOp τ sig (Elt Ideal))
abbrev Env := Valuation τ sig (Elt Ideal)

/-- The exponentials of logits less a row value. -/
def expon (s : T) (w : R) : T := Host.exp (subf s (rows w))
/-- The attention's output, from the logits, the value each row subtracts, and the values. -/
def weighted (s : T) (w : R) (v : A) : A :=
  flat (transpose S4096x12x64 [2, 0, 1] (Host.dotGeneral (F := Ideal) (φ₁ := .f32) (φ₂ := .f32) dot_S4096x12x64_S12x4096x4096_S12x64x4096_0_2_2_1_1_0 none (heads v)
    (Host.divf (expon s w) (rows (rowsum (expon s w))))) transposes_S12x64x4096_S4096x12x64_2_0_1)
/-- The logarithm of the sum of exponentials, rows first. -/
def logsum (s : T) (w : R) : B :=
  transpose S4096x12 [1, 0] (addf w (Host.log (rowsum (expon s w)))) transposes_S12x4096_S4096x12_1_0
/-- Scaled queries, keys and values side by side. -/
def side (q k v : A) : FVec Ideal S4096x2304 .bf16 :=
  concatenate S4096x2304 1
    [⟨S4096x768, (truncf .bf16 (mulf q (broadcastInDim S4096x768 ![] bcast_S_S4096x768 (constant S_ .f32 0x3E000000#32))) bitsLt_bf16_f32 : H)⟩,
     ⟨S4096x768, (truncf .bf16 k bitsLt_bf16_f32 : H)⟩, ⟨S4096x768, (truncf .bf16 v bitsLt_bf16_f32 : H)⟩]
    concatenates_S4096x768_S4096x768_S4096x768_S4096x2304_d1
/-- A value per row and head, over the lanes of the head. -/
def spread (c : B) : A := shapeCast _ (broadcastInDim S4096x12x64 ![0, 1] bcast_S4096x12_S4096x12x64_0_1 c) shapeCasts_S4096x12x64_S4096x768
/-- The gate's leading part. -/
def hi (c : B) : H := truncf .bf16 (spread c) bitsLt_bf16_f32
/-- What the leading part leaves. -/
def rest (c : B) : A := subf (spread c) (extf .f32 (hi c) bitsLt_bf16_f32)
/-- The gate's middle part. -/
def mid (c : B) : H := truncf .bf16 (rest c) bitsLt_bf16_f32
/-- The gate's last part. -/
def lo (c : B) : H := truncf .bf16 (subf (rest c) (extf .f32 (mid c) bitsLt_bf16_f32)) bitsLt_bf16_f32
/-- Sixty-four, guarded against zero as the remainder does. -/
def modulus : IVec S_ 32 := select (cmpi .eq (id (constantI S_ 32 64#32)) (constantI S_ 32 0#32)) (constantI S_ 32 1#32) (id (constantI S_ 32 64#32))
/-- The truncated remainder of the lane number. -/
def remainder : IVec S1x768 32 := Host.remsi (iotaInDim S1x768 32 1) (broadcastInDim S1x768 ![] bcast_S_S1x768 modulus)
/-- The lane within its head. -/
def lanes : IVec S1x768 32 :=
  select (andi (cmpi .ne (cmpi .slt remainder (broadcastInDim S1x768 ![] bcast_S_S1x768 (constantI S_ 32 0#32)))
      (broadcastInDim S1x768 ![] bcast_S_S1x768 (cmpi .slt modulus (constantI S_ 32 0#32))))
    (cmpi .ne remainder (broadcastInDim S1x768 ![] bcast_S_S1x768 (constantI S_ 32 0#32))))
    (addi remainder (broadcastInDim S1x768 ![] bcast_S_S1x768 modulus)) remainder
/-- Where the lane compares with `b`, over all rows. -/
def where_ (p : CmpIPredicate) (n : IVec S1x768 32) (b : BitVec 32) : IVec S4096x768 1 :=
  broadcastInDim S4096x768 ![0, 1] bcast_S1x768_S4096x768_0_1 (cmpi p n (broadcastInDim S1x768 ![] bcast_S_S1x768 (constantI S_ 32 b)))
/-- The queries' side lanes. -/
def qlanes (n : IVec S1x768 32) (a b c : H) : H :=
  select (where_ .eq n 0#32) a (select (where_ .eq n 1#32) b (select (where_ .eq n 2#32) c
    (broadcastInDim S4096x768 ![0, 1] bcast_S1x768_S4096x768_0_1 (select (cmpi .slt n (broadcastInDim S1x768 ![] bcast_S_S1x768 (constantI S_ 32 6#32)))
      (broadcastInDim S1x768 ![] bcast_S_S1x768 (constant S_ .bf16 0x3F80#16)) (broadcastInDim S1x768 ![] bcast_S_S1x768 (constant S_ .bf16 0x0000#16))))))
/-- The keys' side lanes. -/
def klanes (n : IVec S1x768 32) (a b c : H) : H :=
  select (where_ .slt n 3#32) (broadcastInDim S4096x768 ![] bcast_S_S4096x768 (constant S_ .bf16 0x3F80#16))
    (select (where_ .eq n 3#32) (Host.negf a) (select (where_ .eq n 4#32) (Host.negf b) (select (where_ .eq n 5#32) (Host.negf c)
      (broadcastInDim S4096x768 ![] bcast_S_S4096x768 (constant S_ .bf16 0x0000#16)))))

section lists
variable {F : FTy → Type} [FloatOps F]

/-- Stretch 0: the logits. -/
def pre0 : List (HloOp τ sig (Elt F)) :=
  [ reshape main_arg0 main_v0 (rfl : (.f32 : EltTy) = .f32) shapeCasts_S4096x768_S4096x12x64,
    reshape main_arg1 main_v1 (rfl : (.f32 : EltTy) = .f32) shapeCasts_S4096x768_S4096x12x64,
    unary main_arg3 main_v2 ((transpose S12x4096 [1, 0] · transposes_S4096x12_S12x4096_1_0) : (⟨S4096x12, .f32⟩ : BufTy).Contents (Elt F) → (⟨S12x4096, .f32⟩ : BufTy).Contents (Elt F)),
    binary main_v0 main_v1 main_v3 ((fun l r => Host.dotGeneral dot_S4096x12x64_S4096x12x64_S12x4096x4096_2_2_0_0_1_1 none l r) : (⟨S4096x12x64, .f32⟩ : BufTy).Contents (Elt F) → (⟨S4096x12x64, .f32⟩ : BufTy).Contents (Elt F) → (⟨S12x4096x4096, .f32⟩ : BufTy).Contents (Elt F)),
    nullary main_cst (constant S_ .f32 0x3E000000#32),
    unary main_cst main_v4 (broadcastInDim S12x4096x4096 ![] bcast_S_S12x4096x4096 : (⟨S_, .f32⟩ : BufTy).Contents (Elt F) → (⟨S12x4096x4096, .f32⟩ : BufTy).Contents (Elt F)),
    binary main_v3 main_v4 main_v5 (mulf : (⟨S12x4096x4096, .f32⟩ : BufTy).Contents (Elt F) → (⟨S12x4096x4096, .f32⟩ : BufTy).Contents (Elt F) → (⟨S12x4096x4096, .f32⟩ : BufTy).Contents (Elt F)),
    unary main_v2 main_v6 (broadcastInDim S12x4096x1 ![0, 1] bcast_S12x4096_S12x4096x1_0_1 : (⟨S12x4096, .f32⟩ : BufTy).Contents (Elt F) → (⟨S12x4096x1, .f32⟩ : BufTy).Contents (Elt F)),
    unary main_v6 main_v7 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v5 main_v7 main_v8 (addf : (⟨S12x4096x4096, .f32⟩ : BufTy).Contents (Elt F) → (⟨S12x4096x4096, .f32⟩ : BufTy).Contents (Elt F) → (⟨S12x4096x4096, .f32⟩ : BufTy).Contents (Elt F)),
    unary main_v2 main_v9 (broadcastInDim S12x1x4096 ![0, 2] bcast_S12x4096_S12x1x4096_0_2 : (⟨S12x4096, .f32⟩ : BufTy).Contents (Elt F) → (⟨S12x1x4096, .f32⟩ : BufTy).Contents (Elt F)),
    unary main_v9 main_v10 (broadcastInDim S12x4096x4096 ![0, 1, 2] bcast_S12x1x4096_S12x4096x4096_0_1_2 : (⟨S12x1x4096, .f32⟩ : BufTy).Contents (Elt F) → (⟨S12x4096x4096, .f32⟩ : BufTy).Contents (Elt F)),
    binary main_v8 main_v10 main_v11 (subf : (⟨S12x4096x4096, .f32⟩ : BufTy).Contents (Elt F) → (⟨S12x4096x4096, .f32⟩ : BufTy).Contents (Elt F) → (⟨S12x4096x4096, .f32⟩ : BufTy).Contents (Elt F)),
    nullary main_v12 (iotaInDim S4096 32 0),
    unary main_v12 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x1 ![0] bcast_S4096_S4096x1_0 : (⟨S4096, .i32⟩ : BufTy).Contents (Elt F) → (⟨S4096x1, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    binary main_v15 main_v16 main_v17 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v17) (TRef.of (T := ⟨S12x4096x4096, .i1⟩) main_call0_v1) (broadcastInDim S12x4096x4096 ![1, 2] bcast_S4096x4096_S12x4096x4096_1_2),
    TRef.unary (TRef.of (T := ⟨S_, .f32⟩) main_call0_v0) (TRef.of (T := ⟨S12x4096x4096, .f32⟩) main_call0_v2) (broadcastInDim S12x4096x4096 ![] bcast_S_S12x4096x4096),
    TRef.ternary (TRef.of (T := ⟨S12x4096x4096, .i1⟩) main_call0_v1) (TRef.of (T := ⟨S12x4096x4096, .f32⟩) main_v11) (TRef.of (T := ⟨S12x4096x4096, .f32⟩) main_call0_v2) (TRef.of (T := ⟨S12x4096x4096, .f32⟩) main_v18) select ]

/-- Stretch 1: the row maximum. -/
def pre1 : List (HloOp τ sig (Elt F)) :=
  [ nullary main_cst_1 (constant S_ .f32 0xFF800000#32),
    binary main_v18 main_cst_1 main_v19 ((fun x v => Host.reduce FloatOps.maximumf x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)) ]

/-- Stretch 2: the attention's output. -/
def pre2 : List (HloOp τ sig (Elt F)) :=
  [ nullary main_cst_2 (constant S_ .f32 0xFF800000#32),
    unary main_cst_2 main_v20 (broadcastInDim S12x4096 ![] bcast_S_S12x4096 : (⟨S_, .f32⟩ : BufTy).Contents (Elt F) → (⟨S12x4096, .f32⟩ : BufTy).Contents (Elt F)),
    binary main_v20 main_v19 main_v21 (maximumf : (⟨S12x4096, .f32⟩ : BufTy).Contents (Elt F) → (⟨S12x4096, .f32⟩ : BufTy).Contents (Elt F) → (⟨S12x4096, .f32⟩ : BufTy).Contents (Elt F)),
    unary main_v21 main_v22 (broadcastInDim S12x4096x1 ![0, 1] bcast_S12x4096_S12x4096x1_0_1 : (⟨S12x4096, .f32⟩ : BufTy).Contents (Elt F) → (⟨S12x4096x1, .f32⟩ : BufTy).Contents (Elt F)),
    unary main_v22 main_v23 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v18 main_v23 main_v24 (subf : (⟨S12x4096x4096, .f32⟩ : BufTy).Contents (Elt F) → (⟨S12x4096x4096, .f32⟩ : BufTy).Contents (Elt F) → (⟨S12x4096x4096, .f32⟩ : BufTy).Contents (Elt F)),
    unary main_v24 main_v25 (Host.exp : (⟨S12x4096x4096, .f32⟩ : BufTy).Contents (Elt F) → (⟨S12x4096x4096, .f32⟩ : BufTy).Contents (Elt F)),
    nullary main_cst_3 (constant S_ .f32 0x00000000#32),
    binary main_v25 main_cst_3 main_v26 ((fun x v => Host.reduceAdd x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)),
    unary main_v26 main_v27 (broadcastInDim S12x4096x1 ![0, 1] bcast_S12x4096_S12x4096x1_0_1 : (⟨S12x4096, .f32⟩ : BufTy).Contents (Elt F) → (⟨S12x4096x1, .f32⟩ : BufTy).Contents (Elt F)),
    unary main_v27 main_v28 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v25 main_v28 main_v29 (Host.divf : (⟨S12x4096x4096, .f32⟩ : BufTy).Contents (Elt F) → (⟨S12x4096x4096, .f32⟩ : BufTy).Contents (Elt F) → (⟨S12x4096x4096, .f32⟩ : BufTy).Contents (Elt F)),
    reshape main_arg2 main_v30 (rfl : (.f32 : EltTy) = .f32) shapeCasts_S4096x768_S4096x12x64,
    binary main_v30 main_v29 main_v31 ((fun l r => Host.dotGeneral dot_S4096x12x64_S12x4096x4096_S12x64x4096_0_2_2_1_1_0 none l r) : (⟨S4096x12x64, .f32⟩ : BufTy).Contents (Elt F) → (⟨S12x4096x4096, .f32⟩ : BufTy).Contents (Elt F) → (⟨S12x64x4096, .f32⟩ : BufTy).Contents (Elt F)),
    unary main_v31 main_v32 ((transpose S4096x12x64 [2, 0, 1] · transposes_S12x64x4096_S4096x12x64_2_0_1) : (⟨S12x64x4096, .f32⟩ : BufTy).Contents (Elt F) → (⟨S4096x12x64, .f32⟩ : BufTy).Contents (Elt F)),
    reshape main_v32 main_v33 (rfl : (.f32 : EltTy) = .f32) shapeCasts_S4096x12x64_S4096x768 ]

/-- Stretch 3: the logits again. -/
def pre3 : List (HloOp τ sig (Elt F)) :=
  [ reshape main_arg0 main_v34 (rfl : (.f32 : EltTy) = .f32) shapeCasts_S4096x768_S4096x12x64,
    reshape main_arg1 main_v35 (rfl : (.f32 : EltTy) = .f32) shapeCasts_S4096x768_S4096x12x64,
    unary main_arg3 main_v36 ((transpose S12x4096 [1, 0] · transposes_S4096x12_S12x4096_1_0) : (⟨S4096x12, .f32⟩ : BufTy).Contents (Elt F) → (⟨S12x4096, .f32⟩ : BufTy).Contents (Elt F)),
    binary main_v34 main_v35 main_v37 ((fun l r => Host.dotGeneral dot_S4096x12x64_S4096x12x64_S12x4096x4096_2_2_0_0_1_1 none l r) : (⟨S4096x12x64, .f32⟩ : BufTy).Contents (Elt F) → (⟨S4096x12x64, .f32⟩ : BufTy).Contents (Elt F) → (⟨S12x4096x4096, .f32⟩ : BufTy).Contents (Elt F)),
    nullary main_cst_4 (constant S_ .f32 0x3E000000#32),
    unary main_cst_4 main_v38 (broadcastInDim S12x4096x4096 ![] bcast_S_S12x4096x4096 : (⟨S_, .f32⟩ : BufTy).Contents (Elt F) → (⟨S12x4096x4096, .f32⟩ : BufTy).Contents (Elt F)),
    binary main_v37 main_v38 main_v39 (mulf : (⟨S12x4096x4096, .f32⟩ : BufTy).Contents (Elt F) → (⟨S12x4096x4096, .f32⟩ : BufTy).Contents (Elt F) → (⟨S12x4096x4096, .f32⟩ : BufTy).Contents (Elt F)),
    unary main_v36 main_v40 (broadcastInDim S12x4096x1 ![0, 1] bcast_S12x4096_S12x4096x1_0_1 : (⟨S12x4096, .f32⟩ : BufTy).Contents (Elt F) → (⟨S12x4096x1, .f32⟩ : BufTy).Contents (Elt F)),
    unary main_v40 main_v41 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v39 main_v41 main_v42 (addf : (⟨S12x4096x4096, .f32⟩ : BufTy).Contents (Elt F) → (⟨S12x4096x4096, .f32⟩ : BufTy).Contents (Elt F) → (⟨S12x4096x4096, .f32⟩ : BufTy).Contents (Elt F)),
    unary main_v36 main_v43 (broadcastInDim S12x1x4096 ![0, 2] bcast_S12x4096_S12x1x4096_0_2 : (⟨S12x4096, .f32⟩ : BufTy).Contents (Elt F) → (⟨S12x1x4096, .f32⟩ : BufTy).Contents (Elt F)),
    unary main_v43 main_v44 (broadcastInDim S12x4096x4096 ![0, 1, 2] bcast_S12x1x4096_S12x4096x4096_0_1_2 : (⟨S12x1x4096, .f32⟩ : BufTy).Contents (Elt F) → (⟨S12x4096x4096, .f32⟩ : BufTy).Contents (Elt F)),
    binary main_v42 main_v44 main_v45 (subf : (⟨S12x4096x4096, .f32⟩ : BufTy).Contents (Elt F) → (⟨S12x4096x4096, .f32⟩ : BufTy).Contents (Elt F) → (⟨S12x4096x4096, .f32⟩ : BufTy).Contents (Elt F)),
    nullary main_v46 (iotaInDim S4096 32 0),
    unary main_v46 main_v47 (broadcastInDim S1x4096 ![1] bcast_S4096_S1x4096_1 : (⟨S4096, .i32⟩ : BufTy).Contents (Elt F) → (⟨S1x4096, .i32⟩ : BufTy).Contents (Elt F)),
    unary main_v46 main_v48 (broadcastInDim S4096x1 ![0] bcast_S4096_S4096x1_0 : (⟨S4096, .i32⟩ : BufTy).Contents (Elt F) → (⟨S4096x1, .i32⟩ : BufTy).Contents (Elt F)),
    unary main_v47 main_v49 (broadcastInDim S4096x4096 ![0, 1] bcast_S1x4096_S4096x4096_0_1 : (⟨S1x4096, .i32⟩ : BufTy).Contents (Elt F) → (⟨S4096x4096, .i32⟩ : BufTy).Contents (Elt F)),
    unary main_v48 main_v50 (broadcastInDim S4096x4096 ![0, 1] bcast_S4096x1_S4096x4096_0_1 : (⟨S4096x1, .i32⟩ : BufTy).Contents (Elt F) → (⟨S4096x4096, .i32⟩ : BufTy).Contents (Elt F)),
    binary main_v49 main_v50 main_v51 (cmpi .sle : (⟨S4096x4096, .i32⟩ : BufTy).Contents (Elt F) → (⟨S4096x4096, .i32⟩ : BufTy).Contents (Elt F) → (⟨S4096x4096, .i1⟩ : BufTy).Contents (Elt F)),
    nullary main_cst_5 (constant S_ .f32 0xFF800000#32),
    TRef.unary (TRef.of (T := ⟨S_, .f32⟩) main_cst_5) (TRef.of (T := ⟨S_, .f32⟩) main_call1_v0) id,
    TRef.unary (TRef.of (T := ⟨S4096x4096, .i1⟩) main_v51) (TRef.of (T := ⟨S12x4096x4096, .i1⟩) main_call1_v1) (broadcastInDim S12x4096x4096 ![1, 2] bcast_S4096x4096_S12x4096x4096_1_2),
    TRef.unary (TRef.of (T := ⟨S_, .f32⟩) main_call1_v0) (TRef.of (T := ⟨S12x4096x4096, .f32⟩) main_call1_v2) (broadcastInDim S12x4096x4096 ![] bcast_S_S12x4096x4096),
    TRef.ternary (TRef.of (T := ⟨S12x4096x4096, .i1⟩) main_call1_v1) (TRef.of (T := ⟨S12x4096x4096, .f32⟩) main_v45) (TRef.of (T := ⟨S12x4096x4096, .f32⟩) main_call1_v2) (TRef.of (T := ⟨S12x4096x4096, .f32⟩) main_v52) select ]

/-- Stretch 4: the row maximum again. -/
def pre4 : List (HloOp τ sig (Elt F)) :=
  [ nullary main_cst_6 (constant S_ .f32 0xFF800000#32),
    binary main_v52 main_cst_6 main_v53 ((fun x v => Host.reduce FloatOps.maximumf x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)) ]

/-- Stretch 5: the log-sum. -/
def pre5 : List (HloOp τ sig (Elt F)) :=
  [ unary main_v53 main_v54 (broadcastInDim S12x4096x1 ![0, 1] bcast_S12x4096_S12x4096x1_0_1 : (⟨S12x4096, .f32⟩ : BufTy).Contents (Elt F) → (⟨S12x4096x1, .f32⟩ : BufTy).Contents (Elt F)),
    unary main_v54 main_v55 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    binary main_v52 main_v55 main_v56 (subf : (⟨S12x4096x4096, .f32⟩ : BufTy).Contents (Elt F) → (⟨S12x4096x4096, .f32⟩ : BufTy).Contents (Elt F) → (⟨S12x4096x4096, .f32⟩ : BufTy).Contents (Elt F)),
    unary main_v56 main_v57 (Host.exp : (⟨S12x4096x4096, .f32⟩ : BufTy).Contents (Elt F) → (⟨S12x4096x4096, .f32⟩ : BufTy).Contents (Elt F)),
    nullary main_cst_7 (constant S_ .f32 0x00000000#32),
    binary main_v57 main_cst_7 main_v58 ((fun x v => Host.reduceAdd x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F)),
    unary main_v58 main_v59 (Host.log : (⟨S12x4096, .f32⟩ : BufTy).Contents (Elt F) → (⟨S12x4096, .f32⟩ : BufTy).Contents (Elt F)),
    binary main_v53 main_v59 main_v60 (addf : (⟨S12x4096, .f32⟩ : BufTy).Contents (Elt F) → (⟨S12x4096, .f32⟩ : BufTy).Contents (Elt F) → (⟨S12x4096, .f32⟩ : BufTy).Contents (Elt F)),
    unary main_v60 main_v61 ((transpose S4096x12 [1, 0] · transposes_S12x4096_S4096x12_1_0) : (⟨S12x4096, .f32⟩ : BufTy).Contents (Elt F) → (⟨S4096x12, .f32⟩ : BufTy).Contents (Elt F)) ]

/-- Stretch 6: queries, keys and values side by side. -/
def pre6 : List (HloOp τ sig (Elt F)) :=
  [ nullary main_cst_8 (constant S_ .f32 0x3E000000#32),
    unary main_cst_8 main_v62 (broadcastInDim S4096x768 ![] bcast_S_S4096x768 : (⟨S_, .f32⟩ : BufTy).Contents (Elt F) → (⟨S4096x768, .f32⟩ : BufTy).Contents (Elt F)),
    binary main_arg0 main_v62 main_v63 (mulf : (⟨S4096x768, .f32⟩ : BufTy).Contents (Elt F) → (⟨S4096x768, .f32⟩ : BufTy).Contents (Elt F) → (⟨S4096x768, .f32⟩ : BufTy).Contents (Elt F)),
    unary main_v63 main_v64 ((truncf .bf16 · bitsLt_bf16_f32) : (⟨S4096x768, .f32⟩ : BufTy).Contents (Elt F) → (⟨S4096x768, .bf16⟩ : BufTy).Contents (Elt F)),
    unary main_arg1 main_v65 ((truncf .bf16 · bitsLt_bf16_f32) : (⟨S4096x768, .f32⟩ : BufTy).Contents (Elt F) → (⟨S4096x768, .bf16⟩ : BufTy).Contents (Elt F)),
    unary main_arg2 main_v66 ((truncf .bf16 · bitsLt_bf16_f32) : (⟨S4096x768, .f32⟩ : BufTy).Contents (Elt F) → (⟨S4096x768, .bf16⟩ : BufTy).Contents (Elt F)),
    nary ![main_v64, main_v65, main_v66] main_v67 (fun u => (concatenate S4096x2304 1 [⟨S4096x768, (u 0 : (⟨S4096x768, .bf16⟩ : BufTy).Contents (Elt F))⟩, ⟨S4096x768, (u 1 : (⟨S4096x768, .bf16⟩ : BufTy).Contents (Elt F))⟩, ⟨S4096x768, (u 2 : (⟨S4096x768, .bf16⟩ : BufTy).Contents (Elt F))⟩] concatenates_S4096x768_S4096x768_S4096x768_S4096x2304_d1 : (⟨S4096x2304, .bf16⟩ : BufTy).Contents (Elt F))) ]

/-- Stretch 7: the gate in three parts. -/
def pre7 : List (HloOp τ sig (Elt F)) :=
  [ unary main_arg3 main_v68 (broadcastInDim S4096x12x64 ![0, 1] bcast_S4096x12_S4096x12x64_0_1 : (⟨S4096x12, .f32⟩ : BufTy).Contents (Elt F) → (⟨S4096x12x64, .f32⟩ : BufTy).Contents (Elt F)),
    reshape main_v68 main_v69 (rfl : (.f32 : EltTy) = .f32) shapeCasts_S4096x12x64_S4096x768,
    unary main_v69 main_v70 ((truncf .bf16 · bitsLt_bf16_f32) : (⟨S4096x768, .f32⟩ : BufTy).Contents (Elt F) → (⟨S4096x768, .bf16⟩ : BufTy).Contents (Elt F)),
    unary main_v70 main_v71 ((extf .f32 · bitsLt_bf16_f32) : (⟨S4096x768, .bf16⟩ : BufTy).Contents (Elt F) → (⟨S4096x768, .f32⟩ : BufTy).Contents (Elt F)),
    binary main_v69 main_v71 main_v72 (subf : (⟨S4096x768, .f32⟩ : BufTy).Contents (Elt F) → (⟨S4096x768, .f32⟩ : BufTy).Contents (Elt F) → (⟨S4096x768, .f32⟩ : BufTy).Contents (Elt F)),
    unary main_v72 main_v73 ((truncf .bf16 · bitsLt_bf16_f32) : (⟨S4096x768, .f32⟩ : BufTy).Contents (Elt F) → (⟨S4096x768, .bf16⟩ : BufTy).Contents (Elt F)),
    unary main_v73 main_v74 ((extf .f32 · bitsLt_bf16_f32) : (⟨S4096x768, .bf16⟩ : BufTy).Contents (Elt F) → (⟨S4096x768, .f32⟩ : BufTy).Contents (Elt F)),
    binary main_v72 main_v74 main_v75 (subf : (⟨S4096x768, .f32⟩ : BufTy).Contents (Elt F) → (⟨S4096x768, .f32⟩ : BufTy).Contents (Elt F) → (⟨S4096x768, .f32⟩ : BufTy).Contents (Elt F)),
    unary main_v75 main_v76 ((truncf .bf16 · bitsLt_bf16_f32) : (⟨S4096x768, .f32⟩ : BufTy).Contents (Elt F) → (⟨S4096x768, .bf16⟩ : BufTy).Contents (Elt F)) ]

/-- Stretch 8: the lane within its head. -/
def pre8 : List (HloOp τ sig (Elt F)) :=
  [ nullary main_v77 (iotaInDim S1x768 32 1),
    nullary main_c (constantI S_ 32 64#32),
    TRef.unary (TRef.of (T := ⟨S_, .i32⟩) main_c) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary main_call2_call0.v0 (TRef.of (T := ⟨S1x768, .i32⟩) main_call2_v3) (broadcastInDim S1x768 ![] bcast_S_S1x768),
    TRef.binary (TRef.of (T := ⟨S1x768, .i32⟩) main_v77) (TRef.of (T := ⟨S1x768, .i32⟩) main_call2_v3) (TRef.of (T := ⟨S1x768, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S1x768, .i32⟩) main_call2_v5) (broadcastInDim S1x768 ![] bcast_S_S1x768),
    TRef.binary (TRef.of (T := ⟨S1x768, .i32⟩) main_call2_v4) (TRef.of (T := ⟨S1x768, .i32⟩) main_call2_v5) (TRef.of (T := ⟨S1x768, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S1x768, .i32⟩) main_call2_v7) (broadcastInDim S1x768 ![] bcast_S_S1x768),
    TRef.binary (TRef.of (T := ⟨S1x768, .i32⟩) main_call2_v4) (TRef.of (T := ⟨S1x768, .i32⟩) main_call2_v7) (TRef.of (T := ⟨S1x768, .i1⟩) main_call2_v8) (cmpi .slt),
    TRef.nullary (TRef.of (T := ⟨S_, .i32⟩) main_call2_c_3) (constantI S_ 32 0#32),
    TRef.binary main_call2_call0.v0 (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S1x768, .i1⟩) main_call2_v10) (broadcastInDim S1x768 ![] bcast_S_S1x768),
    TRef.binary (TRef.of (T := ⟨S1x768, .i1⟩) main_call2_v8) (TRef.of (T := ⟨S1x768, .i1⟩) main_call2_v10) (TRef.of (T := ⟨S1x768, .i1⟩) main_call2_v11) (cmpi .ne),
    TRef.binary (TRef.of (T := ⟨S1x768, .i1⟩) main_call2_v11) (TRef.of (T := ⟨S1x768, .i1⟩) main_call2_v6) (TRef.of (T := ⟨S1x768, .i1⟩) main_call2_v12) andi,
    TRef.unary main_call2_call0.v0 (TRef.of (T := ⟨S1x768, .i32⟩) main_call2_v13) (broadcastInDim S1x768 ![] bcast_S_S1x768),
    TRef.binary (TRef.of (T := ⟨S1x768, .i32⟩) main_call2_v4) (TRef.of (T := ⟨S1x768, .i32⟩) main_call2_v13) (TRef.of (T := ⟨S1x768, .i32⟩) main_call2_v14) addi,
    TRef.ternary (TRef.of (T := ⟨S1x768, .i1⟩) main_call2_v12) (TRef.of (T := ⟨S1x768, .i32⟩) main_call2_v14) (TRef.of (T := ⟨S1x768, .i32⟩) main_call2_v4) (TRef.of (T := ⟨S1x768, .i32⟩) main_v78) select ]

/-- Stretch 9: the queries' side lanes. -/
def pre9 : List (HloOp τ sig (Elt F)) :=
  [ nullary main_c_9 (constantI S_ 32 0#32),
    unary main_c_9 main_v79 (broadcastInDim S1x768 ![] bcast_S_S1x768 : (⟨S_, .i32⟩ : BufTy).Contents (Elt F) → (⟨S1x768, .i32⟩ : BufTy).Contents (Elt F)),
    binary main_v78 main_v79 main_v80 (cmpi .eq : (⟨S1x768, .i32⟩ : BufTy).Contents (Elt F) → (⟨S1x768, .i32⟩ : BufTy).Contents (Elt F) → (⟨S1x768, .i1⟩ : BufTy).Contents (Elt F)),
    nullary main_c_10 (constantI S_ 32 1#32),
    unary main_c_10 main_v81 (broadcastInDim S1x768 ![] bcast_S_S1x768 : (⟨S_, .i32⟩ : BufTy).Contents (Elt F) → (⟨S1x768, .i32⟩ : BufTy).Contents (Elt F)),
    binary main_v78 main_v81 main_v82 (cmpi .eq : (⟨S1x768, .i32⟩ : BufTy).Contents (Elt F) → (⟨S1x768, .i32⟩ : BufTy).Contents (Elt F) → (⟨S1x768, .i1⟩ : BufTy).Contents (Elt F)),
    nullary main_c_11 (constantI S_ 32 2#32),
    unary main_c_11 main_v83 (broadcastInDim S1x768 ![] bcast_S_S1x768 : (⟨S_, .i32⟩ : BufTy).Contents (Elt F) → (⟨S1x768, .i32⟩ : BufTy).Contents (Elt F)),
    binary main_v78 main_v83 main_v84 (cmpi .eq : (⟨S1x768, .i32⟩ : BufTy).Contents (Elt F) → (⟨S1x768, .i32⟩ : BufTy).Contents (Elt F) → (⟨S1x768, .i1⟩ : BufTy).Contents (Elt F)),
    nullary main_c_12 (constantI S_ 32 6#32),
    unary main_c_12 main_v85 (broadcastInDim S1x768 ![] bcast_S_S1x768 : (⟨S_, .i32⟩ : BufTy).Contents (Elt F) → (⟨S1x768, .i32⟩ : BufTy).Contents (Elt F)),
    binary main_v78 main_v85 main_v86 (cmpi .slt : (⟨S1x768, .i32⟩ : BufTy).Contents (Elt F) → (⟨S1x768, .i32⟩ : BufTy).Contents (Elt F) → (⟨S1x768, .i1⟩ : BufTy).Contents (Elt F)),
    nullary main_cst_13 (constant S_ .bf16 0x3F80#16),
    nullary main_cst_14 (constant S_ .bf16 0x0000#16),
    TRef.unary (TRef.of (T := ⟨S_, .bf16⟩) main_cst_13) (TRef.of (T := ⟨S1x768, .bf16⟩) main_call3_v0) (broadcastInDim S1x768 ![] bcast_S_S1x768),
    TRef.unary (TRef.of (T := ⟨S_, .bf16⟩) main_cst_14) (TRef.of (T := ⟨S1x768, .bf16⟩) main_call3_v1) (broadcastInDim S1x768 ![] bcast_S_S1x768),
    TRef.ternary (TRef.of (T := ⟨S1x768, .i1⟩) main_v86) (TRef.of (T := ⟨S1x768, .bf16⟩) main_call3_v0) (TRef.of (T := ⟨S1x768, .bf16⟩) main_call3_v1) (TRef.of (T := ⟨S1x768, .bf16⟩) main_v87) select,
    TRef.unary (TRef.of (T := ⟨S1x768, .i1⟩) main_v84) (TRef.of (T := ⟨S4096x768, .i1⟩) main_call4_v0) (broadcastInDim S4096x768 ![0, 1] bcast_S1x768_S4096x768_0_1),
    TRef.unary (TRef.of (T := ⟨S1x768, .bf16⟩) main_v87) (TRef.of (T := ⟨S4096x768, .bf16⟩) main_call4_v1) (broadcastInDim S4096x768 ![0, 1] bcast_S1x768_S4096x768_0_1),
    TRef.ternary (TRef.of (T := ⟨S4096x768, .i1⟩) main_call4_v0) (TRef.of (T := ⟨S4096x768, .bf16⟩) main_v76) (TRef.of (T := ⟨S4096x768, .bf16⟩) main_call4_v1) (TRef.of (T := ⟨S4096x768, .bf16⟩) main_v88) select,
    TRef.unary (TRef.of (T := ⟨S1x768, .i1⟩) main_v82) (TRef.of (T := ⟨S4096x768, .i1⟩) main_call5_v0) (broadcastInDim S4096x768 ![0, 1] bcast_S1x768_S4096x768_0_1),
    TRef.ternary (TRef.of (T := ⟨S4096x768, .i1⟩) main_call5_v0) (TRef.of (T := ⟨S4096x768, .bf16⟩) main_v73) (TRef.of (T := ⟨S4096x768, .bf16⟩) main_v88) (TRef.of (T := ⟨S4096x768, .bf16⟩) main_v89) select,
    TRef.unary (TRef.of (T := ⟨S1x768, .i1⟩) main_v80) (TRef.of (T := ⟨S4096x768, .i1⟩) main_call6_v0) (broadcastInDim S4096x768 ![0, 1] bcast_S1x768_S4096x768_0_1),
    TRef.ternary (TRef.of (T := ⟨S4096x768, .i1⟩) main_call6_v0) (TRef.of (T := ⟨S4096x768, .bf16⟩) main_v70) (TRef.of (T := ⟨S4096x768, .bf16⟩) main_v89) (TRef.of (T := ⟨S4096x768, .bf16⟩) main_v90) select ]

/-- Stretch 10: the keys' side lanes. -/
def pre10 : List (HloOp τ sig (Elt F)) :=
  [ nullary main_c_15 (constantI S_ 32 3#32),
    unary main_c_15 main_v91 (broadcastInDim S1x768 ![] bcast_S_S1x768 : (⟨S_, .i32⟩ : BufTy).Contents (Elt F) → (⟨S1x768, .i32⟩ : BufTy).Contents (Elt F)),
    binary main_v78 main_v91 main_v92 (cmpi .slt : (⟨S1x768, .i32⟩ : BufTy).Contents (Elt F) → (⟨S1x768, .i32⟩ : BufTy).Contents (Elt F) → (⟨S1x768, .i1⟩ : BufTy).Contents (Elt F)),
    nullary main_c_16 (constantI S_ 32 3#32),
    unary main_c_16 main_v93 (broadcastInDim S1x768 ![] bcast_S_S1x768 : (⟨S_, .i32⟩ : BufTy).Contents (Elt F) → (⟨S1x768, .i32⟩ : BufTy).Contents (Elt F)),
    binary main_v78 main_v93 main_v94 (cmpi .eq : (⟨S1x768, .i32⟩ : BufTy).Contents (Elt F) → (⟨S1x768, .i32⟩ : BufTy).Contents (Elt F) → (⟨S1x768, .i1⟩ : BufTy).Contents (Elt F)),
    unary main_v70 main_v95 (Host.negf : (⟨S4096x768, .bf16⟩ : BufTy).Contents (Elt F) → (⟨S4096x768, .bf16⟩ : BufTy).Contents (Elt F)),
    nullary main_c_17 (constantI S_ 32 4#32),
    unary main_c_17 main_v96 (broadcastInDim S1x768 ![] bcast_S_S1x768 : (⟨S_, .i32⟩ : BufTy).Contents (Elt F) → (⟨S1x768, .i32⟩ : BufTy).Contents (Elt F)),
    binary main_v78 main_v96 main_v97 (cmpi .eq : (⟨S1x768, .i32⟩ : BufTy).Contents (Elt F) → (⟨S1x768, .i32⟩ : BufTy).Contents (Elt F) → (⟨S1x768, .i1⟩ : BufTy).Contents (Elt F)),
    unary main_v73 main_v98 (Host.negf : (⟨S4096x768, .bf16⟩ : BufTy).Contents (Elt F) → (⟨S4096x768, .bf16⟩ : BufTy).Contents (Elt F)),
    nullary main_c_18 (constantI S_ 32 5#32),
    unary main_c_18 main_v99 (broadcastInDim S1x768 ![] bcast_S_S1x768 : (⟨S_, .i32⟩ : BufTy).Contents (Elt F) → (⟨S1x768, .i32⟩ : BufTy).Contents (Elt F)),
    binary main_v78 main_v99 main_v100 (cmpi .eq : (⟨S1x768, .i32⟩ : BufTy).Contents (Elt F) → (⟨S1x768, .i32⟩ : BufTy).Contents (Elt F) → (⟨S1x768, .i1⟩ : BufTy).Contents (Elt F)),
    unary main_v76 main_v101 (Host.negf : (⟨S4096x768, .bf16⟩ : BufTy).Contents (Elt F) → (⟨S4096x768, .bf16⟩ : BufTy).Contents (Elt F)),
    nullary main_cst_19 (constant S_ .bf16 0x0000#16),
    TRef.unary (TRef.of (T := ⟨S1x768, .i1⟩) main_v100) (TRef.of (T := ⟨S4096x768, .i1⟩) main_call7_v0) (broadcastInDim S4096x768 ![0, 1] bcast_S1x768_S4096x768_0_1),
    TRef.unary (TRef.of (T := ⟨S_, .bf16⟩) main_cst_19) (TRef.of (T := ⟨S4096x768, .bf16⟩) main_call7_v1) (broadcastInDim S4096x768 ![] bcast_S_S4096x768),
    TRef.ternary (TRef.of (T := ⟨S4096x768, .i1⟩) main_call7_v0) (TRef.of (T := ⟨S4096x768, .bf16⟩) main_v101) (TRef.of (T := ⟨S4096x768, .bf16⟩) main_call7_v1) (TRef.of (T := ⟨S4096x768, .bf16⟩) main_v102) select,
    TRef.unary (TRef.of (T := ⟨S1x768, .i1⟩) main_v97) (TRef.of (T := ⟨S4096x768, .i1⟩) main_call8_v0) (broadcastInDim S4096x768 ![0, 1] bcast_S1x768_S4096x768_0_1),
    TRef.ternary (TRef.of (T := ⟨S4096x768, .i1⟩) main_call8_v0) (TRef.of (T := ⟨S4096x768, .bf16⟩) main_v98) (TRef.of (T := ⟨S4096x768, .bf16⟩) main_v102) (TRef.of (T := ⟨S4096x768, .bf16⟩) main_v103) select,
    TRef.unary (TRef.of (T := ⟨S1x768, .i1⟩) main_v94) (TRef.of (T := ⟨S4096x768, .i1⟩) main_call9_v0) (broadcastInDim S4096x768 ![0, 1] bcast_S1x768_S4096x768_0_1),
    TRef.ternary (TRef.of (T := ⟨S4096x768, .i1⟩) main_call9_v0) (TRef.of (T := ⟨S4096x768, .bf16⟩) main_v95) (TRef.of (T := ⟨S4096x768, .bf16⟩) main_v103) (TRef.of (T := ⟨S4096x768, .bf16⟩) main_v104) select,
    nullary main_cst_20 (constant S_ .bf16 0x3F80#16),
    TRef.unary (TRef.of (T := ⟨S1x768, .i1⟩) main_v92) (TRef.of (T := ⟨S4096x768, .i1⟩) main_call10_v0) (broadcastInDim S4096x768 ![0, 1] bcast_S1x768_S4096x768_0_1),
    TRef.unary (TRef.of (T := ⟨S_, .bf16⟩) main_cst_20) (TRef.of (T := ⟨S4096x768, .bf16⟩) main_call10_v1) (broadcastInDim S4096x768 ![] bcast_S_S4096x768),
    TRef.ternary (TRef.of (T := ⟨S4096x768, .i1⟩) main_call10_v0) (TRef.of (T := ⟨S4096x768, .bf16⟩) main_call10_v1) (TRef.of (T := ⟨S4096x768, .bf16⟩) main_v104) (TRef.of (T := ⟨S4096x768, .bf16⟩) main_v105) select ]

/-- Stretch 11: the log-sum over the lanes. -/
def pre11 : List (HloOp τ sig (Elt F)) :=
  [ unary main_v61 main_v106 (broadcastInDim S4096x12x64 ![0, 1] bcast_S4096x12_S4096x12x64_0_1 : (⟨S4096x12, .f32⟩ : BufTy).Contents (Elt F) → (⟨S4096x12x64, .f32⟩ : BufTy).Contents (Elt F)),
    reshape main_v106 main_v107 (rfl : (.f32 : EltTy) = .f32) shapeCasts_S4096x12x64_S4096x768 ]

end lists

theorem at0_v18 (V : Env) : after (pre0 (F := Ideal)) V (Proc.devRef .tc main_v18) = (logit (V (Proc.devRef .tc main_arg0)) (V (Proc.devRef .tc main_arg1)) (V (Proc.devRef .tc main_arg3)) : T) := by
  simp only [pre0, TRef.nullary, TRef.ternary, TRef.binary, TRef.unary, TRef.toBuf, TRef.ofBuf, cast_eq]
  after_results_simp
  all_goals rfl

theorem keep0_arg0 (V : Env) : after (pre0 (F := Ideal)) V (Proc.devRef .tc main_arg0) = V (Proc.devRef .tc main_arg0) := by
  simp only [pre0, TRef.nullary, TRef.ternary, TRef.binary, TRef.unary, TRef.toBuf, TRef.ofBuf, cast_eq]
  after_results_simp

theorem keep0_arg1 (V : Env) : after (pre0 (F := Ideal)) V (Proc.devRef .tc main_arg1) = V (Proc.devRef .tc main_arg1) := by
  simp only [pre0, TRef.nullary, TRef.ternary, TRef.binary, TRef.unary, TRef.toBuf, TRef.ofBuf, cast_eq]
  after_results_simp

theorem keep0_arg2 (V : Env) : after (pre0 (F := Ideal)) V (Proc.devRef .tc main_arg2) = V (Proc.devRef .tc main_arg2) := by
  simp only [pre0, TRef.nullary, TRef.ternary, TRef.binary, TRef.unary, TRef.toBuf, TRef.ofBuf, cast_eq]
  after_results_simp

theorem keep0_arg3 (V : Env) : after (pre0 (F := Ideal)) V (Proc.devRef .tc main_arg3) = V (Proc.devRef .tc main_arg3) := by
  simp only [pre0, TRef.nullary, TRef.ternary, TRef.binary, TRef.unary, TRef.toBuf, TRef.ofBuf, cast_eq]
  after_results_simp

theorem keep0_arg4 (V : Env) : after (pre0 (F := Ideal)) V (Proc.devRef .tc main_arg4) = V (Proc.devRef .tc main_arg4) := by
  simp only [pre0, TRef.nullary, TRef.ternary, TRef.binary, TRef.unary, TRef.toBuf, TRef.ofBuf, cast_eq]
  after_results_simp

theorem at1_v19 (V : Env) : after (pre1 (F := Ideal)) V (Proc.devRef .tc main_v19) = (top (V (Proc.devRef .tc main_v18)) : R) := by
  simp only [pre1, TRef.nullary, TRef.ternary, TRef.binary, TRef.unary, TRef.toBuf, TRef.ofBuf, cast_eq]
  after_results_simp
  all_goals rfl

theorem keep1_arg0 (V : Env) : after (pre1 (F := Ideal)) V (Proc.devRef .tc main_arg0) = V (Proc.devRef .tc main_arg0) := by
  simp only [pre1, TRef.nullary, TRef.ternary, TRef.binary, TRef.unary, TRef.toBuf, TRef.ofBuf, cast_eq]
  after_results_simp

theorem keep1_arg1 (V : Env) : after (pre1 (F := Ideal)) V (Proc.devRef .tc main_arg1) = V (Proc.devRef .tc main_arg1) := by
  simp only [pre1, TRef.nullary, TRef.ternary, TRef.binary, TRef.unary, TRef.toBuf, TRef.ofBuf, cast_eq]
  after_results_simp

theorem keep1_arg2 (V : Env) : after (pre1 (F := Ideal)) V (Proc.devRef .tc main_arg2) = V (Proc.devRef .tc main_arg2) := by
  simp only [pre1, TRef.nullary, TRef.ternary, TRef.binary, TRef.unary, TRef.toBuf, TRef.ofBuf, cast_eq]
  after_results_simp

theorem keep1_arg3 (V : Env) : after (pre1 (F := Ideal)) V (Proc.devRef .tc main_arg3) = V (Proc.devRef .tc main_arg3) := by
  simp only [pre1, TRef.nullary, TRef.ternary, TRef.binary, TRef.unary, TRef.toBuf, TRef.ofBuf, cast_eq]
  after_results_simp

theorem keep1_arg4 (V : Env) : after (pre1 (F := Ideal)) V (Proc.devRef .tc main_arg4) = V (Proc.devRef .tc main_arg4) := by
  simp only [pre1, TRef.nullary, TRef.ternary, TRef.binary, TRef.unary, TRef.toBuf, TRef.ofBuf, cast_eq]
  after_results_simp

theorem keep1_v18 (V : Env) : after (pre1 (F := Ideal)) V (Proc.devRef .tc main_v18) = V (Proc.devRef .tc main_v18) := by
  simp only [pre1, TRef.nullary, TRef.ternary, TRef.binary, TRef.unary, TRef.toBuf, TRef.ofBuf, cast_eq]
  after_results_simp

theorem at2_v33 (V : Env) : after (pre2 (F := Ideal)) V (Proc.devRef .tc main_v33) = (weighted (V (Proc.devRef .tc main_v18)) (maximumf (broadcastInDim S12x4096 ![] bcast_S_S12x4096 (constant S_ .f32 0xFF800000#32)) (V (Proc.devRef .tc main_v19))) (V (Proc.devRef .tc main_arg2)) : A) := by
  simp only [pre2, TRef.nullary, TRef.ternary, TRef.binary, TRef.unary, TRef.toBuf, TRef.ofBuf, cast_eq]
  after_results_simp
  all_goals rfl

theorem keep2_arg0 (V : Env) : after (pre2 (F := Ideal)) V (Proc.devRef .tc main_arg0) = V (Proc.devRef .tc main_arg0) := by
  simp only [pre2, TRef.nullary, TRef.ternary, TRef.binary, TRef.unary, TRef.toBuf, TRef.ofBuf, cast_eq]
  after_results_simp

theorem keep2_arg1 (V : Env) : after (pre2 (F := Ideal)) V (Proc.devRef .tc main_arg1) = V (Proc.devRef .tc main_arg1) := by
  simp only [pre2, TRef.nullary, TRef.ternary, TRef.binary, TRef.unary, TRef.toBuf, TRef.ofBuf, cast_eq]
  after_results_simp

theorem keep2_arg2 (V : Env) : after (pre2 (F := Ideal)) V (Proc.devRef .tc main_arg2) = V (Proc.devRef .tc main_arg2) := by
  simp only [pre2, TRef.nullary, TRef.ternary, TRef.binary, TRef.unary, TRef.toBuf, TRef.ofBuf, cast_eq]
  after_results_simp

theorem keep2_arg3 (V : Env) : after (pre2 (F := Ideal)) V (Proc.devRef .tc main_arg3) = V (Proc.devRef .tc main_arg3) := by
  simp only [pre2, TRef.nullary, TRef.ternary, TRef.binary, TRef.unary, TRef.toBuf, TRef.ofBuf, cast_eq]
  after_results_simp

theorem keep2_arg4 (V : Env) : after (pre2 (F := Ideal)) V (Proc.devRef .tc main_arg4) = V (Proc.devRef .tc main_arg4) := by
  simp only [pre2, TRef.nullary, TRef.ternary, TRef.binary, TRef.unary, TRef.toBuf, TRef.ofBuf, cast_eq]
  after_results_simp

theorem at3_v52 (V : Env) : after (pre3 (F := Ideal)) V (Proc.devRef .tc main_v52) = (logit (V (Proc.devRef .tc main_arg0)) (V (Proc.devRef .tc main_arg1)) (V (Proc.devRef .tc main_arg3)) : T) := by
  simp only [pre3, TRef.nullary, TRef.ternary, TRef.binary, TRef.unary, TRef.toBuf, TRef.ofBuf, cast_eq]
  after_results_simp
  all_goals rfl

theorem keep3_arg0 (V : Env) : after (pre3 (F := Ideal)) V (Proc.devRef .tc main_arg0) = V (Proc.devRef .tc main_arg0) := by
  simp only [pre3, TRef.nullary, TRef.ternary, TRef.binary, TRef.unary, TRef.toBuf, TRef.ofBuf, cast_eq]
  after_results_simp

theorem keep3_arg1 (V : Env) : after (pre3 (F := Ideal)) V (Proc.devRef .tc main_arg1) = V (Proc.devRef .tc main_arg1) := by
  simp only [pre3, TRef.nullary, TRef.ternary, TRef.binary, TRef.unary, TRef.toBuf, TRef.ofBuf, cast_eq]
  after_results_simp

theorem keep3_arg2 (V : Env) : after (pre3 (F := Ideal)) V (Proc.devRef .tc main_arg2) = V (Proc.devRef .tc main_arg2) := by
  simp only [pre3, TRef.nullary, TRef.ternary, TRef.binary, TRef.unary, TRef.toBuf, TRef.ofBuf, cast_eq]
  after_results_simp

theorem keep3_arg3 (V : Env) : after (pre3 (F := Ideal)) V (Proc.devRef .tc main_arg3) = V (Proc.devRef .tc main_arg3) := by
  simp only [pre3, TRef.nullary, TRef.ternary, TRef.binary, TRef.unary, TRef.toBuf, TRef.ofBuf, cast_eq]
  after_results_simp

theorem keep3_arg4 (V : Env) : after (pre3 (F := Ideal)) V (Proc.devRef .tc main_arg4) = V (Proc.devRef .tc main_arg4) := by
  simp only [pre3, TRef.nullary, TRef.ternary, TRef.binary, TRef.unary, TRef.toBuf, TRef.ofBuf, cast_eq]
  after_results_simp

theorem keep3_v33 (V : Env) : after (pre3 (F := Ideal)) V (Proc.devRef .tc main_v33) = V (Proc.devRef .tc main_v33) := by
  simp only [pre3, TRef.nullary, TRef.ternary, TRef.binary, TRef.unary, TRef.toBuf, TRef.ofBuf, cast_eq]
  after_results_simp

theorem at4_v53 (V : Env) : after (pre4 (F := Ideal)) V (Proc.devRef .tc main_v53) = (top (V (Proc.devRef .tc main_v52)) : R) := by
  simp only [pre4, TRef.nullary, TRef.ternary, TRef.binary, TRef.unary, TRef.toBuf, TRef.ofBuf, cast_eq]
  after_results_simp
  all_goals rfl

theorem keep4_arg0 (V : Env) : after (pre4 (F := Ideal)) V (Proc.devRef .tc main_arg0) = V (Proc.devRef .tc main_arg0) := by
  simp only [pre4, TRef.nullary, TRef.ternary, TRef.binary, TRef.unary, TRef.toBuf, TRef.ofBuf, cast_eq]
  after_results_simp

theorem keep4_arg1 (V : Env) : after (pre4 (F := Ideal)) V (Proc.devRef .tc main_arg1) = V (Proc.devRef .tc main_arg1) := by
  simp only [pre4, TRef.nullary, TRef.ternary, TRef.binary, TRef.unary, TRef.toBuf, TRef.ofBuf, cast_eq]
  after_results_simp

theorem keep4_arg2 (V : Env) : after (pre4 (F := Ideal)) V (Proc.devRef .tc main_arg2) = V (Proc.devRef .tc main_arg2) := by
  simp only [pre4, TRef.nullary, TRef.ternary, TRef.binary, TRef.unary, TRef.toBuf, TRef.ofBuf, cast_eq]
  after_results_simp

theorem keep4_arg3 (V : Env) : after (pre4 (F := Ideal)) V (Proc.devRef .tc main_arg3) = V (Proc.devRef .tc main_arg3) := by
  simp only [pre4, TRef.nullary, TRef.ternary, TRef.binary, TRef.unary, TRef.toBuf, TRef.ofBuf, cast_eq]
  after_results_simp

theorem keep4_arg4 (V : Env) : after (pre4 (F := Ideal)) V (Proc.devRef .tc main_arg4) = V (Proc.devRef .tc main_arg4) := by
  simp only [pre4, TRef.nullary, TRef.ternary, TRef.binary, TRef.unary, TRef.toBuf, TRef.ofBuf, cast_eq]
  after_results_simp

theorem keep4_v33 (V : Env) : after (pre4 (F := Ideal)) V (Proc.devRef .tc main_v33) = V (Proc.devRef .tc main_v33) := by
  simp only [pre4, TRef.nullary, TRef.ternary, TRef.binary, TRef.unary, TRef.toBuf, TRef.ofBuf, cast_eq]
  after_results_simp

theorem keep4_v52 (V : Env) : after (pre4 (F := Ideal)) V (Proc.devRef .tc main_v52) = V (Proc.devRef .tc main_v52) := by
  simp only [pre4, TRef.nullary, TRef.ternary, TRef.binary, TRef.unary, TRef.toBuf, TRef.ofBuf, cast_eq]
  after_results_simp

theorem at5_v61 (V : Env) : after (pre5 (F := Ideal)) V (Proc.devRef .tc main_v61) = (logsum (V (Proc.devRef .tc main_v52)) (V (Proc.devRef .tc main_v53)) : B) := by
  simp only [pre5, TRef.nullary, TRef.ternary, TRef.binary, TRef.unary, TRef.toBuf, TRef.ofBuf, cast_eq]
  after_results_simp
  all_goals rfl

theorem keep5_arg0 (V : Env) : after (pre5 (F := Ideal)) V (Proc.devRef .tc main_arg0) = V (Proc.devRef .tc main_arg0) := by
  simp only [pre5, TRef.nullary, TRef.ternary, TRef.binary, TRef.unary, TRef.toBuf, TRef.ofBuf, cast_eq]
  after_results_simp

theorem keep5_arg1 (V : Env) : after (pre5 (F := Ideal)) V (Proc.devRef .tc main_arg1) = V (Proc.devRef .tc main_arg1) := by
  simp only [pre5, TRef.nullary, TRef.ternary, TRef.binary, TRef.unary, TRef.toBuf, TRef.ofBuf, cast_eq]
  after_results_simp

theorem keep5_arg2 (V : Env) : after (pre5 (F := Ideal)) V (Proc.devRef .tc main_arg2) = V (Proc.devRef .tc main_arg2) := by
  simp only [pre5, TRef.nullary, TRef.ternary, TRef.binary, TRef.unary, TRef.toBuf, TRef.ofBuf, cast_eq]
  after_results_simp

theorem keep5_arg3 (V : Env) : after (pre5 (F := Ideal)) V (Proc.devRef .tc main_arg3) = V (Proc.devRef .tc main_arg3) := by
  simp only [pre5, TRef.nullary, TRef.ternary, TRef.binary, TRef.unary, TRef.toBuf, TRef.ofBuf, cast_eq]
  after_results_simp

theorem keep5_arg4 (V : Env) : after (pre5 (F := Ideal)) V (Proc.devRef .tc main_arg4) = V (Proc.devRef .tc main_arg4) := by
  simp only [pre5, TRef.nullary, TRef.ternary, TRef.binary, TRef.unary, TRef.toBuf, TRef.ofBuf, cast_eq]
  after_results_simp

theorem keep5_v33 (V : Env) : after (pre5 (F := Ideal)) V (Proc.devRef .tc main_v33) = V (Proc.devRef .tc main_v33) := by
  simp only [pre5, TRef.nullary, TRef.ternary, TRef.binary, TRef.unary, TRef.toBuf, TRef.ofBuf, cast_eq]
  after_results_simp

theorem at6_v67 (V : Env) : after (pre6 (F := Ideal)) V (Proc.devRef .tc main_v67) = (side (V (Proc.devRef .tc main_arg0)) (V (Proc.devRef .tc main_arg1)) (V (Proc.devRef .tc main_arg2)) : FVec Ideal S4096x2304 .bf16) := by
  simp only [pre6, TRef.nullary, TRef.ternary, TRef.binary, TRef.unary, TRef.toBuf, TRef.ofBuf, cast_eq]
  after_results_simp
  all_goals rfl

theorem keep6_arg3 (V : Env) : after (pre6 (F := Ideal)) V (Proc.devRef .tc main_arg3) = V (Proc.devRef .tc main_arg3) := by
  simp only [pre6, TRef.nullary, TRef.ternary, TRef.binary, TRef.unary, TRef.toBuf, TRef.ofBuf, cast_eq]
  after_results_simp

theorem keep6_arg4 (V : Env) : after (pre6 (F := Ideal)) V (Proc.devRef .tc main_arg4) = V (Proc.devRef .tc main_arg4) := by
  simp only [pre6, TRef.nullary, TRef.ternary, TRef.binary, TRef.unary, TRef.toBuf, TRef.ofBuf, cast_eq]
  after_results_simp

theorem keep6_v33 (V : Env) : after (pre6 (F := Ideal)) V (Proc.devRef .tc main_v33) = V (Proc.devRef .tc main_v33) := by
  simp only [pre6, TRef.nullary, TRef.ternary, TRef.binary, TRef.unary, TRef.toBuf, TRef.ofBuf, cast_eq]
  after_results_simp

theorem keep6_v61 (V : Env) : after (pre6 (F := Ideal)) V (Proc.devRef .tc main_v61) = V (Proc.devRef .tc main_v61) := by
  simp only [pre6, TRef.nullary, TRef.ternary, TRef.binary, TRef.unary, TRef.toBuf, TRef.ofBuf, cast_eq]
  after_results_simp

theorem at7_v70 (V : Env) : after (pre7 (F := Ideal)) V (Proc.devRef .tc main_v70) = (hi (V (Proc.devRef .tc main_arg3)) : H) := by
  simp only [pre7, TRef.nullary, TRef.ternary, TRef.binary, TRef.unary, TRef.toBuf, TRef.ofBuf, cast_eq]
  after_results_simp
  all_goals rfl

theorem at7_v73 (V : Env) : after (pre7 (F := Ideal)) V (Proc.devRef .tc main_v73) = (mid (V (Proc.devRef .tc main_arg3)) : H) := by
  simp only [pre7, TRef.nullary, TRef.ternary, TRef.binary, TRef.unary, TRef.toBuf, TRef.ofBuf, cast_eq]
  after_results_simp
  all_goals rfl

theorem at7_v76 (V : Env) : after (pre7 (F := Ideal)) V (Proc.devRef .tc main_v76) = (lo (V (Proc.devRef .tc main_arg3)) : H) := by
  simp only [pre7, TRef.nullary, TRef.ternary, TRef.binary, TRef.unary, TRef.toBuf, TRef.ofBuf, cast_eq]
  after_results_simp
  all_goals rfl

theorem keep7_arg4 (V : Env) : after (pre7 (F := Ideal)) V (Proc.devRef .tc main_arg4) = V (Proc.devRef .tc main_arg4) := by
  simp only [pre7, TRef.nullary, TRef.ternary, TRef.binary, TRef.unary, TRef.toBuf, TRef.ofBuf, cast_eq]
  after_results_simp

theorem keep7_v33 (V : Env) : after (pre7 (F := Ideal)) V (Proc.devRef .tc main_v33) = V (Proc.devRef .tc main_v33) := by
  simp only [pre7, TRef.nullary, TRef.ternary, TRef.binary, TRef.unary, TRef.toBuf, TRef.ofBuf, cast_eq]
  after_results_simp

theorem keep7_v61 (V : Env) : after (pre7 (F := Ideal)) V (Proc.devRef .tc main_v61) = V (Proc.devRef .tc main_v61) := by
  simp only [pre7, TRef.nullary, TRef.ternary, TRef.binary, TRef.unary, TRef.toBuf, TRef.ofBuf, cast_eq]
  after_results_simp

theorem keep7_v67 (V : Env) : after (pre7 (F := Ideal)) V (Proc.devRef .tc main_v67) = V (Proc.devRef .tc main_v67) := by
  simp only [pre7, TRef.nullary, TRef.ternary, TRef.binary, TRef.unary, TRef.toBuf, TRef.ofBuf, cast_eq]
  after_results_simp

theorem at8_v78 (V : Env) : after (pre8 (F := Ideal)) V (Proc.devRef .tc main_v78) = (lanes : IVec S1x768 32) := by
  simp only [pre8, TRef.nullary, TRef.ternary, TRef.binary, TRef.unary, TRef.toBuf, TRef.ofBuf, cast_eq]
  after_results_simp
  all_goals rfl

theorem keep8_arg4 (V : Env) : after (pre8 (F := Ideal)) V (Proc.devRef .tc main_arg4) = V (Proc.devRef .tc main_arg4) := by
  simp only [pre8, TRef.nullary, TRef.ternary, TRef.binary, TRef.unary, TRef.toBuf, TRef.ofBuf, cast_eq]
  after_results_simp

theorem keep8_v33 (V : Env) : after (pre8 (F := Ideal)) V (Proc.devRef .tc main_v33) = V (Proc.devRef .tc main_v33) := by
  simp only [pre8, TRef.nullary, TRef.ternary, TRef.binary, TRef.unary, TRef.toBuf, TRef.ofBuf, cast_eq]
  after_results_simp

theorem keep8_v61 (V : Env) : after (pre8 (F := Ideal)) V (Proc.devRef .tc main_v61) = V (Proc.devRef .tc main_v61) := by
  simp only [pre8, TRef.nullary, TRef.ternary, TRef.binary, TRef.unary, TRef.toBuf, TRef.ofBuf, cast_eq]
  after_results_simp

theorem keep8_v67 (V : Env) : after (pre8 (F := Ideal)) V (Proc.devRef .tc main_v67) = V (Proc.devRef .tc main_v67) := by
  simp only [pre8, TRef.nullary, TRef.ternary, TRef.binary, TRef.unary, TRef.toBuf, TRef.ofBuf, cast_eq]
  after_results_simp

theorem keep8_v70 (V : Env) : after (pre8 (F := Ideal)) V (Proc.devRef .tc main_v70) = V (Proc.devRef .tc main_v70) := by
  simp only [pre8, TRef.nullary, TRef.ternary, TRef.binary, TRef.unary, TRef.toBuf, TRef.ofBuf, cast_eq]
  after_results_simp

theorem keep8_v73 (V : Env) : after (pre8 (F := Ideal)) V (Proc.devRef .tc main_v73) = V (Proc.devRef .tc main_v73) := by
  simp only [pre8, TRef.nullary, TRef.ternary, TRef.binary, TRef.unary, TRef.toBuf, TRef.ofBuf, cast_eq]
  after_results_simp

theorem keep8_v76 (V : Env) : after (pre8 (F := Ideal)) V (Proc.devRef .tc main_v76) = V (Proc.devRef .tc main_v76) := by
  simp only [pre8, TRef.nullary, TRef.ternary, TRef.binary, TRef.unary, TRef.toBuf, TRef.ofBuf, cast_eq]
  after_results_simp

theorem at9_v90 (V : Env) : after (pre9 (F := Ideal)) V (Proc.devRef .tc main_v90) = (qlanes (V (Proc.devRef .tc main_v78)) (V (Proc.devRef .tc main_v70)) (V (Proc.devRef .tc main_v73)) (V (Proc.devRef .tc main_v76)) : H) := by
  simp only [pre9, TRef.nullary, TRef.ternary, TRef.binary, TRef.unary, TRef.toBuf, TRef.ofBuf, cast_eq]
  after_results_simp
  all_goals rfl

theorem keep9_arg4 (V : Env) : after (pre9 (F := Ideal)) V (Proc.devRef .tc main_arg4) = V (Proc.devRef .tc main_arg4) := by
  simp only [pre9, TRef.nullary, TRef.ternary, TRef.binary, TRef.unary, TRef.toBuf, TRef.ofBuf, cast_eq]
  after_results_simp

theorem keep9_v33 (V : Env) : after (pre9 (F := Ideal)) V (Proc.devRef .tc main_v33) = V (Proc.devRef .tc main_v33) := by
  simp only [pre9, TRef.nullary, TRef.ternary, TRef.binary, TRef.unary, TRef.toBuf, TRef.ofBuf, cast_eq]
  after_results_simp

theorem keep9_v61 (V : Env) : after (pre9 (F := Ideal)) V (Proc.devRef .tc main_v61) = V (Proc.devRef .tc main_v61) := by
  simp only [pre9, TRef.nullary, TRef.ternary, TRef.binary, TRef.unary, TRef.toBuf, TRef.ofBuf, cast_eq]
  after_results_simp

theorem keep9_v67 (V : Env) : after (pre9 (F := Ideal)) V (Proc.devRef .tc main_v67) = V (Proc.devRef .tc main_v67) := by
  simp only [pre9, TRef.nullary, TRef.ternary, TRef.binary, TRef.unary, TRef.toBuf, TRef.ofBuf, cast_eq]
  after_results_simp

theorem keep9_v70 (V : Env) : after (pre9 (F := Ideal)) V (Proc.devRef .tc main_v70) = V (Proc.devRef .tc main_v70) := by
  simp only [pre9, TRef.nullary, TRef.ternary, TRef.binary, TRef.unary, TRef.toBuf, TRef.ofBuf, cast_eq]
  after_results_simp

theorem keep9_v73 (V : Env) : after (pre9 (F := Ideal)) V (Proc.devRef .tc main_v73) = V (Proc.devRef .tc main_v73) := by
  simp only [pre9, TRef.nullary, TRef.ternary, TRef.binary, TRef.unary, TRef.toBuf, TRef.ofBuf, cast_eq]
  after_results_simp

theorem keep9_v76 (V : Env) : after (pre9 (F := Ideal)) V (Proc.devRef .tc main_v76) = V (Proc.devRef .tc main_v76) := by
  simp only [pre9, TRef.nullary, TRef.ternary, TRef.binary, TRef.unary, TRef.toBuf, TRef.ofBuf, cast_eq]
  after_results_simp

theorem keep9_v78 (V : Env) : after (pre9 (F := Ideal)) V (Proc.devRef .tc main_v78) = V (Proc.devRef .tc main_v78) := by
  simp only [pre9, TRef.nullary, TRef.ternary, TRef.binary, TRef.unary, TRef.toBuf, TRef.ofBuf, cast_eq]
  after_results_simp

theorem at10_v105 (V : Env) : after (pre10 (F := Ideal)) V (Proc.devRef .tc main_v105) = (klanes (V (Proc.devRef .tc main_v78)) (V (Proc.devRef .tc main_v70)) (V (Proc.devRef .tc main_v73)) (V (Proc.devRef .tc main_v76)) : H) := by
  simp only [pre10, TRef.nullary, TRef.ternary, TRef.binary, TRef.unary, TRef.toBuf, TRef.ofBuf, cast_eq]
  after_results_simp
  all_goals rfl

theorem keep10_arg4 (V : Env) : after (pre10 (F := Ideal)) V (Proc.devRef .tc main_arg4) = V (Proc.devRef .tc main_arg4) := by
  simp only [pre10, TRef.nullary, TRef.ternary, TRef.binary, TRef.unary, TRef.toBuf, TRef.ofBuf, cast_eq]
  after_results_simp

theorem keep10_v33 (V : Env) : after (pre10 (F := Ideal)) V (Proc.devRef .tc main_v33) = V (Proc.devRef .tc main_v33) := by
  simp only [pre10, TRef.nullary, TRef.ternary, TRef.binary, TRef.unary, TRef.toBuf, TRef.ofBuf, cast_eq]
  after_results_simp

theorem keep10_v61 (V : Env) : after (pre10 (F := Ideal)) V (Proc.devRef .tc main_v61) = V (Proc.devRef .tc main_v61) := by
  simp only [pre10, TRef.nullary, TRef.ternary, TRef.binary, TRef.unary, TRef.toBuf, TRef.ofBuf, cast_eq]
  after_results_simp

theorem keep10_v67 (V : Env) : after (pre10 (F := Ideal)) V (Proc.devRef .tc main_v67) = V (Proc.devRef .tc main_v67) := by
  simp only [pre10, TRef.nullary, TRef.ternary, TRef.binary, TRef.unary, TRef.toBuf, TRef.ofBuf, cast_eq]
  after_results_simp

theorem keep10_v90 (V : Env) : after (pre10 (F := Ideal)) V (Proc.devRef .tc main_v90) = V (Proc.devRef .tc main_v90) := by
  simp only [pre10, TRef.nullary, TRef.ternary, TRef.binary, TRef.unary, TRef.toBuf, TRef.ofBuf, cast_eq]
  after_results_simp

theorem at11_v107 (V : Env) : after (pre11 (F := Ideal)) V (Proc.devRef .tc main_v107) = (spread (V (Proc.devRef .tc main_v61)) : A) := by
  simp only [pre11, TRef.nullary, TRef.ternary, TRef.binary, TRef.unary, TRef.toBuf, TRef.ofBuf, cast_eq]
  after_results_simp
  all_goals rfl

theorem keep11_arg4 (V : Env) : after (pre11 (F := Ideal)) V (Proc.devRef .tc main_arg4) = V (Proc.devRef .tc main_arg4) := by
  simp only [pre11, TRef.nullary, TRef.ternary, TRef.binary, TRef.unary, TRef.toBuf, TRef.ofBuf, cast_eq]
  after_results_simp

theorem keep11_v105 (V : Env) : after (pre11 (F := Ideal)) V (Proc.devRef .tc main_v105) = V (Proc.devRef .tc main_v105) := by
  simp only [pre11, TRef.nullary, TRef.ternary, TRef.binary, TRef.unary, TRef.toBuf, TRef.ofBuf, cast_eq]
  after_results_simp

theorem keep11_v33 (V : Env) : after (pre11 (F := Ideal)) V (Proc.devRef .tc main_v33) = V (Proc.devRef .tc main_v33) := by
  simp only [pre11, TRef.nullary, TRef.ternary, TRef.binary, TRef.unary, TRef.toBuf, TRef.ofBuf, cast_eq]
  after_results_simp

theorem keep11_v67 (V : Env) : after (pre11 (F := Ideal)) V (Proc.devRef .tc main_v67) = V (Proc.devRef .tc main_v67) := by
  simp only [pre11, TRef.nullary, TRef.ternary, TRef.binary, TRef.unary, TRef.toBuf, TRef.ofBuf, cast_eq]
  after_results_simp

theorem keep11_v90 (V : Env) : after (pre11 (F := Ideal)) V (Proc.devRef .tc main_v90) = V (Proc.devRef .tc main_v90) := by
  simp only [pre11, TRef.nullary, TRef.ternary, TRef.binary, TRef.unary, TRef.toBuf, TRef.ofBuf, cast_eq]
  after_results_simp

theorem after_app (l l' : Ops) (V : Env) : after (l ++ l') V = after l' (after l V) := by
  induction l generalizing V with
  | nil => rfl
  | cons o l ih => exact ih _

theorem pre_cut : List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] = pre0 ++ (pre1 ++ (pre2 ++ (pre3 ++ (pre4 ++ (pre5 ++ (pre6 ++ (pre7 ++ (pre8 ++ (pre9 ++ (pre10 ++ (pre11))))))))))) := rfl

/-- The contents of the buffers when the grid starts, stretch by stretch. -/
def start (V : Env) : Env := after (pre11 (F := Ideal)) (after (pre10 (F := Ideal)) (after (pre9 (F := Ideal)) (after (pre8 (F := Ideal)) (after (pre7 (F := Ideal)) (after (pre6 (F := Ideal)) (after (pre5 (F := Ideal)) (after (pre4 (F := Ideal)) (after (pre3 (F := Ideal)) (after (pre2 (F := Ideal)) (after (pre1 (F := Ideal)) (after (pre0 (F := Ideal)) V)))))))))))

variable (m : (ℓ : Loc nD τ sig) → Buf (Elt Ideal) ℓ) (c : Dev nD)

theorem V0_start : V0 m c = start (fun b => m (c, b)) := by
  unfold V0 start
  rw [pre_cut]
  simp only [after_app]

theorem read_v67 : V m c main_v67 = (side (m ((c.tc : Thread nD τ).loc main_arg0)) (m ((c.tc : Thread nD τ).loc main_arg1)) (m ((c.tc : Thread nD τ).loc main_arg2)) : FVec Ideal S4096x2304 .bf16) := by
  show V0 m c (Proc.devRef .tc main_v67) = _
  rw [V0_start]
  unfold start
  rw [keep11_v67, keep10_v67, keep9_v67, keep8_v67, keep7_v67, at6_v67, keep5_arg0, keep5_arg1, keep5_arg2, keep4_arg0, keep4_arg1, keep4_arg2, keep3_arg0, keep3_arg1, keep3_arg2, keep2_arg0, keep2_arg1, keep2_arg2, keep1_arg0, keep1_arg1, keep1_arg2, keep0_arg0, keep0_arg1, keep0_arg2]

theorem read_v33 : V m c main_v33 = (weighted (logit (m ((c.tc : Thread nD τ).loc main_arg0)) (m ((c.tc : Thread nD τ).loc main_arg1)) (m ((c.tc : Thread nD τ).loc main_arg3))) (maximumf (broadcastInDim S12x4096 ![] bcast_S_S12x4096 (constant S_ .f32 0xFF800000#32)) (top (logit (m ((c.tc : Thread nD τ).loc main_arg0)) (m ((c.tc : Thread nD τ).loc main_arg1)) (m ((c.tc : Thread nD τ).loc main_arg3))))) (m ((c.tc : Thread nD τ).loc main_arg2)) : A) := by
  show V0 m c (Proc.devRef .tc main_v33) = _
  rw [V0_start]
  unfold start
  rw [keep11_v33, keep10_v33, keep9_v33, keep8_v33, keep7_v33, keep6_v33, keep5_v33, keep4_v33, keep3_v33, at2_v33, keep1_arg2, keep1_v18, at1_v19, keep0_arg2, at0_v18]

theorem read_v107 : V m c main_v107 = (spread (logsum (logit (m ((c.tc : Thread nD τ).loc main_arg0)) (m ((c.tc : Thread nD τ).loc main_arg1)) (m ((c.tc : Thread nD τ).loc main_arg3))) (top (logit (m ((c.tc : Thread nD τ).loc main_arg0)) (m ((c.tc : Thread nD τ).loc main_arg1)) (m ((c.tc : Thread nD τ).loc main_arg3))))) : A) := by
  show V0 m c (Proc.devRef .tc main_v107) = _
  rw [V0_start]
  unfold start
  rw [at11_v107, keep10_v61, keep9_v61, keep8_v61, keep7_v61, keep6_v61, at5_v61, keep4_v52, at4_v53, at3_v52, keep2_arg0, keep2_arg1, keep2_arg3, keep1_arg0, keep1_arg1, keep1_arg3, keep0_arg0, keep0_arg1, keep0_arg3]

theorem read_v90 : V m c main_v90 = (qlanes lanes (hi (m ((c.tc : Thread nD τ).loc main_arg3))) (mid (m ((c.tc : Thread nD τ).loc main_arg3))) (lo (m ((c.tc : Thread nD τ).loc main_arg3))) : H) := by
  show V0 m c (Proc.devRef .tc main_v90) = _
  rw [V0_start]
  unfold start
  rw [keep11_v90, keep10_v90, at9_v90, keep8_v70, keep8_v73, keep8_v76, at8_v78, at7_v70, at7_v73, at7_v76, keep6_arg3, keep5_arg3, keep4_arg3, keep3_arg3, keep2_arg3, keep1_arg3, keep0_arg3]

theorem read_v105 : V m c main_v105 = (klanes lanes (hi (m ((c.tc : Thread nD τ).loc main_arg3))) (mid (m ((c.tc : Thread nD τ).loc main_arg3))) (lo (m ((c.tc : Thread nD τ).loc main_arg3))) : H) := by
  show V0 m c (Proc.devRef .tc main_v105) = _
  rw [V0_start]
  unfold start
  rw [keep11_v105, at10_v105, keep9_v70, keep9_v73, keep9_v76, keep9_v78, keep8_v70, keep8_v73, keep8_v76, at8_v78, at7_v70, at7_v73, at7_v76, keep6_arg3, keep5_arg3, keep4_arg3, keep3_arg3, keep2_arg3, keep1_arg3, keep0_arg3]

theorem read_arg4 : V m c main_arg4 = ((m ((c.tc : Thread nD τ).loc main_arg4)) : A) := by
  show V0 m c (Proc.devRef .tc main_arg4) = _
  rw [V0_start]
  unfold start
  rw [keep11_arg4, keep10_arg4, keep9_arg4, keep8_arg4, keep7_arg4, keep6_arg4, keep5_arg4, keep4_arg4, keep3_arg4, keep2_arg4, keep1_arg4, keep0_arg4]

end Cert.KernelIdeal.Fox
-- ==== Proof.FoxArgs.lean ====
module

public import proofs.«01_k».proof.Proof.FoxHost

/-!
# The host's arrays over the reals

Every array the host hands to the grid, at an index, as a real number.
-/

@[expose] public section

set_option maxRecDepth 16384

noncomputable section

namespace Cert.KernelIdeal.Fox

open Idealize.ShloMosaic Idealize.ShloMosaic.TcCoe Idealize.SL.Sem Cert.Fox
open Cert.KernelIdeal Cert.KernelIdeal.Gen
open Cert.ReferenceIdeal.Fox (logit top rows rowsum heads flat A B T R Args prob expo rowmax)

theorem lanes_at (j : Fin 768) : lanes (ix2 (0 : Fin 1) j) = BitVec.ofNat 32 (j.val % 64) := by
  revert j
  decide +kernel

theorem one_bits : Ideal.ofBits .bf16 0x3F80#16 = ((1 : ℝ) : EReal) := Ideal.ofBits_one_bf16
theorem zero_bits : Ideal.ofBits .bf16 0x0000#16 = ((0 : ℝ) : EReal) := Ideal.ofBits_zero_bf16

theorem where_at (p : CmpIPredicate) (b : BitVec 32) (t : Fin 4096) (j : Fin 768) :
    where_ p lanes b (ix2 t j) = IntOp.cmpi p (BitVec.ofNat 32 (j.val % 64)) b := by
  pointwise [where_]
  rw [lanes_at]

theorem eq_word : ∀ (n : Fin 64) (b : Fin 64), IntOp.cmpi .eq (BitVec.ofNat 32 n.val) (BitVec.ofNat 32 b.val) = if n.val = b.val then 1#1 else 0#1 := by
  decide +kernel
theorem lt_word : ∀ (n : Fin 64) (b : Fin 64), IntOp.cmpi .slt (BitVec.ofNat 32 n.val) (BitVec.ofNat 32 b.val) = if n.val < b.val then 1#1 else 0#1 := by
  decide +kernel

theorem spread_at (c : B) (t : Fin 4096) (j : Fin 768) : spread c (ix2 t j) = c (ix2 t (headOf j)) := by
  pointwise [spread]
  rfl

variable {q k v d : A} {c : B} {x : In}
variable (H : Args q k v d c x)
include H

theorem hi_at (t : Fin 4096) (j : Fin 768) : hi c (ix2 t j) = ((x.C t (headOf j) : ℝ) : EReal) := by
  pointwise [hi, spread_at]
  exact H.c _ _
theorem mid_at (t : Fin 4096) (j : Fin 768) : mid c (ix2 t j) = ((0 : ℝ) : EReal) := by
  pointwise [mid, rest, spread_at, hi_at H]
  rw [H.c, ← EReal.coe_sub, sub_self]
theorem lo_at (t : Fin 4096) (j : Fin 768) : lo c (ix2 t j) = ((0 : ℝ) : EReal) := by
  pointwise [lo, rest, spread_at, hi_at H, mid_at H]
  rw [H.c, ← EReal.coe_sub, ← EReal.coe_sub, sub_self, sub_zero]

theorem qlanes_at (t : Fin 4096) (j : Fin 768) : qlanes lanes (hi c) (mid c) (lo c) (ix2 t j) = ((x.QA t j : ℝ) : EReal) := by
  pointwise [qlanes, where_at, hi_at H, mid_at H, lo_at H, lanes_at]
  have ee0 : IntOp.cmpi .eq (BitVec.ofNat 32 (j.val % 64)) 0#32 = if j.val % 64 = 0 then 1#1 else 0#1 :=
    eq_word ⟨j.val % 64, Nat.mod_lt _ (by norm_num)⟩ 0
  have ee1 : IntOp.cmpi .eq (BitVec.ofNat 32 (j.val % 64)) 1#32 = if j.val % 64 = 1 then 1#1 else 0#1 :=
    eq_word ⟨j.val % 64, Nat.mod_lt _ (by norm_num)⟩ 1
  have ee2 : IntOp.cmpi .eq (BitVec.ofNat 32 (j.val % 64)) 2#32 = if j.val % 64 = 2 then 1#1 else 0#1 :=
    eq_word ⟨j.val % 64, Nat.mod_lt _ (by norm_num)⟩ 2
  have es6 : IntOp.cmpi .slt (BitVec.ofNat 32 (j.val % 64)) 6#32 = if j.val % 64 < 6 then 1#1 else 0#1 :=
    lt_word ⟨j.val % 64, Nat.mod_lt _ (by norm_num)⟩ 6
  rw [ee0, ee1, ee2, es6]
  unfold In.QA
  by_cases h0 : j.val % 64 = 0
  · simp [Scalar.select, h0]
  by_cases h1 : j.val % 64 = 1
  · simp [Scalar.select, h1]
  by_cases h2 : j.val % 64 = 2
  · simp [Scalar.select, h2]
  by_cases h6 : j.val % 64 < 6
  · simp [Scalar.select, h0, h1, h2, h6]
  · simp [Scalar.select, h0, h1, h2, h6]

theorem klanes_at (t : Fin 4096) (j : Fin 768) : klanes lanes (hi c) (mid c) (lo c) (ix2 t j) = ((x.KA t j : ℝ) : EReal) := by
  pointwise [klanes, where_at, hi_at H, mid_at H, lo_at H]
  have es3 : IntOp.cmpi .slt (BitVec.ofNat 32 (j.val % 64)) 3#32 = if j.val % 64 < 3 then 1#1 else 0#1 :=
    lt_word ⟨j.val % 64, Nat.mod_lt _ (by norm_num)⟩ 3
  have ee3 : IntOp.cmpi .eq (BitVec.ofNat 32 (j.val % 64)) 3#32 = if j.val % 64 = 3 then 1#1 else 0#1 :=
    eq_word ⟨j.val % 64, Nat.mod_lt _ (by norm_num)⟩ 3
  have ee4 : IntOp.cmpi .eq (BitVec.ofNat 32 (j.val % 64)) 4#32 = if j.val % 64 = 4 then 1#1 else 0#1 :=
    eq_word ⟨j.val % 64, Nat.mod_lt _ (by norm_num)⟩ 4
  have ee5 : IntOp.cmpi .eq (BitVec.ofNat 32 (j.val % 64)) 5#32 = if j.val % 64 = 5 then 1#1 else 0#1 :=
    eq_word ⟨j.val % 64, Nat.mod_lt _ (by norm_num)⟩ 5
  rw [es3, ee3, ee4, ee5]
  unfold In.KA
  by_cases h0 : j.val % 64 < 3
  · simp [Scalar.select, h0]
  by_cases h1 : j.val % 64 = 3
  · simp [Scalar.select, h1]
  by_cases h2 : j.val % 64 = 4
  · simp [Scalar.select, h2]
  by_cases h6 : j.val % 64 = 5
  · simp [Scalar.select, h6]
  · simp [Scalar.select, h0, h1, h2, h6]

theorem side_at_q (t : Fin 4096) (j : Fin 768) : side q k v (ix2 t ⟨j.val, by omega⟩) = ((x.Qs t j : ℝ) : EReal) := by
  pointwise [side]
  rw [H.q, Cert.ReferenceIdeal.Fox.eighth, ← EReal.coe_mul]
  rfl
theorem side_at_k (t : Fin 4096) (j : Fin 768) : side q k v (ix2 t ⟨768 + j.val, by omega⟩) = ((x.K t j : ℝ) : EReal) := by
  pointwise [side]
  exact H.k _ _
theorem side_at_v (t : Fin 4096) (j : Fin 768) : side q k v (ix2 t ⟨1536 + j.val, by omega⟩) = ((x.V t j : ℝ) : EReal) := by
  pointwise [side]
  rw [dif_neg (by omega), dif_neg (by omega),
    show (⟨1536 + j.val - 768 - 768, by omega⟩ : Fin 768) = j from Fin.ext (by show 1536 + j.val - 768 - 768 = j.val; omega)]
  exact H.v _ _

variable (HM : ∀ h t, top (logit q k c) (ix2 h t) = ((x.M h t : ℝ) : EReal))
include HM

theorem expon_at (h : Fin 12) (t r : Fin 4096) : expon (logit q k c) (top (logit q k c)) (ix3 h t r) = ((x.ex h t r : ℝ) : EReal) := by
  pointwise [expon, Cert.ReferenceIdeal.Fox.rows_at]
  rw [Cert.ReferenceIdeal.Fox.logit_at H, HM]
  unfold In.ex
  split
  · rw [← EReal.coe_sub, Ideal.exp_coe]
  · rw [EReal.bot_sub]; rfl

omit H HM in
theorem turn_at (a b : R) (t : Fin 4096) (h : Fin 12) :
    (transpose S4096x12 [1, 0] (addf a (Host.log b)) transposes_S12x4096_S4096x12_1_0 : B) (ix2 t h) = a (ix2 h t) + Ideal.log (b (ix2 h t)) := by
  pointwise []

theorem total_at (h : Fin 12) (t : Fin 4096) :
    rowsum (expon (logit q k c) (top (logit q k c))) (ix2 h t) = ((x.den h t : ℝ) : EReal) := by
  rw [Cert.ReferenceIdeal.Fox.rowsum_at]
  simp only [expon_at H HM, coe_sum]
  rfl

theorem logsum_at (t : Fin 4096) (h : Fin 12) : logsum (logit q k c) (top (logit q k c)) (ix2 t h) = ((x.lse t h : ℝ) : EReal) := by
  have p : 0 < x.den h t := x.den_pos h t
  unfold logsum
  rw [turn_at, total_at H HM, HM, Ideal.log_coe, if_neg (not_le.2 p), ← EReal.coe_add]
  rfl

theorem weighted_at (t : Fin 4096) (j : Fin 768) :
    weighted (logit q k c) (maximumf (broadcastInDim S12x4096 ![] bcast_S_S12x4096 (constant S_ .f32 0xFF800000#32)) (top (logit q k c))) v (ix2 t j)
      = ((x.att t j : ℝ) : EReal) := by
  show flat (transpose S4096x12x64 [2, 0, 1] (Host.dotGeneral (F := Ideal) (φ₁ := .f32) (φ₂ := .f32) dot_S4096x12x64_S12x4096x4096_S12x64x4096_0_2_2_1_1_0 none (heads v)
    (prob q k c)) transposes_S12x64x4096_S4096x12x64_2_0_1) (ix2 t j) = _
  rw [Cert.ReferenceIdeal.Fox.flat_at]
  pointwise [Cert.ReferenceIdeal.Fox.heads_at]
  simp only [Cert.ReferenceIdeal.Fox.prob_at H HM, Cert.ReferenceIdeal.Fox.heads_at, H.v, ← EReal.coe_mul, coe_sum]
  rw [show col (headOf j) ⟨j.val % 64, by omega⟩ = j from Fin.ext (by show 64 * (j.val / 64) + j.val % 64 = j.val; omega)]
  rfl

theorem spread_lse_at (t : Fin 4096) (j : Fin 768) : spread (logsum (logit q k c) (top (logit q k c))) (ix2 t j) = ((x.LS t j : ℝ) : EReal) := by
  rw [spread_at, logsum_at H HM]
  rfl

end Cert.KernelIdeal.Fox
-- ==== Proof.FoxPay.lean ====
module

public import Idealize.ShloMosaic.Lib.Pointwise
public import proofs.«01_k».proof.Proof.Gen.KernelIdeal.Skeleton
public import proofs.«01_k».proof.Proof.FoxReal

/-!
# The kernel's payloads over real blocks

Each value the body computes, read at an index, when the blocks it has loaded hold real numbers: the 256-lane
product, the weight, its gradient, and the three accumulations. The names `bs`, `bp`, `bdp`, `bdl`, `bds` are the
real functions of `FoxReal`.
-/

@[expose] public section

set_option maxRecDepth 16384

noncomputable section

namespace Cert.KernelIdeal.Fox

open Idealize.ShloMosaic Idealize.ShloMosaic.TcCoe Idealize.SL.Sem
open Cert.KernelIdeal Cert.KernelIdeal.Gen Cert.Fox

/-- Choosing by a word that is a decided bit. -/
theorem sel_ite {α : Type} (p : Prop) [Decidable p] (a b : α) :
    Scalar.select (if p then 1#1 else 0#1) a b = if p then a else b := by
  split <;> rfl

theorem coe_ite (p : Prop) [Decidable p] (a : ℝ) : (if p then (a : EReal) else 0) = ((if p then a else 0 : ℝ) : EReal) := by
  split <;> rfl

/-! ## Lane masks -/

theorem pay13_at (l : Fin 128) : k0_pay13 (ix2 (0 : Fin 1) l) = if l.val / 64 = 0 then 1#1 else 0#1 := by
  pointwise [k0_pay13]; revert l; decide +kernel
theorem pay14_at (l : Fin 128) : k0_pay14 (ix2 (0 : Fin 1) l) = if l.val / 64 = 0 then 1#1 else 0#1 := by
  pointwise [k0_pay14]; exact pay13_at l
theorem pay18_at (l : Fin 128) : k0_pay18 (ix2 (0 : Fin 1) l) = if l.val / 64 = 0 then 1#1 else 0#1 := by
  pointwise [k0_pay18]; revert l; decide +kernel
theorem pay37_at (l : Fin 128) : k0_pay37 k0_pay18 (ix2 (0 : Fin 1) l) = if l.val / 64 = 1 then 1#1 else 0#1 := by
  pointwise [k0_pay37, k0_pay33, k0_pay18]; revert l; decide +kernel
theorem pay33_at (l : Fin 128) : k0_pay33 k0_pay18 (ix2 (0 : Fin 1) l) = if l.val / 64 = 1 then 1#1 else 0#1 := by
  pointwise [k0_pay33, k0_pay18]; revert l; decide +kernel
theorem pay50_at (l : Fin 128) : k0_pay50 (ix2 (0 : Fin 1) l) = if l.val / 64 = 0 then 1#1 else 0#1 := by
  pointwise [k0_pay50]; revert l; decide +kernel
theorem pay51_at (l : Fin 128) : k0_pay51 (ix2 (0 : Fin 1) l) = if l.val / 64 = 0 then 1#1 else 0#1 := by
  pointwise [k0_pay51]; exact pay50_at l
theorem pay55_at (l : Fin 128) : k0_pay55 (ix2 (0 : Fin 1) l) = if l.val / 64 = 0 then 1#1 else 0#1 := by
  pointwise [k0_pay55]; revert l; decide +kernel
theorem pay69_at (l : Fin 128) :
    k0_pay69 k0_pay55 (constantI S1x128 1 1#1) (ix2 (0 : Fin 1) l) = if l.val / 64 = 1 then 1#1 else 0#1 := by
  pointwise [k0_pay69, k0_pay55]; revert l; decide +kernel

/-- The causal mask of a block: key position at most query position. -/
theorem pay19_at (j s : Fin 8) (u v : Fin 512) :
    k0_pay19 (BitVec.ofNat 32 j.val) (BitVec.ofNat 32 s.val) (ix2 u v)
      = if row j.val v ≤ row s.val u then 1#1 else 0#1 := by
  pointwise [k0_pay19]
  have hj : IntOp.addi (Scalar.muli (BitVec.ofNat 32 j.val) 512#32) (BitVec.ofNat 32 v.val) = BitVec.ofNat 32 (512 * j.val + v.val) := by
    apply BitVec.eq_of_toNat_eq
    simp [IntOp.addi, Scalar.muli, IntOp.muli, BitVec.toNat_add, BitVec.toNat_mul]; omega
  have hs : IntOp.addi (Scalar.muli (BitVec.ofNat 32 s.val) 512#32) (BitVec.ofNat 32 u.val) = BitVec.ofNat 32 (512 * s.val + u.val) := by
    apply BitVec.eq_of_toNat_eq
    simp [IntOp.addi, Scalar.muli, IntOp.muli, BitVec.toNat_add, BitVec.toNat_mul]; omega
  rw [hj, hs]
  have ej : row j.val v = (⟨512 * j.val + v.val, by omega⟩ : Fin 4096) := Fin.ext (Nat.mod_eq_of_lt (by omega))
  have es : row s.val u = (⟨512 * s.val + u.val, by omega⟩ : Fin 4096) := Fin.ext (Nat.mod_eq_of_lt (by omega))
  rw [ej, es]
  have hle : ((⟨512 * j.val + v.val, by omega⟩ : Fin 4096) ≤ ⟨512 * s.val + u.val, by omega⟩) ↔ 512 * j.val + v.val ≤ 512 * s.val + u.val := Iff.rfl
  simp only [hle]
  have a : ∀ n : ℕ, n < 4096 → (BitVec.ofNat 32 n).toInt = (n : ℤ) := by
    intro n hn
    have t : (BitVec.ofNat 32 n).toNat = n := by rw [BitVec.toNat_ofNat]; omega
    rw [BitVec.toInt_eq_toNat_of_lt (by rw [t]; omega), t]
  simp only [IntOp.cmpi, BitVec.sle, a _ (show 512 * j.val + v.val < 4096 by omega), a _ (show 512 * s.val + u.val < 4096 by omega),
    Nat.cast_le]
  by_cases h : 512 * j.val + v.val ≤ 512 * s.val + u.val
  · rw [if_pos h]; simp [h]
  · rw [if_neg h]; simp [h]

/-! ## Blocks side by side, halves of lanes -/

section
variable (q qa k ka : FVec Ideal S512x128 .bf16) (rq rqa : Fin 512 → Fin 128 → ℝ)

/-- Two blocks side by side. -/
def cat (f g : Fin 512 → Fin 128 → ℝ) (u : Fin 512) (l : Fin 256) : ℝ :=
  if h : l.val < 128 then f u ⟨l.val, h⟩ else g u ⟨l.val - 128, by omega⟩

theorem pay9_at (hq : ∀ u l, q (ix2 u l) = ((rq u l : ℝ) : EReal)) (hqa : ∀ u l, qa (ix2 u l) = ((rqa u l : ℝ) : EReal))
    (u : Fin 512) (l : Fin 256) : k0_pay9 (F := Ideal) q qa (ix2 u l) = ((cat rq rqa u l : ℝ) : EReal) := by
  pointwise [k0_pay9]; unfold cat
  by_cases h : l.val < 128
  · simp only [dif_pos h]; exact hq _ _
  · simp only [dif_neg h]; exact hqa _ _

theorem pay10_at (hq : ∀ u l, q (ix2 u l) = ((rq u l : ℝ) : EReal)) (hqa : ∀ u l, qa (ix2 u l) = ((rqa u l : ℝ) : EReal))
    (u : Fin 512) (l : Fin 256) : k0_pay10 (F := Ideal) q qa (ix2 u l) = ((cat rq rqa u l : ℝ) : EReal) := by
  pointwise [k0_pay10, k0_pay7]; unfold cat
  by_cases h : l.val < 128
  · simp only [dif_pos h]; exact hq _ _
  · simp only [dif_neg h]; exact hqa _ _

theorem pay46_at (hq : ∀ u l, q (ix2 u l) = ((rq u l : ℝ) : EReal)) (hqa : ∀ u l, qa (ix2 u l) = ((rqa u l : ℝ) : EReal))
    (u : Fin 512) (l : Fin 256) : k0_pay46 (F := Ideal) q qa (ix2 u l) = ((cat rq rqa u l : ℝ) : EReal) := by
  pointwise [k0_pay46]; unfold cat
  by_cases h : l.val < 128
  · simp only [dif_pos h]; exact hq _ _
  · simp only [dif_neg h]; exact hqa _ _

theorem pay47_at (hq : ∀ u l, q (ix2 u l) = ((rq u l : ℝ) : EReal)) (hqa : ∀ u l, qa (ix2 u l) = ((rqa u l : ℝ) : EReal))
    (u : Fin 512) (l : Fin 256) : k0_pay47 (F := Ideal) q qa (ix2 u l) = ((cat rq rqa u l : ℝ) : EReal) := by
  pointwise [k0_pay47, k0_pay44]; unfold cat
  by_cases h : l.val < 128
  · simp only [dif_pos h]; exact hq _ _
  · simp only [dif_neg h]; exact hqa _ _
end

/-- The word that says whether a lane of 256 lies in the first half of its 128. -/
theorem word0 : ∀ l : Fin 256, (if l.val % 128 / 64 = 0 then 1#1 else 0#1) =
      (IntOp.cmpi CmpIPredicate.slt
        (Scalar.select
          (IntOp.andi
            (IntOp.xori
              (IntOp.cmpi CmpIPredicate.slt
                (IntOp.remsi ArithUnit.vector (BitVec.ofNat 32 ↑l)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 ↑l)
                (Scalar.select (Scalar.cmpi CmpIPredicate.eq 128#32 0#32) 1#32 128#32))
              0#32))
          (IntOp.addi
            (IntOp.remsi ArithUnit.vector (BitVec.ofNat 32 ↑l)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 ↑l)
            (Scalar.select (Scalar.cmpi CmpIPredicate.eq 128#32 0#32) 1#32 128#32)))
        64#32) := by decide +kernel

section
variable (x y : FVec Ideal S512x256 .bf16) (qc kc : Fin 512 → Fin 256 → ℝ)
  (hx : ∀ u l, x (ix2 u l) = ((qc u l : ℝ) : EReal)) (hy : ∀ u l, y (ix2 u l) = ((kc u l : ℝ) : EReal))
include hx

/-- Lanes of half `hh`, the others zero. -/
def keep (f : Fin 512 → Fin 256 → ℝ) (hh : ℕ) (u : Fin 512) (l : Fin 256) : ℝ := if l.val % 128 / 64 = hh then f u l else 0

theorem pay23_at (u : Fin 512) (l : Fin 256) : k0_pay23 (F := Ideal) x (ix2 u l) = ((keep qc 0 u l : ℝ) : EReal) := by
  pointwise [k0_pay23, hx]; rw [← word0 l, sel_ite, coe_ite]; rfl

theorem pay34_at (u : Fin 512) (l : Fin 256) : k0_pay34 (F := Ideal) x (ix2 u l) = ((keep qc 1 u l : ℝ) : EReal) := by
  pointwise [k0_pay34, hx]; rw [← word0 l]; unfold keep
  have : l.val % 128 / 64 < 2 := by omega
  by_cases h : l.val % 128 / 64 = 0
  · rw [if_pos h, if_neg (by omega)]; rfl
  · rw [if_neg h, if_pos (by omega)]; rfl

theorem pay70_at (u : Fin 512) (l : Fin 256) : k0_pay70 (F := Ideal) x (ix2 u l) = ((keep qc 1 u l : ℝ) : EReal) := by
  pointwise [k0_pay70, hx]; rw [← word0 l]; unfold keep
  have : l.val % 128 / 64 < 2 := by omega
  by_cases h : l.val % 128 / 64 = 0
  · rw [if_pos h, if_neg (by omega)]; rfl
  · rw [if_neg h, if_pos (by omega)]; rfl

theorem pay61_at (u : Fin 512) (l : Fin 256) :
    k0_pay61 (F := Ideal) x (Scalar.select (Scalar.cmpi .eq 128#32 0#32) 1#32 128#32) k0_pay59 k0_pay60 (ix2 u l)
      = ((keep qc 0 u l : ℝ) : EReal) := by
  pointwise [k0_pay61, k0_pay59, k0_pay60, hx]; rw [← word0 l, sel_ite, coe_ite]; rfl
end

/-! ## The weight, its gradient and the three contributions -/

theorem mask_bot : (Named.named Cert.KernelIdeal.κ "mask" (0xF149F2CA#32 : BitVec (FTy.bits .f32)) : Ideal .f32) = (⊥ : EReal) := rfl

theorem exp_masked (p : Prop) [Decidable p] (a b : ℝ) :
    Ideal.exp (Scalar.select (if p then 1#1 else 0#1) (a : EReal) (⊥ : EReal) - (b : EReal))
      = ((if p then Real.exp (a - b) else 0 : ℝ) : EReal) := by
  by_cases h : p
  · simp only [if_pos h]
    show Ideal.exp ((a : EReal) - b) = _
    rw [← EReal.coe_sub, Ideal.exp_coe]
  · simp only [if_neg h]
    show Ideal.exp ((⊥ : EReal) - b) = _
    rw [EReal.bot_sub]; simp

section
variable (x y : FVec Ideal S512x256 .bf16) (z : FVec Ideal S512x128 .f32) (vb db : FVec Ideal S512x128 .bf16)
  (qc kc : Fin 512 → Fin 256 → ℝ) (ls dd oo vv kk : Fin 512 → Fin 128 → ℝ)
  (hx : ∀ u l, x (ix2 u l) = ((qc u l : ℝ) : EReal)) (hy : ∀ u l, y (ix2 u l) = ((kc u l : ℝ) : EReal))
  (hz : ∀ u l, z (ix2 u l) = ((ls u l : ℝ) : EReal)) (hv : ∀ u l, vb (ix2 u l) = ((vv u l : ℝ) : EReal))
  (hd : ∀ u l, db (ix2 u l) = ((dd u l : ℝ) : EReal))

include hx hy in
theorem logit0 (u v : Fin 512) : (∑ l : Fin 256, k0_pay23 (F := Ideal) x (ix2 u l) * y (ix2 v l)) = ((bs qc kc 0 u v : ℝ) : EReal) := by
  simp only [pay23_at x qc hx, hy, ← EReal.coe_mul, coe_sum]; rfl
include hx hy in
theorem logit1 (u v : Fin 512) : (∑ l : Fin 256, k0_pay34 (F := Ideal) x (ix2 u l) * y (ix2 v l)) = ((bs qc kc 1 u v : ℝ) : EReal) := by
  simp only [pay34_at x qc hx, hy, ← EReal.coe_mul, coe_sum]; rfl

section masked
variable (w : IVec S512x512 1) (le : Fin 512 → Fin 512 → Prop) [∀ v u, Decidable (le v u)]
  (hw : ∀ u v, w (ix2 u v) = if le v u then 1#1 else 0#1)
include hx hy hz hw

theorem pay24_at (u v : Fin 512) : k0_pay24 (F := Ideal) x y z w (ix2 u v) = ((bp qc kc ls le 0 u v : ℝ) : EReal) := by
  pointwise [k0_pay24]
  rw [logit0 x y qc kc hx hy, mask_bot, hw, hz, exp_masked]; rfl
theorem pay35_at (u v : Fin 512) : k0_pay35 (F := Ideal) x y z w (ix2 u v) = ((bp qc kc ls le 1 u v : ℝ) : EReal) := by
  pointwise [k0_pay35]
  rw [logit1 x y qc kc hx hy, mask_bot, hw, hz, exp_masked]; rfl
end masked

/-- The lanes of half `hh` of a 128-lane block. -/
def keep' (f : Fin 512 → Fin 128 → ℝ) (hh : ℕ) (u : Fin 512) (l : Fin 128) : ℝ := if l.val / 64 = hh then f u l else 0

include hd in
theorem pay25_at (u : Fin 512) (l : Fin 128) : k0_pay25 (F := Ideal) db k0_pay18 (ix2 u l) = ((keep' dd 0 u l : ℝ) : EReal) := by
  pointwise [k0_pay25, hd]; rw [pay18_at, sel_ite, coe_ite]; rfl
include hd in
theorem pay38_at (u : Fin 512) (l : Fin 128) :
    k0_pay38 (F := Ideal) db (k0_pay36 (F := Ideal)) (k0_pay37 k0_pay18) (ix2 u l) = ((keep' dd 1 u l : ℝ) : EReal) := by
  pointwise [k0_pay38, k0_pay36, hd]; rw [pay37_at, sel_ite, coe_ite]; rfl

section delta
variable (pr : FVec Ideal S512x128 .f32) (hp : ∀ u l, pr (ix2 u l) = ((dd u l * oo u l : ℝ) : EReal))
include hp
theorem pay15_at (u : Fin 512) :
    k0_pay15 (F := Ideal) pr (Scalar.ofBits .f32 0x00000000#32) k0_pay14 (ix2 u (0 : Fin 1)) = ((bdl dd oo 0 u : ℝ) : EReal) := by
  pointwise [k0_pay15, hp]
  simp only [pay14_at, sel_ite, coe_ite, coe_sum]; rfl
theorem pay16_at (u : Fin 512) : k0_pay16 (F := Ideal) pr k0_pay13 (ix2 u (0 : Fin 1)) = ((bdl dd oo 1 u : ℝ) : EReal) := by
  pointwise [k0_pay16, hp]
  have e : ∀ l : Fin 128, (if l.val / 64 = 0 then (0 : EReal) else ((dd u l * oo u l : ℝ) : EReal))
      = ((if l.val / 64 = 1 then dd u l * oo u l else 0 : ℝ) : EReal) := by
    intro l
    by_cases h : l.val / 64 = 0
    · rw [if_pos h, if_neg (by omega)]; rfl
    · rw [if_neg h, if_pos (by omega)]
  simp only [pay13_at, sel_ite, e, coe_sum]; rfl
end delta

section whole
variable (b0 b1 b2 b6 b7 : FVec Ideal S512x128 .bf16) (b3 b4 b5 : FVec Ideal S512x128 .f32)
  (rq rk rv rd ro rl rqa rka : Fin 512 → Fin 128 → ℝ)

/-- The eight blocks of a grid point hold real numbers. -/
structure Reals : Prop where
  q : ∀ u l, b0 (ix2 u l) = ((rq u l : ℝ) : EReal)
  k : ∀ u l, b1 (ix2 u l) = ((rk u l : ℝ) : EReal)
  v : ∀ u l, b2 (ix2 u l) = ((rv u l : ℝ) : EReal)
  d : ∀ u l, b3 (ix2 u l) = ((rd u l : ℝ) : EReal)
  o : ∀ u l, b4 (ix2 u l) = ((ro u l : ℝ) : EReal)
  l : ∀ u l, b5 (ix2 u l) = ((rl u l : ℝ) : EReal)
  qa : ∀ u l, b6 (ix2 u l) = ((rqa u l : ℝ) : EReal)
  ka : ∀ u l, b7 (ix2 u l) = ((rka u l : ℝ) : EReal)

variable (h : Reals b0 b1 b2 b6 b7 b3 b4 b5 rq rk rv rd ro rl rqa rka)
variable (a s : BitVec 32) (le : Fin 512 → Fin 512 → Prop) [∀ v u, Decidable (le v u)]

/-- The logit gradient of half `hh` over the blocks' real numbers. -/
abbrev gds (hh : Fin 2) (u v : Fin 512) : ℝ := bds (cat rq rqa) (cat rk rka) rl rd ro rv le hh u v
/-- The weight of half `hh` over the blocks' real numbers. -/
abbrev gp (hh : Fin 2) (u v : Fin 512) : ℝ := bp (cat rq rqa) (cat rk rka) rl le hh u v

/-- The weights of the first half, as the masked branch computes them. -/
abbrev P0 := k0_pay24 (F := Ideal) (k0_pay9 b0 b6) (k0_pay10 b1 b7) (k0_pay17 b5) (k0_pay19 a s)
/-- The weights of the second half. -/
abbrev P1 := k0_pay35 (F := Ideal) (k0_pay9 b0 b6) (k0_pay10 b1 b7) (k0_pay17 b5) (k0_pay19 a s)
/-- The correction of the first half. -/
abbrev D0 := k0_pay15 (F := Ideal) (k0_pay12 b3 b4) (Scalar.ofBits .f32 0x00000000#32) k0_pay14
/-- The correction of the second half. -/
abbrev D1 := k0_pay16 (F := Ideal) (k0_pay12 b3 b4) k0_pay13
/-- The logit gradients of the first half. -/
abbrev S0 := k0_pay26 (F := Ideal) (k0_pay8 b2) (k0_pay9 b0 b6) (k0_pay10 b1 b7) (k0_pay11 b3) (D0 b3 b4) (k0_pay17 b5) k0_pay18 (k0_pay19 a s)
/-- The logit gradients of the second half. -/
abbrev S1 := k0_pay39 (F := Ideal) (k0_pay8 b2) (k0_pay11 b3) (D1 b3 b4) (P1 b0 b1 b6 b7 b5 a s) (k0_pay36 (F := Ideal)) (k0_pay37 k0_pay18)

variable {b0 b1 b2 b6 b7 b3 b4 b5 rq rk rv rd ro rl rqa rka} {a s} {le}
include h
theorem pay12_at (u : Fin 512) (l : Fin 128) : k0_pay12 (F := Ideal) b3 b4 (ix2 u l) = ((rd u l * ro u l : ℝ) : EReal) := by
  pointwise [k0_pay12, k0_pay11]; rw [h.d, h.o, EReal.coe_mul]
theorem cq_at (u : Fin 512) (l : Fin 256) : k0_pay9 (F := Ideal) b0 b6 (ix2 u l) = ((cat rq rqa u l : ℝ) : EReal) :=
  pay9_at b0 b6 rq rqa h.q h.qa u l
theorem ck_at (u : Fin 512) (l : Fin 256) : k0_pay10 (F := Ideal) b1 b7 (ix2 u l) = ((cat rk rka u l : ℝ) : EReal) :=
  pay10_at b1 b7 rk rka h.k h.ka u l
theorem p17_at (u : Fin 512) (l : Fin 128) : k0_pay17 (F := Ideal) b5 (ix2 u l) = ((rl u l : ℝ) : EReal) := by
  pointwise [k0_pay17]; exact h.l u l
theorem p11_at (u : Fin 512) (l : Fin 128) : k0_pay11 (F := Ideal) b3 (ix2 u l) = ((rd u l : ℝ) : EReal) := by
  pointwise [k0_pay11]; exact h.d u l
theorem p8_at (u : Fin 512) (l : Fin 128) : k0_pay8 (F := Ideal) b2 (ix2 u l) = ((rv u l : ℝ) : EReal) := by
  pointwise [k0_pay8]; exact h.v u l
theorem p7_at (u : Fin 512) (l : Fin 128) : k0_pay7 (F := Ideal) b1 (ix2 u l) = ((rk u l : ℝ) : EReal) := by
  pointwise [k0_pay7]; exact h.k u l

variable (hw : ∀ u v, k0_pay19 a s (ix2 u v) = if le v u then 1#1 else 0#1)
include hw

theorem P0_at (u v : Fin 512) : P0 b0 b1 b6 b7 b5 a s (ix2 u v) = ((gp rq rk rl rqa rka le 0 u v : ℝ) : EReal) :=
  pay24_at _ _ _ _ _ _ (cq_at h) (ck_at h) (p17_at h) _ le hw u v
theorem P1_at (u v : Fin 512) : P1 b0 b1 b6 b7 b5 a s (ix2 u v) = ((gp rq rk rl rqa rka le 1 u v : ℝ) : EReal) :=
  pay35_at _ _ _ _ _ _ (cq_at h) (ck_at h) (p17_at h) _ le hw u v

theorem S0_at (u v : Fin 512) : S0 b0 b1 b2 b6 b7 b3 b4 b5 a s (ix2 u v) = ((gds rq rk rv rd ro rl rqa rka le 0 u v : ℝ) : EReal) := by
  have e1 := P0_at h hw u v
  have e2 : D0 b3 b4 (ix2 u (0 : Fin 1)) = _ := pay15_at rd ro (k0_pay12 b3 b4) (pay12_at h) u
  unfold P0 at e1
  unfold S0; generalize D0 b3 b4 = z at e2 ⊢; pointwise [k0_pay26]
  rw [e1, e2]
  simp only [pay25_at _ _ (p11_at h), p8_at h, ← EReal.coe_mul, coe_sum, ← EReal.coe_sub]
  rfl
theorem S1_at (u v : Fin 512) : S1 b0 b1 b2 b6 b7 b3 b4 b5 a s (ix2 u v) = ((gds rq rk rv rd ro rl rqa rka le 1 u v : ℝ) : EReal) := by
  have e1 := P1_at h hw u v
  have e2 := pay16_at rd ro (k0_pay12 b3 b4) (pay12_at h) u
  unfold S1 D1; pointwise [k0_pay39]
  rw [e1, e2]
  simp only [pay38_at _ _ (p11_at h), p8_at h, ← EReal.coe_mul, coe_sum, ← EReal.coe_sub]
  rfl

/-- The accumulator of the keys' gradients after a masked block. -/
abbrev dkM (b0 b1 b2 b6 b7 : FVec Ideal S512x128 .bf16) (b3 b4 b5 : FVec Ideal S512x128 .f32) (a s : BitVec 32) (acc : FVec Ideal S512x256 .f32) :=
  k0_pay41 (F := Ideal) (k0_pay8 b2) (k0_pay11 b3) (D1 b3 b4)
    (k0_pay31 (k0_pay23 (k0_pay9 b0 b6)) (S0 b0 b1 b2 b6 b7 b3 b4 b5 a s)
      (k0_pay29 (k0_pay8 b2) (k0_pay9 b0 b6) (k0_pay10 b1 b7) (k0_pay11 b3) (D0 b3 b4) (k0_pay17 b5) k0_pay18 (k0_pay19 a s) (k0_pay20 (F := Ideal)))
      (k0_pay30 (k0_pay8 b2) (k0_pay9 b0 b6) (k0_pay10 b1 b7) (k0_pay11 b3) (D0 b3 b4) (k0_pay17 b5) k0_pay18 (k0_pay19 a s)))
    (k0_pay34 (k0_pay9 b0 b6)) (P1 b0 b1 b6 b7 b5 a s) (k0_pay36 (F := Ideal)) (k0_pay37 k0_pay18) acc
/-- The accumulator of the values' gradients after a masked block. -/
abbrev dvM (b0 b1 b2 b6 b7 : FVec Ideal S512x128 .bf16) (b3 b4 b5 : FVec Ideal S512x128 .f32) (a s : BitVec 32) (acc : FVec Ideal S512x128 .f32) :=
  k0_pay42 (F := Ideal) (k0_pay11 b3)
    (k0_pay28 (k0_pay9 b0 b6) (k0_pay10 b1 b7) (k0_pay11 b3) (k0_pay17 b5) k0_pay18 (k0_pay19 a s) (k0_pay21 (F := Ideal)))
    (P1 b0 b1 b6 b7 b5 a s) (k0_pay36 (F := Ideal)) (k0_pay37 k0_pay18) acc
/-- The rows of the queries' gradients after a masked block. -/
abbrev dqM (b0 b1 b2 b6 b7 : FVec Ideal S512x128 .bf16) (b3 b4 b5 : FVec Ideal S512x128 .f32) (a s : BitVec 32) (acc : FVec Ideal S512x128 .f32) :=
  k0_pay43 (F := Ideal) (k0_pay7 b1) (k0_pay8 b2) (k0_pay11 b3) (D1 b3 b4)
    (k0_pay32 (k0_pay7 b1) k0_pay18 (k0_pay22 (Scalar.ofBits .f32 0x00000000#32))
      (k0_pay27 (k0_pay8 b2) (k0_pay9 b0 b6) (k0_pay10 b1 b7) (k0_pay11 b3) (D0 b3 b4) (k0_pay17 b5) k0_pay18 (k0_pay19 a s)))
    (k0_pay33 k0_pay18) (P1 b0 b1 b6 b7 b5 a s) (k0_pay36 (F := Ideal)) (k0_pay37 k0_pay18) acc

/-- What a block adds to the keys' gradients. -/
def addK (rq rk rv rd ro rl rqa rka : Fin 512 → Fin 128 → ℝ) (le : Fin 512 → Fin 512 → Prop) [∀ v u, Decidable (le v u)]
    (v : Fin 512) (l : Fin 256) : ℝ :=
  ∑ u : Fin 512, (gds rq rk rv rd ro rl rqa rka le 0 u v * keep (cat rq rqa) 0 u l + gds rq rk rv rd ro rl rqa rka le 1 u v * keep (cat rq rqa) 1 u l)
/-- What a block adds to the values' gradients. -/
def addV (rq rk rd rl rqa rka : Fin 512 → Fin 128 → ℝ) (le : Fin 512 → Fin 512 → Prop) [∀ v u, Decidable (le v u)]
    (v : Fin 512) (l : Fin 128) : ℝ :=
  ∑ u : Fin 512, (gp rq rk rl rqa rka le 0 u v * keep' rd 0 u l + gp rq rk rl rqa rka le 1 u v * keep' rd 1 u l)
/-- What a block adds to the queries' gradients. -/
def addQ (rq rk rv rd ro rl rqa rka : Fin 512 → Fin 128 → ℝ) (le : Fin 512 → Fin 512 → Prop) [∀ v u, Decidable (le v u)]
    (u : Fin 512) (l : Fin 128) : ℝ :=
  ∑ v : Fin 512, (gds rq rk rv rd ro rl rqa rka le 0 u v * keep' rk 0 v l + gds rq rk rv rd ro rl rqa rka le 1 u v * keep' rk 1 v l)

theorem dkM_at (acc : FVec Ideal S512x256 .f32) (v : Fin 512) (l : Fin 256) :
    dkM b0 b1 b2 b6 b7 b3 b4 b5 a s acc (ix2 v l) = acc (ix2 v l) + ((addK rq rk rv rd ro rl rqa rka le v l : ℝ) : EReal) := by
  have e0 := S0_at h hw
  have e1 := S1_at h hw
  unfold dkM; pointwise [k0_pay41, k0_pay31, k0_pay29, k0_pay30, k0_pay20, k0_pay40, k0_pay27]
  simp only [e0, e1, pay23_at _ _ (cq_at h), pay34_at _ _ (cq_at h), ← EReal.coe_mul, ← EReal.coe_sub, sub_self, zero_mul,
    coe_sum, Finset.sum_const_zero, ← EReal.coe_add]
  rw [addK, Finset.sum_add_distrib, add_zero, add_zero]
theorem dvM_at (acc : FVec Ideal S512x128 .f32) (v : Fin 512) (l : Fin 128) :
    dvM b0 b1 b2 b6 b7 b3 b4 b5 a s acc (ix2 v l) = acc (ix2 v l) + ((addV rq rk rd rl rqa rka le v l : ℝ) : EReal) := by
  have e0 := P0_at h hw
  have e1 := P1_at h hw
  unfold dvM; pointwise [k0_pay42, k0_pay28, k0_pay21]
  simp only [e0, e1, pay25_at _ _ (p11_at h), pay38_at _ _ (p11_at h), ← EReal.coe_mul, ← EReal.coe_sub, sub_self, zero_mul,
    coe_sum, Finset.sum_const_zero, ← EReal.coe_add]
  rw [addV, Finset.sum_add_distrib]
theorem dqM_at (acc : FVec Ideal S512x128 .f32) (u : Fin 512) (l : Fin 128) :
    dqM b0 b1 b2 b6 b7 b3 b4 b5 a s acc (ix2 u l) = acc (ix2 u l) + ((addQ rq rk rv rd ro rl rqa rka le u l : ℝ) : EReal) := by
  have e0 := S0_at h hw
  have e1 := S1_at h hw
  unfold dqM; pointwise [k0_pay43, k0_pay32, k0_pay22, k0_pay40, k0_pay27]
  simp only [e0, e1, pay18_at, pay33_at, sel_ite, p7_at h, coe_ite, ← EReal.coe_mul, ← EReal.coe_sub, sub_self, zero_mul,
    coe_sum, Finset.sum_const_zero, ← EReal.coe_add]
  rw [addQ, Finset.sum_add_distrib]
  refine congrArg (fun z : ℝ => acc (ix2 u l) + (z : EReal)) (congrArg₂ (· + ·) (Finset.sum_congr rfl fun i _ => ?_) (Finset.sum_congr rfl fun i _ => ?_))
  · unfold keep'; rw [mul_ite, mul_zero]
  · unfold keep'; rw [mul_ite, mul_zero]
end whole

/-! ## The same blocks below the diagonal, where the body leaves the mask out -/

section whole'
/-- The word the lanes are divided by. -/
abbrev W : BitVec 32 := Scalar.select (Scalar.cmpi .eq 128#32 0#32) 1#32 128#32
/-- A row of ones. -/
abbrev C1 : IVec S1x128 1 := constantI S1x128 1 1#1
variable (b0 b1 b2 b6 b7 : FVec Ideal S512x128 .bf16) (b3 b4 b5 : FVec Ideal S512x128 .f32)
  (rq rk rv rd ro rl rqa rka : Fin 512 → Fin 128 → ℝ)

/-- The weights of the first half. -/
abbrev P0' := k0_pay62 (F := Ideal) (k0_pay46 b0 b6) (k0_pay47 b1 b7) (k0_pay54 b5) W k0_pay59 k0_pay60
/-- The weights of the second half. -/
abbrev P1' := k0_pay71 (F := Ideal) (k0_pay46 b0 b6) (k0_pay47 b1 b7) (k0_pay54 b5)
/-- The correction of the first half. -/
abbrev D0' := k0_pay52 (F := Ideal) (k0_pay49 b3 b4) (Scalar.ofBits .f32 0x00000000#32) k0_pay51
/-- The correction of the second half. -/
abbrev D1' := k0_pay53 (F := Ideal) (k0_pay49 b3 b4) k0_pay50
/-- The logit gradients of the first half. -/
abbrev S0' := k0_pay64 (F := Ideal) (k0_pay45 b2) (k0_pay46 b0 b6) (k0_pay47 b1 b7) (k0_pay48 b3) (D0' b3 b4) (k0_pay54 b5) k0_pay55 W k0_pay59 k0_pay60
/-- The logit gradients of the second half. -/
abbrev S1' := k0_pay73 (F := Ideal) (k0_pay45 b2) (k0_pay46 b0 b6) (k0_pay47 b1 b7) (k0_pay48 b3) (D1' b3 b4) (k0_pay54 b5) k0_pay55 C1

/-- The accumulator of the keys' gradients after an unmasked block. -/
abbrev dkU (acc : FVec Ideal S512x256 .f32) :=
  k0_pay4 (F := Ideal) (k0_pay70 (k0_pay46 b0 b6))
    (k0_pay76 (k0_pay45 b2) (k0_pay46 b0 b6) (k0_pay47 b1 b7) (k0_pay48 b3) (D1' b3 b4) (k0_pay54 b5) k0_pay55
      (k0_pay67 (k0_pay45 b2) (k0_pay46 b0 b6) (k0_pay47 b1 b7) (k0_pay48 b3) (D0' b3 b4) (k0_pay54 b5) k0_pay55 (k0_pay56 (F := Ideal)) W k0_pay59 k0_pay60) C1)
    (k0_pay77 (k0_pay45 b2) (k0_pay46 b0 b6) (k0_pay47 b1 b7) (k0_pay48 b3) (D1' b3 b4) (k0_pay54 b5) k0_pay55 C1) acc
/-- The accumulator of the values' gradients after an unmasked block. -/
abbrev dvU (acc : FVec Ideal S512x128 .f32) :=
  k0_pay5 (F := Ideal) (k0_pay75 (k0_pay46 b0 b6) (k0_pay47 b1 b7) (k0_pay48 b3) (k0_pay54 b5) k0_pay55
    (k0_pay66 (k0_pay46 b0 b6) (k0_pay47 b1 b7) (k0_pay48 b3) (k0_pay54 b5) k0_pay55 (k0_pay57 (F := Ideal)) W k0_pay59 k0_pay60) C1) acc
/-- The rows of the queries' gradients after an unmasked block. -/
abbrev dqU (acc : FVec Ideal S512x128 .f32) :=
  k0_pay6 (F := Ideal) (k0_pay44 b1)
    (k0_pay68 (k0_pay44 b1) (k0_pay45 b2) (k0_pay46 b0 b6) (k0_pay47 b1 b7) (k0_pay48 b3) (D0' b3 b4) (k0_pay54 b5) k0_pay55 (k0_pay58 (F := Ideal)) W k0_pay59 k0_pay60)
    (k0_pay69 k0_pay55 C1)
    (k0_pay74 (k0_pay45 b2) (k0_pay46 b0 b6) (k0_pay47 b1 b7) (k0_pay48 b3) (D1' b3 b4) (k0_pay54 b5) k0_pay55 C1) acc

variable (h : Reals b0 b1 b2 b6 b7 b3 b4 b5 rq rk rv rd ro rl rqa rka)
variable (le : Fin 512 → Fin 512 → Prop) [∀ v u, Decidable (le v u)] (hle : ∀ v u, le v u)
variable {b0 b1 b2 b6 b7 b3 b4 b5 rq rk rv rd ro rl rqa rka} {le}
include h

theorem pay49_at (u : Fin 512) (l : Fin 128) : k0_pay49 (F := Ideal) b3 b4 (ix2 u l) = ((rd u l * ro u l : ℝ) : EReal) := by
  pointwise [k0_pay49, k0_pay48]; rw [h.d, h.o, EReal.coe_mul]
theorem cq'_at (u : Fin 512) (l : Fin 256) : k0_pay46 (F := Ideal) b0 b6 (ix2 u l) = ((cat rq rqa u l : ℝ) : EReal) :=
  pay46_at b0 b6 rq rqa h.q h.qa u l
theorem ck'_at (u : Fin 512) (l : Fin 256) : k0_pay47 (F := Ideal) b1 b7 (ix2 u l) = ((cat rk rka u l : ℝ) : EReal) :=
  pay47_at b1 b7 rk rka h.k h.ka u l
theorem p54_at (u : Fin 512) (l : Fin 128) : k0_pay54 (F := Ideal) b5 (ix2 u l) = ((rl u l : ℝ) : EReal) := by
  pointwise [k0_pay54]; exact h.l u l
theorem p48_at (u : Fin 512) (l : Fin 128) : k0_pay48 (F := Ideal) b3 (ix2 u l) = ((rd u l : ℝ) : EReal) := by
  pointwise [k0_pay48]; exact h.d u l
theorem p45_at (u : Fin 512) (l : Fin 128) : k0_pay45 (F := Ideal) b2 (ix2 u l) = ((rv u l : ℝ) : EReal) := by
  pointwise [k0_pay45]; exact h.v u l
theorem p44_at (u : Fin 512) (l : Fin 128) : k0_pay44 (F := Ideal) b1 (ix2 u l) = ((rk u l : ℝ) : EReal) := by
  pointwise [k0_pay44]; exact h.k u l
theorem p63_at (u : Fin 512) (l : Fin 128) : k0_pay63 (F := Ideal) (k0_pay48 b3) k0_pay55 (ix2 u l) = ((keep' rd 0 u l : ℝ) : EReal) := by
  pointwise [k0_pay63, p48_at h]; rw [pay55_at, sel_ite, coe_ite]; rfl
theorem p72_at (u : Fin 512) (l : Fin 128) : k0_pay72 (F := Ideal) (k0_pay48 b3) k0_pay55 C1 (ix2 u l) = ((keep' rd 1 u l : ℝ) : EReal) := by
  pointwise [k0_pay72, p48_at h]; rw [pay69_at, sel_ite, coe_ite]; rfl
theorem p52_at (u : Fin 512) : D0' b3 b4 (ix2 u (0 : Fin 1)) = ((bdl rd ro 0 u : ℝ) : EReal) := by
  unfold D0'; pointwise [k0_pay52, pay49_at h]
  simp only [pay51_at, sel_ite, coe_ite, coe_sum]; rfl
theorem p53_at (u : Fin 512) : D1' b3 b4 (ix2 u (0 : Fin 1)) = ((bdl rd ro 1 u : ℝ) : EReal) := by
  unfold D1'; pointwise [k0_pay53, pay49_at h]
  have e : ∀ l : Fin 128, (if l.val / 64 = 0 then (0 : EReal) else ((rd u l * ro u l : ℝ) : EReal))
      = ((if l.val / 64 = 1 then rd u l * ro u l else 0 : ℝ) : EReal) := by
    intro l
    by_cases h : l.val / 64 = 0
    · rw [if_pos h, if_neg (by omega)]; rfl
    · rw [if_neg h, if_pos (by omega)]
  simp only [pay50_at, sel_ite, e, coe_sum]; rfl

include hle
theorem P0'_at (u v : Fin 512) : P0' b0 b1 b6 b7 b5 (ix2 u v) = ((gp rq rk rl rqa rka le 0 u v : ℝ) : EReal) := by
  unfold P0'; pointwise [k0_pay62]
  simp only [pay61_at _ _ (cq'_at h), ck'_at h, p54_at h, ← EReal.coe_mul, coe_sum, ← EReal.coe_sub, Ideal.exp_coe]
  unfold gp bp; rw [if_pos (hle v u)]; rfl
theorem P1'_at (u v : Fin 512) : P1' b0 b1 b6 b7 b5 (ix2 u v) = ((gp rq rk rl rqa rka le 1 u v : ℝ) : EReal) := by
  unfold P1'; pointwise [k0_pay71]
  simp only [pay70_at _ _ (cq'_at h), ck'_at h, p54_at h, ← EReal.coe_mul, coe_sum, ← EReal.coe_sub, Ideal.exp_coe]
  unfold gp bp; rw [if_pos (hle v u)]; rfl
theorem S0'_at (u v : Fin 512) : S0' b0 b1 b2 b6 b7 b3 b4 b5 (ix2 u v) = ((gds rq rk rv rd ro rl rqa rka le 0 u v : ℝ) : EReal) := by
  have e1 := P0'_at h hle u v
  have e2 := p52_at h u
  unfold P0' at e1
  unfold S0'; generalize D0' b3 b4 = z at e2 ⊢; pointwise [k0_pay64]
  rw [e1, e2]
  simp only [p63_at h, p45_at h, ← EReal.coe_mul, coe_sum, ← EReal.coe_sub]
  rfl
theorem S1'_at (u v : Fin 512) : S1' b0 b1 b2 b6 b7 b3 b4 b5 (ix2 u v) = ((gds rq rk rv rd ro rl rqa rka le 1 u v : ℝ) : EReal) := by
  have e1 := P1'_at h hle u v
  have e2 := p53_at h u
  unfold P1' at e1; unfold D1' at e2
  unfold S1' D1'; pointwise [k0_pay73]
  rw [e1, e2]
  simp only [p72_at h, p45_at h, ← EReal.coe_mul, coe_sum, ← EReal.coe_sub]
  rfl

theorem dkU_at (acc : FVec Ideal S512x256 .f32) (v : Fin 512) (l : Fin 256) :
    dkU b0 b1 b2 b6 b7 b3 b4 b5 acc (ix2 v l) = acc (ix2 v l) + ((addK rq rk rv rd ro rl rqa rka le v l : ℝ) : EReal) := by
  have e0 := S0'_at h hle
  have e1 := S1'_at h hle
  unfold dkU; pointwise [k0_pay4, k0_pay76, k0_pay67, k0_pay77, k0_pay56, k0_pay74, k0_pay65]
  simp only [e0, e1, pay61_at _ _ (cq'_at h), pay70_at _ _ (cq'_at h), ← EReal.coe_mul, ← EReal.coe_sub, sub_self, zero_mul,
    coe_sum, Finset.sum_const_zero, ← EReal.coe_add]
  rw [addK, Finset.sum_add_distrib, add_zero, add_zero]
theorem dvU_at (acc : FVec Ideal S512x128 .f32) (v : Fin 512) (l : Fin 128) :
    dvU b0 b1 b6 b7 b3 b5 acc (ix2 v l) = acc (ix2 v l) + ((addV rq rk rd rl rqa rka le v l : ℝ) : EReal) := by
  have e0 := P0'_at h hle
  have e1 := P1'_at h hle
  unfold dvU; pointwise [k0_pay5, k0_pay75, k0_pay66, k0_pay57]
  simp only [e0, e1, p63_at h, p72_at h, ← EReal.coe_mul, ← EReal.coe_sub, sub_self, zero_mul,
    coe_sum, Finset.sum_const_zero, ← EReal.coe_add]
  rw [addV, Finset.sum_add_distrib]
theorem dqU_at (acc : FVec Ideal S512x128 .f32) (u : Fin 512) (l : Fin 128) :
    dqU b0 b1 b2 b6 b7 b3 b4 b5 acc (ix2 u l) = acc (ix2 u l) + ((addQ rq rk rv rd ro rl rqa rka le u l : ℝ) : EReal) := by
  have e0 := S0'_at h hle
  have e1 := S1'_at h hle
  unfold dqU; pointwise [k0_pay6, k0_pay68, k0_pay58, k0_pay74, k0_pay65]
  simp only [e0, e1, pay55_at, pay69_at, sel_ite, p44_at h, coe_ite, ← EReal.coe_mul, ← EReal.coe_sub, sub_self, zero_mul,
    coe_sum, Finset.sum_const_zero, ← EReal.coe_add]
  rw [addQ, Finset.sum_add_distrib]
  refine congrArg (fun z : ℝ => acc (ix2 u l) + (z : EReal)) (congrArg₂ (· + ·) (Finset.sum_congr rfl fun i _ => ?_) (Finset.sum_congr rfl fun i _ => ?_))
  · unfold keep'; rw [mul_ite, mul_zero]
  · unfold keep'; rw [mul_ite, mul_zero]
end whole'
end

end Cert.KernelIdeal.Fox
-- ==== Proof.FoxCase.lean ====
module
public import Idealize.ShloMosaic.Lib.Pipeline.ValueKit
public import Idealize.ShloMosaic.Lib.Pointwise
public import Idealize.ShloMosaic.Lib.WritesUnit
public import Idealize.ShloMosaic.Lib.VecWindow
public import Idealize.ShloMosaic.Lib.Pipeline.ReadBack
public import proofs.«01_k».proof.Proof.Gen.KernelIdeal.Frame
public import proofs.«01_k».proof.Proof.FoxPay
@[expose] public section
set_option maxRecDepth 16384
noncomputable section
namespace Cert.KernelIdeal.Fox
open Idealize.ShloMosaic Idealize.ShloMosaic.TcCoe Idealize.SL.Sem Cert.Fox
open Cert.KernelIdeal Cert.KernelIdeal.Gen

theorem coords_at : ∀ t : Fin cfg0.N, (grid0.coords t 1).val = t.val / 8 % 8 ∧ (grid0.coords t 2).val = t.val % 8 :=
  (by decide +kernel : ∀ t : Fin grid0.N, (grid0.coords t 1).val = t.val / 8 % 8 ∧ (grid0.coords t 2).val = t.val % 8)

theorem off1_at : ∀ t : Fin cfg0.N, k0_off1 (grid0.coords t) = ![512 * (t.val % 8), 0] :=
  (by decide +kernel : ∀ t : Fin grid0.N, k0_off1 (grid0.coords t) = ![512 * (t.val % 8), 0])

theorem off2_at : ∀ t : Fin cfg0.N, k0_off2 (grid0.coords t) = ![512 * (t.val % 8), 0] :=
  (by decide +kernel : ∀ t : Fin grid0.N, k0_off2 (grid0.coords t) = ![512 * (t.val % 8), 0])

theorem row_val (n : ℕ) (hn : n < 8) (u : Fin 512) : (row n u).val = 512 * n + u.val := by
  have := u.isLt
  show (512 * n + u.val) % 4096 = _
  omega

theorem out_rows (r : Fin 4096) (n : ℕ) (h : ¬ r.val / 512 = n) : r.val < 512 * n ∨ 512 * n + 512 ≤ r.val := by omega

theorem read_rows {sig : RefSig} {κ : Kind} {sp : Space} (v : View sig κ sp S4096x128 .f32) (f : v.ty.Contents (Elt Ideal)) (n : ℕ) (hn : n < 8)
    (off : Fin 2 → ℕ) (inb : ∀ a, off a + S512x128.size a ≤ S4096x128.size a) (h : off = ![512 * n, 0]) (w : FVec Ideal S512x128 .f32)
    (L : List (View.Piece (Elt Ideal) S4096x128 .f32)) (u : Fin 512) (l : Fin 128) :
    v.read (Elt Ideal) (v.writes (Elt Ideal) f (⟨Rect.unit (s := S4096x128) off S512x128.size inb, w⟩ :: L)) (ix2 (row n u) l) = w (ix2 u l) :=
  View.read_writes_cons_rows_of_mem (d := S4096x128.size) v f inb w L (ix2 (row n u) l) (ix2 u l) h (row_val n hn u) rfl

/-- The rows of a point's query block, of a resident array. -/
def rowsOf (t : Fin cfg0.N) (w : FVec Ideal S4096x128 .f32) : FVec Ideal S512x128 .f32 := fun y =>
  w (ix2 (row (t.val % 8) ⟨(y (0 : Fin 2)).val, (y (0 : Fin 2)).isLt⟩) ⟨(y (1 : Fin 2)).val, (y (1 : Fin 2)).isLt⟩)

theorem ld_rows (w : FVec Ideal S4096x128 .f32) (t : Fin cfg0.N) (off : Fin 2 → ℕ) (inb) (h : off = ![512 * (t.val % 8), 0]) :
    (View.ld (e' := .f32) (Val := Elt Ideal) w (Rect.unit (s := S4096x128) off S512x128.size inb) : FVec Ideal S512x128 .f32) = rowsOf t w := by
  subst h
  funext y
  refine congrArg w (funext fun a => Fin.ext ?_)
  fin_cases a
  · show 512 * (t.val % 8) + 1 * (y (0 : Fin 2)).val = _
    rw [Nat.one_mul]
    exact (row_val (t.val % 8) (Nat.mod_lt _ (by norm_num)) _).symm
  · show 0 + 1 * (y (1 : Fin 2)).val = (y (1 : Fin 2)).val
    omega

theorem ld_cols (w : FVec Ideal S512x256 .f32) (k : ℕ) (v : Fin 512) (l : Fin 128) (l' : Fin 256) (inb) (h : l'.val = k + l.val) :
    (View.ld (e' := .f32) (Val := Elt Ideal) w (Rect.unit (s := S512x256) ![0, k] S512x128.size inb) : FVec Ideal S512x128 .f32) (ix2 v l) = w (ix2 v l') := by
  refine congrArg w (funext fun a => Fin.ext ?_)
  fin_cases a
  · show 0 + 1 * v.val = v.val
    omega
  · show k + 1 * l.val = l'.val
    omega

variable (m : (ℓ : Loc nD τ sig) → Buf (Elt Ideal) ℓ) (c : Dev nD) (t : Fin cfg0.N)

theorem dk_A (h0 : t.val % 8 = 0) (h1 : t.val % 64 = 0) (h2 : t.val / 8 % 8 = t.val % 8) (h3 : ¬t.val / 8 % 8 + 1 ≤ t.val % 8) (h4 : ¬t.val % 8 = 7) :
    (outsAt0 m c t.val t.isLt).2.2.2.2.1 = dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (k0_pay1 (F := Ideal)) := by
  rw [outsAt0_A m c t h0 h1 h2 h3 h4]
  funext y
  frame_out

theorem dv_A (h0 : t.val % 8 = 0) (h1 : t.val % 64 = 0) (h2 : t.val / 8 % 8 = t.val % 8) (h3 : ¬t.val / 8 % 8 + 1 ≤ t.val % 8) (h4 : ¬t.val % 8 = 7) :
    (outsAt0 m c t.val t.isLt).2.2.2.2.2 = dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (k0_pay2 (F := Ideal)) := by
  rw [outsAt0_A m c t h0 h1 h2 h3 h4]
  funext y
  frame_out

theorem dq_A (h0 : t.val % 8 = 0) (h1 : t.val % 64 = 0) (h2 : t.val / 8 % 8 = t.val % 8) (h3 : ¬t.val / 8 % 8 + 1 ≤ t.val % 8) (h4 : ¬t.val % 8 = 7) (u : Fin 512) (l : Fin 128) :
    (outsAt0 m c t.val t.isLt).2.2.2.1 (ix2 (row (t.val % 8) u) l) = dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (rowsOf t (k0_pay3 (F := Ideal))) (ix2 u l) := by
  rw [outsAt0_A m c t h0 h1 h2 h3 h4]
  frame_out
  refine (View.read_writes_junk_apply_eq_canon VO0_11 _ _).symm.trans ?_
  refine (read_rows _ _ (t.val % 8) (Nat.mod_lt _ (by norm_num)) _ _ (off1_at t) _ _ u l).trans ?_
  · exact congrFun (congrArg (fun w => dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (ld_rows _ t _ _ (off1_at t))) _

theorem dq_A' (h0 : t.val % 8 = 0) (h1 : t.val % 64 = 0) (h2 : t.val / 8 % 8 = t.val % 8) (h3 : ¬t.val / 8 % 8 + 1 ≤ t.val % 8) (h4 : ¬t.val % 8 = 7) (r : Fin 4096) (l : Fin 128) (hr : ¬ r.val / 512 = t.val % 8) :
    (outsAt0 m c t.val t.isLt).2.2.2.1 (ix2 r l) = (k0_pay3 (F := Ideal)) (ix2 r l) := by
  rw [outsAt0_A m c t h0 h1 h2 h3 h4]
  frame_out
  refine (View.read_writes_junk_apply_eq_canon VO0_11 _ _).symm.trans ?_
  refine (View.read_writes_cons_rows_of_not_mem _ _ _ _ _ _ (off1_at t) rfl (out_rows _ _ hr)).trans ?_
  exact congrFun (View.read_writes_full VO0_11 _ _ _ _) _

theorem dk_B (h0 : ¬t.val % 8 = 0) (h1 : ¬t.val % 64 = 0) (h2 : ¬t.val / 8 % 8 = t.val % 8) (h3 : t.val / 8 % 8 + 1 ≤ t.val % 8) (h4 : ¬t.val % 8 = 7) :
    (outsAt0 m c t.val t.isLt).2.2.2.2.1 = dkU (iblk m c 0 t) (iblk m c 1 t) (iblk m c 2 t) (iblk m c 6 t) (iblk m c 7 t) (iblk m c 3 t) (iblk m c 4 t) (iblk m c 5 t) (outsAt0 m c (t.val - 1) (Nat.lt_of_le_of_lt (Nat.sub_le _ _) t.isLt)).2.2.2.2.1 := by
  rw [outsAt0_B m c t h0 h1 h2 h3 h4]
  funext y
  frame_out
  exact congrFun (congrArg (fun w => dkU (iblk m c 0 t) (iblk m c 1 t) (iblk m c 2 t) (iblk m c 6 t) (iblk m c 7 t) (iblk m c 3 t) (iblk m c 4 t) (iblk m c 5 t) w) (read_unread_whole _ _ _)) y

theorem dv_B (h0 : ¬t.val % 8 = 0) (h1 : ¬t.val % 64 = 0) (h2 : ¬t.val / 8 % 8 = t.val % 8) (h3 : t.val / 8 % 8 + 1 ≤ t.val % 8) (h4 : ¬t.val % 8 = 7) :
    (outsAt0 m c t.val t.isLt).2.2.2.2.2 = dvU (iblk m c 0 t) (iblk m c 1 t) (iblk m c 6 t) (iblk m c 7 t) (iblk m c 3 t) (iblk m c 5 t) (outsAt0 m c (t.val - 1) (Nat.lt_of_le_of_lt (Nat.sub_le _ _) t.isLt)).2.2.2.2.2 := by
  rw [outsAt0_B m c t h0 h1 h2 h3 h4]
  funext y
  frame_out
  exact congrFun (congrArg (fun w => dvU (iblk m c 0 t) (iblk m c 1 t) (iblk m c 6 t) (iblk m c 7 t) (iblk m c 3 t) (iblk m c 5 t) w) (read_unread_whole _ _ _)) y

theorem dq_B (h0 : ¬t.val % 8 = 0) (h1 : ¬t.val % 64 = 0) (h2 : ¬t.val / 8 % 8 = t.val % 8) (h3 : t.val / 8 % 8 + 1 ≤ t.val % 8) (h4 : ¬t.val % 8 = 7) (u : Fin 512) (l : Fin 128) :
    (outsAt0 m c t.val t.isLt).2.2.2.1 (ix2 (row (t.val % 8) u) l) = dqU (iblk m c 0 t) (iblk m c 1 t) (iblk m c 2 t) (iblk m c 6 t) (iblk m c 7 t) (iblk m c 3 t) (iblk m c 4 t) (iblk m c 5 t) (rowsOf t (outsAt0 m c (t.val - 1) (Nat.lt_of_le_of_lt (Nat.sub_le _ _) t.isLt)).2.2.2.1) (ix2 u l) := by
  rw [outsAt0_B m c t h0 h1 h2 h3 h4]
  frame_out
  skip
  refine (read_rows _ _ (t.val % 8) (Nat.mod_lt _ (by norm_num)) _ _ (off2_at t) _ _ u l).trans ?_
  · exact congrFun (congrArg (fun w => dqU (iblk m c 0 t) (iblk m c 1 t) (iblk m c 2 t) (iblk m c 6 t) (iblk m c 7 t) (iblk m c 3 t) (iblk m c 4 t) (iblk m c 5 t) w) (ld_rows _ t _ _ (off2_at t))) _

theorem dq_B' (h0 : ¬t.val % 8 = 0) (h1 : ¬t.val % 64 = 0) (h2 : ¬t.val / 8 % 8 = t.val % 8) (h3 : t.val / 8 % 8 + 1 ≤ t.val % 8) (h4 : ¬t.val % 8 = 7) (r : Fin 4096) (l : Fin 128) (hr : ¬ r.val / 512 = t.val % 8) :
    (outsAt0 m c t.val t.isLt).2.2.2.1 (ix2 r l) = (outsAt0 m c (t.val - 1) (Nat.lt_of_le_of_lt (Nat.sub_le _ _) t.isLt)).2.2.2.1 (ix2 r l) := by
  rw [outsAt0_B m c t h0 h1 h2 h3 h4]
  frame_out
  skip
  refine (View.read_writes_cons_rows_of_not_mem _ _ _ _ _ _ (off2_at t) rfl (out_rows _ _ hr)).trans ?_
  exact congrFun (Memref.IsWhole.read_unread _ _) _

theorem dk_C (h0 : ¬t.val % 8 = 0) (h1 : ¬t.val % 64 = 0) (h2 : ¬t.val / 8 % 8 = t.val % 8) (h3 : t.val / 8 % 8 + 1 ≤ t.val % 8) (h4 : t.val % 8 = 7) :
    (outsAt0 m c t.val t.isLt).2.2.2.2.1 = dkU (iblk m c 0 t) (iblk m c 1 t) (iblk m c 2 t) (iblk m c 6 t) (iblk m c 7 t) (iblk m c 3 t) (iblk m c 4 t) (iblk m c 5 t) (outsAt0 m c (t.val - 1) (Nat.lt_of_le_of_lt (Nat.sub_le _ _) t.isLt)).2.2.2.2.1 := by
  rw [outsAt0_C m c t h0 h1 h2 h3 h4]
  funext y
  frame_out
  exact congrFun (congrArg (fun w => dkU (iblk m c 0 t) (iblk m c 1 t) (iblk m c 2 t) (iblk m c 6 t) (iblk m c 7 t) (iblk m c 3 t) (iblk m c 4 t) (iblk m c 5 t) w) (read_unread_whole _ _ _)) y

theorem dv_C (h0 : ¬t.val % 8 = 0) (h1 : ¬t.val % 64 = 0) (h2 : ¬t.val / 8 % 8 = t.val % 8) (h3 : t.val / 8 % 8 + 1 ≤ t.val % 8) (h4 : t.val % 8 = 7) :
    (outsAt0 m c t.val t.isLt).2.2.2.2.2 = dvU (iblk m c 0 t) (iblk m c 1 t) (iblk m c 6 t) (iblk m c 7 t) (iblk m c 3 t) (iblk m c 5 t) (outsAt0 m c (t.val - 1) (Nat.lt_of_le_of_lt (Nat.sub_le _ _) t.isLt)).2.2.2.2.2 := by
  rw [outsAt0_C m c t h0 h1 h2 h3 h4]
  funext y
  frame_out
  exact congrFun (congrArg (fun w => dvU (iblk m c 0 t) (iblk m c 1 t) (iblk m c 6 t) (iblk m c 7 t) (iblk m c 3 t) (iblk m c 5 t) w) (read_unread_whole _ _ _)) y

theorem dq_C (h0 : ¬t.val % 8 = 0) (h1 : ¬t.val % 64 = 0) (h2 : ¬t.val / 8 % 8 = t.val % 8) (h3 : t.val / 8 % 8 + 1 ≤ t.val % 8) (h4 : t.val % 8 = 7) (u : Fin 512) (l : Fin 128) :
    (outsAt0 m c t.val t.isLt).2.2.2.1 (ix2 (row (t.val % 8) u) l) = dqU (iblk m c 0 t) (iblk m c 1 t) (iblk m c 2 t) (iblk m c 6 t) (iblk m c 7 t) (iblk m c 3 t) (iblk m c 4 t) (iblk m c 5 t) (rowsOf t (outsAt0 m c (t.val - 1) (Nat.lt_of_le_of_lt (Nat.sub_le _ _) t.isLt)).2.2.2.1) (ix2 u l) := by
  rw [outsAt0_C m c t h0 h1 h2 h3 h4]
  frame_out
  skip
  refine (read_rows _ _ (t.val % 8) (Nat.mod_lt _ (by norm_num)) _ _ (off2_at t) _ _ u l).trans ?_
  · exact congrFun (congrArg (fun w => dqU (iblk m c 0 t) (iblk m c 1 t) (iblk m c 2 t) (iblk m c 6 t) (iblk m c 7 t) (iblk m c 3 t) (iblk m c 4 t) (iblk m c 5 t) w) (ld_rows _ t _ _ (off2_at t))) _

theorem dq_C' (h0 : ¬t.val % 8 = 0) (h1 : ¬t.val % 64 = 0) (h2 : ¬t.val / 8 % 8 = t.val % 8) (h3 : t.val / 8 % 8 + 1 ≤ t.val % 8) (h4 : t.val % 8 = 7) (r : Fin 4096) (l : Fin 128) (hr : ¬ r.val / 512 = t.val % 8) :
    (outsAt0 m c t.val t.isLt).2.2.2.1 (ix2 r l) = (outsAt0 m c (t.val - 1) (Nat.lt_of_le_of_lt (Nat.sub_le _ _) t.isLt)).2.2.2.1 (ix2 r l) := by
  rw [outsAt0_C m c t h0 h1 h2 h3 h4]
  frame_out
  skip
  refine (View.read_writes_cons_rows_of_not_mem _ _ _ _ _ _ (off2_at t) rfl (out_rows _ _ hr)).trans ?_
  exact congrFun (Memref.IsWhole.read_unread _ _) _

theorem flushK_C (h0 : ¬t.val % 8 = 0) (h1 : ¬t.val % 64 = 0) (h2 : ¬t.val / 8 % 8 = t.val % 8) (h3 : t.val / 8 % 8 + 1 ≤ t.val % 8) (h4 : t.val % 8 = 7) (v : Fin 512) (l : Fin 128) :
    (outsAt0 m c t.val t.isLt).1 (ix2 v l) = (outsAt0 m c t.val t.isLt).2.2.2.2.1 (ix2 v ⟨l.val, by omega⟩) := by
  refine Eq.trans ?_ (congrFun (dk_C m c t h0 h1 h2 h3 h4) _).symm
  rw [outsAt0_C m c t h0 h1 h2 h3 h4]
  frame_out
  refine (congrFun (View.readCov_fill _ _ _ _ _ (by decide)) _).trans ?_
  refine (ld_cols _ _ v l ⟨l.val, by omega⟩ _ (by simp)).trans ?_
  exact congrFun (congrArg (fun w => dkU (iblk m c 0 t) (iblk m c 1 t) (iblk m c 2 t) (iblk m c 6 t) (iblk m c 7 t) (iblk m c 3 t) (iblk m c 4 t) (iblk m c 5 t) w) (read_unread_whole _ _ _)) _

theorem flushG_C (h0 : ¬t.val % 8 = 0) (h1 : ¬t.val % 64 = 0) (h2 : ¬t.val / 8 % 8 = t.val % 8) (h3 : t.val / 8 % 8 + 1 ≤ t.val % 8) (h4 : t.val % 8 = 7) (v : Fin 512) (l : Fin 128) :
    (outsAt0 m c t.val t.isLt).2.2.1 (ix2 v l) = (outsAt0 m c t.val t.isLt).2.2.2.2.1 (ix2 v ⟨128 + l.val, by omega⟩) := by
  refine Eq.trans ?_ (congrFun (dk_C m c t h0 h1 h2 h3 h4) _).symm
  rw [outsAt0_C m c t h0 h1 h2 h3 h4]
  frame_out
  refine (congrFun (View.readCov_fill _ _ _ _ _ (by decide)) _).trans ?_
  refine (ld_cols _ _ v l ⟨128 + l.val, by omega⟩ _ (by simp)).trans ?_
  exact congrFun (congrArg (fun w => dkU (iblk m c 0 t) (iblk m c 1 t) (iblk m c 2 t) (iblk m c 6 t) (iblk m c 7 t) (iblk m c 3 t) (iblk m c 4 t) (iblk m c 5 t) w) (read_unread_whole _ _ _)) _

theorem flushV_C (h0 : ¬t.val % 8 = 0) (h1 : ¬t.val % 64 = 0) (h2 : ¬t.val / 8 % 8 = t.val % 8) (h3 : t.val / 8 % 8 + 1 ≤ t.val % 8) (h4 : t.val % 8 = 7) : (outsAt0 m c t.val t.isLt).2.1 = (outsAt0 m c t.val t.isLt).2.2.2.2.2 := by
  refine Eq.trans ?_ (dv_C m c t h0 h1 h2 h3 h4).symm
  rw [outsAt0_C m c t h0 h1 h2 h3 h4]
  funext y
  frame_out
  exact congrFun (congrArg (fun w => dvU (iblk m c 0 t) (iblk m c 1 t) (iblk m c 6 t) (iblk m c 7 t) (iblk m c 3 t) (iblk m c 5 t) w) (read_unread_whole _ _ _)) y

theorem dk_D (h0 : t.val % 8 = 0) (h1 : ¬t.val % 64 = 0) (h2 : ¬t.val / 8 % 8 = t.val % 8) (h3 : ¬t.val / 8 % 8 + 1 ≤ t.val % 8) (h4 : ¬t.val % 8 = 7) :
    (outsAt0 m c t.val t.isLt).2.2.2.2.1 = (k0_pay1 (F := Ideal)) := by
  rw [outsAt0_D m c t h0 h1 h2 h3 h4]
  funext y
  frame_out

theorem dv_D (h0 : t.val % 8 = 0) (h1 : ¬t.val % 64 = 0) (h2 : ¬t.val / 8 % 8 = t.val % 8) (h3 : ¬t.val / 8 % 8 + 1 ≤ t.val % 8) (h4 : ¬t.val % 8 = 7) :
    (outsAt0 m c t.val t.isLt).2.2.2.2.2 = (k0_pay2 (F := Ideal)) := by
  rw [outsAt0_D m c t h0 h1 h2 h3 h4]
  funext y
  frame_out

theorem dq_D (h0 : t.val % 8 = 0) (h1 : ¬t.val % 64 = 0) (h2 : ¬t.val / 8 % 8 = t.val % 8) (h3 : ¬t.val / 8 % 8 + 1 ≤ t.val % 8) (h4 : ¬t.val % 8 = 7) : (outsAt0 m c t.val t.isLt).2.2.2.1 = (outsAt0 m c (t.val - 1) (Nat.lt_of_le_of_lt (Nat.sub_le _ _) t.isLt)).2.2.2.1 := by
  rw [outsAt0_D m c t h0 h1 h2 h3 h4]
  rfl

theorem dk_E (h0 : ¬t.val % 8 = 0) (h1 : ¬t.val % 64 = 0) (h2 : t.val / 8 % 8 = t.val % 8) (h3 : ¬t.val / 8 % 8 + 1 ≤ t.val % 8) (h4 : ¬t.val % 8 = 7) :
    (outsAt0 m c t.val t.isLt).2.2.2.2.1 = dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (outsAt0 m c (t.val - 1) (Nat.lt_of_le_of_lt (Nat.sub_le _ _) t.isLt)).2.2.2.2.1 := by
  rw [outsAt0_E m c t h0 h1 h2 h3 h4]
  funext y
  frame_out
  exact congrFun (congrArg (fun w => dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) y

theorem dv_E (h0 : ¬t.val % 8 = 0) (h1 : ¬t.val % 64 = 0) (h2 : t.val / 8 % 8 = t.val % 8) (h3 : ¬t.val / 8 % 8 + 1 ≤ t.val % 8) (h4 : ¬t.val % 8 = 7) :
    (outsAt0 m c t.val t.isLt).2.2.2.2.2 = dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (outsAt0 m c (t.val - 1) (Nat.lt_of_le_of_lt (Nat.sub_le _ _) t.isLt)).2.2.2.2.2 := by
  rw [outsAt0_E m c t h0 h1 h2 h3 h4]
  funext y
  frame_out
  exact congrFun (congrArg (fun w => dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) y

theorem dq_E (h0 : ¬t.val % 8 = 0) (h1 : ¬t.val % 64 = 0) (h2 : t.val / 8 % 8 = t.val % 8) (h3 : ¬t.val / 8 % 8 + 1 ≤ t.val % 8) (h4 : ¬t.val % 8 = 7) (u : Fin 512) (l : Fin 128) :
    (outsAt0 m c t.val t.isLt).2.2.2.1 (ix2 (row (t.val % 8) u) l) = dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (rowsOf t (outsAt0 m c (t.val - 1) (Nat.lt_of_le_of_lt (Nat.sub_le _ _) t.isLt)).2.2.2.1) (ix2 u l) := by
  rw [outsAt0_E m c t h0 h1 h2 h3 h4]
  frame_out
  skip
  refine (read_rows _ _ (t.val % 8) (Nat.mod_lt _ (by norm_num)) _ _ (off1_at t) _ _ u l).trans ?_
  · exact congrFun (congrArg (fun w => dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (ld_rows _ t _ _ (off1_at t))) _

theorem dq_E' (h0 : ¬t.val % 8 = 0) (h1 : ¬t.val % 64 = 0) (h2 : t.val / 8 % 8 = t.val % 8) (h3 : ¬t.val / 8 % 8 + 1 ≤ t.val % 8) (h4 : ¬t.val % 8 = 7) (r : Fin 4096) (l : Fin 128) (hr : ¬ r.val / 512 = t.val % 8) :
    (outsAt0 m c t.val t.isLt).2.2.2.1 (ix2 r l) = (outsAt0 m c (t.val - 1) (Nat.lt_of_le_of_lt (Nat.sub_le _ _) t.isLt)).2.2.2.1 (ix2 r l) := by
  rw [outsAt0_E m c t h0 h1 h2 h3 h4]
  frame_out
  skip
  refine (View.read_writes_cons_rows_of_not_mem _ _ _ _ _ _ (off1_at t) rfl (out_rows _ _ hr)).trans ?_
  exact congrFun (Memref.IsWhole.read_unread _ _) _

theorem dk_F (h0 : ¬t.val % 8 = 0) (h1 : ¬t.val % 64 = 0) (h2 : ¬t.val / 8 % 8 = t.val % 8) (h3 : ¬t.val / 8 % 8 + 1 ≤ t.val % 8) (h4 : ¬t.val % 8 = 7) :
    (outsAt0 m c t.val t.isLt).2.2.2.2.1 = (outsAt0 m c (t.val - 1) (Nat.lt_of_le_of_lt (Nat.sub_le _ _) t.isLt)).2.2.2.2.1 := by
  rw [outsAt0_F m c t h0 h1 h2 h3 h4]
  funext y
  frame_out
  rfl

theorem dv_F (h0 : ¬t.val % 8 = 0) (h1 : ¬t.val % 64 = 0) (h2 : ¬t.val / 8 % 8 = t.val % 8) (h3 : ¬t.val / 8 % 8 + 1 ≤ t.val % 8) (h4 : ¬t.val % 8 = 7) :
    (outsAt0 m c t.val t.isLt).2.2.2.2.2 = (outsAt0 m c (t.val - 1) (Nat.lt_of_le_of_lt (Nat.sub_le _ _) t.isLt)).2.2.2.2.2 := by
  rw [outsAt0_F m c t h0 h1 h2 h3 h4]
  funext y
  frame_out
  rfl

theorem dq_F (h0 : ¬t.val % 8 = 0) (h1 : ¬t.val % 64 = 0) (h2 : ¬t.val / 8 % 8 = t.val % 8) (h3 : ¬t.val / 8 % 8 + 1 ≤ t.val % 8) (h4 : ¬t.val % 8 = 7) : (outsAt0 m c t.val t.isLt).2.2.2.1 = (outsAt0 m c (t.val - 1) (Nat.lt_of_le_of_lt (Nat.sub_le _ _) t.isLt)).2.2.2.1 := by
  rw [outsAt0_F m c t h0 h1 h2 h3 h4]
  rfl

theorem dk_G (h0 : ¬t.val % 8 = 0) (h1 : ¬t.val % 64 = 0) (h2 : t.val / 8 % 8 = t.val % 8) (h3 : ¬t.val / 8 % 8 + 1 ≤ t.val % 8) (h4 : t.val % 8 = 7) :
    (outsAt0 m c t.val t.isLt).2.2.2.2.1 = dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (outsAt0 m c (t.val - 1) (Nat.lt_of_le_of_lt (Nat.sub_le _ _) t.isLt)).2.2.2.2.1 := by
  rw [outsAt0_G m c t h0 h1 h2 h3 h4]
  funext y
  frame_out
  exact congrFun (congrArg (fun w => dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) y

theorem dv_G (h0 : ¬t.val % 8 = 0) (h1 : ¬t.val % 64 = 0) (h2 : t.val / 8 % 8 = t.val % 8) (h3 : ¬t.val / 8 % 8 + 1 ≤ t.val % 8) (h4 : t.val % 8 = 7) :
    (outsAt0 m c t.val t.isLt).2.2.2.2.2 = dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (outsAt0 m c (t.val - 1) (Nat.lt_of_le_of_lt (Nat.sub_le _ _) t.isLt)).2.2.2.2.2 := by
  rw [outsAt0_G m c t h0 h1 h2 h3 h4]
  funext y
  frame_out
  exact congrFun (congrArg (fun w => dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) y

theorem dq_G (h0 : ¬t.val % 8 = 0) (h1 : ¬t.val % 64 = 0) (h2 : t.val / 8 % 8 = t.val % 8) (h3 : ¬t.val / 8 % 8 + 1 ≤ t.val % 8) (h4 : t.val % 8 = 7) (u : Fin 512) (l : Fin 128) :
    (outsAt0 m c t.val t.isLt).2.2.2.1 (ix2 (row (t.val % 8) u) l) = dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) (rowsOf t (outsAt0 m c (t.val - 1) (Nat.lt_of_le_of_lt (Nat.sub_le _ _) t.isLt)).2.2.2.1) (ix2 u l) := by
  rw [outsAt0_G m c t h0 h1 h2 h3 h4]
  frame_out
  skip
  refine (read_rows _ _ (t.val % 8) (Nat.mod_lt _ (by norm_num)) _ _ (off1_at t) _ _ u l).trans ?_
  · exact congrFun (congrArg (fun w => dqM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (ld_rows _ t _ _ (off1_at t))) _

theorem dq_G' (h0 : ¬t.val % 8 = 0) (h1 : ¬t.val % 64 = 0) (h2 : t.val / 8 % 8 = t.val % 8) (h3 : ¬t.val / 8 % 8 + 1 ≤ t.val % 8) (h4 : t.val % 8 = 7) (r : Fin 4096) (l : Fin 128) (hr : ¬ r.val / 512 = t.val % 8) :
    (outsAt0 m c t.val t.isLt).2.2.2.1 (ix2 r l) = (outsAt0 m c (t.val - 1) (Nat.lt_of_le_of_lt (Nat.sub_le _ _) t.isLt)).2.2.2.1 (ix2 r l) := by
  rw [outsAt0_G m c t h0 h1 h2 h3 h4]
  frame_out
  skip
  refine (View.read_writes_cons_rows_of_not_mem _ _ _ _ _ _ (off1_at t) rfl (out_rows _ _ hr)).trans ?_
  exact congrFun (Memref.IsWhole.read_unread _ _) _

theorem flushK_G (h0 : ¬t.val % 8 = 0) (h1 : ¬t.val % 64 = 0) (h2 : t.val / 8 % 8 = t.val % 8) (h3 : ¬t.val / 8 % 8 + 1 ≤ t.val % 8) (h4 : t.val % 8 = 7) (v : Fin 512) (l : Fin 128) :
    (outsAt0 m c t.val t.isLt).1 (ix2 v l) = (outsAt0 m c t.val t.isLt).2.2.2.2.1 (ix2 v ⟨l.val, by omega⟩) := by
  refine Eq.trans ?_ (congrFun (dk_G m c t h0 h1 h2 h3 h4) _).symm
  rw [outsAt0_G m c t h0 h1 h2 h3 h4]
  frame_out
  refine (congrFun (View.readCov_fill _ _ _ _ _ (by decide)) _).trans ?_
  refine (ld_cols _ _ v l ⟨l.val, by omega⟩ _ (by simp)).trans ?_
  exact congrFun (congrArg (fun w => dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) _

theorem flushG_G (h0 : ¬t.val % 8 = 0) (h1 : ¬t.val % 64 = 0) (h2 : t.val / 8 % 8 = t.val % 8) (h3 : ¬t.val / 8 % 8 + 1 ≤ t.val % 8) (h4 : t.val % 8 = 7) (v : Fin 512) (l : Fin 128) :
    (outsAt0 m c t.val t.isLt).2.2.1 (ix2 v l) = (outsAt0 m c t.val t.isLt).2.2.2.2.1 (ix2 v ⟨128 + l.val, by omega⟩) := by
  refine Eq.trans ?_ (congrFun (dk_G m c t h0 h1 h2 h3 h4) _).symm
  rw [outsAt0_G m c t h0 h1 h2 h3 h4]
  frame_out
  refine (congrFun (View.readCov_fill _ _ _ _ _ (by decide)) _).trans ?_
  refine (ld_cols _ _ v l ⟨128 + l.val, by omega⟩ _ (by simp)).trans ?_
  exact congrFun (congrArg (fun w => dkM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) _

theorem flushV_G (h0 : ¬t.val % 8 = 0) (h1 : ¬t.val % 64 = 0) (h2 : t.val / 8 % 8 = t.val % 8) (h3 : ¬t.val / 8 % 8 + 1 ≤ t.val % 8) (h4 : t.val % 8 = 7) : (outsAt0 m c t.val t.isLt).2.1 = (outsAt0 m c t.val t.isLt).2.2.2.2.2 := by
  refine Eq.trans ?_ (dv_G m c t h0 h1 h2 h3 h4).symm
  rw [outsAt0_G m c t h0 h1 h2 h3 h4]
  funext y
  frame_out
  exact congrFun (congrArg (fun w => dvM (iblk m c 0 t) (iblk m c 1 t) (iblk m c 2 t) (iblk m c 6 t) (iblk m c 7 t) (iblk m c 3 t) (iblk m c 4 t) (iblk m c 5 t) (BitVec.ofNat 32 (grid0.coords t 1).val) (BitVec.ofNat 32 (grid0.coords t 2).val) w) (read_unread_whole _ _ _)) y

end Cert.KernelIdeal.Fox
-- ==== Proof.FoxFold.lean ====
module

public import proofs.«01_k».proof.Proof.FoxCase

/-!
# The accumulators, point by point

The grid visits pair of heads, key block, query block. The two scratch accumulators hold, after a point, the sum over
the query blocks seen so far for the point's key block; the resident block of the queries' gradients holds, row by row,
the sum over the key blocks seen so far. A block above the diagonal is skipped and contributes zero.
-/

@[expose] public section

set_option maxRecDepth 16384

noncomputable section

namespace Cert.KernelIdeal.Fox

open Idealize.ShloMosaic Idealize.ShloMosaic.TcCoe Idealize.SL.Sem Cert.Fox Cert.Fox.In Finset
open Cert.KernelIdeal Cert.KernelIdeal.Gen

/-- The pair of heads of point `n`. -/
def pair (n : ℕ) : Fin 6 := ⟨n / 64 % 6, Nat.mod_lt _ (by norm_num)⟩

variable (x : In) (m : (ℓ : Loc nD τ sig) → Buf (Elt Ideal) ℓ) (c : Dev nD)

/-- The eight blocks every point reads, over the reals; of the five blocks of queries only the points on or below the
    diagonal read their own. -/
structure Reads : Prop where
  q : ∀ (t : Fin cfg0.N) (ht : t.val / 8 % 8 ≤ t.val % 8) (u : Fin 512) (l : Fin 128), (iblk m c 0 t : FVec Ideal S512x128 .bf16) (ix2 u l) = ((x.Qs (row (t.val % 8) u) (lane (pair t.val) l) : ℝ) : EReal)
  k : ∀ (t : Fin cfg0.N) (u : Fin 512) (l : Fin 128), (iblk m c 1 t : FVec Ideal S512x128 .bf16) (ix2 u l) = ((x.K (row (t.val / 8 % 8) u) (lane (pair t.val) l) : ℝ) : EReal)
  v : ∀ (t : Fin cfg0.N) (u : Fin 512) (l : Fin 128), (iblk m c 2 t : FVec Ideal S512x128 .bf16) (ix2 u l) = ((x.V (row (t.val / 8 % 8) u) (lane (pair t.val) l) : ℝ) : EReal)
  d : ∀ (t : Fin cfg0.N) (ht : t.val / 8 % 8 ≤ t.val % 8) (u : Fin 512) (l : Fin 128), (iblk m c 3 t : FVec Ideal S512x128 .f32) (ix2 u l) = ((x.D (row (t.val % 8) u) (lane (pair t.val) l) : ℝ) : EReal)
  o : ∀ (t : Fin cfg0.N) (ht : t.val / 8 % 8 ≤ t.val % 8) (u : Fin 512) (l : Fin 128), (iblk m c 4 t : FVec Ideal S512x128 .f32) (ix2 u l) = ((x.att (row (t.val % 8) u) (lane (pair t.val) l) : ℝ) : EReal)
  l : ∀ (t : Fin cfg0.N) (ht : t.val / 8 % 8 ≤ t.val % 8) (u : Fin 512) (l : Fin 128), (iblk m c 5 t : FVec Ideal S512x128 .f32) (ix2 u l) = ((x.LS (row (t.val % 8) u) (lane (pair t.val) l) : ℝ) : EReal)
  qa : ∀ (t : Fin cfg0.N) (ht : t.val / 8 % 8 ≤ t.val % 8) (u : Fin 512) (l : Fin 128), (iblk m c 6 t : FVec Ideal S512x128 .bf16) (ix2 u l) = ((x.QA (row (t.val % 8) u) (lane (pair t.val) l) : ℝ) : EReal)
  ka : ∀ (t : Fin cfg0.N) (u : Fin 512) (l : Fin 128), (iblk m c 7 t : FVec Ideal S512x128 .bf16) (ix2 u l) = ((x.KA (row (t.val / 8 % 8) u) (lane (pair t.val) l) : ℝ) : EReal)

/-- What point `n` adds to the keys' accumulator. -/
def gK (n : ℕ) (v : Fin 512) (l : Fin 256) : ℝ := tile (fun t => x.tk (pair n) (row (n / 8 % 8) v) l t) (n % 8)
/-- What point `n` adds to the values' accumulator. -/
def gV (n : ℕ) (v : Fin 512) (l : Fin 128) : ℝ := tile (fun t => x.tv (pair n) (row (n / 8 % 8) v) l t) (n % 8)
/-- What point `n` adds to a row of the queries' gradients that its query block holds. -/
def gQ (n : ℕ) (r : Fin 4096) (l : Fin 128) : ℝ := tile (fun r' => x.tq (pair n) r l r') (n / 8 % 8)

theorem le_of_lt {j s : ℕ} (h : j + 1 ≤ s) (hs : s < 8) (u v : Fin 512) : row j v ≤ row s u := by
  have := v.isLt
  rw [Fin.le_def, row_val j (by omega), row_val s hs]
  omega

theorem not_le {j s : ℕ} (h : s < j) (hj : j < 8) (u v : Fin 512) : ¬ row j v ≤ row s u := by
  have := u.isLt
  rw [Fin.le_def, row_val j hj, row_val s (by omega)]
  omega

theorem gK_skip {n : ℕ} (h : n % 8 < n / 8 % 8) (v : Fin 512) (l : Fin 256) : gK x n v l = 0 :=
  tile_zero fun u => x.tk_of_gt (not_le h (Nat.mod_lt _ (by norm_num)) u v)
theorem gV_skip {n : ℕ} (h : n % 8 < n / 8 % 8) (v : Fin 512) (l : Fin 128) : gV x n v l = 0 :=
  tile_zero fun u => x.tv_of_gt (not_le h (Nat.mod_lt _ (by norm_num)) u v)
theorem gQ_skip {n : ℕ} (h : n % 8 < n / 8 % 8) (u : Fin 512) (l : Fin 128) : gQ x n (row (n % 8) u) l = 0 :=
  tile_zero fun v => x.tq_of_gt (not_le h (Nat.mod_lt _ (by norm_num)) u v)

theorem mask (t : Fin cfg0.N) (u v : Fin 512) :
    k0_pay19 (BitVec.ofNat 32 (grid0.coords t 1).val) (BitVec.ofNat 32 (grid0.coords t 2).val) (ix2 u v)
      = if row (t.val / 8 % 8) v ≤ row (t.val % 8) u then 1#1 else 0#1 := by
  rw [(coords_at t).1, (coords_at t).2]
  exact pay19_at ⟨t.val / 8 % 8, Nat.mod_lt _ (by norm_num)⟩ ⟨t.val % 8, Nat.mod_lt _ (by norm_num)⟩ u v

theorem pay1_zero (v : Fin 512) (l : Fin 256) : k0_pay1 (F := Ideal) (ix2 v l) = ((0 : ℝ) : EReal) := by
  pointwise [k0_pay1]
  exact EReal.coe_zero.symm
theorem pay2_zero (v : Fin 512) (l : Fin 128) : k0_pay2 (F := Ideal) (ix2 v l) = ((0 : ℝ) : EReal) := by
  pointwise [k0_pay2]
  exact EReal.coe_zero.symm
theorem pay3_zero (v : Fin 4096) (l : Fin 128) : k0_pay3 (F := Ideal) (ix2 v l) = ((0 : ℝ) : EReal) := by
  pointwise [k0_pay3]
  exact EReal.coe_zero.symm

variable {x m c}
variable (H : Reads x m c) (t : Fin cfg0.N)
include H

theorem reals (ht : t.val / 8 % 8 ≤ t.val % 8) : Reals (iblk m c 0 t) (iblk m c 1 t) (iblk m c 2 t) (iblk m c 6 t) (iblk m c 7 t) (iblk m c 3 t) (iblk m c 4 t) (iblk m c 5 t)
    (fun u l => x.Qs (row (t.val % 8) u) (lane (pair t.val) l)) (fun u l => x.K (row (t.val / 8 % 8) u) (lane (pair t.val) l))
    (fun u l => x.V (row (t.val / 8 % 8) u) (lane (pair t.val) l)) (fun u l => x.D (row (t.val % 8) u) (lane (pair t.val) l))
    (fun u l => x.att (row (t.val % 8) u) (lane (pair t.val) l)) (fun u l => x.LS (row (t.val % 8) u) (lane (pair t.val) l))
    (fun u l => x.QA (row (t.val % 8) u) (lane (pair t.val) l)) (fun u l => x.KA (row (t.val / 8 % 8) u) (lane (pair t.val) l)) :=
  ⟨H.q t ht, H.k t, H.v t, H.d t ht, H.o t ht, H.l t ht, H.qa t ht, H.ka t⟩

theorem dkM_pt (ht : t.val / 8 % 8 ≤ t.val % 8) (acc : FVec Ideal S512x256 .f32) (v : Fin 512) (l : Fin 256) :
    dkM (iblk m c 0 t) (iblk m c 1 t) (iblk m c 2 t) (iblk m c 6 t) (iblk m c 7 t) (iblk m c 3 t) (iblk m c 4 t) (iblk m c 5 t)
      (BitVec.ofNat 32 (grid0.coords t 1).val) (BitVec.ofNat 32 (grid0.coords t 2).val) acc (ix2 v l) = acc (ix2 v l) + ((gK x t.val v l : ℝ) : EReal) :=
  dkM_at (reals H t ht) (mask t) acc v l
theorem dvM_pt (ht : t.val / 8 % 8 ≤ t.val % 8) (acc : FVec Ideal S512x128 .f32) (v : Fin 512) (l : Fin 128) :
    dvM (iblk m c 0 t) (iblk m c 1 t) (iblk m c 2 t) (iblk m c 6 t) (iblk m c 7 t) (iblk m c 3 t) (iblk m c 4 t) (iblk m c 5 t)
      (BitVec.ofNat 32 (grid0.coords t 1).val) (BitVec.ofNat 32 (grid0.coords t 2).val) acc (ix2 v l) = acc (ix2 v l) + ((gV x t.val v l : ℝ) : EReal) :=
  dvM_at (reals H t ht) (mask t) acc v l
theorem dqM_pt (ht : t.val / 8 % 8 ≤ t.val % 8) (acc : FVec Ideal S512x128 .f32) (u : Fin 512) (l : Fin 128) :
    dqM (iblk m c 0 t) (iblk m c 1 t) (iblk m c 2 t) (iblk m c 6 t) (iblk m c 7 t) (iblk m c 3 t) (iblk m c 4 t) (iblk m c 5 t)
      (BitVec.ofNat 32 (grid0.coords t 1).val) (BitVec.ofNat 32 (grid0.coords t 2).val) acc (ix2 u l)
      = acc (ix2 u l) + ((gQ x t.val (row (t.val % 8) u) l : ℝ) : EReal) :=
  dqM_at (reals H t ht) (mask t) acc u l
theorem dkU_pt (h : t.val / 8 % 8 + 1 ≤ t.val % 8) (acc : FVec Ideal S512x256 .f32) (v : Fin 512) (l : Fin 256) :
    dkU (iblk m c 0 t) (iblk m c 1 t) (iblk m c 2 t) (iblk m c 6 t) (iblk m c 7 t) (iblk m c 3 t) (iblk m c 4 t) (iblk m c 5 t)
      acc (ix2 v l) = acc (ix2 v l) + ((gK x t.val v l : ℝ) : EReal) :=
  dkU_at (reals H t (by omega)) (le := fun v u => row (t.val / 8 % 8) v ≤ row (t.val % 8) u) (fun v u => le_of_lt h (Nat.mod_lt _ (by norm_num)) u v) acc v l
theorem dvU_pt (h : t.val / 8 % 8 + 1 ≤ t.val % 8) (acc : FVec Ideal S512x128 .f32) (v : Fin 512) (l : Fin 128) :
    dvU (iblk m c 0 t) (iblk m c 1 t) (iblk m c 6 t) (iblk m c 7 t) (iblk m c 3 t) (iblk m c 5 t)
      acc (ix2 v l) = acc (ix2 v l) + ((gV x t.val v l : ℝ) : EReal) :=
  dvU_at (reals H t (by omega)) (le := fun v u => row (t.val / 8 % 8) v ≤ row (t.val % 8) u) (fun v u => le_of_lt h (Nat.mod_lt _ (by norm_num)) u v) acc v l
theorem dqU_pt (h : t.val / 8 % 8 + 1 ≤ t.val % 8) (acc : FVec Ideal S512x128 .f32) (u : Fin 512) (l : Fin 128) :
    dqU (iblk m c 0 t) (iblk m c 1 t) (iblk m c 2 t) (iblk m c 6 t) (iblk m c 7 t) (iblk m c 3 t) (iblk m c 4 t) (iblk m c 5 t)
      acc (ix2 u l) = acc (ix2 u l) + ((gQ x t.val (row (t.val % 8) u) l : ℝ) : EReal) :=
  dqU_at (reals H t (by omega)) (le := fun v u => row (t.val / 8 % 8) v ≤ row (t.val % 8) u) (fun v u => le_of_lt h (Nat.mod_lt _ (by norm_num)) u v) acc u l

/-! ## One point -/

theorem dk_first (h0 : t.val % 8 = 0) (v : Fin 512) (l : Fin 256) :
    (outsAt0 m c t.val t.isLt).2.2.2.2.1 (ix2 v l) = ((gK x t.val v l : ℝ) : EReal) := by
  by_cases h1 : t.val % 64 = 0
  · rw [dk_A m c t h0 h1 (by omega) (by omega) (by omega), dkM_pt H t (by omega), pay1_zero, ← EReal.coe_add, zero_add]
  · rw [dk_D m c t h0 h1 (by omega) (by omega) (by omega), pay1_zero, gK_skip x (by omega)]

theorem dk_next (h0 : ¬ t.val % 8 = 0) (v : Fin 512) (l : Fin 256) :
    (outsAt0 m c t.val t.isLt).2.2.2.2.1 (ix2 v l)
      = (outsAt0 m c (t.val - 1) (Nat.lt_of_le_of_lt (Nat.sub_le _ _) t.isLt)).2.2.2.2.1 (ix2 v l) + ((gK x t.val v l : ℝ) : EReal) := by
  by_cases h2 : t.val / 8 % 8 = t.val % 8
  · by_cases h4 : t.val % 8 = 7
    · rw [dk_G m c t h0 (by omega) h2 (by omega) h4, dkM_pt H t (by omega)]
    · rw [dk_E m c t h0 (by omega) h2 (by omega) h4, dkM_pt H t (by omega)]
  · by_cases h3 : t.val / 8 % 8 + 1 ≤ t.val % 8
    · by_cases h4 : t.val % 8 = 7
      · rw [dk_C m c t h0 (by omega) h2 h3 h4, dkU_pt H t h3]
      · rw [dk_B m c t h0 (by omega) h2 h3 h4, dkU_pt H t h3]
    · rw [dk_F m c t h0 (by omega) h2 h3 (by omega), gK_skip x (by omega), EReal.coe_zero, add_zero]

theorem dv_first (h0 : t.val % 8 = 0) (v : Fin 512) (l : Fin 128) :
    (outsAt0 m c t.val t.isLt).2.2.2.2.2 (ix2 v l) = ((gV x t.val v l : ℝ) : EReal) := by
  by_cases h1 : t.val % 64 = 0
  · rw [dv_A m c t h0 h1 (by omega) (by omega) (by omega), dvM_pt H t (by omega), pay2_zero, ← EReal.coe_add, zero_add]
  · rw [dv_D m c t h0 h1 (by omega) (by omega) (by omega), pay2_zero, gV_skip x (by omega)]

theorem dv_next (h0 : ¬ t.val % 8 = 0) (v : Fin 512) (l : Fin 128) :
    (outsAt0 m c t.val t.isLt).2.2.2.2.2 (ix2 v l)
      = (outsAt0 m c (t.val - 1) (Nat.lt_of_le_of_lt (Nat.sub_le _ _) t.isLt)).2.2.2.2.2 (ix2 v l) + ((gV x t.val v l : ℝ) : EReal) := by
  by_cases h2 : t.val / 8 % 8 = t.val % 8
  · by_cases h4 : t.val % 8 = 7
    · rw [dv_G m c t h0 (by omega) h2 (by omega) h4, dvM_pt H t (by omega)]
    · rw [dv_E m c t h0 (by omega) h2 (by omega) h4, dvM_pt H t (by omega)]
  · by_cases h3 : t.val / 8 % 8 + 1 ≤ t.val % 8
    · by_cases h4 : t.val % 8 = 7
      · rw [dv_C m c t h0 (by omega) h2 h3 h4, dvU_pt H t h3]
      · rw [dv_B m c t h0 (by omega) h2 h3 h4, dvU_pt H t h3]
    · rw [dv_F m c t h0 (by omega) h2 h3 (by omega), gV_skip x (by omega), EReal.coe_zero, add_zero]

omit H in
/-- A row as its block's row. -/
theorem as_row (r : Fin 4096) (n : ℕ) (h : r.val / 512 = n) : ∃ u : Fin 512, r = row n u := by
  refine ⟨⟨r.val - 512 * n, by omega⟩, Fin.ext ?_⟩
  rw [row_val n (by omega)]
  show r.val = 512 * n + (r.val - 512 * n)
  omega

omit H in
theorem rowsOf_at (w : FVec Ideal S4096x128 .f32) (u : Fin 512) (l : Fin 128) : rowsOf t w (ix2 u l) = w (ix2 (row (t.val % 8) u) l) := rfl

theorem dq_first (h1 : t.val % 64 = 0) (r : Fin 4096) (l : Fin 128) :
    (outsAt0 m c t.val t.isLt).2.2.2.1 (ix2 r l) = ((if r.val / 512 = t.val % 8 then gQ x t.val r l else 0 : ℝ) : EReal) := by
  by_cases hr : r.val / 512 = t.val % 8
  · rw [if_pos hr]
    obtain ⟨u, rfl⟩ := as_row r _ hr
    rw [dq_A m c t (by omega) h1 (by omega) (by omega) (by omega), dqM_pt H t (by omega), rowsOf_at, pay3_zero, ← EReal.coe_add, zero_add]
  · rw [if_neg hr, dq_A' m c t (by omega) h1 (by omega) (by omega) (by omega) r l hr, pay3_zero]

theorem dq_next (h1 : ¬ t.val % 64 = 0) (r : Fin 4096) (l : Fin 128) :
    (outsAt0 m c t.val t.isLt).2.2.2.1 (ix2 r l)
      = (outsAt0 m c (t.val - 1) (Nat.lt_of_le_of_lt (Nat.sub_le _ _) t.isLt)).2.2.2.1 (ix2 r l)
        + ((if r.val / 512 = t.val % 8 then gQ x t.val r l else 0 : ℝ) : EReal) := by
  by_cases hs : t.val % 8 < t.val / 8 % 8
  · have e : (if r.val / 512 = t.val % 8 then gQ x t.val r l else 0 : ℝ) = 0 := by
      by_cases hr : r.val / 512 = t.val % 8
      · obtain ⟨u, rfl⟩ := as_row r _ hr
        rw [if_pos hr, gQ_skip x hs]
      · rw [if_neg hr]
    rw [e, EReal.coe_zero, add_zero]
    by_cases h0 : t.val % 8 = 0
    · rw [dq_D m c t h0 h1 (by omega) (by omega) (by omega)]
    · rw [dq_F m c t h0 h1 (by omega) (by omega) (by omega)]
  · have h0 : ¬ t.val % 8 = 0 := by omega
    by_cases hr : r.val / 512 = t.val % 8
    · rw [if_pos hr]
      obtain ⟨u, rfl⟩ := as_row r _ hr
      by_cases h2 : t.val / 8 % 8 = t.val % 8
      · by_cases h4 : t.val % 8 = 7
        · rw [dq_G m c t h0 (by omega) h2 (by omega) h4, dqM_pt H t (by omega), rowsOf_at]
        · rw [dq_E m c t h0 (by omega) h2 (by omega) h4, dqM_pt H t (by omega), rowsOf_at]
      · by_cases h4 : t.val % 8 = 7
        · rw [dq_C m c t h0 (by omega) h2 (by omega) h4, dqU_pt H t (by omega), rowsOf_at]
        · rw [dq_B m c t h0 (by omega) h2 (by omega) h4, dqU_pt H t (by omega), rowsOf_at]
    · rw [if_neg hr, EReal.coe_zero, add_zero]
      by_cases h2 : t.val / 8 % 8 = t.val % 8
      · by_cases h4 : t.val % 8 = 7
        · rw [dq_G' m c t h0 (by omega) h2 (by omega) h4 r l hr]
        · rw [dq_E' m c t h0 (by omega) h2 (by omega) h4 r l hr]
      · by_cases h4 : t.val % 8 = 7
        · rw [dq_C' m c t h0 (by omega) h2 (by omega) h4 r l hr]
        · rw [dq_B' m c t h0 (by omega) h2 (by omega) h4 r l hr]

/-! ## All points -/

theorem dk_at (n : ℕ) (hn : n < cfg0.N) (v : Fin 512) (l : Fin 256) :
    (outsAt0 m c n hn).2.2.2.2.1 (ix2 v l)
      = ((∑ i ∈ range (n % 8 + 1), tile (fun t => x.tk (pair n) (row (n / 8 % 8) v) l t) i : ℝ) : EReal) := by
  induction n with
  | zero => rw [dk_first H ⟨0, hn⟩ rfl]; simp [gK]
  | succ n ih =>
    by_cases h0 : (n + 1) % 8 = 0
    · rw [dk_first H ⟨n + 1, hn⟩ h0]
      show ((gK x (n + 1) v l : ℝ) : EReal) = _
      unfold gK
      rw [h0]; simp
    · refine (dk_next H ⟨n + 1, hn⟩ h0 v l).trans ?_
      have e := ih (Nat.lt_of_succ_lt hn)
      have p : pair n = pair (n + 1) := by unfold pair; congr 2; omega
      have r : n / 8 % 8 = (n + 1) / 8 % 8 := by omega
      have s : n % 8 + 1 = (n + 1) % 8 := by omega
      rw [p, r, s] at e
      rw [sum_range_succ, EReal.coe_add]
      exact congrArg (· + _) e

theorem dv_at (n : ℕ) (hn : n < cfg0.N) (v : Fin 512) (l : Fin 128) :
    (outsAt0 m c n hn).2.2.2.2.2 (ix2 v l)
      = ((∑ i ∈ range (n % 8 + 1), tile (fun t => x.tv (pair n) (row (n / 8 % 8) v) l t) i : ℝ) : EReal) := by
  induction n with
  | zero => rw [dv_first H ⟨0, hn⟩ rfl]; simp [gV]
  | succ n ih =>
    by_cases h0 : (n + 1) % 8 = 0
    · rw [dv_first H ⟨n + 1, hn⟩ h0]
      show ((gV x (n + 1) v l : ℝ) : EReal) = _
      unfold gV
      rw [h0]; simp
    · refine (dv_next H ⟨n + 1, hn⟩ h0 v l).trans ?_
      have e := ih (Nat.lt_of_succ_lt hn)
      have p : pair n = pair (n + 1) := by unfold pair; congr 2; omega
      have r : n / 8 % 8 = (n + 1) / 8 % 8 := by omega
      have s : n % 8 + 1 = (n + 1) % 8 := by omega
      rw [p, r, s] at e
      rw [sum_range_succ, EReal.coe_add]
      exact congrArg (· + _) e

theorem dq_at (n : ℕ) (hn : n < cfg0.N) (r : Fin 4096) (l : Fin 128) :
    (outsAt0 m c n hn).2.2.2.1 (ix2 r l)
      = ((∑ i ∈ range (n / 8 % 8 + if r.val / 512 ≤ n % 8 then 1 else 0), tile (fun r' => x.tq (pair n) r l r') i : ℝ) : EReal) := by
  have hr := r.isLt
  induction n with
  | zero =>
    rw [dq_first H ⟨0, hn⟩ rfl]
    by_cases h : r.val / 512 = 0 <;> simp [gQ, h]
  | succ n ih =>
    by_cases h1 : (n + 1) % 64 = 0
    · rw [dq_first H ⟨n + 1, hn⟩ h1]
      have a : (n + 1) % 8 = 0 := by omega
      have b : (n + 1) / 8 % 8 = 0 := by omega
      show ((if r.val / 512 = (n + 1) % 8 then gQ x (n + 1) r l else 0 : ℝ) : EReal) = _
      unfold gQ
      by_cases h : r.val / 512 = 0 <;> simp [a, b, h]
    · refine (dq_next H ⟨n + 1, hn⟩ h1 r l).trans ?_
      have e := ih (Nat.lt_of_succ_lt hn)
      have p : pair n = pair (n + 1) := by unfold pair; congr 2; omega
      rw [p] at e
      refine (congrArg (· + _) e).trans ?_
      show _ + ((if r.val / 512 = (n + 1) % 8 then gQ x (n + 1) r l else 0 : ℝ) : EReal) = _
      rw [← EReal.coe_add]
      congr 1
      unfold gQ
      by_cases h : r.val / 512 = (n + 1) % 8
      · have k : (n / 8 % 8 + if r.val / 512 ≤ n % 8 then 1 else 0) = (n + 1) / 8 % 8 := by split_ifs <;> omega
        rw [if_pos h, if_pos (le_of_eq h), k, sum_range_succ]
      · have k : (n / 8 % 8 + if r.val / 512 ≤ n % 8 then 1 else 0) = ((n + 1) / 8 % 8 + if r.val / 512 ≤ (n + 1) % 8 then 1 else 0) := by
          split_ifs <;> omega
        rw [if_neg h, add_zero, k]

/-! ## What the points that write back leave -/

theorem outK_at (h : t.val % 8 = 7) (v : Fin 512) (l : Fin 128) :
    (outsAt0 m c t.val t.isLt).1 (ix2 v l) = ((x.DK (row (t.val / 8 % 8) v) (lane (pair t.val) l) : ℝ) : EReal) := by
  have e : (outsAt0 m c t.val t.isLt).1 (ix2 v l) = (outsAt0 m c t.val t.isLt).2.2.2.2.1 (ix2 v ⟨l.val, by omega⟩) := by
    by_cases h2 : t.val / 8 % 8 = t.val % 8
    · exact flushK_G m c t (by omega) (by omega) h2 (by omega) h v l
    · exact flushK_C m c t (by omega) (by omega) h2 (by omega) h v l
  rw [e, dk_at H, h, sum_tile, sum_tk]

theorem outV_at (h : t.val % 8 = 7) (v : Fin 512) (l : Fin 128) :
    (outsAt0 m c t.val t.isLt).2.1 (ix2 v l) = ((x.DV (row (t.val / 8 % 8) v) (lane (pair t.val) l) : ℝ) : EReal) := by
  have e : (outsAt0 m c t.val t.isLt).2.1 = (outsAt0 m c t.val t.isLt).2.2.2.2.2 := by
    by_cases h2 : t.val / 8 % 8 = t.val % 8
    · exact flushV_G m c t (by omega) (by omega) h2 (by omega) h
    · exact flushV_C m c t (by omega) (by omega) h2 (by omega) h
  rw [e, dv_at H, h, sum_tile, sum_tv]

/-- The extra lanes of the keys' accumulator after all query rows. -/
def ext (x : In) (r : Fin 4096) (o : Fin 6) (l : Fin 128) : ℝ := ∑ t, x.tk o r ⟨128 + l.val, by omega⟩ t

theorem outG_at (h : t.val % 8 = 7) (v : Fin 512) (l : Fin 128) :
    (outsAt0 m c t.val t.isLt).2.2.1 (ix2 v l) = ((ext x (row (t.val / 8 % 8) v) (pair t.val) l : ℝ) : EReal) := by
  have e : (outsAt0 m c t.val t.isLt).2.2.1 (ix2 v l) = (outsAt0 m c t.val t.isLt).2.2.2.2.1 (ix2 v ⟨128 + l.val, by omega⟩) := by
    by_cases h2 : t.val / 8 % 8 = t.val % 8
    · exact flushG_G m c t (by omega) (by omega) h2 (by omega) h v l
    · exact flushG_C m c t (by omega) (by omega) h2 (by omega) h v l
  rw [e, dk_at H, h, sum_tile]
  rfl

theorem outQ_at (h : t.val % 64 = 63) (r : Fin 4096) (l : Fin 128) :
    (outsAt0 m c t.val t.isLt).2.2.2.1 (ix2 r l) = ((∑ r', x.tq (pair t.val) r l r' : ℝ) : EReal) := by
  have hr := r.isLt
  have a : t.val % 8 = 7 := by omega
  have b : t.val / 8 % 8 = 7 := by omega
  rw [dq_at H, a, b, if_pos (by omega), sum_tile]

end Cert.KernelIdeal.Fox
-- ==== Proof.FoxOut.lean ====
module

public import proofs.«01_k».proof.Proof.FoxFold

/-!
# The arrays after the grid

The blocks written back tile the four result arrays: the keys' gradient, the values' gradient, the keys' side lanes, and
the queries' gradient before its scale.
-/

@[expose] public section

set_option maxRecDepth 16384

noncomputable section

namespace Cert.KernelIdeal.Fox

open Idealize.ShloMosaic Idealize.ShloMosaic.TcCoe Idealize.SL.Sem Cert.Fox Cert.Fox.In Finset
open Cert.KernelIdeal Cert.KernelIdeal.Gen

/-- Which block of its array each output window holds at a point. -/
theorem place : ∀ t : Fin cfg0.N, win0_8.index t = ![t.val / 8 % 8, t.val / 64] ∧ win0_9.index t = ![t.val / 8 % 8, t.val / 64]
    ∧ win0_10.index t = ![t.val / 8 % 8, t.val / 64] ∧ win0_11.index t = ![0, t.val / 64] :=
  (by decide +kernel : ∀ t : Fin grid0.N, _)

variable (x : In) (m : (ℓ : Loc nD τ sig) → Buf (Elt Ideal) ℓ) (c : Dev nD)

/-- The keys' gradient. -/
def arrK : FVec Ideal S4096x768 .f32 := fun i => ((x.DK (i 0) (i 1) : ℝ) : EReal)
/-- The values' gradient. -/
def arrV : FVec Ideal S4096x768 .f32 := fun i => ((x.DV (i 0) (i 1) : ℝ) : EReal)
/-- The keys' side lanes: the sums over the rows of the products with the queries' side lanes. -/
def arrG : FVec Ideal S4096x768 .f32 := fun i =>
  ((ext x (i 0) ⟨(i 1).val / 128, by have := (i 1).isLt; change (i 1).val < 768 at this; omega⟩ ⟨(i 1).val % 128, Nat.mod_lt _ (by norm_num)⟩ : ℝ) : EReal)
/-- The queries' gradient before its scale. -/
def arrQ : FVec Ideal S4096x768 .f32 := fun i =>
  ((∑ r, x.tq ⟨(i 1).val / 128, by have := (i 1).isLt; change (i 1).val < 768 at this; omega⟩ (i 0) ⟨(i 1).val % 128, Nat.mod_lt _ (by norm_num)⟩ r : ℝ) : EReal)

variable {x m c}
variable (H : Reads x m c)
include H

/-- The keys' gradient, whole. -/
theorem finalK : (dats m 0 c).arrAt 8 cfg0.N = arrK x := by
  refine (dats m 0 c).arrAt_eq_of_covers 8 _ (by decide +kernel) fun t hf y => ?_
  blk_simp
  rw [after0_8]
  have hm : t.val % 8 = 7 := (flush0_8 t).mp hf
  have hN : t.val < 384 := lt_of_lt_of_eq t.isLt N_0
  have e : win0_8.index t = ![t.val / 8 % 8, t.val / 64] := (place t).1
  have y0 : (y 0).val < 512 := (y 0).isLt
  have y1 : (y 1).val < 128 := (y 1).isLt
  have h0 : ((win0_8.blk t).view.emb y 0).val = win0_8.index t (0 : Fin 2) * 512 + 1 * (y 0).val := rfl
  have h1 : ((win0_8.blk t).view.emb y 1).val = win0_8.index t (1 : Fin 2) * 128 + 1 * (y 1).val := rfl
  have e0 : win0_8.index t (0 : Fin 2) = t.val / 8 % 8 := congrFun e 0
  have e1 : win0_8.index t (1 : Fin 2) = t.val / 64 := congrFun e 1
  rw [e0] at h0
  rw [e1] at h1
  have ey : (y : S512x128.Idx) = ix2 ⟨(y 0).val, y0⟩ ⟨(y 1).val, y1⟩ := by
    funext a
    match a with
    | ⟨0, _⟩ => rfl
    | ⟨1, _⟩ => rfl
  refine (congrArg _ ey).trans ((outK_at H t hm ⟨(y 0).val, y0⟩ ⟨(y 1).val, y1⟩).trans ?_)
  refine congrArg (fun z : ℝ => (z : EReal)) ?_
  refine congrArg₂ x.DK (Fin.ext ?_) (Fin.ext ?_)
  · rw [h0]; show (512 * (t.val / 8 % 8) + (y 0).val) % 4096 = _; omega
  · rw [h1]; show 128 * (t.val / 64 % 6) + (y 1).val = _; omega

/-- The values' gradient, whole. -/
theorem finalV : (dats m 0 c).arrAt 9 cfg0.N = arrV x := by
  refine (dats m 0 c).arrAt_eq_of_covers 9 _ (by decide +kernel) fun t hf y => ?_
  blk_simp
  rw [after0_9]
  have hm : t.val % 8 = 7 := (flush0_9 t).mp hf
  have hN : t.val < 384 := lt_of_lt_of_eq t.isLt N_0
  have e : win0_9.index t = ![t.val / 8 % 8, t.val / 64] := (place t).2.1
  have y0 : (y 0).val < 512 := (y 0).isLt
  have y1 : (y 1).val < 128 := (y 1).isLt
  have h0 : ((win0_9.blk t).view.emb y 0).val = win0_9.index t (0 : Fin 2) * 512 + 1 * (y 0).val := rfl
  have h1 : ((win0_9.blk t).view.emb y 1).val = win0_9.index t (1 : Fin 2) * 128 + 1 * (y 1).val := rfl
  have e0 : win0_9.index t (0 : Fin 2) = t.val / 8 % 8 := congrFun e 0
  have e1 : win0_9.index t (1 : Fin 2) = t.val / 64 := congrFun e 1
  rw [e0] at h0
  rw [e1] at h1
  have ey : (y : S512x128.Idx) = ix2 ⟨(y 0).val, y0⟩ ⟨(y 1).val, y1⟩ := by
    funext a
    match a with
    | ⟨0, _⟩ => rfl
    | ⟨1, _⟩ => rfl
  refine (congrArg _ ey).trans ((outV_at H t hm ⟨(y 0).val, y0⟩ ⟨(y 1).val, y1⟩).trans ?_)
  refine congrArg (fun z : ℝ => (z : EReal)) ?_
  refine congrArg₂ x.DV (Fin.ext ?_) (Fin.ext ?_)
  · rw [h0]; show (512 * (t.val / 8 % 8) + (y 0).val) % 4096 = _; omega
  · rw [h1]; show 128 * (t.val / 64 % 6) + (y 1).val = _; omega

/-- The side lanes, whole. -/
theorem finalG : (dats m 0 c).arrAt 10 cfg0.N = arrG x := by
  refine (dats m 0 c).arrAt_eq_of_covers 10 _ (by decide +kernel) fun t hf y => ?_
  blk_simp
  rw [after0_10]
  have hm : t.val % 8 = 7 := (flush0_10 t).mp hf
  have hN : t.val < 384 := lt_of_lt_of_eq t.isLt N_0
  have e : win0_10.index t = ![t.val / 8 % 8, t.val / 64] := (place t).2.2.1
  have y0 : (y 0).val < 512 := (y 0).isLt
  have y1 : (y 1).val < 128 := (y 1).isLt
  have h0 : ((win0_10.blk t).view.emb y 0).val = win0_10.index t (0 : Fin 2) * 512 + 1 * (y 0).val := rfl
  have h1 : ((win0_10.blk t).view.emb y 1).val = win0_10.index t (1 : Fin 2) * 128 + 1 * (y 1).val := rfl
  have e0 : win0_10.index t (0 : Fin 2) = t.val / 8 % 8 := congrFun e 0
  have e1 : win0_10.index t (1 : Fin 2) = t.val / 64 := congrFun e 1
  rw [e0] at h0
  rw [e1] at h1
  have ey : (y : S512x128.Idx) = ix2 ⟨(y 0).val, y0⟩ ⟨(y 1).val, y1⟩ := by
    funext a
    match a with
    | ⟨0, _⟩ => rfl
    | ⟨1, _⟩ => rfl
  refine (congrArg _ ey).trans ((outG_at H t hm ⟨(y 0).val, y0⟩ ⟨(y 1).val, y1⟩).trans ?_)
  have o : pair t.val = ⟨((win0_10.blk t).view.emb y 1).val / 128, by rw [h1]; omega⟩ := Fin.ext (by show t.val / 64 % 6 = ((win0_10.blk t).view.emb y 1).val / 128; omega)
  have l : (⟨(y 1).val, y1⟩ : Fin 128) = ⟨((win0_10.blk t).view.emb y 1).val % 128, Nat.mod_lt _ (by norm_num)⟩ :=
    Fin.ext (by show (y 1).val = ((win0_10.blk t).view.emb y 1).val % 128; omega)
  have r : row (t.val / 8 % 8) ⟨(y 0).val, y0⟩ = (win0_10.blk t).view.emb y 0 :=
    Fin.ext (by rw [h0]; show (512 * (t.val / 8 % 8) + (y 0).val) % 4096 = _; omega)
  rw [o, l, r]
  rfl

/-- The queries' gradient before its scale, whole. -/
theorem finalQ : (dats m 0 c).arrAt 11 cfg0.N = arrQ x := by
  refine (dats m 0 c).arrAt_eq_of_covers 11 _ (by decide +kernel) fun t hf y => ?_
  blk_simp
  rw [after0_11]
  have hm : t.val % 64 = 63 := (flush0_11 t).mp hf
  have hN : t.val < 384 := lt_of_lt_of_eq t.isLt N_0
  have e : win0_11.index t = ![0, t.val / 64] := (place t).2.2.2
  have y0 : (y 0).val < 4096 := (y 0).isLt
  have y1 : (y 1).val < 128 := (y 1).isLt
  have h0 : ((win0_11.blk t).view.emb y 0).val = win0_11.index t (0 : Fin 2) * 4096 + 1 * (y 0).val := rfl
  have h1 : ((win0_11.blk t).view.emb y 1).val = win0_11.index t (1 : Fin 2) * 128 + 1 * (y 1).val := rfl
  have e0 : win0_11.index t (0 : Fin 2) = 0 := congrFun e 0
  have e1 : win0_11.index t (1 : Fin 2) = t.val / 64 := congrFun e 1
  rw [e0] at h0
  rw [e1] at h1
  have ey : (y : S4096x128.Idx) = ix2 ⟨(y 0).val, y0⟩ ⟨(y 1).val, y1⟩ := by
    funext a
    match a with
    | ⟨0, _⟩ => rfl
    | ⟨1, _⟩ => rfl
  refine (congrArg _ ey).trans ((outQ_at H t hm ⟨(y 0).val, y0⟩ ⟨(y 1).val, y1⟩).trans ?_)
  have o : pair t.val = ⟨((win0_11.blk t).view.emb y 1).val / 128, by rw [h1]; omega⟩ := Fin.ext (by show t.val / 64 % 6 = ((win0_11.blk t).view.emb y 1).val / 128; omega)
  have l : (⟨(y 1).val, y1⟩ : Fin 128) = ⟨((win0_11.blk t).view.emb y 1).val % 128, Nat.mod_lt _ (by norm_num)⟩ :=
    Fin.ext (by show (y 1).val = ((win0_11.blk t).view.emb y 1).val % 128; omega)
  have r : (⟨(y 0).val, y0⟩ : Fin 4096) = (win0_11.blk t).view.emb y 0 := Fin.ext (by rw [h0]; show (y 0).val = _; omega)
  rw [o, l, r]
  rfl

end Cert.KernelIdeal.Fox
-- ==== Proof.FoxReads.lean ====
module

public import proofs.«01_k».proof.Proof.FoxArgs
public import proofs.«01_k».proof.Proof.FoxOut

/-!
# The blocks a point reads

Each input window's block at a grid point is a rectangle of one of the host's arrays, so its entries are the real
numbers that `FoxArgs` gives.
-/

@[expose] public section

set_option maxRecDepth 16384

noncomputable section

namespace Cert.KernelIdeal.Fox

open Idealize.ShloMosaic Idealize.ShloMosaic.TcCoe Idealize.SL.Sem Cert.Fox Cert.Fox.In
open Cert.KernelIdeal Cert.KernelIdeal.Gen
open Cert.ReferenceIdeal.Fox (logit top A B T R Args)

/-- Which block of its array each input window holds at a point. -/
theorem source : ∀ t : Fin cfg0.N, (t.val / 8 % 8 ≤ t.val % 8 → win0_0.index t = ![t.val % 8, t.val / 64]) ∧ win0_1.index t = ![t.val / 8 % 8, 6 + t.val / 64]
    ∧ win0_2.index t = ![t.val / 8 % 8, 12 + t.val / 64] ∧ (t.val / 8 % 8 ≤ t.val % 8 → win0_3.index t = ![t.val % 8, t.val / 64])
    ∧ (t.val / 8 % 8 ≤ t.val % 8 → win0_4.index t = ![t.val % 8, t.val / 64]) ∧ (t.val / 8 % 8 ≤ t.val % 8 → win0_5.index t = ![t.val % 8, t.val / 64])
    ∧ (t.val / 8 % 8 ≤ t.val % 8 → win0_6.index t = ![t.val % 8, t.val / 64]) ∧ win0_7.index t = ![t.val / 8 % 8, t.val / 64] :=
  (by decide +kernel : ∀ t : Fin grid0.N, _)

variable (m : (ℓ : Loc nD τ sig) → Buf (Elt Ideal) ℓ) (c : Dev nD)
variable {x : In}
variable (H : Args (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) x)
variable (HM : ∀ h t, top (logit (m ((c.tc : Thread nD τ).loc main_arg0)) (m ((c.tc : Thread nD τ).loc main_arg1)) (m ((c.tc : Thread nD τ).loc main_arg3))) (ix2 h t) = ((x.M h t : ℝ) : EReal))

include H in
theorem block_q (t : Fin cfg0.N) (ht : t.val / 8 % 8 ≤ t.val % 8) (u : Fin 512) (l : Fin 128) :
    (iblk m c 0 t : FVec Ideal S512x128 .bf16) (ix2 u l) = ((x.Qs (row (t.val % 8) u) (lane (pair t.val) l) : ℝ) : EReal) := by
  have hN : t.val < 384 := lt_of_lt_of_eq t.isLt N_0
  have e : win0_0.index t = ![t.val % 8, t.val / 64] := ((source t).1 ht)
  have e0 : win0_0.index t (0 : Fin 2) = t.val % 8 := congrFun e 0
  have e1 : win0_0.index t (1 : Fin 2) = t.val / 64 := congrFun e 1
  have h0 : ((win0_0.blk t).view.emb (ix2 u l) 0).val = win0_0.index t (0 : Fin 2) * 512 + 1 * u.val := rfl
  have h1 : ((win0_0.blk t).view.emb (ix2 u l) 1).val = win0_0.index t (1 : Fin 2) * 128 + 1 * l.val := rfl
  rw [e0] at h0
  rw [e1] at h1
  have hl := (lane (pair t.val) l).isLt
  have hp : ((win0_0.blk t).view.emb (ix2 u l) : S4096x2304.Idx) = ix2 (row (t.val % 8) u) ((⟨(lane (pair t.val) l).val, by omega⟩ : Fin 2304)) := by
    funext a
    match a with
    | ⟨0, _⟩ => exact Fin.ext (h0.trans (by show _ = (512 * (t.val % 8) + u.val) % 4096; omega))
    | ⟨1, _⟩ => exact Fin.ext (h1.trans (by show _ = 128 * (t.val / 64 % 6) + l.val; omega))
  show (V m c main_v67 : FVec Ideal S4096x2304 .bf16) ((win0_0.blk t).view.emb (ix2 u l)) = _
  rw [hp, read_v67]
  exact side_at_q H _ _

include H in
theorem block_k (t : Fin cfg0.N) (u : Fin 512) (l : Fin 128) :
    (iblk m c 1 t : FVec Ideal S512x128 .bf16) (ix2 u l) = ((x.K (row (t.val / 8 % 8) u) (lane (pair t.val) l) : ℝ) : EReal) := by
  have hN : t.val < 384 := lt_of_lt_of_eq t.isLt N_0
  have e : win0_1.index t = ![t.val / 8 % 8, 6 + t.val / 64] := (source t).2.1
  have e0 : win0_1.index t (0 : Fin 2) = t.val / 8 % 8 := congrFun e 0
  have e1 : win0_1.index t (1 : Fin 2) = 6 + t.val / 64 := congrFun e 1
  have h0 : ((win0_1.blk t).view.emb (ix2 u l) 0).val = win0_1.index t (0 : Fin 2) * 512 + 1 * u.val := rfl
  have h1 : ((win0_1.blk t).view.emb (ix2 u l) 1).val = win0_1.index t (1 : Fin 2) * 128 + 1 * l.val := rfl
  rw [e0] at h0
  rw [e1] at h1
  have hl := (lane (pair t.val) l).isLt
  have hp : ((win0_1.blk t).view.emb (ix2 u l) : S4096x2304.Idx) = ix2 (row (t.val / 8 % 8) u) ((⟨768 + (lane (pair t.val) l).val, by omega⟩ : Fin 2304)) := by
    funext a
    match a with
    | ⟨0, _⟩ => exact Fin.ext (h0.trans (by show _ = (512 * (t.val / 8 % 8) + u.val) % 4096; omega))
    | ⟨1, _⟩ => exact Fin.ext (h1.trans (by show _ = 768 + (128 * (t.val / 64 % 6) + l.val); omega))
  show (V m c main_v67 : FVec Ideal S4096x2304 .bf16) ((win0_1.blk t).view.emb (ix2 u l)) = _
  rw [hp, read_v67]
  exact side_at_k H _ _

include H in
theorem block_v (t : Fin cfg0.N) (u : Fin 512) (l : Fin 128) :
    (iblk m c 2 t : FVec Ideal S512x128 .bf16) (ix2 u l) = ((x.V (row (t.val / 8 % 8) u) (lane (pair t.val) l) : ℝ) : EReal) := by
  have hN : t.val < 384 := lt_of_lt_of_eq t.isLt N_0
  have e : win0_2.index t = ![t.val / 8 % 8, 12 + t.val / 64] := (source t).2.2.1
  have e0 : win0_2.index t (0 : Fin 2) = t.val / 8 % 8 := congrFun e 0
  have e1 : win0_2.index t (1 : Fin 2) = 12 + t.val / 64 := congrFun e 1
  have h0 : ((win0_2.blk t).view.emb (ix2 u l) 0).val = win0_2.index t (0 : Fin 2) * 512 + 1 * u.val := rfl
  have h1 : ((win0_2.blk t).view.emb (ix2 u l) 1).val = win0_2.index t (1 : Fin 2) * 128 + 1 * l.val := rfl
  rw [e0] at h0
  rw [e1] at h1
  have hl := (lane (pair t.val) l).isLt
  have hp : ((win0_2.blk t).view.emb (ix2 u l) : S4096x2304.Idx) = ix2 (row (t.val / 8 % 8) u) ((⟨1536 + (lane (pair t.val) l).val, by omega⟩ : Fin 2304)) := by
    funext a
    match a with
    | ⟨0, _⟩ => exact Fin.ext (h0.trans (by show _ = (512 * (t.val / 8 % 8) + u.val) % 4096; omega))
    | ⟨1, _⟩ => exact Fin.ext (h1.trans (by show _ = 1536 + (128 * (t.val / 64 % 6) + l.val); omega))
  show (V m c main_v67 : FVec Ideal S4096x2304 .bf16) ((win0_2.blk t).view.emb (ix2 u l)) = _
  rw [hp, read_v67]
  exact side_at_v H _ _

include H in
theorem block_d (t : Fin cfg0.N) (ht : t.val / 8 % 8 ≤ t.val % 8) (u : Fin 512) (l : Fin 128) :
    (iblk m c 3 t : FVec Ideal S512x128 .f32) (ix2 u l) = ((x.D (row (t.val % 8) u) (lane (pair t.val) l) : ℝ) : EReal) := by
  have hN : t.val < 384 := lt_of_lt_of_eq t.isLt N_0
  have e : win0_3.index t = ![t.val % 8, t.val / 64] := ((source t).2.2.2.1 ht)
  have e0 : win0_3.index t (0 : Fin 2) = t.val % 8 := congrFun e 0
  have e1 : win0_3.index t (1 : Fin 2) = t.val / 64 := congrFun e 1
  have h0 : ((win0_3.blk t).view.emb (ix2 u l) 0).val = win0_3.index t (0 : Fin 2) * 512 + 1 * u.val := rfl
  have h1 : ((win0_3.blk t).view.emb (ix2 u l) 1).val = win0_3.index t (1 : Fin 2) * 128 + 1 * l.val := rfl
  rw [e0] at h0
  rw [e1] at h1
  have hl := (lane (pair t.val) l).isLt
  have hp : ((win0_3.blk t).view.emb (ix2 u l) : S4096x768.Idx) = ix2 (row (t.val % 8) u) (lane (pair t.val) l) := by
    funext a
    match a with
    | ⟨0, _⟩ => exact Fin.ext (h0.trans (by show _ = (512 * (t.val % 8) + u.val) % 4096; omega))
    | ⟨1, _⟩ => exact Fin.ext (h1.trans (by show _ = 128 * (t.val / 64 % 6) + l.val; omega))
  show (V m c main_arg4 : FVec Ideal S4096x768 .f32) ((win0_3.blk t).view.emb (ix2 u l)) = _
  rw [hp, read_arg4]
  exact H.d _ _

theorem place_o (w : FVec Ideal S4096x768 .f32) (t : Fin cfg0.N) (ht : t.val / 8 % 8 ≤ t.val % 8) (u : Fin 512) (l : Fin 128) :
    ((cfg0.win 4).blk t).view.read (Elt Ideal) w (ix2 u l) = w (ix2 (row (t.val % 8) u) (lane (pair t.val) l)) := by
  have hN : t.val < 384 := lt_of_lt_of_eq t.isLt N_0
  have e : win0_4.index t = ![t.val % 8, t.val / 64] := ((source t).2.2.2.2.1 ht)
  have e0 : win0_4.index t (0 : Fin 2) = t.val % 8 := congrFun e 0
  have e1 : win0_4.index t (1 : Fin 2) = t.val / 64 := congrFun e 1
  have h0 : ((win0_4.blk t).view.emb (ix2 u l) 0).val = win0_4.index t (0 : Fin 2) * 512 + 1 * u.val := rfl
  have h1 : ((win0_4.blk t).view.emb (ix2 u l) 1).val = win0_4.index t (1 : Fin 2) * 128 + 1 * l.val := rfl
  rw [e0] at h0
  rw [e1] at h1
  have hl := (lane (pair t.val) l).isLt
  have hp : ((win0_4.blk t).view.emb (ix2 u l) : S4096x768.Idx) = ix2 (row (t.val % 8) u) (lane (pair t.val) l) := by
    funext a
    match a with
    | ⟨0, _⟩ => exact Fin.ext (h0.trans (by show _ = (512 * (t.val % 8) + u.val) % 4096; omega))
    | ⟨1, _⟩ => exact Fin.ext (h1.trans (by show _ = 128 * (t.val / 64 % 6) + l.val; omega))
  show w ((win0_4.blk t).view.emb (ix2 u l)) = _
  rw [hp]

theorem array_o : V m c (Pipeline.arrRef spec0 4) = V m c main_v33 := rfl

include H HM in
theorem block_o (t : Fin cfg0.N) (ht : t.val / 8 % 8 ≤ t.val % 8) (u : Fin 512) (l : Fin 128) :
    (iblk m c 4 t : FVec Ideal S512x128 .f32) (ix2 u l) = ((x.att (row (t.val % 8) u) (lane (pair t.val) l) : ℝ) : EReal) := by
  unfold iblk
  rw [array_o, read_v33]
  exact (place_o _ t ht u l).trans (weighted_at H HM _ _)

theorem place_l (w : FVec Ideal S4096x768 .f32) (t : Fin cfg0.N) (ht : t.val / 8 % 8 ≤ t.val % 8) (u : Fin 512) (l : Fin 128) :
    ((cfg0.win 5).blk t).view.read (Elt Ideal) w (ix2 u l) = w (ix2 (row (t.val % 8) u) (lane (pair t.val) l)) := by
  have hN : t.val < 384 := lt_of_lt_of_eq t.isLt N_0
  have e : win0_5.index t = ![t.val % 8, t.val / 64] := ((source t).2.2.2.2.2.1 ht)
  have e0 : win0_5.index t (0 : Fin 2) = t.val % 8 := congrFun e 0
  have e1 : win0_5.index t (1 : Fin 2) = t.val / 64 := congrFun e 1
  have h0 : ((win0_5.blk t).view.emb (ix2 u l) 0).val = win0_5.index t (0 : Fin 2) * 512 + 1 * u.val := rfl
  have h1 : ((win0_5.blk t).view.emb (ix2 u l) 1).val = win0_5.index t (1 : Fin 2) * 128 + 1 * l.val := rfl
  rw [e0] at h0
  rw [e1] at h1
  have hl := (lane (pair t.val) l).isLt
  have hp : ((win0_5.blk t).view.emb (ix2 u l) : S4096x768.Idx) = ix2 (row (t.val % 8) u) (lane (pair t.val) l) := by
    funext a
    match a with
    | ⟨0, _⟩ => exact Fin.ext (h0.trans (by show _ = (512 * (t.val % 8) + u.val) % 4096; omega))
    | ⟨1, _⟩ => exact Fin.ext (h1.trans (by show _ = 128 * (t.val / 64 % 6) + l.val; omega))
  show w ((win0_5.blk t).view.emb (ix2 u l)) = _
  rw [hp]

theorem array_l : V m c (Pipeline.arrRef spec0 5) = V m c main_v107 := rfl

include H HM in
theorem block_l (t : Fin cfg0.N) (ht : t.val / 8 % 8 ≤ t.val % 8) (u : Fin 512) (l : Fin 128) :
    (iblk m c 5 t : FVec Ideal S512x128 .f32) (ix2 u l) = ((x.LS (row (t.val % 8) u) (lane (pair t.val) l) : ℝ) : EReal) := by
  unfold iblk
  rw [array_l, read_v107]
  exact (place_l _ t ht u l).trans (spread_lse_at H HM _ _)

include H in
theorem block_qa (t : Fin cfg0.N) (ht : t.val / 8 % 8 ≤ t.val % 8) (u : Fin 512) (l : Fin 128) :
    (iblk m c 6 t : FVec Ideal S512x128 .bf16) (ix2 u l) = ((x.QA (row (t.val % 8) u) (lane (pair t.val) l) : ℝ) : EReal) := by
  have hN : t.val < 384 := lt_of_lt_of_eq t.isLt N_0
  have e : win0_6.index t = ![t.val % 8, t.val / 64] := ((source t).2.2.2.2.2.2.1 ht)
  have e0 : win0_6.index t (0 : Fin 2) = t.val % 8 := congrFun e 0
  have e1 : win0_6.index t (1 : Fin 2) = t.val / 64 := congrFun e 1
  have h0 : ((win0_6.blk t).view.emb (ix2 u l) 0).val = win0_6.index t (0 : Fin 2) * 512 + 1 * u.val := rfl
  have h1 : ((win0_6.blk t).view.emb (ix2 u l) 1).val = win0_6.index t (1 : Fin 2) * 128 + 1 * l.val := rfl
  rw [e0] at h0
  rw [e1] at h1
  have hl := (lane (pair t.val) l).isLt
  have hp : ((win0_6.blk t).view.emb (ix2 u l) : S4096x768.Idx) = ix2 (row (t.val % 8) u) (lane (pair t.val) l) := by
    funext a
    match a with
    | ⟨0, _⟩ => exact Fin.ext (h0.trans (by show _ = (512 * (t.val % 8) + u.val) % 4096; omega))
    | ⟨1, _⟩ => exact Fin.ext (h1.trans (by show _ = 128 * (t.val / 64 % 6) + l.val; omega))
  show (V m c main_v90 : FVec Ideal S4096x768 .bf16) ((win0_6.blk t).view.emb (ix2 u l)) = _
  rw [hp, read_v90]
  exact qlanes_at H _ _

include H in
theorem block_ka (t : Fin cfg0.N) (u : Fin 512) (l : Fin 128) :
    (iblk m c 7 t : FVec Ideal S512x128 .bf16) (ix2 u l) = ((x.KA (row (t.val / 8 % 8) u) (lane (pair t.val) l) : ℝ) : EReal) := by
  have hN : t.val < 384 := lt_of_lt_of_eq t.isLt N_0
  have e : win0_7.index t = ![t.val / 8 % 8, t.val / 64] := (source t).2.2.2.2.2.2.2
  have e0 : win0_7.index t (0 : Fin 2) = t.val / 8 % 8 := congrFun e 0
  have e1 : win0_7.index t (1 : Fin 2) = t.val / 64 := congrFun e 1
  have h0 : ((win0_7.blk t).view.emb (ix2 u l) 0).val = win0_7.index t (0 : Fin 2) * 512 + 1 * u.val := rfl
  have h1 : ((win0_7.blk t).view.emb (ix2 u l) 1).val = win0_7.index t (1 : Fin 2) * 128 + 1 * l.val := rfl
  rw [e0] at h0
  rw [e1] at h1
  have hl := (lane (pair t.val) l).isLt
  have hp : ((win0_7.blk t).view.emb (ix2 u l) : S4096x768.Idx) = ix2 (row (t.val / 8 % 8) u) (lane (pair t.val) l) := by
    funext a
    match a with
    | ⟨0, _⟩ => exact Fin.ext (h0.trans (by show _ = (512 * (t.val / 8 % 8) + u.val) % 4096; omega))
    | ⟨1, _⟩ => exact Fin.ext (h1.trans (by show _ = 128 * (t.val / 64 % 6) + l.val; omega))
  show (V m c main_v105 : FVec Ideal S4096x768 .bf16) ((win0_7.blk t).view.emb (ix2 u l)) = _
  rw [hp, read_v105]
  exact klanes_at H _ _

include H HM in
/-- Every block a point reads holds the reals of `x`. -/
theorem reads : Reads x m c :=
  ⟨block_q m c H, block_k m c H, block_v m c H, block_d m c H, block_o m c H HM, block_l m c H HM, block_qa m c H, block_ka m c H⟩

end Cert.KernelIdeal.Fox
-- ==== Proof.FoxTail.lean ====
module

public import proofs.«01_k».proof.Proof.FoxReads

/-!
# After the grid: the scale of the queries' gradient and the gate's gradient

The host multiplies the queries' array by an eighth and takes the fourth of every sixty-four side lanes, negated, as
the gradient of the gate's running sum. With the four arrays of the grid this gives the four gradients.
-/

@[expose] public section

set_option maxRecDepth 16384

noncomputable section

namespace Cert.KernelIdeal.Fox

open Idealize.ShloMosaic Idealize.ShloMosaic.TcCoe Idealize.SL.Sem Cert.Fox Cert.Fox.In Finset
open Cert.KernelIdeal Cert.KernelIdeal.Gen
open Cert.ReferenceIdeal.Fox (logit top A B T R Args)

/-- The queries' gradient. -/
def resQ (x : In) : FVec Ideal S4096x768 .f32 := fun i => ((x.DQ (i 0) (i 1) : ℝ) : EReal)
/-- The gradient of the gate's running sum. -/
def resC (x : In) : FVec Ideal S4096x12 .f32 := fun i => ((x.DC (i 0) (i 1) : ℝ) : EReal)

theorem lane_eq (j : Fin 768) : lane ⟨j.val / 128, by omega⟩ ⟨j.val % 128, Nat.mod_lt _ (by norm_num)⟩ = j :=
  Fin.ext (by show 128 * (j.val / 128) + j.val % 128 = j.val; omega)

theorem scaled (x : In) : mulf (arrQ x) (broadcastInDim S4096x768 ![] bcast_S_S4096x768 (constant S_ .f32 0x3E000000#32)) = resQ x := by
  funext i
  obtain ⟨t, j, rfl⟩ : ∃ (t : Fin 4096) (j : Fin 768), i = ix2 t j := ⟨i 0, i 1, (ix2_eta i).symm⟩
  have e : broadcastInDim S4096x768 ![] bcast_S_S4096x768 (constant (F := Ideal) S_ .f32 0x3E000000#32) (ix2 t j) = (((1 / 8 : ℝ)) : EReal) :=
    Cert.ReferenceIdeal.Fox.eighth
  show arrQ x (ix2 t j) * broadcastInDim S4096x768 ![] bcast_S_S4096x768 (constant (F := Ideal) S_ .f32 0x3E000000#32) (ix2 t j) = _
  rw [e]
  show ((∑ r, x.tq ⟨j.val / 128, _⟩ t ⟨j.val % 128, _⟩ r : ℝ) : EReal) * _ = ((x.DQ t j : ℝ) : EReal)
  rw [← EReal.coe_mul, x.sum_tq, lane_eq]

theorem taken (x : In) : Host.negf (Host.slice S4096x12 ![0, 3] ![1, 64] (arrG x) slicesBy_S4096x768_S4096x12_0s1_3s64) = resC x := by
  funext i
  obtain ⟨t, h, rfl⟩ : ∃ (t : Fin 4096) (h : Fin 12), i = ix2 t h := ⟨i 0, i 1, (ix2_eta i).symm⟩
  have hh := h.isLt
  have e : Host.negf (Host.slice S4096x12 ![0, 3] ![1, 64] (arrG x) slicesBy_S4096x768_S4096x12_0s1_3s64) (ix2 t h)
      = -(arrG x (ix2 t ⟨3 + 64 * h.val, by omega⟩)) := by
    pointwise []
  rw [e]
  show -((∑ t', x.tk ⟨(3 + 64 * h.val) / 128, _⟩ t ⟨128 + (3 + 64 * h.val) % 128, _⟩ t' : ℝ) : EReal) = ((x.DC t h : ℝ) : EReal)
  rw [← EReal.coe_neg]
  have hs := x.sum_tk_gate t ⟨(3 + 64 * h.val) / 128, by omega⟩ ⟨(3 + 64 * h.val) % 128, Nat.mod_lt _ (by norm_num)⟩ (by show (3 + 64 * h.val) % 128 % 64 = 3; omega)
  have hl : headOf (lane ⟨(3 + 64 * h.val) / 128, by omega⟩ ⟨(3 + 64 * h.val) % 128, Nat.mod_lt _ (by norm_num)⟩) = h :=
    Fin.ext (by show (128 * ((3 + 64 * h.val) / 128) + (3 + 64 * h.val) % 128) / 64 = h.val; omega)
  rw [hl] at hs
  exact congrArg _ hs

/-- What the lines after the grid leave of any arrays. -/
theorem tail_q (W : Valuation τ sig (Elt Ideal)) : StableHlo.after hostOps1 W (Proc.devRef .tc main_v110)
    = (mulf (W (Proc.devRef .tc main_v108_3) : FVec Ideal S4096x768 .f32) (broadcastInDim S4096x768 ![] bcast_S_S4096x768 (constant S_ .f32 0x3E000000#32)) : FVec Ideal S4096x768 .f32) := by
  after_results
theorem tail_c (W : Valuation τ sig (Elt Ideal)) : StableHlo.after hostOps1 W (Proc.devRef .tc main_v112)
    = (Host.negf (Host.slice S4096x12 ![0, 3] ![1, 64] (W (Proc.devRef .tc main_v108_2) : FVec Ideal S4096x768 .f32) slicesBy_S4096x768_S4096x12_0s1_3s64) : FVec Ideal S4096x12 .f32) := by
  after_results

variable (m : (ℓ : Loc nD τ sig) → Buf (Elt Ideal) ℓ) (c : Dev nD)

/-- A result array at the end of the grid, read through the lines' entry contents. -/
theorem exit (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.withArrays_arr_shared (cfgs 0).spec c (V0 m c) _ (Pipeline.Dat.arrAt_sharedIn (dats m 0 c) sharedIn0 (V0 m c) (A_eq m c) _) w

theorem after_q : Pipeline.afterTail₀ cfgs (dats m) 0 (V0 m) [hostOps1] c main_v110
    = (mulf ((dats m 0 c).arrAt 11 cfg0.N : FVec Ideal S4096x768 .f32) (broadcastInDim S4096x768 ![] bcast_S_S4096x768 (constant S_ .f32 0x3E000000#32)) : FVec Ideal S4096x768 .f32) :=
  (tail_q _).trans (congrArg (fun w : FVec Ideal S4096x768 .f32 => (mulf w (broadcastInDim S4096x768 ![] bcast_S_S4096x768 (constant S_ .f32 0x3E000000#32)) : FVec Ideal S4096x768 .f32)) (exit m c 11))

theorem after_c : Pipeline.afterTail₀ cfgs (dats m) 0 (V0 m) [hostOps1] c main_v112
    = (Host.negf (Host.slice S4096x12 ![0, 3] ![1, 64] ((dats m 0 c).arrAt 10 cfg0.N : FVec Ideal S4096x768 .f32) slicesBy_S4096x768_S4096x12_0s1_3s64) : FVec Ideal S4096x12 .f32) :=
  (tail_c _).trans (congrArg (fun w : FVec Ideal S4096x768 .f32 => (Host.negf (Host.slice S4096x12 ![0, 3] ![1, 64] w slicesBy_S4096x768_S4096x12_0s1_3s64) : FVec Ideal S4096x12 .f32)) (exit m c 10))

set_option maxHeartbeats 800000 in
/-- Every run of the idealized kernel ends with the four gradients of the reals its arguments are. -/
theorem run (ρ : Dev nD → PrngReg) :
    θ_run defs (onTc (τ := τ) (main (F := Ideal))) ⟨m, fun _ => 0, ρ⟩ fun r => ∀ c : Dev nD, ∀ x : In,
      Args (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) x →
      (∀ h t, top (logit (m ((c.tc : Thread nD τ).loc main_arg0)) (m ((c.tc : Thread nD τ).loc main_arg1)) (m ((c.tc : Thread nD τ).loc main_arg3))) (ix2 h t) = ((x.M h t : ℝ) : EReal)) →
      r.2.mem ((c.tc : Thread nD τ).loc main_v110) = resQ x
      ∧ r.2.mem ((c.tc : Thread nD τ).loc main_v108_0) = arrK x
      ∧ r.2.mem ((c.tc : Thread nD τ).loc main_v108_1) = arrV x
      ∧ r.2.mem ((c.tc : Thread nD τ).loc main_v112) = resC x := by
  refine (θ_run _ _ _).mono ?_ (run_main m ρ)
  intro r hr c x H HM
  have hR := reads m c H HM
  obtain ⟨ha, hb⟩ := hr c
  have eq : r.2.mem ((c.tc : Thread nD τ).loc main_v110) = Pipeline.afterTail₀ cfgs (dats m) 0 (V0 m) [hostOps1] c main_v110 := hb main_v110 (by decide)
  have ec : r.2.mem ((c.tc : Thread nD τ).loc main_v112) = Pipeline.afterTail₀ cfgs (dats m) 0 (V0 m) [hostOps1] c main_v112 := hb main_v112 (by decide)
  have ek : r.2.mem ((c.tc : Thread nD τ).loc main_v108_0) = (dats m 0 c).arrAt 8 cfg0.N := ha 8
  have ev : r.2.mem ((c.tc : Thread nD τ).loc main_v108_1) = (dats m 0 c).arrAt 9 cfg0.N := ha 9
  rw [eq, ec, ek, ev, after_q, after_c, finalK hR, finalV hR, finalQ hR, finalG hR]
  exact ⟨scaled x, rfl, rfl, taken x⟩

end Cert.KernelIdeal.Fox
-- ==== Proof.FoxRun.lean ====
module

public import Idealize.ShloMosaic.Lib.StableHlo.Run
public import Idealize.ShloMosaic.Lib.Pipeline.Regions
public import proofs.«01_k».proof.Proof.Gen.ReferenceIdeal
public import proofs.«01_k».proof.Proof.FoxRef

/-!
# The reference's run

The reference launches no kernel: its body is a line of host operations. The line is cut into stretches; each stretch
is read back on its own, from any contents of the buffers, and the stretches compose to the four gradients that
`FoxRef` names.
-/

@[expose] public section

set_option maxRecDepth 16384

noncomputable section

namespace Cert.ReferenceIdeal.Fox

open Idealize.ShloMosaic Idealize.ShloMosaic.TcCoe Idealize.ShloMosaic.StableHlo Idealize.SL.Sem
open Cert.ReferenceIdeal Cert.ReferenceIdeal.Gen

/-- What a buffer of float32 entries holds. -/
abbrev Arr (F : FTy → Type) (s : Shape) : Type := (⟨s, .f32⟩ : BufTy).Contents (Elt F)
abbrev Ops := List (HloOp τ sig (Elt Ideal))
abbrev Env := Valuation τ sig (Elt Ideal)

variable {F : FTy → Type} [FloatOps F]

/-- Stretch 0: the logits. -/
def line0 : List (HloOp τ sig (Elt F)) :=
  [ reshape main_arg0 main_v0 (rfl : (.f32 : EltTy) = .f32) shapeCasts_S4096x768_S4096x12x64,
    reshape main_arg1 main_v1 (rfl : (.f32 : EltTy) = .f32) shapeCasts_S4096x768_S4096x12x64,
    unary main_arg3 main_v2 ((transpose S12x4096 [1, 0] · transposes_S4096x12_S12x4096_1_0) : Arr F S4096x12 → Arr F S12x4096),
    binary main_v0 main_v1 main_v3 ((fun l r => Host.dotGeneral dot_S4096x12x64_S4096x12x64_S12x4096x4096_2_2_0_0_1_1 none l r) : Arr F S4096x12x64 → Arr F S4096x12x64 → Arr F S12x4096x4096),
    nullary main_cst (constant S_ .f32 0x3E000000#32),
    unary main_cst main_v4 (broadcastInDim S12x4096x4096 ![] bcast_S_S12x4096x4096 : Arr F S_ → Arr F S12x4096x4096),
    binary main_v3 main_v4 main_v5 (mulf : Arr F S12x4096x4096 → Arr F S12x4096x4096 → Arr F S12x4096x4096),
    unary main_v2 main_v6 (broadcastInDim S12x4096x1 ![0, 1] bcast_S12x4096_S12x4096x1_0_1 : Arr F S12x4096 → Arr F S12x4096x1),
    unary main_v6 main_v7 (broadcastInDim S12x4096x4096 ![0, 1, 2] bcast_S12x4096x1_S12x4096x4096_0_1_2 : Arr F S12x4096x1 → Arr F S12x4096x4096),
    binary main_v5 main_v7 main_v8 (addf : Arr F S12x4096x4096 → Arr F S12x4096x4096 → Arr F S12x4096x4096),
    unary main_v2 main_v9 (broadcastInDim S12x1x4096 ![0, 2] bcast_S12x4096_S12x1x4096_0_2 : Arr F S12x4096 → Arr F S12x1x4096),
    unary main_v9 main_v10 (broadcastInDim S12x4096x4096 ![0, 1, 2] bcast_S12x1x4096_S12x4096x4096_0_1_2 : Arr F S12x1x4096 → Arr F S12x4096x4096),
    binary main_v8 main_v10 main_v11 (subf : Arr F S12x4096x4096 → Arr F S12x4096x4096 → Arr F S12x4096x4096),
    nullary main_v12 (iotaInDim S4096 32 0),
    unary main_v12 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x1 ![0] bcast_S4096_S4096x1_0 : (⟨S4096, .i32⟩ : BufTy).Contents (Elt F) → (⟨S4096x1, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    binary main_v15 main_v16 main_v17 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v17) (TRef.of (T := ⟨S12x4096x4096, .i1⟩) main_v18_1) (broadcastInDim S12x4096x4096 ![1, 2] bcast_S4096x4096_S12x4096x4096_1_2),
    TRef.unary (TRef.of (T := ⟨S_, .f32⟩) main_call0_v0) (TRef.of (T := ⟨S12x4096x4096, .f32⟩) main_call0_v2) (broadcastInDim S12x4096x4096 ![] bcast_S_S12x4096x4096),
    TRef.ternary (TRef.of (T := ⟨S12x4096x4096, .i1⟩) main_v18_1) (TRef.of (T := ⟨S12x4096x4096, .f32⟩) main_v11) (TRef.of (T := ⟨S12x4096x4096, .f32⟩) main_call0_v2) (TRef.of (T := ⟨S12x4096x4096, .f32⟩) main_v18_0) select,
    TRef.nullary (TRef.of (T := ⟨S_, .f32⟩) main_call0_cst) (constant S_ .f32 0x00000000#32),
    TRef.unary (TRef.of (T := ⟨S_, .f32⟩) main_call0_cst) (TRef.of (T := ⟨S12x4096x4096, .f32⟩) main_v18_2) (broadcastInDim S12x4096x4096 ![] bcast_S_S12x4096x4096) ]

/-- Stretch 1: the row maximum. -/
def line1 : List (HloOp τ sig (Elt F)) :=
  [ nullary main_cst_1 (constant S_ .f32 0xFF800000#32),
    binary main_v18_0 main_cst_1 main_v19 ((fun x v => Host.reduce FloatOps.maximumf x v reducesTo_S12x4096x4096_S12x4096_d2 h_S_) : Arr F S12x4096x4096 → Arr F S_ → Arr F S12x4096) ]

/-- Stretch 2: the row maximum, bounded below. -/
def line2 : List (HloOp τ sig (Elt F)) :=
  [ reshape main_v19 main_v20 (rfl : (.f32 : EltTy) = .f32) shapeCasts_S12x4096_S12x4096x1,
    unary main_v20 main_v21 (broadcastInDim S12x4096x4096 ![0, 1, 2] bcast_S12x4096x1_S12x4096x4096_0_1_2 : Arr F S12x4096x1 → Arr F S12x4096x4096),
    binary main_v18_0 main_v21 main_v22 (cmpf .oeq : Arr F S12x4096x4096 → Arr F S12x4096x4096 → (⟨S12x4096x4096, .i1⟩ : BufTy).Contents (Elt F)),
    unary main_v22 main_v23 (uitofp .f32 : (⟨S12x4096x4096, .i1⟩ : BufTy).Contents (Elt F) → Arr F S12x4096x4096),
    nullary main_cst_2 (constant S_ .f32 0x00000000#32),
    binary main_v23 main_cst_2 main_v24 ((fun x v => Host.reduceAdd x v reducesTo_S12x4096x4096_S12x4096_d2 h_S_) : Arr F S12x4096x4096 → Arr F S_ → Arr F S12x4096),
    nullary main_cst_3 (constant S_ .f32 0xFF800000#32),
    unary main_cst_3 main_v25 (broadcastInDim S12x4096 ![] bcast_S_S12x4096 : Arr F S_ → Arr F S12x4096),
    binary main_v25 main_v19 main_v26 (maximumf : Arr F S12x4096 → Arr F S12x4096 → Arr F S12x4096),
    nullary main_cst_4 (constant S_ .f32 0xFF800000#32),
    unary main_cst_4 main_v27 (broadcastInDim S12x4096 ![] bcast_S_S12x4096 : Arr F S_ → Arr F S12x4096),
    binary main_v19 main_v27 main_v28 (cmpf .ogt : Arr F S12x4096 → Arr F S12x4096 → (⟨S12x4096, .i1⟩ : BufTy).Contents (Elt F)),
    nullary main_cst_5 (constant S_ .f32 0xFF800000#32),
    unary main_cst_5 main_v29 (broadcastInDim S12x4096 ![] bcast_S_S12x4096 : Arr F S_ → Arr F S12x4096),
    binary main_v19 main_v29 main_v30 (cmpf .oeq : Arr F S12x4096 → Arr F S12x4096 → (⟨S12x4096, .i1⟩ : BufTy).Contents (Elt F)),
    nullary main_cst_6 (constant S_ .f32 0x3F800000#32),
    unary main_cst_6 main_v31 (broadcastInDim S12x4096 ![] bcast_S_S12x4096 : Arr F S_ → Arr F S12x4096),
    nullary main_cst_7 (constant S_ .f32 0x00000000#32),
    unary main_cst_7 main_v32 (broadcastInDim S12x4096 ![] bcast_S_S12x4096 : Arr F S_ → Arr F S12x4096),
    nullary main_cst_8 (constant S_ .f32 0x3F000000#32),
    unary main_cst_8 main_v33 (broadcastInDim S12x4096 ![] bcast_S_S12x4096 : Arr F S_ → Arr F S12x4096),
    ternary main_v30 main_v33 main_v32 main_v34 (select : (⟨S12x4096, .i1⟩ : BufTy).Contents (Elt F) → Arr F S12x4096 → Arr F S12x4096 → Arr F S12x4096),
    ternary main_v28 main_v31 main_v34 main_v35 (select : (⟨S12x4096, .i1⟩ : BufTy).Contents (Elt F) → Arr F S12x4096 → Arr F S12x4096 → Arr F S12x4096) ]

/-- Stretch 3: the exponentials. -/
def line3 : List (HloOp τ sig (Elt F)) :=
  [ unary main_v26 main_v36 (broadcastInDim S12x4096x1 ![0, 1] bcast_S12x4096_S12x4096x1_0_1 : Arr F S12x4096 → Arr F S12x4096x1),
    unary main_v36 main_v37 (broadcastInDim S12x4096x4096 ![0, 1, 2] bcast_S12x4096x1_S12x4096x4096_0_1_2 : Arr F S12x4096x1 → Arr F S12x4096x4096),
    binary main_v18_0 main_v37 main_v38 (subf : Arr F S12x4096x4096 → Arr F S12x4096x4096 → Arr F S12x4096x4096),
    unary main_v38 main_v39 (Host.exp : Arr F S12x4096x4096 → Arr F S12x4096x4096) ]

/-- Stretch 4: the denominators and the weights. -/
def line4 : List (HloOp τ sig (Elt F)) :=
  [ nullary main_cst_9 (constant S_ .f32 0x00000000#32),
    binary main_v39 main_cst_9 main_v40 ((fun x v => Host.reduceAdd x v reducesTo_S12x4096x4096_S12x4096_d2 h_S_) : Arr F S12x4096x4096 → Arr F S_ → Arr F S12x4096),
    unary main_v40 main_v41 (broadcastInDim S12x4096x1 ![0, 1] bcast_S12x4096_S12x4096x1_0_1 : Arr F S12x4096 → Arr F S12x4096x1),
    unary main_v41 main_v42 (broadcastInDim S12x4096x4096 ![0, 1, 2] bcast_S12x4096x1_S12x4096x4096_0_1_2 : Arr F S12x4096x1 → Arr F S12x4096x4096),
    binary main_v39 main_v42 main_v43 (Host.divf : Arr F S12x4096x4096 → Arr F S12x4096x4096 → Arr F S12x4096x4096),
    binary main_v41 main_v41 main_v44 (mulf : Arr F S12x4096x1 → Arr F S12x4096x1 → Arr F S12x4096x1),
    nullary main_cst_10 (constant S_ .f32 0x3F800000#32),
    unary main_cst_10 main_v45 (broadcastInDim S12x4096x1 ![] bcast_S_S12x4096x1 : Arr F S_ → Arr F S12x4096x1),
    binary main_v45 main_v44 main_v46 (Host.divf : Arr F S12x4096x1 → Arr F S12x4096x1 → Arr F S12x4096x1) ]

/-- Stretch 5: the weights' gradient and the values' gradient. -/
def line5 : List (HloOp τ sig (Elt F)) :=
  [ reshape main_arg2 main_v47 (rfl : (.f32 : EltTy) = .f32) shapeCasts_S4096x768_S4096x12x64,
    binary main_v47 main_v43 main_v48 ((fun l r => Host.dotGeneral dot_S4096x12x64_S12x4096x4096_S12x64x4096_0_2_2_1_1_0 none l r) : Arr F S4096x12x64 → Arr F S12x4096x4096 → Arr F S12x64x4096),
    unary main_v48 main_v49 ((transpose S4096x12x64 [2, 0, 1] · transposes_S12x64x4096_S4096x12x64_2_0_1) : Arr F S12x64x4096 → Arr F S4096x12x64),
    reshape main_v49 main_v50 (rfl : (.f32 : EltTy) = .f32) shapeCasts_S4096x12x64_S4096x768,
    reshape main_arg4 main_v51 (rfl : (.f32 : EltTy) = .f32) shapeCasts_S4096x768_S4096x12x64,
    unary main_v51 main_v52 ((transpose S12x64x4096 [1, 2, 0] · transposes_S4096x12x64_S12x64x4096_1_2_0) : Arr F S4096x12x64 → Arr F S12x64x4096),
    binary main_v52 main_v47 main_v53 ((fun l r => Host.dotGeneral dot_S12x64x4096_S4096x12x64_S12x4096x4096_1_2_2_0_0_1 none l r) : Arr F S12x64x4096 → Arr F S4096x12x64 → Arr F S12x4096x4096),
    binary main_v52 main_v43 main_v54 ((fun l r => Host.dotGeneral dot_S12x64x4096_S12x4096x4096_S12x64x4096_2_1_1_2_0_0 none l r) : Arr F S12x64x4096 → Arr F S12x4096x4096 → Arr F S12x64x4096),
    unary main_v54 main_v55 ((transpose S4096x12x64 [2, 0, 1] · transposes_S12x64x4096_S4096x12x64_2_0_1) : Arr F S12x64x4096 → Arr F S4096x12x64),
    reshape main_v55 main_v56 (rfl : (.f32 : EltTy) = .f32) shapeCasts_S4096x12x64_S4096x768 ]

/-- Stretch 6: the logits' gradient before the mask. -/
def line6 : List (HloOp τ sig (Elt F)) :=
  [ unary main_v46 main_v57 (broadcastInDim S12x4096x4096 ![0, 1, 2] bcast_S12x4096x1_S12x4096x4096_0_1_2 : Arr F S12x4096x1 → Arr F S12x4096x4096),
    binary main_v53 main_v57 main_v58 (mulf : Arr F S12x4096x4096 → Arr F S12x4096x4096 → Arr F S12x4096x4096),
    binary main_v58 main_v39 main_v59 (mulf : Arr F S12x4096x4096 → Arr F S12x4096x4096 → Arr F S12x4096x4096),
    nullary main_cst_11 (constant S_ .f32 0x00000000#32),
    binary main_v59 main_cst_11 main_v60 ((fun x v => Host.reduceAdd x v reducesTo_S12x4096x4096_S12x4096_d2 h_S_) : Arr F S12x4096x4096 → Arr F S_ → Arr F S12x4096),
    reshape main_v60 main_v61 (rfl : (.f32 : EltTy) = .f32) shapeCasts_S12x4096_S12x4096x1,
    unary main_v61 main_v62 (Host.negf : Arr F S12x4096x1 → Arr F S12x4096x1),
    unary main_v41 main_v63 (broadcastInDim S12x4096x4096 ![0, 1, 2] bcast_S12x4096x1_S12x4096x4096_0_1_2 : Arr F S12x4096x1 → Arr F S12x4096x4096),
    binary main_v53 main_v63 main_v64 (Host.divf : Arr F S12x4096x4096 → Arr F S12x4096x4096 → Arr F S12x4096x4096),
    nullary main_cst_12 (constant S_ .f32 0x00000000#32),
    binary main_v62 main_cst_12 main_v65 ((fun x v => Host.reduceAdd x v reducesTo_S12x4096x1_S12x4096_d2 h_S_) : Arr F S12x4096x1 → Arr F S_ → Arr F S12x4096),
    unary main_v65 main_v66 (broadcastInDim S12x4096x4096 ![0, 1] bcast_S12x4096_S12x4096x4096_0_1 : Arr F S12x4096 → Arr F S12x4096x4096),
    binary main_v64 main_v66 main_v67 (addf : Arr F S12x4096x4096 → Arr F S12x4096x4096 → Arr F S12x4096x4096),
    binary main_v67 main_v39 main_v68 (mulf : Arr F S12x4096x4096 → Arr F S12x4096x4096 → Arr F S12x4096x4096) ]

/-- Stretch 7: the logits' gradient. -/
def line7 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S12x4096x4096, .f32⟩) main_call1_v0) (broadcastInDim S12x4096x4096 ![] bcast_S_S12x4096x4096),
    TRef.ternary (TRef.of (T := ⟨S12x4096x4096, .i1⟩) main_v18_1) (TRef.of (T := ⟨S12x4096x4096, .f32⟩) main_v68) (TRef.of (T := ⟨S12x4096x4096, .f32⟩) main_call1_v0) (TRef.of (T := ⟨S12x4096x4096, .f32⟩) main_v69) select ]

/-- Stretch 8: the gate's gradient, by rows. -/
def line8 : List (HloOp τ sig (Elt F)) :=
  [ unary main_v69 main_v70 (Host.negf : Arr F S12x4096x4096 → Arr F S12x4096x4096),
    nullary main_cst_13 (constant S_ .f32 0x00000000#32),
    binary main_v70 main_cst_13 main_v71 ((fun x v => Host.reduceAdd x v reducesTo_S12x4096x4096_S12x4096_d1 h_S_) : Arr F S12x4096x4096 → Arr F S_ → Arr F S12x4096),
    reshape main_v71 main_v72 (rfl : (.f32 : EltTy) = .f32) shapeCasts_S12x4096_S12x1x4096,
    nullary main_cst_14 (constant S_ .f32 0x00000000#32),
    binary main_v72 main_cst_14 main_v73 ((fun x v => Host.reduceAdd x v reducesTo_S12x1x4096_S12x4096_d1 h_S_) : Arr F S12x1x4096 → Arr F S_ → Arr F S12x4096),
    nullary main_cst_15 (constant S_ .f32 0x00000000#32),
    binary main_v69 main_cst_15 main_v74 ((fun x v => Host.reduceAdd x v reducesTo_S12x4096x4096_S12x4096_d2 h_S_) : Arr F S12x4096x4096 → Arr F S_ → Arr F S12x4096),
    reshape main_v74 main_v75 (rfl : (.f32 : EltTy) = .f32) shapeCasts_S12x4096_S12x4096x1,
    nullary main_cst_16 (constant S_ .f32 0x00000000#32),
    binary main_v75 main_cst_16 main_v76 ((fun x v => Host.reduceAdd x v reducesTo_S12x4096x1_S12x4096_d2 h_S_) : Arr F S12x4096x1 → Arr F S_ → Arr F S12x4096),
    binary main_v73 main_v76 main_v77 (addf : Arr F S12x4096 → Arr F S12x4096 → Arr F S12x4096) ]

/-- Stretch 9: the gradients in their order. -/
def line9 : List (HloOp τ sig (Elt F)) :=
  [ nullary main_cst_17 (constant S_ .f32 0x3E000000#32),
    unary main_cst_17 main_v78 (broadcastInDim S12x4096x4096 ![] bcast_S_S12x4096x4096 : Arr F S_ → Arr F S12x4096x4096),
    binary main_v69 main_v78 main_v79 (mulf : Arr F S12x4096x4096 → Arr F S12x4096x4096 → Arr F S12x4096x4096),
    binary main_v79 main_v0 main_v80 ((fun l r => Host.dotGeneral dot_S12x4096x4096_S4096x12x64_S12x4096x64_1_0_2_2_0_1 none l r) : Arr F S12x4096x4096 → Arr F S4096x12x64 → Arr F S12x4096x64),
    unary main_v80 main_v81 ((transpose S4096x12x64 [1, 0, 2] · transposes_S12x4096x64_S4096x12x64_1_0_2) : Arr F S12x4096x64 → Arr F S4096x12x64),
    binary main_v79 main_v1 main_v82 ((fun l r => Host.dotGeneral dot_S12x4096x4096_S4096x12x64_S12x4096x64_2_0_1_2_0_1 none l r) : Arr F S12x4096x4096 → Arr F S4096x12x64 → Arr F S12x4096x64),
    unary main_v82 main_v83 ((transpose S4096x12x64 [1, 0, 2] · transposes_S12x4096x64_S4096x12x64_1_0_2) : Arr F S12x4096x64 → Arr F S4096x12x64),
    unary main_v77 main_v84 ((transpose S4096x12 [1, 0] · transposes_S12x4096_S4096x12_1_0) : Arr F S12x4096 → Arr F S4096x12),
    reshape main_v81 main_v85 (rfl : (.f32 : EltTy) = .f32) shapeCasts_S4096x12x64_S4096x768,
    reshape main_v83 main_v86 (rfl : (.f32 : EltTy) = .f32) shapeCasts_S4096x12x64_S4096x768 ]

/-- The whole line. -/
def line : List (HloOp τ sig (Elt F)) :=
  [ reshape main_arg0 main_v0 (rfl : (.f32 : EltTy) = .f32) shapeCasts_S4096x768_S4096x12x64,
    reshape main_arg1 main_v1 (rfl : (.f32 : EltTy) = .f32) shapeCasts_S4096x768_S4096x12x64,
    unary main_arg3 main_v2 ((transpose S12x4096 [1, 0] · transposes_S4096x12_S12x4096_1_0) : Arr F S4096x12 → Arr F S12x4096),
    binary main_v0 main_v1 main_v3 ((fun l r => Host.dotGeneral dot_S4096x12x64_S4096x12x64_S12x4096x4096_2_2_0_0_1_1 none l r) : Arr F S4096x12x64 → Arr F S4096x12x64 → Arr F S12x4096x4096),
    nullary main_cst (constant S_ .f32 0x3E000000#32),
    unary main_cst main_v4 (broadcastInDim S12x4096x4096 ![] bcast_S_S12x4096x4096 : Arr F S_ → Arr F S12x4096x4096),
    binary main_v3 main_v4 main_v5 (mulf : Arr F S12x4096x4096 → Arr F S12x4096x4096 → Arr F S12x4096x4096),
    unary main_v2 main_v6 (broadcastInDim S12x4096x1 ![0, 1] bcast_S12x4096_S12x4096x1_0_1 : Arr F S12x4096 → Arr F S12x4096x1),
    unary main_v6 main_v7 (broadcastInDim S12x4096x4096 ![0, 1, 2] bcast_S12x4096x1_S12x4096x4096_0_1_2 : Arr F S12x4096x1 → Arr F S12x4096x4096),
    binary main_v5 main_v7 main_v8 (addf : Arr F S12x4096x4096 → Arr F S12x4096x4096 → Arr F S12x4096x4096),
    unary main_v2 main_v9 (broadcastInDim S12x1x4096 ![0, 2] bcast_S12x4096_S12x1x4096_0_2 : Arr F S12x4096 → Arr F S12x1x4096),
    unary main_v9 main_v10 (broadcastInDim S12x4096x4096 ![0, 1, 2] bcast_S12x1x4096_S12x4096x4096_0_1_2 : Arr F S12x1x4096 → Arr F S12x4096x4096),
    binary main_v8 main_v10 main_v11 (subf : Arr F S12x4096x4096 → Arr F S12x4096x4096 → Arr F S12x4096x4096),
    nullary main_v12 (iotaInDim S4096 32 0),
    unary main_v12 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x1 ![0] bcast_S4096_S4096x1_0 : (⟨S4096, .i32⟩ : BufTy).Contents (Elt F) → (⟨S4096x1, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    binary main_v15 main_v16 main_v17 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v17) (TRef.of (T := ⟨S12x4096x4096, .i1⟩) main_v18_1) (broadcastInDim S12x4096x4096 ![1, 2] bcast_S4096x4096_S12x4096x4096_1_2),
    TRef.unary (TRef.of (T := ⟨S_, .f32⟩) main_call0_v0) (TRef.of (T := ⟨S12x4096x4096, .f32⟩) main_call0_v2) (broadcastInDim S12x4096x4096 ![] bcast_S_S12x4096x4096),
    TRef.ternary (TRef.of (T := ⟨S12x4096x4096, .i1⟩) main_v18_1) (TRef.of (T := ⟨S12x4096x4096, .f32⟩) main_v11) (TRef.of (T := ⟨S12x4096x4096, .f32⟩) main_call0_v2) (TRef.of (T := ⟨S12x4096x4096, .f32⟩) main_v18_0) select,
    TRef.nullary (TRef.of (T := ⟨S_, .f32⟩) main_call0_cst) (constant S_ .f32 0x00000000#32),
    TRef.unary (TRef.of (T := ⟨S_, .f32⟩) main_call0_cst) (TRef.of (T := ⟨S12x4096x4096, .f32⟩) main_v18_2) (broadcastInDim S12x4096x4096 ![] bcast_S_S12x4096x4096),
    nullary main_cst_1 (constant S_ .f32 0xFF800000#32),
    binary main_v18_0 main_cst_1 main_v19 ((fun x v => Host.reduce FloatOps.maximumf x v reducesTo_S12x4096x4096_S12x4096_d2 h_S_) : Arr F S12x4096x4096 → Arr F S_ → Arr F S12x4096),
    reshape main_v19 main_v20 (rfl : (.f32 : EltTy) = .f32) shapeCasts_S12x4096_S12x4096x1,
    unary main_v20 main_v21 (broadcastInDim S12x4096x4096 ![0, 1, 2] bcast_S12x4096x1_S12x4096x4096_0_1_2 : Arr F S12x4096x1 → Arr F S12x4096x4096),
    binary main_v18_0 main_v21 main_v22 (cmpf .oeq : Arr F S12x4096x4096 → Arr F S12x4096x4096 → (⟨S12x4096x4096, .i1⟩ : BufTy).Contents (Elt F)),
    unary main_v22 main_v23 (uitofp .f32 : (⟨S12x4096x4096, .i1⟩ : BufTy).Contents (Elt F) → Arr F S12x4096x4096),
    nullary main_cst_2 (constant S_ .f32 0x00000000#32),
    binary main_v23 main_cst_2 main_v24 ((fun x v => Host.reduceAdd x v reducesTo_S12x4096x4096_S12x4096_d2 h_S_) : Arr F S12x4096x4096 → Arr F S_ → Arr F S12x4096),
    nullary main_cst_3 (constant S_ .f32 0xFF800000#32),
    unary main_cst_3 main_v25 (broadcastInDim S12x4096 ![] bcast_S_S12x4096 : Arr F S_ → Arr F S12x4096),
    binary main_v25 main_v19 main_v26 (maximumf : Arr F S12x4096 → Arr F S12x4096 → Arr F S12x4096),
    nullary main_cst_4 (constant S_ .f32 0xFF800000#32),
    unary main_cst_4 main_v27 (broadcastInDim S12x4096 ![] bcast_S_S12x4096 : Arr F S_ → Arr F S12x4096),
    binary main_v19 main_v27 main_v28 (cmpf .ogt : Arr F S12x4096 → Arr F S12x4096 → (⟨S12x4096, .i1⟩ : BufTy).Contents (Elt F)),
    nullary main_cst_5 (constant S_ .f32 0xFF800000#32),
    unary main_cst_5 main_v29 (broadcastInDim S12x4096 ![] bcast_S_S12x4096 : Arr F S_ → Arr F S12x4096),
    binary main_v19 main_v29 main_v30 (cmpf .oeq : Arr F S12x4096 → Arr F S12x4096 → (⟨S12x4096, .i1⟩ : BufTy).Contents (Elt F)),
    nullary main_cst_6 (constant S_ .f32 0x3F800000#32),
    unary main_cst_6 main_v31 (broadcastInDim S12x4096 ![] bcast_S_S12x4096 : Arr F S_ → Arr F S12x4096),
    nullary main_cst_7 (constant S_ .f32 0x00000000#32),
    unary main_cst_7 main_v32 (broadcastInDim S12x4096 ![] bcast_S_S12x4096 : Arr F S_ → Arr F S12x4096),
    nullary main_cst_8 (constant S_ .f32 0x3F000000#32),
    unary main_cst_8 main_v33 (broadcastInDim S12x4096 ![] bcast_S_S12x4096 : Arr F S_ → Arr F S12x4096),
    ternary main_v30 main_v33 main_v32 main_v34 (select : (⟨S12x4096, .i1⟩ : BufTy).Contents (Elt F) → Arr F S12x4096 → Arr F S12x4096 → Arr F S12x4096),
    ternary main_v28 main_v31 main_v34 main_v35 (select : (⟨S12x4096, .i1⟩ : BufTy).Contents (Elt F) → Arr F S12x4096 → Arr F S12x4096 → Arr F S12x4096),
    unary main_v26 main_v36 (broadcastInDim S12x4096x1 ![0, 1] bcast_S12x4096_S12x4096x1_0_1 : Arr F S12x4096 → Arr F S12x4096x1),
    unary main_v36 main_v37 (broadcastInDim S12x4096x4096 ![0, 1, 2] bcast_S12x4096x1_S12x4096x4096_0_1_2 : Arr F S12x4096x1 → Arr F S12x4096x4096),
    binary main_v18_0 main_v37 main_v38 (subf : Arr F S12x4096x4096 → Arr F S12x4096x4096 → Arr F S12x4096x4096),
    unary main_v38 main_v39 (Host.exp : Arr F S12x4096x4096 → Arr F S12x4096x4096),
    nullary main_cst_9 (constant S_ .f32 0x00000000#32),
    binary main_v39 main_cst_9 main_v40 ((fun x v => Host.reduceAdd x v reducesTo_S12x4096x4096_S12x4096_d2 h_S_) : Arr F S12x4096x4096 → Arr F S_ → Arr F S12x4096),
    unary main_v40 main_v41 (broadcastInDim S12x4096x1 ![0, 1] bcast_S12x4096_S12x4096x1_0_1 : Arr F S12x4096 → Arr F S12x4096x1),
    unary main_v41 main_v42 (broadcastInDim S12x4096x4096 ![0, 1, 2] bcast_S12x4096x1_S12x4096x4096_0_1_2 : Arr F S12x4096x1 → Arr F S12x4096x4096),
    binary main_v39 main_v42 main_v43 (Host.divf : Arr F S12x4096x4096 → Arr F S12x4096x4096 → Arr F S12x4096x4096),
    binary main_v41 main_v41 main_v44 (mulf : Arr F S12x4096x1 → Arr F S12x4096x1 → Arr F S12x4096x1),
    nullary main_cst_10 (constant S_ .f32 0x3F800000#32),
    unary main_cst_10 main_v45 (broadcastInDim S12x4096x1 ![] bcast_S_S12x4096x1 : Arr F S_ → Arr F S12x4096x1),
    binary main_v45 main_v44 main_v46 (Host.divf : Arr F S12x4096x1 → Arr F S12x4096x1 → Arr F S12x4096x1),
    reshape main_arg2 main_v47 (rfl : (.f32 : EltTy) = .f32) shapeCasts_S4096x768_S4096x12x64,
    binary main_v47 main_v43 main_v48 ((fun l r => Host.dotGeneral dot_S4096x12x64_S12x4096x4096_S12x64x4096_0_2_2_1_1_0 none l r) : Arr F S4096x12x64 → Arr F S12x4096x4096 → Arr F S12x64x4096),
    unary main_v48 main_v49 ((transpose S4096x12x64 [2, 0, 1] · transposes_S12x64x4096_S4096x12x64_2_0_1) : Arr F S12x64x4096 → Arr F S4096x12x64),
    reshape main_v49 main_v50 (rfl : (.f32 : EltTy) = .f32) shapeCasts_S4096x12x64_S4096x768,
    reshape main_arg4 main_v51 (rfl : (.f32 : EltTy) = .f32) shapeCasts_S4096x768_S4096x12x64,
    unary main_v51 main_v52 ((transpose S12x64x4096 [1, 2, 0] · transposes_S4096x12x64_S12x64x4096_1_2_0) : Arr F S4096x12x64 → Arr F S12x64x4096),
    binary main_v52 main_v47 main_v53 ((fun l r => Host.dotGeneral dot_S12x64x4096_S4096x12x64_S12x4096x4096_1_2_2_0_0_1 none l r) : Arr F S12x64x4096 → Arr F S4096x12x64 → Arr F S12x4096x4096),
    binary main_v52 main_v43 main_v54 ((fun l r => Host.dotGeneral dot_S12x64x4096_S12x4096x4096_S12x64x4096_2_1_1_2_0_0 none l r) : Arr F S12x64x4096 → Arr F S12x4096x4096 → Arr F S12x64x4096),
    unary main_v54 main_v55 ((transpose S4096x12x64 [2, 0, 1] · transposes_S12x64x4096_S4096x12x64_2_0_1) : Arr F S12x64x4096 → Arr F S4096x12x64),
    reshape main_v55 main_v56 (rfl : (.f32 : EltTy) = .f32) shapeCasts_S4096x12x64_S4096x768,
    unary main_v46 main_v57 (broadcastInDim S12x4096x4096 ![0, 1, 2] bcast_S12x4096x1_S12x4096x4096_0_1_2 : Arr F S12x4096x1 → Arr F S12x4096x4096),
    binary main_v53 main_v57 main_v58 (mulf : Arr F S12x4096x4096 → Arr F S12x4096x4096 → Arr F S12x4096x4096),
    binary main_v58 main_v39 main_v59 (mulf : Arr F S12x4096x4096 → Arr F S12x4096x4096 → Arr F S12x4096x4096),
    nullary main_cst_11 (constant S_ .f32 0x00000000#32),
    binary main_v59 main_cst_11 main_v60 ((fun x v => Host.reduceAdd x v reducesTo_S12x4096x4096_S12x4096_d2 h_S_) : Arr F S12x4096x4096 → Arr F S_ → Arr F S12x4096),
    reshape main_v60 main_v61 (rfl : (.f32 : EltTy) = .f32) shapeCasts_S12x4096_S12x4096x1,
    unary main_v61 main_v62 (Host.negf : Arr F S12x4096x1 → Arr F S12x4096x1),
    unary main_v41 main_v63 (broadcastInDim S12x4096x4096 ![0, 1, 2] bcast_S12x4096x1_S12x4096x4096_0_1_2 : Arr F S12x4096x1 → Arr F S12x4096x4096),
    binary main_v53 main_v63 main_v64 (Host.divf : Arr F S12x4096x4096 → Arr F S12x4096x4096 → Arr F S12x4096x4096),
    nullary main_cst_12 (constant S_ .f32 0x00000000#32),
    binary main_v62 main_cst_12 main_v65 ((fun x v => Host.reduceAdd x v reducesTo_S12x4096x1_S12x4096_d2 h_S_) : Arr F S12x4096x1 → Arr F S_ → Arr F S12x4096),
    unary main_v65 main_v66 (broadcastInDim S12x4096x4096 ![0, 1] bcast_S12x4096_S12x4096x4096_0_1 : Arr F S12x4096 → Arr F S12x4096x4096),
    binary main_v64 main_v66 main_v67 (addf : Arr F S12x4096x4096 → Arr F S12x4096x4096 → Arr F S12x4096x4096),
    binary main_v67 main_v39 main_v68 (mulf : Arr F S12x4096x4096 → Arr F S12x4096x4096 → Arr F S12x4096x4096),
    TRef.nullary (TRef.of (T := ⟨S_, .f32⟩) main_call1_cst) (constant S_ .f32 0x00000000#32),
    TRef.unary (TRef.of (T := ⟨S_, .f32⟩) main_call1_cst) (TRef.of (T := ⟨S12x4096x4096, .f32⟩) main_call1_v0) (broadcastInDim S12x4096x4096 ![] bcast_S_S12x4096x4096),
    TRef.ternary (TRef.of (T := ⟨S12x4096x4096, .i1⟩) main_v18_1) (TRef.of (T := ⟨S12x4096x4096, .f32⟩) main_v68) (TRef.of (T := ⟨S12x4096x4096, .f32⟩) main_call1_v0) (TRef.of (T := ⟨S12x4096x4096, .f32⟩) main_v69) select,
    unary main_v69 main_v70 (Host.negf : Arr F S12x4096x4096 → Arr F S12x4096x4096),
    nullary main_cst_13 (constant S_ .f32 0x00000000#32),
    binary main_v70 main_cst_13 main_v71 ((fun x v => Host.reduceAdd x v reducesTo_S12x4096x4096_S12x4096_d1 h_S_) : Arr F S12x4096x4096 → Arr F S_ → Arr F S12x4096),
    reshape main_v71 main_v72 (rfl : (.f32 : EltTy) = .f32) shapeCasts_S12x4096_S12x1x4096,
    nullary main_cst_14 (constant S_ .f32 0x00000000#32),
    binary main_v72 main_cst_14 main_v73 ((fun x v => Host.reduceAdd x v reducesTo_S12x1x4096_S12x4096_d1 h_S_) : Arr F S12x1x4096 → Arr F S_ → Arr F S12x4096),
    nullary main_cst_15 (constant S_ .f32 0x00000000#32),
    binary main_v69 main_cst_15 main_v74 ((fun x v => Host.reduceAdd x v reducesTo_S12x4096x4096_S12x4096_d2 h_S_) : Arr F S12x4096x4096 → Arr F S_ → Arr F S12x4096),
    reshape main_v74 main_v75 (rfl : (.f32 : EltTy) = .f32) shapeCasts_S12x4096_S12x4096x1,
    nullary main_cst_16 (constant S_ .f32 0x00000000#32),
    binary main_v75 main_cst_16 main_v76 ((fun x v => Host.reduceAdd x v reducesTo_S12x4096x1_S12x4096_d2 h_S_) : Arr F S12x4096x1 → Arr F S_ → Arr F S12x4096),
    binary main_v73 main_v76 main_v77 (addf : Arr F S12x4096 → Arr F S12x4096 → Arr F S12x4096),
    nullary main_cst_17 (constant S_ .f32 0x3E000000#32),
    unary main_cst_17 main_v78 (broadcastInDim S12x4096x4096 ![] bcast_S_S12x4096x4096 : Arr F S_ → Arr F S12x4096x4096),
    binary main_v69 main_v78 main_v79 (mulf : Arr F S12x4096x4096 → Arr F S12x4096x4096 → Arr F S12x4096x4096),
    binary main_v79 main_v0 main_v80 ((fun l r => Host.dotGeneral dot_S12x4096x4096_S4096x12x64_S12x4096x64_1_0_2_2_0_1 none l r) : Arr F S12x4096x4096 → Arr F S4096x12x64 → Arr F S12x4096x64),
    unary main_v80 main_v81 ((transpose S4096x12x64 [1, 0, 2] · transposes_S12x4096x64_S4096x12x64_1_0_2) : Arr F S12x4096x64 → Arr F S4096x12x64),
    binary main_v79 main_v1 main_v82 ((fun l r => Host.dotGeneral dot_S12x4096x4096_S4096x12x64_S12x4096x64_2_0_1_2_0_1 none l r) : Arr F S12x4096x4096 → Arr F S4096x12x64 → Arr F S12x4096x64),
    unary main_v82 main_v83 ((transpose S4096x12x64 [1, 0, 2] · transposes_S12x4096x64_S4096x12x64_1_0_2) : Arr F S12x4096x64 → Arr F S4096x12x64),
    unary main_v77 main_v84 ((transpose S4096x12 [1, 0] · transposes_S12x4096_S4096x12_1_0) : Arr F S12x4096 → Arr F S4096x12),
    reshape main_v81 main_v85 (rfl : (.f32 : EltTy) = .f32) shapeCasts_S4096x12x64_S4096x768,
    reshape main_v83 main_v86 (rfl : (.f32 : EltTy) = .f32) shapeCasts_S4096x12x64_S4096x768 ]

theorem at0_v0 (V : Env) : after (line0 (F := Ideal)) V (Proc.devRef .tc main_v0) = (heads (V (Proc.devRef .tc main_arg0)) : FVec Ideal S4096x12x64 .f32) := by
  simp only [line0, TRef.nullary, TRef.ternary, TRef.unary, TRef.toBuf, TRef.ofBuf, cast_eq]
  after_results_simp
  all_goals rfl

theorem at0_v1 (V : Env) : after (line0 (F := Ideal)) V (Proc.devRef .tc main_v1) = (heads (V (Proc.devRef .tc main_arg1)) : FVec Ideal S4096x12x64 .f32) := by
  simp only [line0, TRef.nullary, TRef.ternary, TRef.unary, TRef.toBuf, TRef.ofBuf, cast_eq]
  after_results_simp
  all_goals rfl

theorem at0_v18_0 (V : Env) : after (line0 (F := Ideal)) V (Proc.devRef .tc main_v18_0) = (logit (V (Proc.devRef .tc main_arg0)) (V (Proc.devRef .tc main_arg1)) (V (Proc.devRef .tc main_arg3)) : T) := by
  simp only [line0, TRef.nullary, TRef.ternary, TRef.unary, TRef.toBuf, TRef.ofBuf, cast_eq]
  after_results_simp
  all_goals rfl

theorem at0_v18_1 (V : Env) : after (line0 (F := Ideal)) V (Proc.devRef .tc main_v18_1) = (causal : IVec S12x4096x4096 1) := by
  simp only [line0, TRef.nullary, TRef.ternary, TRef.unary, TRef.toBuf, TRef.ofBuf, cast_eq]
  after_results_simp
  all_goals rfl

theorem keep0_arg0 (V : Env) : after (line0 (F := Ideal)) V (Proc.devRef .tc main_arg0) = V (Proc.devRef .tc main_arg0) := by
  simp only [line0, TRef.nullary, TRef.ternary, TRef.unary, TRef.toBuf, TRef.ofBuf, cast_eq]
  after_results_simp

theorem keep0_arg1 (V : Env) : after (line0 (F := Ideal)) V (Proc.devRef .tc main_arg1) = V (Proc.devRef .tc main_arg1) := by
  simp only [line0, TRef.nullary, TRef.ternary, TRef.unary, TRef.toBuf, TRef.ofBuf, cast_eq]
  after_results_simp

theorem keep0_arg2 (V : Env) : after (line0 (F := Ideal)) V (Proc.devRef .tc main_arg2) = V (Proc.devRef .tc main_arg2) := by
  simp only [line0, TRef.nullary, TRef.ternary, TRef.unary, TRef.toBuf, TRef.ofBuf, cast_eq]
  after_results_simp

theorem keep0_arg3 (V : Env) : after (line0 (F := Ideal)) V (Proc.devRef .tc main_arg3) = V (Proc.devRef .tc main_arg3) := by
  simp only [line0, TRef.nullary, TRef.ternary, TRef.unary, TRef.toBuf, TRef.ofBuf, cast_eq]
  after_results_simp

theorem keep0_arg4 (V : Env) : after (line0 (F := Ideal)) V (Proc.devRef .tc main_arg4) = V (Proc.devRef .tc main_arg4) := by
  simp only [line0, TRef.nullary, TRef.ternary, TRef.unary, TRef.toBuf, TRef.ofBuf, cast_eq]
  after_results_simp

theorem at1_v19 (V : Env) : after (line1 (F := Ideal)) V (Proc.devRef .tc main_v19) = (top (V (Proc.devRef .tc main_v18_0)) : R) := by
  simp only [line1, TRef.nullary, TRef.ternary, TRef.unary, TRef.toBuf, TRef.ofBuf, cast_eq]
  after_results_simp
  all_goals rfl

theorem keep1_arg0 (V : Env) : after (line1 (F := Ideal)) V (Proc.devRef .tc main_arg0) = V (Proc.devRef .tc main_arg0) := by
  simp only [line1, TRef.nullary, TRef.ternary, TRef.unary, TRef.toBuf, TRef.ofBuf, cast_eq]
  after_results_simp

theorem keep1_arg1 (V : Env) : after (line1 (F := Ideal)) V (Proc.devRef .tc main_arg1) = V (Proc.devRef .tc main_arg1) := by
  simp only [line1, TRef.nullary, TRef.ternary, TRef.unary, TRef.toBuf, TRef.ofBuf, cast_eq]
  after_results_simp

theorem keep1_arg2 (V : Env) : after (line1 (F := Ideal)) V (Proc.devRef .tc main_arg2) = V (Proc.devRef .tc main_arg2) := by
  simp only [line1, TRef.nullary, TRef.ternary, TRef.unary, TRef.toBuf, TRef.ofBuf, cast_eq]
  after_results_simp

theorem keep1_arg3 (V : Env) : after (line1 (F := Ideal)) V (Proc.devRef .tc main_arg3) = V (Proc.devRef .tc main_arg3) := by
  simp only [line1, TRef.nullary, TRef.ternary, TRef.unary, TRef.toBuf, TRef.ofBuf, cast_eq]
  after_results_simp

theorem keep1_arg4 (V : Env) : after (line1 (F := Ideal)) V (Proc.devRef .tc main_arg4) = V (Proc.devRef .tc main_arg4) := by
  simp only [line1, TRef.nullary, TRef.ternary, TRef.unary, TRef.toBuf, TRef.ofBuf, cast_eq]
  after_results_simp

theorem keep1_v0 (V : Env) : after (line1 (F := Ideal)) V (Proc.devRef .tc main_v0) = V (Proc.devRef .tc main_v0) := by
  simp only [line1, TRef.nullary, TRef.ternary, TRef.unary, TRef.toBuf, TRef.ofBuf, cast_eq]
  after_results_simp

theorem keep1_v1 (V : Env) : after (line1 (F := Ideal)) V (Proc.devRef .tc main_v1) = V (Proc.devRef .tc main_v1) := by
  simp only [line1, TRef.nullary, TRef.ternary, TRef.unary, TRef.toBuf, TRef.ofBuf, cast_eq]
  after_results_simp

theorem keep1_v18_0 (V : Env) : after (line1 (F := Ideal)) V (Proc.devRef .tc main_v18_0) = V (Proc.devRef .tc main_v18_0) := by
  simp only [line1, TRef.nullary, TRef.ternary, TRef.unary, TRef.toBuf, TRef.ofBuf, cast_eq]
  after_results_simp

theorem keep1_v18_1 (V : Env) : after (line1 (F := Ideal)) V (Proc.devRef .tc main_v18_1) = V (Proc.devRef .tc main_v18_1) := by
  simp only [line1, TRef.nullary, TRef.ternary, TRef.unary, TRef.toBuf, TRef.ofBuf, cast_eq]
  after_results_simp

theorem at2_v26 (V : Env) : after (line2 (F := Ideal)) V (Proc.devRef .tc main_v26) = (maximumf (broadcastInDim S12x4096 ![] bcast_S_S12x4096 (constant S_ .f32 0xFF800000#32)) (V (Proc.devRef .tc main_v19)) : R) := by
  simp only [line2, TRef.nullary, TRef.ternary, TRef.unary, TRef.toBuf, TRef.ofBuf, cast_eq]
  after_results_simp
  all_goals rfl

theorem keep2_arg0 (V : Env) : after (line2 (F := Ideal)) V (Proc.devRef .tc main_arg0) = V (Proc.devRef .tc main_arg0) := by
  simp only [line2, TRef.nullary, TRef.ternary, TRef.unary, TRef.toBuf, TRef.ofBuf, cast_eq]
  after_results_simp

theorem keep2_arg1 (V : Env) : after (line2 (F := Ideal)) V (Proc.devRef .tc main_arg1) = V (Proc.devRef .tc main_arg1) := by
  simp only [line2, TRef.nullary, TRef.ternary, TRef.unary, TRef.toBuf, TRef.ofBuf, cast_eq]
  after_results_simp

theorem keep2_arg2 (V : Env) : after (line2 (F := Ideal)) V (Proc.devRef .tc main_arg2) = V (Proc.devRef .tc main_arg2) := by
  simp only [line2, TRef.nullary, TRef.ternary, TRef.unary, TRef.toBuf, TRef.ofBuf, cast_eq]
  after_results_simp

theorem keep2_arg3 (V : Env) : after (line2 (F := Ideal)) V (Proc.devRef .tc main_arg3) = V (Proc.devRef .tc main_arg3) := by
  simp only [line2, TRef.nullary, TRef.ternary, TRef.unary, TRef.toBuf, TRef.ofBuf, cast_eq]
  after_results_simp

theorem keep2_arg4 (V : Env) : after (line2 (F := Ideal)) V (Proc.devRef .tc main_arg4) = V (Proc.devRef .tc main_arg4) := by
  simp only [line2, TRef.nullary, TRef.ternary, TRef.unary, TRef.toBuf, TRef.ofBuf, cast_eq]
  after_results_simp

theorem keep2_v0 (V : Env) : after (line2 (F := Ideal)) V (Proc.devRef .tc main_v0) = V (Proc.devRef .tc main_v0) := by
  simp only [line2, TRef.nullary, TRef.ternary, TRef.unary, TRef.toBuf, TRef.ofBuf, cast_eq]
  after_results_simp

theorem keep2_v1 (V : Env) : after (line2 (F := Ideal)) V (Proc.devRef .tc main_v1) = V (Proc.devRef .tc main_v1) := by
  simp only [line2, TRef.nullary, TRef.ternary, TRef.unary, TRef.toBuf, TRef.ofBuf, cast_eq]
  after_results_simp

theorem keep2_v18_0 (V : Env) : after (line2 (F := Ideal)) V (Proc.devRef .tc main_v18_0) = V (Proc.devRef .tc main_v18_0) := by
  simp only [line2, TRef.nullary, TRef.ternary, TRef.unary, TRef.toBuf, TRef.ofBuf, cast_eq]
  after_results_simp

theorem keep2_v18_1 (V : Env) : after (line2 (F := Ideal)) V (Proc.devRef .tc main_v18_1) = V (Proc.devRef .tc main_v18_1) := by
  simp only [line2, TRef.nullary, TRef.ternary, TRef.unary, TRef.toBuf, TRef.ofBuf, cast_eq]
  after_results_simp

theorem at3_v39 (V : Env) : after (line3 (F := Ideal)) V (Proc.devRef .tc main_v39) = (Host.exp (subf (V (Proc.devRef .tc main_v18_0)) (rows (V (Proc.devRef .tc main_v26)))) : T) := by
  simp only [line3, TRef.nullary, TRef.ternary, TRef.unary, TRef.toBuf, TRef.ofBuf, cast_eq]
  after_results_simp
  all_goals rfl

theorem keep3_arg0 (V : Env) : after (line3 (F := Ideal)) V (Proc.devRef .tc main_arg0) = V (Proc.devRef .tc main_arg0) := by
  simp only [line3, TRef.nullary, TRef.ternary, TRef.unary, TRef.toBuf, TRef.ofBuf, cast_eq]
  after_results_simp

theorem keep3_arg1 (V : Env) : after (line3 (F := Ideal)) V (Proc.devRef .tc main_arg1) = V (Proc.devRef .tc main_arg1) := by
  simp only [line3, TRef.nullary, TRef.ternary, TRef.unary, TRef.toBuf, TRef.ofBuf, cast_eq]
  after_results_simp

theorem keep3_arg2 (V : Env) : after (line3 (F := Ideal)) V (Proc.devRef .tc main_arg2) = V (Proc.devRef .tc main_arg2) := by
  simp only [line3, TRef.nullary, TRef.ternary, TRef.unary, TRef.toBuf, TRef.ofBuf, cast_eq]
  after_results_simp

theorem keep3_arg3 (V : Env) : after (line3 (F := Ideal)) V (Proc.devRef .tc main_arg3) = V (Proc.devRef .tc main_arg3) := by
  simp only [line3, TRef.nullary, TRef.ternary, TRef.unary, TRef.toBuf, TRef.ofBuf, cast_eq]
  after_results_simp

theorem keep3_arg4 (V : Env) : after (line3 (F := Ideal)) V (Proc.devRef .tc main_arg4) = V (Proc.devRef .tc main_arg4) := by
  simp only [line3, TRef.nullary, TRef.ternary, TRef.unary, TRef.toBuf, TRef.ofBuf, cast_eq]
  after_results_simp

theorem keep3_v0 (V : Env) : after (line3 (F := Ideal)) V (Proc.devRef .tc main_v0) = V (Proc.devRef .tc main_v0) := by
  simp only [line3, TRef.nullary, TRef.ternary, TRef.unary, TRef.toBuf, TRef.ofBuf, cast_eq]
  after_results_simp

theorem keep3_v1 (V : Env) : after (line3 (F := Ideal)) V (Proc.devRef .tc main_v1) = V (Proc.devRef .tc main_v1) := by
  simp only [line3, TRef.nullary, TRef.ternary, TRef.unary, TRef.toBuf, TRef.ofBuf, cast_eq]
  after_results_simp

theorem keep3_v18_1 (V : Env) : after (line3 (F := Ideal)) V (Proc.devRef .tc main_v18_1) = V (Proc.devRef .tc main_v18_1) := by
  simp only [line3, TRef.nullary, TRef.ternary, TRef.unary, TRef.toBuf, TRef.ofBuf, cast_eq]
  after_results_simp

theorem at4_v41 (V : Env) : after (line4 (F := Ideal)) V (Proc.devRef .tc main_v41) = (broadcastInDim S12x4096x1 ![0, 1] bcast_S12x4096_S12x4096x1_0_1 (rowsum (V (Proc.devRef .tc main_v39))) : FVec Ideal S12x4096x1 .f32) := by
  simp only [line4, TRef.nullary, TRef.ternary, TRef.unary, TRef.toBuf, TRef.ofBuf, cast_eq]
  after_results_simp
  all_goals rfl

theorem at4_v43 (V : Env) : after (line4 (F := Ideal)) V (Proc.devRef .tc main_v43) = (Host.divf (V (Proc.devRef .tc main_v39)) (rows (rowsum (V (Proc.devRef .tc main_v39)))) : T) := by
  simp only [line4, TRef.nullary, TRef.ternary, TRef.unary, TRef.toBuf, TRef.ofBuf, cast_eq]
  after_results_simp
  all_goals rfl

theorem at4_v46 (V : Env) : after (line4 (F := Ideal)) V (Proc.devRef .tc main_v46) = (Host.divf (broadcastInDim S12x4096x1 ![] bcast_S_S12x4096x1 (constant S_ .f32 0x3F800000#32)) (mulf (broadcastInDim S12x4096x1 ![0, 1] bcast_S12x4096_S12x4096x1_0_1 (rowsum (V (Proc.devRef .tc main_v39)))) (broadcastInDim S12x4096x1 ![0, 1] bcast_S12x4096_S12x4096x1_0_1 (rowsum (V (Proc.devRef .tc main_v39))))) : FVec Ideal S12x4096x1 .f32) := by
  simp only [line4, TRef.nullary, TRef.ternary, TRef.unary, TRef.toBuf, TRef.ofBuf, cast_eq]
  after_results_simp
  all_goals rfl

theorem keep4_arg0 (V : Env) : after (line4 (F := Ideal)) V (Proc.devRef .tc main_arg0) = V (Proc.devRef .tc main_arg0) := by
  simp only [line4, TRef.nullary, TRef.ternary, TRef.unary, TRef.toBuf, TRef.ofBuf, cast_eq]
  after_results_simp

theorem keep4_arg1 (V : Env) : after (line4 (F := Ideal)) V (Proc.devRef .tc main_arg1) = V (Proc.devRef .tc main_arg1) := by
  simp only [line4, TRef.nullary, TRef.ternary, TRef.unary, TRef.toBuf, TRef.ofBuf, cast_eq]
  after_results_simp

theorem keep4_arg2 (V : Env) : after (line4 (F := Ideal)) V (Proc.devRef .tc main_arg2) = V (Proc.devRef .tc main_arg2) := by
  simp only [line4, TRef.nullary, TRef.ternary, TRef.unary, TRef.toBuf, TRef.ofBuf, cast_eq]
  after_results_simp

theorem keep4_arg3 (V : Env) : after (line4 (F := Ideal)) V (Proc.devRef .tc main_arg3) = V (Proc.devRef .tc main_arg3) := by
  simp only [line4, TRef.nullary, TRef.ternary, TRef.unary, TRef.toBuf, TRef.ofBuf, cast_eq]
  after_results_simp

theorem keep4_arg4 (V : Env) : after (line4 (F := Ideal)) V (Proc.devRef .tc main_arg4) = V (Proc.devRef .tc main_arg4) := by
  simp only [line4, TRef.nullary, TRef.ternary, TRef.unary, TRef.toBuf, TRef.ofBuf, cast_eq]
  after_results_simp

theorem keep4_v0 (V : Env) : after (line4 (F := Ideal)) V (Proc.devRef .tc main_v0) = V (Proc.devRef .tc main_v0) := by
  simp only [line4, TRef.nullary, TRef.ternary, TRef.unary, TRef.toBuf, TRef.ofBuf, cast_eq]
  after_results_simp

theorem keep4_v1 (V : Env) : after (line4 (F := Ideal)) V (Proc.devRef .tc main_v1) = V (Proc.devRef .tc main_v1) := by
  simp only [line4, TRef.nullary, TRef.ternary, TRef.unary, TRef.toBuf, TRef.ofBuf, cast_eq]
  after_results_simp

theorem keep4_v18_1 (V : Env) : after (line4 (F := Ideal)) V (Proc.devRef .tc main_v18_1) = V (Proc.devRef .tc main_v18_1) := by
  simp only [line4, TRef.nullary, TRef.ternary, TRef.unary, TRef.toBuf, TRef.ofBuf, cast_eq]
  after_results_simp

theorem keep4_v39 (V : Env) : after (line4 (F := Ideal)) V (Proc.devRef .tc main_v39) = V (Proc.devRef .tc main_v39) := by
  simp only [line4, TRef.nullary, TRef.ternary, TRef.unary, TRef.toBuf, TRef.ofBuf, cast_eq]
  after_results_simp

theorem at5_v53 (V : Env) : after (line5 (F := Ideal)) V (Proc.devRef .tc main_v53) = (dprob (V (Proc.devRef .tc main_arg4)) (V (Proc.devRef .tc main_arg2)) : T) := by
  simp only [line5, TRef.nullary, TRef.ternary, TRef.unary, TRef.toBuf, TRef.ofBuf, cast_eq]
  after_results_simp
  all_goals rfl

theorem at5_v56 (V : Env) : after (line5 (F := Ideal)) V (Proc.devRef .tc main_v56) = (flat (transpose S4096x12x64 [2, 0, 1] (Host.dotGeneral (F := Ideal) (φ₁ := .f32) (φ₂ := .f32) dot_S12x64x4096_S12x4096x4096_S12x64x4096_2_1_1_2_0_0 none (inc (V (Proc.devRef .tc main_arg4))) (V (Proc.devRef .tc main_v43) : T)) transposes_S12x64x4096_S4096x12x64_2_0_1) : A) := by
  simp only [line5, TRef.nullary, TRef.ternary, TRef.unary, TRef.toBuf, TRef.ofBuf, cast_eq]
  after_results_simp
  all_goals rfl

theorem keep5_arg0 (V : Env) : after (line5 (F := Ideal)) V (Proc.devRef .tc main_arg0) = V (Proc.devRef .tc main_arg0) := by
  simp only [line5, TRef.nullary, TRef.ternary, TRef.unary, TRef.toBuf, TRef.ofBuf, cast_eq]
  after_results_simp

theorem keep5_arg1 (V : Env) : after (line5 (F := Ideal)) V (Proc.devRef .tc main_arg1) = V (Proc.devRef .tc main_arg1) := by
  simp only [line5, TRef.nullary, TRef.ternary, TRef.unary, TRef.toBuf, TRef.ofBuf, cast_eq]
  after_results_simp

theorem keep5_arg2 (V : Env) : after (line5 (F := Ideal)) V (Proc.devRef .tc main_arg2) = V (Proc.devRef .tc main_arg2) := by
  simp only [line5, TRef.nullary, TRef.ternary, TRef.unary, TRef.toBuf, TRef.ofBuf, cast_eq]
  after_results_simp

theorem keep5_arg3 (V : Env) : after (line5 (F := Ideal)) V (Proc.devRef .tc main_arg3) = V (Proc.devRef .tc main_arg3) := by
  simp only [line5, TRef.nullary, TRef.ternary, TRef.unary, TRef.toBuf, TRef.ofBuf, cast_eq]
  after_results_simp

theorem keep5_arg4 (V : Env) : after (line5 (F := Ideal)) V (Proc.devRef .tc main_arg4) = V (Proc.devRef .tc main_arg4) := by
  simp only [line5, TRef.nullary, TRef.ternary, TRef.unary, TRef.toBuf, TRef.ofBuf, cast_eq]
  after_results_simp

theorem keep5_v0 (V : Env) : after (line5 (F := Ideal)) V (Proc.devRef .tc main_v0) = V (Proc.devRef .tc main_v0) := by
  simp only [line5, TRef.nullary, TRef.ternary, TRef.unary, TRef.toBuf, TRef.ofBuf, cast_eq]
  after_results_simp

theorem keep5_v1 (V : Env) : after (line5 (F := Ideal)) V (Proc.devRef .tc main_v1) = V (Proc.devRef .tc main_v1) := by
  simp only [line5, TRef.nullary, TRef.ternary, TRef.unary, TRef.toBuf, TRef.ofBuf, cast_eq]
  after_results_simp

theorem keep5_v18_1 (V : Env) : after (line5 (F := Ideal)) V (Proc.devRef .tc main_v18_1) = V (Proc.devRef .tc main_v18_1) := by
  simp only [line5, TRef.nullary, TRef.ternary, TRef.unary, TRef.toBuf, TRef.ofBuf, cast_eq]
  after_results_simp

theorem keep5_v39 (V : Env) : after (line5 (F := Ideal)) V (Proc.devRef .tc main_v39) = V (Proc.devRef .tc main_v39) := by
  simp only [line5, TRef.nullary, TRef.ternary, TRef.unary, TRef.toBuf, TRef.ofBuf, cast_eq]
  after_results_simp

theorem keep5_v41 (V : Env) : after (line5 (F := Ideal)) V (Proc.devRef .tc main_v41) = V (Proc.devRef .tc main_v41) := by
  simp only [line5, TRef.nullary, TRef.ternary, TRef.unary, TRef.toBuf, TRef.ofBuf, cast_eq]
  after_results_simp

theorem keep5_v46 (V : Env) : after (line5 (F := Ideal)) V (Proc.devRef .tc main_v46) = V (Proc.devRef .tc main_v46) := by
  simp only [line5, TRef.nullary, TRef.ternary, TRef.unary, TRef.toBuf, TRef.ofBuf, cast_eq]
  after_results_simp

theorem at6_v68 (V : Env) : after (line6 (F := Ideal)) V (Proc.devRef .tc main_v68) = (mulf (addf (Host.divf (V (Proc.devRef .tc main_v53)) (broadcastInDim S12x4096x4096 ![0, 1, 2] bcast_S12x4096x1_S12x4096x4096_0_1_2 (V (Proc.devRef .tc main_v41)))) (broadcastInDim S12x4096x4096 ![0, 1] bcast_S12x4096_S12x4096x4096_0_1 (Host.reduceAdd (Host.negf (shapeCast S12x4096x1 (rowsum (mulf (mulf (V (Proc.devRef .tc main_v53)) (broadcastInDim S12x4096x4096 ![0, 1, 2] bcast_S12x4096x1_S12x4096x4096_0_1_2 (V (Proc.devRef .tc main_v46)))) (V (Proc.devRef .tc main_v39)))) shapeCasts_S12x4096_S12x4096x1)) (constant S_ .f32 0x00000000#32) reducesTo_S12x4096x1_S12x4096_d2 h_S_))) (V (Proc.devRef .tc main_v39)) : T) := by
  simp only [line6, TRef.nullary, TRef.ternary, TRef.unary, TRef.toBuf, TRef.ofBuf, cast_eq]
  after_results_simp
  all_goals rfl

theorem keep6_arg0 (V : Env) : after (line6 (F := Ideal)) V (Proc.devRef .tc main_arg0) = V (Proc.devRef .tc main_arg0) := by
  simp only [line6, TRef.nullary, TRef.ternary, TRef.unary, TRef.toBuf, TRef.ofBuf, cast_eq]
  after_results_simp

theorem keep6_arg1 (V : Env) : after (line6 (F := Ideal)) V (Proc.devRef .tc main_arg1) = V (Proc.devRef .tc main_arg1) := by
  simp only [line6, TRef.nullary, TRef.ternary, TRef.unary, TRef.toBuf, TRef.ofBuf, cast_eq]
  after_results_simp

theorem keep6_arg2 (V : Env) : after (line6 (F := Ideal)) V (Proc.devRef .tc main_arg2) = V (Proc.devRef .tc main_arg2) := by
  simp only [line6, TRef.nullary, TRef.ternary, TRef.unary, TRef.toBuf, TRef.ofBuf, cast_eq]
  after_results_simp

theorem keep6_arg3 (V : Env) : after (line6 (F := Ideal)) V (Proc.devRef .tc main_arg3) = V (Proc.devRef .tc main_arg3) := by
  simp only [line6, TRef.nullary, TRef.ternary, TRef.unary, TRef.toBuf, TRef.ofBuf, cast_eq]
  after_results_simp

theorem keep6_arg4 (V : Env) : after (line6 (F := Ideal)) V (Proc.devRef .tc main_arg4) = V (Proc.devRef .tc main_arg4) := by
  simp only [line6, TRef.nullary, TRef.ternary, TRef.unary, TRef.toBuf, TRef.ofBuf, cast_eq]
  after_results_simp

theorem keep6_v0 (V : Env) : after (line6 (F := Ideal)) V (Proc.devRef .tc main_v0) = V (Proc.devRef .tc main_v0) := by
  simp only [line6, TRef.nullary, TRef.ternary, TRef.unary, TRef.toBuf, TRef.ofBuf, cast_eq]
  after_results_simp

theorem keep6_v1 (V : Env) : after (line6 (F := Ideal)) V (Proc.devRef .tc main_v1) = V (Proc.devRef .tc main_v1) := by
  simp only [line6, TRef.nullary, TRef.ternary, TRef.unary, TRef.toBuf, TRef.ofBuf, cast_eq]
  after_results_simp

theorem keep6_v18_1 (V : Env) : after (line6 (F := Ideal)) V (Proc.devRef .tc main_v18_1) = V (Proc.devRef .tc main_v18_1) := by
  simp only [line6, TRef.nullary, TRef.ternary, TRef.unary, TRef.toBuf, TRef.ofBuf, cast_eq]
  after_results_simp

theorem keep6_v56 (V : Env) : after (line6 (F := Ideal)) V (Proc.devRef .tc main_v56) = V (Proc.devRef .tc main_v56) := by
  simp only [line6, TRef.nullary, TRef.ternary, TRef.unary, TRef.toBuf, TRef.ofBuf, cast_eq]
  after_results_simp

theorem at7_v69 (V : Env) : after (line7 (F := Ideal)) V (Proc.devRef .tc main_v69) = (select (V (Proc.devRef .tc main_v18_1)) (V (Proc.devRef .tc main_v68)) (all 0x00000000#32) : T) := by
  simp only [line7, TRef.nullary, TRef.ternary, TRef.unary, TRef.toBuf, TRef.ofBuf, cast_eq]
  after_results_simp
  all_goals rfl

theorem keep7_arg0 (V : Env) : after (line7 (F := Ideal)) V (Proc.devRef .tc main_arg0) = V (Proc.devRef .tc main_arg0) := by
  simp only [line7, TRef.nullary, TRef.ternary, TRef.unary, TRef.toBuf, TRef.ofBuf, cast_eq]
  after_results_simp

theorem keep7_arg1 (V : Env) : after (line7 (F := Ideal)) V (Proc.devRef .tc main_arg1) = V (Proc.devRef .tc main_arg1) := by
  simp only [line7, TRef.nullary, TRef.ternary, TRef.unary, TRef.toBuf, TRef.ofBuf, cast_eq]
  after_results_simp

theorem keep7_arg2 (V : Env) : after (line7 (F := Ideal)) V (Proc.devRef .tc main_arg2) = V (Proc.devRef .tc main_arg2) := by
  simp only [line7, TRef.nullary, TRef.ternary, TRef.unary, TRef.toBuf, TRef.ofBuf, cast_eq]
  after_results_simp

theorem keep7_arg3 (V : Env) : after (line7 (F := Ideal)) V (Proc.devRef .tc main_arg3) = V (Proc.devRef .tc main_arg3) := by
  simp only [line7, TRef.nullary, TRef.ternary, TRef.unary, TRef.toBuf, TRef.ofBuf, cast_eq]
  after_results_simp

theorem keep7_arg4 (V : Env) : after (line7 (F := Ideal)) V (Proc.devRef .tc main_arg4) = V (Proc.devRef .tc main_arg4) := by
  simp only [line7, TRef.nullary, TRef.ternary, TRef.unary, TRef.toBuf, TRef.ofBuf, cast_eq]
  after_results_simp

theorem keep7_v0 (V : Env) : after (line7 (F := Ideal)) V (Proc.devRef .tc main_v0) = V (Proc.devRef .tc main_v0) := by
  simp only [line7, TRef.nullary, TRef.ternary, TRef.unary, TRef.toBuf, TRef.ofBuf, cast_eq]
  after_results_simp

theorem keep7_v1 (V : Env) : after (line7 (F := Ideal)) V (Proc.devRef .tc main_v1) = V (Proc.devRef .tc main_v1) := by
  simp only [line7, TRef.nullary, TRef.ternary, TRef.unary, TRef.toBuf, TRef.ofBuf, cast_eq]
  after_results_simp

theorem keep7_v56 (V : Env) : after (line7 (F := Ideal)) V (Proc.devRef .tc main_v56) = V (Proc.devRef .tc main_v56) := by
  simp only [line7, TRef.nullary, TRef.ternary, TRef.unary, TRef.toBuf, TRef.ofBuf, cast_eq]
  after_results_simp

theorem at8_v77 (V : Env) : after (line8 (F := Ideal)) V (Proc.devRef .tc main_v77) = (addf (Host.reduceAdd (shapeCast S12x1x4096 (Host.reduceAdd (Host.negf (V (Proc.devRef .tc main_v69))) (constant S_ .f32 0x00000000#32) reducesTo_S12x4096x4096_S12x4096_d1 h_S_) shapeCasts_S12x4096_S12x1x4096) (constant S_ .f32 0x00000000#32) reducesTo_S12x1x4096_S12x4096_d1 h_S_) (Host.reduceAdd (shapeCast S12x4096x1 (rowsum (V (Proc.devRef .tc main_v69))) shapeCasts_S12x4096_S12x4096x1) (constant S_ .f32 0x00000000#32) reducesTo_S12x4096x1_S12x4096_d2 h_S_) : R) := by
  simp only [line8, TRef.nullary, TRef.ternary, TRef.unary, TRef.toBuf, TRef.ofBuf, cast_eq]
  after_results_simp
  all_goals rfl

theorem keep8_arg0 (V : Env) : after (line8 (F := Ideal)) V (Proc.devRef .tc main_arg0) = V (Proc.devRef .tc main_arg0) := by
  simp only [line8, TRef.nullary, TRef.ternary, TRef.unary, TRef.toBuf, TRef.ofBuf, cast_eq]
  after_results_simp

theorem keep8_arg1 (V : Env) : after (line8 (F := Ideal)) V (Proc.devRef .tc main_arg1) = V (Proc.devRef .tc main_arg1) := by
  simp only [line8, TRef.nullary, TRef.ternary, TRef.unary, TRef.toBuf, TRef.ofBuf, cast_eq]
  after_results_simp

theorem keep8_arg2 (V : Env) : after (line8 (F := Ideal)) V (Proc.devRef .tc main_arg2) = V (Proc.devRef .tc main_arg2) := by
  simp only [line8, TRef.nullary, TRef.ternary, TRef.unary, TRef.toBuf, TRef.ofBuf, cast_eq]
  after_results_simp

theorem keep8_arg3 (V : Env) : after (line8 (F := Ideal)) V (Proc.devRef .tc main_arg3) = V (Proc.devRef .tc main_arg3) := by
  simp only [line8, TRef.nullary, TRef.ternary, TRef.unary, TRef.toBuf, TRef.ofBuf, cast_eq]
  after_results_simp

theorem keep8_arg4 (V : Env) : after (line8 (F := Ideal)) V (Proc.devRef .tc main_arg4) = V (Proc.devRef .tc main_arg4) := by
  simp only [line8, TRef.nullary, TRef.ternary, TRef.unary, TRef.toBuf, TRef.ofBuf, cast_eq]
  after_results_simp

theorem keep8_v0 (V : Env) : after (line8 (F := Ideal)) V (Proc.devRef .tc main_v0) = V (Proc.devRef .tc main_v0) := by
  simp only [line8, TRef.nullary, TRef.ternary, TRef.unary, TRef.toBuf, TRef.ofBuf, cast_eq]
  after_results_simp

theorem keep8_v1 (V : Env) : after (line8 (F := Ideal)) V (Proc.devRef .tc main_v1) = V (Proc.devRef .tc main_v1) := by
  simp only [line8, TRef.nullary, TRef.ternary, TRef.unary, TRef.toBuf, TRef.ofBuf, cast_eq]
  after_results_simp

theorem keep8_v56 (V : Env) : after (line8 (F := Ideal)) V (Proc.devRef .tc main_v56) = V (Proc.devRef .tc main_v56) := by
  simp only [line8, TRef.nullary, TRef.ternary, TRef.unary, TRef.toBuf, TRef.ofBuf, cast_eq]
  after_results_simp

theorem keep8_v69 (V : Env) : after (line8 (F := Ideal)) V (Proc.devRef .tc main_v69) = V (Proc.devRef .tc main_v69) := by
  simp only [line8, TRef.nullary, TRef.ternary, TRef.unary, TRef.toBuf, TRef.ofBuf, cast_eq]
  after_results_simp

theorem at9_v84 (V : Env) : after (line9 (F := Ideal)) V (Proc.devRef .tc main_v84) = (transpose S4096x12 [1, 0] (V (Proc.devRef .tc main_v77)) transposes_S12x4096_S4096x12_1_0 : B) := by
  simp only [line9, TRef.nullary, TRef.ternary, TRef.unary, TRef.toBuf, TRef.ofBuf, cast_eq]
  after_results_simp
  all_goals rfl

theorem at9_v85 (V : Env) : after (line9 (F := Ideal)) V (Proc.devRef .tc main_v85) = (flat (transpose S4096x12x64 [1, 0, 2] (Host.dotGeneral (F := Ideal) (φ₁ := .f32) (φ₂ := .f32) dot_S12x4096x4096_S4096x12x64_S12x4096x64_1_0_2_2_0_1 none (mulf (V (Proc.devRef .tc main_v69)) (all 0x3E000000#32)) (V (Proc.devRef .tc main_v0) : FVec Ideal S4096x12x64 .f32)) transposes_S12x4096x64_S4096x12x64_1_0_2) : A) := by
  simp only [line9, TRef.nullary, TRef.ternary, TRef.unary, TRef.toBuf, TRef.ofBuf, cast_eq]
  after_results_simp
  all_goals rfl

theorem at9_v86 (V : Env) : after (line9 (F := Ideal)) V (Proc.devRef .tc main_v86) = (flat (transpose S4096x12x64 [1, 0, 2] (Host.dotGeneral (F := Ideal) (φ₁ := .f32) (φ₂ := .f32) dot_S12x4096x4096_S4096x12x64_S12x4096x64_2_0_1_2_0_1 none (mulf (V (Proc.devRef .tc main_v69)) (all 0x3E000000#32)) (V (Proc.devRef .tc main_v1) : FVec Ideal S4096x12x64 .f32)) transposes_S12x4096x64_S4096x12x64_1_0_2) : A) := by
  simp only [line9, TRef.nullary, TRef.ternary, TRef.unary, TRef.toBuf, TRef.ofBuf, cast_eq]
  after_results_simp
  all_goals rfl

theorem keep9_arg0 (V : Env) : after (line9 (F := Ideal)) V (Proc.devRef .tc main_arg0) = V (Proc.devRef .tc main_arg0) := by
  simp only [line9, TRef.nullary, TRef.ternary, TRef.unary, TRef.toBuf, TRef.ofBuf, cast_eq]
  after_results_simp

theorem keep9_arg1 (V : Env) : after (line9 (F := Ideal)) V (Proc.devRef .tc main_arg1) = V (Proc.devRef .tc main_arg1) := by
  simp only [line9, TRef.nullary, TRef.ternary, TRef.unary, TRef.toBuf, TRef.ofBuf, cast_eq]
  after_results_simp

theorem keep9_arg2 (V : Env) : after (line9 (F := Ideal)) V (Proc.devRef .tc main_arg2) = V (Proc.devRef .tc main_arg2) := by
  simp only [line9, TRef.nullary, TRef.ternary, TRef.unary, TRef.toBuf, TRef.ofBuf, cast_eq]
  after_results_simp

theorem keep9_arg3 (V : Env) : after (line9 (F := Ideal)) V (Proc.devRef .tc main_arg3) = V (Proc.devRef .tc main_arg3) := by
  simp only [line9, TRef.nullary, TRef.ternary, TRef.unary, TRef.toBuf, TRef.ofBuf, cast_eq]
  after_results_simp

theorem keep9_arg4 (V : Env) : after (line9 (F := Ideal)) V (Proc.devRef .tc main_arg4) = V (Proc.devRef .tc main_arg4) := by
  simp only [line9, TRef.nullary, TRef.ternary, TRef.unary, TRef.toBuf, TRef.ofBuf, cast_eq]
  after_results_simp

theorem keep9_v56 (V : Env) : after (line9 (F := Ideal)) V (Proc.devRef .tc main_v56) = V (Proc.devRef .tc main_v56) := by
  simp only [line9, TRef.nullary, TRef.ternary, TRef.unary, TRef.toBuf, TRef.ofBuf, cast_eq]
  after_results_simp

theorem after_app (l l' : Ops) (V : Env) : after (l ++ l') V = after l' (after l V) := by
  induction l generalizing V with
  | nil => rfl
  | cons o l ih => exact ih _

theorem line_cut : line (F := Ideal) = line0 ++ (line1 ++ (line2 ++ (line3 ++ (line4 ++ (line5 ++ (line6 ++ (line7 ++ (line8 ++ (line9))))))))) := rfl

theorem after_line (V : Env) : after (line (F := Ideal)) V = after (line9 (F := Ideal)) (after (line8 (F := Ideal)) (after (line7 (F := Ideal)) (after (line6 (F := Ideal)) (after (line5 (F := Ideal)) (after (line4 (F := Ideal)) (after (line3 (F := Ideal)) (after (line2 (F := Ideal)) (after (line1 (F := Ideal)) (after (line0 (F := Ideal)) V))))))))) := by
  rw [line_cut]
  simp only [after_app]

theorem read_v86 (V : Env) : after (line (F := Ideal)) V (Proc.devRef .tc main_v86) = gradQ (V (Proc.devRef .tc main_arg0)) (V (Proc.devRef .tc main_arg1)) (V (Proc.devRef .tc main_arg3)) (V (Proc.devRef .tc main_arg4)) (V (Proc.devRef .tc main_arg2)) := by
  rw [after_line]
  rw [at9_v86, keep8_v1, keep8_v69, keep7_v1, at7_v69, keep6_v1, keep6_v18_1, at6_v68, keep5_v1, keep5_v18_1, keep5_v39, keep5_v41, keep5_v46, at5_v53, keep4_arg2, keep4_arg4, keep4_v1, keep4_v18_1, keep4_v39, at4_v41, at4_v46, keep3_arg2, keep3_arg4, keep3_v1, keep3_v18_1, at3_v39, keep2_arg2, keep2_arg4, keep2_v1, keep2_v18_0, keep2_v18_1, at2_v26, keep1_arg2, keep1_arg4, keep1_v1, keep1_v18_0, keep1_v18_1, at1_v19, keep0_arg2, keep0_arg4, at0_v1, at0_v18_0, at0_v18_1]
  rfl

theorem read_v85 (V : Env) : after (line (F := Ideal)) V (Proc.devRef .tc main_v85) = gradK (V (Proc.devRef .tc main_arg0)) (V (Proc.devRef .tc main_arg1)) (V (Proc.devRef .tc main_arg3)) (V (Proc.devRef .tc main_arg4)) (V (Proc.devRef .tc main_arg2)) := by
  rw [after_line]
  rw [at9_v85, keep8_v0, keep8_v69, keep7_v0, at7_v69, keep6_v0, keep6_v18_1, at6_v68, keep5_v0, keep5_v18_1, keep5_v39, keep5_v41, keep5_v46, at5_v53, keep4_arg2, keep4_arg4, keep4_v0, keep4_v18_1, keep4_v39, at4_v41, at4_v46, keep3_arg2, keep3_arg4, keep3_v0, keep3_v18_1, at3_v39, keep2_arg2, keep2_arg4, keep2_v0, keep2_v18_0, keep2_v18_1, at2_v26, keep1_arg2, keep1_arg4, keep1_v0, keep1_v18_0, keep1_v18_1, at1_v19, keep0_arg2, keep0_arg4, at0_v0, at0_v18_0, at0_v18_1]
  rfl

theorem read_v56 (V : Env) : after (line (F := Ideal)) V (Proc.devRef .tc main_v56) = gradV (V (Proc.devRef .tc main_arg0)) (V (Proc.devRef .tc main_arg1)) (V (Proc.devRef .tc main_arg3)) (V (Proc.devRef .tc main_arg4)) := by
  rw [after_line]
  rw [keep9_v56, keep8_v56, keep7_v56, keep6_v56, at5_v56, keep4_arg4, at4_v43, keep3_arg4, at3_v39, keep2_arg4, keep2_v18_0, at2_v26, keep1_arg4, keep1_v18_0, at1_v19, keep0_arg4, at0_v18_0]
  rfl

theorem read_v84 (V : Env) : after (line (F := Ideal)) V (Proc.devRef .tc main_v84) = gradC (V (Proc.devRef .tc main_arg0)) (V (Proc.devRef .tc main_arg1)) (V (Proc.devRef .tc main_arg3)) (V (Proc.devRef .tc main_arg4)) (V (Proc.devRef .tc main_arg2)) := by
  rw [after_line]
  rw [at9_v84, at8_v77, at7_v69, keep6_v18_1, at6_v68, keep5_v18_1, keep5_v39, keep5_v41, keep5_v46, at5_v53, keep4_arg2, keep4_arg4, keep4_v18_1, keep4_v39, at4_v41, at4_v46, keep3_arg2, keep3_arg4, keep3_v18_1, at3_v39, keep2_arg2, keep2_arg4, keep2_v18_0, keep2_v18_1, at2_v26, keep1_arg2, keep1_arg4, keep1_v18_0, keep1_v18_1, at1_v19, keep0_arg2, keep0_arg4, at0_v18_0, at0_v18_1]
  rfl

theorem read_arg0 (V : Env) : after (line (F := Ideal)) V (Proc.devRef .tc main_arg0) = V (Proc.devRef .tc main_arg0) := by
  rw [after_line, keep9_arg0, keep8_arg0, keep7_arg0, keep6_arg0, keep5_arg0, keep4_arg0, keep3_arg0, keep2_arg0, keep1_arg0, keep0_arg0]

theorem read_arg1 (V : Env) : after (line (F := Ideal)) V (Proc.devRef .tc main_arg1) = V (Proc.devRef .tc main_arg1) := by
  rw [after_line, keep9_arg1, keep8_arg1, keep7_arg1, keep6_arg1, keep5_arg1, keep4_arg1, keep3_arg1, keep2_arg1, keep1_arg1, keep0_arg1]

theorem read_arg2 (V : Env) : after (line (F := Ideal)) V (Proc.devRef .tc main_arg2) = V (Proc.devRef .tc main_arg2) := by
  rw [after_line, keep9_arg2, keep8_arg2, keep7_arg2, keep6_arg2, keep5_arg2, keep4_arg2, keep3_arg2, keep2_arg2, keep1_arg2, keep0_arg2]

theorem read_arg3 (V : Env) : after (line (F := Ideal)) V (Proc.devRef .tc main_arg3) = V (Proc.devRef .tc main_arg3) := by
  rw [after_line, keep9_arg3, keep8_arg3, keep7_arg3, keep6_arg3, keep5_arg3, keep4_arg3, keep3_arg3, keep2_arg3, keep1_arg3, keep0_arg3]

theorem read_arg4 (V : Env) : after (line (F := Ideal)) V (Proc.devRef .tc main_arg4) = V (Proc.devRef .tc main_arg4) := by
  rw [after_line, keep9_arg4, keep8_arg4, keep7_arg4, keep6_arg4, keep5_arg4, keep4_arg4, keep3_arg4, keep2_arg4, keep1_arg4, keep0_arg4]

/-- Lines 0 to 19, as the program groups them. -/
def part_a : List (HloOp τ sig (Elt F)) :=
  [ reshape main_arg0 main_v0 (rfl : (.f32 : EltTy) = .f32) shapeCasts_S4096x768_S4096x12x64,
    reshape main_arg1 main_v1 (rfl : (.f32 : EltTy) = .f32) shapeCasts_S4096x768_S4096x12x64,
    unary main_arg3 main_v2 ((transpose S12x4096 [1, 0] · transposes_S4096x12_S12x4096_1_0) : Arr F S4096x12 → Arr F S12x4096),
    binary main_v0 main_v1 main_v3 ((fun l r => Host.dotGeneral dot_S4096x12x64_S4096x12x64_S12x4096x4096_2_2_0_0_1_1 none l r) : Arr F S4096x12x64 → Arr F S4096x12x64 → Arr F S12x4096x4096),
    nullary main_cst (constant S_ .f32 0x3E000000#32),
    unary main_cst main_v4 (broadcastInDim S12x4096x4096 ![] bcast_S_S12x4096x4096 : Arr F S_ → Arr F S12x4096x4096),
    binary main_v3 main_v4 main_v5 (mulf : Arr F S12x4096x4096 → Arr F S12x4096x4096 → Arr F S12x4096x4096),
    unary main_v2 main_v6 (broadcastInDim S12x4096x1 ![0, 1] bcast_S12x4096_S12x4096x1_0_1 : Arr F S12x4096 → Arr F S12x4096x1),
    unary main_v6 main_v7 (broadcastInDim S12x4096x4096 ![0, 1, 2] bcast_S12x4096x1_S12x4096x4096_0_1_2 : Arr F S12x4096x1 → Arr F S12x4096x4096),
    binary main_v5 main_v7 main_v8 (addf : Arr F S12x4096x4096 → Arr F S12x4096x4096 → Arr F S12x4096x4096),
    unary main_v2 main_v9 (broadcastInDim S12x1x4096 ![0, 2] bcast_S12x4096_S12x1x4096_0_2 : Arr F S12x4096 → Arr F S12x1x4096),
    unary main_v9 main_v10 (broadcastInDim S12x4096x4096 ![0, 1, 2] bcast_S12x1x4096_S12x4096x4096_0_1_2 : Arr F S12x1x4096 → Arr F S12x4096x4096),
    binary main_v8 main_v10 main_v11 (subf : Arr F S12x4096x4096 → Arr F S12x4096x4096 → Arr F S12x4096x4096),
    nullary main_v12 (iotaInDim S4096 32 0),
    unary main_v12 main_v13 (broadcastInDim S1x4096 ![1] bcast_S4096_S1x4096_1 : (⟨S4096, .i32⟩ : BufTy).Contents (Elt F) → (⟨S1x4096, .i32⟩ : BufTy).Contents (Elt F)),
    unary main_v12 main_v14 (broadcastInDim S4096x1 ![0] bcast_S4096_S4096x1_0 : (⟨S4096, .i32⟩ : BufTy).Contents (Elt F) → (⟨S4096x1, .i32⟩ : BufTy).Contents (Elt F)),
    unary main_v13 main_v15 (broadcastInDim S4096x4096 ![0, 1] bcast_S1x4096_S4096x4096_0_1 : (⟨S1x4096, .i32⟩ : BufTy).Contents (Elt F) → (⟨S4096x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    binary main_v15 main_v16 main_v17 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32) ]

/-- Lines 20 to 25, as the program groups them. -/
def part_b : List (HloOp τ sig (Elt F)) :=
  [ TRef.unary (TRef.of (T := ⟨S_, .f32⟩) main_cst_0) (TRef.of (T := ⟨S_, .f32⟩) main_call0_v0) id,
    TRef.unary (TRef.of (T := ⟨S4096x4096, .i1⟩) main_v17) (TRef.of (T := ⟨S12x4096x4096, .i1⟩) main_v18_1) (broadcastInDim S12x4096x4096 ![1, 2] bcast_S4096x4096_S12x4096x4096_1_2),
    TRef.unary (TRef.of (T := ⟨S_, .f32⟩) main_call0_v0) (TRef.of (T := ⟨S12x4096x4096, .f32⟩) main_call0_v2) (broadcastInDim S12x4096x4096 ![] bcast_S_S12x4096x4096),
    TRef.ternary (TRef.of (T := ⟨S12x4096x4096, .i1⟩) main_v18_1) (TRef.of (T := ⟨S12x4096x4096, .f32⟩) main_v11) (TRef.of (T := ⟨S12x4096x4096, .f32⟩) main_call0_v2) (TRef.of (T := ⟨S12x4096x4096, .f32⟩) main_v18_0) select,
    TRef.nullary (TRef.of (T := ⟨S_, .f32⟩) main_call0_cst) (constant S_ .f32 0x00000000#32),
    TRef.unary (TRef.of (T := ⟨S_, .f32⟩) main_call0_cst) (TRef.of (T := ⟨S12x4096x4096, .f32⟩) main_v18_2) (broadcastInDim S12x4096x4096 ![] bcast_S_S12x4096x4096) ]

/-- Lines 26 to 64, as the program groups them. -/
def part_c : List (HloOp τ sig (Elt F)) :=
  [ nullary main_cst_1 (constant S_ .f32 0xFF800000#32),
    binary main_v18_0 main_cst_1 main_v19 ((fun x v => Host.reduce FloatOps.maximumf x v reducesTo_S12x4096x4096_S12x4096_d2 h_S_) : Arr F S12x4096x4096 → Arr F S_ → Arr F S12x4096),
    reshape main_v19 main_v20 (rfl : (.f32 : EltTy) = .f32) shapeCasts_S12x4096_S12x4096x1,
    unary main_v20 main_v21 (broadcastInDim S12x4096x4096 ![0, 1, 2] bcast_S12x4096x1_S12x4096x4096_0_1_2 : Arr F S12x4096x1 → Arr F S12x4096x4096),
    binary main_v18_0 main_v21 main_v22 (cmpf .oeq : Arr F S12x4096x4096 → Arr F S12x4096x4096 → (⟨S12x4096x4096, .i1⟩ : BufTy).Contents (Elt F)),
    unary main_v22 main_v23 (uitofp .f32 : (⟨S12x4096x4096, .i1⟩ : BufTy).Contents (Elt F) → Arr F S12x4096x4096),
    nullary main_cst_2 (constant S_ .f32 0x00000000#32),
    binary main_v23 main_cst_2 main_v24 ((fun x v => Host.reduceAdd x v reducesTo_S12x4096x4096_S12x4096_d2 h_S_) : Arr F S12x4096x4096 → Arr F S_ → Arr F S12x4096),
    nullary main_cst_3 (constant S_ .f32 0xFF800000#32),
    unary main_cst_3 main_v25 (broadcastInDim S12x4096 ![] bcast_S_S12x4096 : Arr F S_ → Arr F S12x4096),
    binary main_v25 main_v19 main_v26 (maximumf : Arr F S12x4096 → Arr F S12x4096 → Arr F S12x4096),
    nullary main_cst_4 (constant S_ .f32 0xFF800000#32),
    unary main_cst_4 main_v27 (broadcastInDim S12x4096 ![] bcast_S_S12x4096 : Arr F S_ → Arr F S12x4096),
    binary main_v19 main_v27 main_v28 (cmpf .ogt : Arr F S12x4096 → Arr F S12x4096 → (⟨S12x4096, .i1⟩ : BufTy).Contents (Elt F)),
    nullary main_cst_5 (constant S_ .f32 0xFF800000#32),
    unary main_cst_5 main_v29 (broadcastInDim S12x4096 ![] bcast_S_S12x4096 : Arr F S_ → Arr F S12x4096),
    binary main_v19 main_v29 main_v30 (cmpf .oeq : Arr F S12x4096 → Arr F S12x4096 → (⟨S12x4096, .i1⟩ : BufTy).Contents (Elt F)),
    nullary main_cst_6 (constant S_ .f32 0x3F800000#32),
    unary main_cst_6 main_v31 (broadcastInDim S12x4096 ![] bcast_S_S12x4096 : Arr F S_ → Arr F S12x4096),
    nullary main_cst_7 (constant S_ .f32 0x00000000#32),
    unary main_cst_7 main_v32 (broadcastInDim S12x4096 ![] bcast_S_S12x4096 : Arr F S_ → Arr F S12x4096),
    nullary main_cst_8 (constant S_ .f32 0x3F000000#32),
    unary main_cst_8 main_v33 (broadcastInDim S12x4096 ![] bcast_S_S12x4096 : Arr F S_ → Arr F S12x4096),
    ternary main_v30 main_v33 main_v32 main_v34 (select : (⟨S12x4096, .i1⟩ : BufTy).Contents (Elt F) → Arr F S12x4096 → Arr F S12x4096 → Arr F S12x4096),
    ternary main_v28 main_v31 main_v34 main_v35 (select : (⟨S12x4096, .i1⟩ : BufTy).Contents (Elt F) → Arr F S12x4096 → Arr F S12x4096 → Arr F S12x4096),
    unary main_v26 main_v36 (broadcastInDim S12x4096x1 ![0, 1] bcast_S12x4096_S12x4096x1_0_1 : Arr F S12x4096 → Arr F S12x4096x1),
    unary main_v36 main_v37 (broadcastInDim S12x4096x4096 ![0, 1, 2] bcast_S12x4096x1_S12x4096x4096_0_1_2 : Arr F S12x4096x1 → Arr F S12x4096x4096),
    binary main_v18_0 main_v37 main_v38 (subf : Arr F S12x4096x4096 → Arr F S12x4096x4096 → Arr F S12x4096x4096),
    unary main_v38 main_v39 (Host.exp : Arr F S12x4096x4096 → Arr F S12x4096x4096),
    nullary main_cst_9 (constant S_ .f32 0x00000000#32),
    binary main_v39 main_cst_9 main_v40 ((fun x v => Host.reduceAdd x v reducesTo_S12x4096x4096_S12x4096_d2 h_S_) : Arr F S12x4096x4096 → Arr F S_ → Arr F S12x4096),
    unary main_v40 main_v41 (broadcastInDim S12x4096x1 ![0, 1] bcast_S12x4096_S12x4096x1_0_1 : Arr F S12x4096 → Arr F S12x4096x1),
    unary main_v41 main_v42 (broadcastInDim S12x4096x4096 ![0, 1, 2] bcast_S12x4096x1_S12x4096x4096_0_1_2 : Arr F S12x4096x1 → Arr F S12x4096x4096),
    binary main_v39 main_v42 main_v43 (Host.divf : Arr F S12x4096x4096 → Arr F S12x4096x4096 → Arr F S12x4096x4096),
    binary main_v41 main_v41 main_v44 (mulf : Arr F S12x4096x1 → Arr F S12x4096x1 → Arr F S12x4096x1),
    nullary main_cst_10 (constant S_ .f32 0x3F800000#32),
    unary main_cst_10 main_v45 (broadcastInDim S12x4096x1 ![] bcast_S_S12x4096x1 : Arr F S_ → Arr F S12x4096x1),
    binary main_v45 main_v44 main_v46 (Host.divf : Arr F S12x4096x1 → Arr F S12x4096x1 → Arr F S12x4096x1),
    reshape main_arg2 main_v47 (rfl : (.f32 : EltTy) = .f32) shapeCasts_S4096x768_S4096x12x64 ]

/-- Lines 65 to 87, as the program groups them. -/
def part_d : List (HloOp τ sig (Elt F)) :=
  [ binary main_v47 main_v43 main_v48 ((fun l r => Host.dotGeneral dot_S4096x12x64_S12x4096x4096_S12x64x4096_0_2_2_1_1_0 none l r) : Arr F S4096x12x64 → Arr F S12x4096x4096 → Arr F S12x64x4096),
    unary main_v48 main_v49 ((transpose S4096x12x64 [2, 0, 1] · transposes_S12x64x4096_S4096x12x64_2_0_1) : Arr F S12x64x4096 → Arr F S4096x12x64),
    reshape main_v49 main_v50 (rfl : (.f32 : EltTy) = .f32) shapeCasts_S4096x12x64_S4096x768,
    reshape main_arg4 main_v51 (rfl : (.f32 : EltTy) = .f32) shapeCasts_S4096x768_S4096x12x64,
    unary main_v51 main_v52 ((transpose S12x64x4096 [1, 2, 0] · transposes_S4096x12x64_S12x64x4096_1_2_0) : Arr F S4096x12x64 → Arr F S12x64x4096),
    binary main_v52 main_v47 main_v53 ((fun l r => Host.dotGeneral dot_S12x64x4096_S4096x12x64_S12x4096x4096_1_2_2_0_0_1 none l r) : Arr F S12x64x4096 → Arr F S4096x12x64 → Arr F S12x4096x4096),
    binary main_v52 main_v43 main_v54 ((fun l r => Host.dotGeneral dot_S12x64x4096_S12x4096x4096_S12x64x4096_2_1_1_2_0_0 none l r) : Arr F S12x64x4096 → Arr F S12x4096x4096 → Arr F S12x64x4096),
    unary main_v54 main_v55 ((transpose S4096x12x64 [2, 0, 1] · transposes_S12x64x4096_S4096x12x64_2_0_1) : Arr F S12x64x4096 → Arr F S4096x12x64),
    reshape main_v55 main_v56 (rfl : (.f32 : EltTy) = .f32) shapeCasts_S4096x12x64_S4096x768,
    unary main_v46 main_v57 (broadcastInDim S12x4096x4096 ![0, 1, 2] bcast_S12x4096x1_S12x4096x4096_0_1_2 : Arr F S12x4096x1 → Arr F S12x4096x4096),
    binary main_v53 main_v57 main_v58 (mulf : Arr F S12x4096x4096 → Arr F S12x4096x4096 → Arr F S12x4096x4096),
    binary main_v58 main_v39 main_v59 (mulf : Arr F S12x4096x4096 → Arr F S12x4096x4096 → Arr F S12x4096x4096),
    nullary main_cst_11 (constant S_ .f32 0x00000000#32),
    binary main_v59 main_cst_11 main_v60 ((fun x v => Host.reduceAdd x v reducesTo_S12x4096x4096_S12x4096_d2 h_S_) : Arr F S12x4096x4096 → Arr F S_ → Arr F S12x4096),
    reshape main_v60 main_v61 (rfl : (.f32 : EltTy) = .f32) shapeCasts_S12x4096_S12x4096x1,
    unary main_v61 main_v62 (Host.negf : Arr F S12x4096x1 → Arr F S12x4096x1),
    unary main_v41 main_v63 (broadcastInDim S12x4096x4096 ![0, 1, 2] bcast_S12x4096x1_S12x4096x4096_0_1_2 : Arr F S12x4096x1 → Arr F S12x4096x4096),
    binary main_v53 main_v63 main_v64 (Host.divf : Arr F S12x4096x4096 → Arr F S12x4096x4096 → Arr F S12x4096x4096),
    nullary main_cst_12 (constant S_ .f32 0x00000000#32),
    binary main_v62 main_cst_12 main_v65 ((fun x v => Host.reduceAdd x v reducesTo_S12x4096x1_S12x4096_d2 h_S_) : Arr F S12x4096x1 → Arr F S_ → Arr F S12x4096),
    unary main_v65 main_v66 (broadcastInDim S12x4096x4096 ![0, 1] bcast_S12x4096_S12x4096x4096_0_1 : Arr F S12x4096 → Arr F S12x4096x4096),
    binary main_v64 main_v66 main_v67 (addf : Arr F S12x4096x4096 → Arr F S12x4096x4096 → Arr F S12x4096x4096),
    binary main_v67 main_v39 main_v68 (mulf : Arr F S12x4096x4096 → Arr F S12x4096x4096 → Arr F S12x4096x4096) ]

/-- Lines 88 to 90, as the program groups them. -/
def part_e : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S12x4096x4096, .f32⟩) main_call1_v0) (broadcastInDim S12x4096x4096 ![] bcast_S_S12x4096x4096),
    TRef.ternary (TRef.of (T := ⟨S12x4096x4096, .i1⟩) main_v18_1) (TRef.of (T := ⟨S12x4096x4096, .f32⟩) main_v68) (TRef.of (T := ⟨S12x4096x4096, .f32⟩) main_call1_v0) (TRef.of (T := ⟨S12x4096x4096, .f32⟩) main_v69) select ]

/-- Lines 91 to 112, as the program groups them. -/
def part_f : List (HloOp τ sig (Elt F)) :=
  [ unary main_v69 main_v70 (Host.negf : Arr F S12x4096x4096 → Arr F S12x4096x4096),
    nullary main_cst_13 (constant S_ .f32 0x00000000#32),
    binary main_v70 main_cst_13 main_v71 ((fun x v => Host.reduceAdd x v reducesTo_S12x4096x4096_S12x4096_d1 h_S_) : Arr F S12x4096x4096 → Arr F S_ → Arr F S12x4096),
    reshape main_v71 main_v72 (rfl : (.f32 : EltTy) = .f32) shapeCasts_S12x4096_S12x1x4096,
    nullary main_cst_14 (constant S_ .f32 0x00000000#32),
    binary main_v72 main_cst_14 main_v73 ((fun x v => Host.reduceAdd x v reducesTo_S12x1x4096_S12x4096_d1 h_S_) : Arr F S12x1x4096 → Arr F S_ → Arr F S12x4096),
    nullary main_cst_15 (constant S_ .f32 0x00000000#32),
    binary main_v69 main_cst_15 main_v74 ((fun x v => Host.reduceAdd x v reducesTo_S12x4096x4096_S12x4096_d2 h_S_) : Arr F S12x4096x4096 → Arr F S_ → Arr F S12x4096),
    reshape main_v74 main_v75 (rfl : (.f32 : EltTy) = .f32) shapeCasts_S12x4096_S12x4096x1,
    nullary main_cst_16 (constant S_ .f32 0x00000000#32),
    binary main_v75 main_cst_16 main_v76 ((fun x v => Host.reduceAdd x v reducesTo_S12x4096x1_S12x4096_d2 h_S_) : Arr F S12x4096x1 → Arr F S_ → Arr F S12x4096),
    binary main_v73 main_v76 main_v77 (addf : Arr F S12x4096 → Arr F S12x4096 → Arr F S12x4096),
    nullary main_cst_17 (constant S_ .f32 0x3E000000#32),
    unary main_cst_17 main_v78 (broadcastInDim S12x4096x4096 ![] bcast_S_S12x4096x4096 : Arr F S_ → Arr F S12x4096x4096),
    binary main_v69 main_v78 main_v79 (mulf : Arr F S12x4096x4096 → Arr F S12x4096x4096 → Arr F S12x4096x4096),
    binary main_v79 main_v0 main_v80 ((fun l r => Host.dotGeneral dot_S12x4096x4096_S4096x12x64_S12x4096x64_1_0_2_2_0_1 none l r) : Arr F S12x4096x4096 → Arr F S4096x12x64 → Arr F S12x4096x64),
    unary main_v80 main_v81 ((transpose S4096x12x64 [1, 0, 2] · transposes_S12x4096x64_S4096x12x64_1_0_2) : Arr F S12x4096x64 → Arr F S4096x12x64),
    binary main_v79 main_v1 main_v82 ((fun l r => Host.dotGeneral dot_S12x4096x4096_S4096x12x64_S12x4096x64_2_0_1_2_0_1 none l r) : Arr F S12x4096x4096 → Arr F S4096x12x64 → Arr F S12x4096x64),
    unary main_v82 main_v83 ((transpose S4096x12x64 [1, 0, 2] · transposes_S12x4096x64_S4096x12x64_1_0_2) : Arr F S12x4096x64 → Arr F S4096x12x64),
    unary main_v77 main_v84 ((transpose S4096x12 [1, 0] · transposes_S12x4096_S4096x12_1_0) : Arr F S12x4096 → Arr F S4096x12),
    reshape main_v81 main_v85 (rfl : (.f32 : EltTy) = .f32) shapeCasts_S4096x12x64_S4096x768,
    reshape main_v83 main_v86 (rfl : (.f32 : EltTy) = .f32) shapeCasts_S4096x12x64_S4096x768 ]

theorem first_half (c : Dev nD) : main_part0 (F := F) c = (Pipeline.chainK [ StableHlo.seq part_a, StableHlo.seq part_b ] (StableHlo.seq part_c) : Prog (TpuEff nD τ sig (Elt F) (Pipeline.Sig Λ₀ (Fin 0) fun p => (pcfgs (F := F) p).Adm) .tc) PUnit) := by
  rewrite [StableHlo.chainK_seq_cons, Pipeline.chainK_cons]
  chain_rfl
theorem second_half (c : Dev nD) : main_part1 (F := F) c = (Pipeline.chain [ StableHlo.seq part_d, StableHlo.seq part_e, StableHlo.seq part_f ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons]
  chain_rfl
theorem line_parts : (line : List (HloOp τ sig (Elt F))) = part_a ++ (part_b ++ (part_c ++ (part_d ++ (part_e ++ part_f)))) := rfl
theorem main_line (c : Dev nD) : main (F := F) c = seq line := by
  show (main_part0 (F := F) c >>= fun _ => main_part1 (F := F) c) = _
  rw [second_half, first_half, Pipeline.chainK_bind_chain, line_parts]
  simp only [List.cons_append, List.nil_append, Pipeline.chain_cons, seq_append]
  rw [show (Pipeline.chain [] : Prog (TpuEff nD τ sig (Elt F) (Pipeline.Sig Λ₀ (Fin 0) fun p => (pcfgs (F := F) p).Adm) .tc) PUnit) = pure ⟨⟩ from rfl, bind_pure_unit]

theorem no_refs : (Finset.univ.filter fun b : Ref sig .tc => b.isScoped) = ∅ := by decide
theorem no_sems : (Finset.univ.filter fun s : SemLoc sig => s.isScoped .tc) = ∅ := by decide
theorem line_sub : (line (F := Ideal)).Forall fun op => op.bufs ⊆ tcRefs τ sig :=
  ⟨reshape_bufs_sub .., reshape_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., reshape_bufs_sub .., binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., unary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., binary_bufs_sub .., nullary_bufs_sub .., unary_bufs_sub .., binary_bufs_sub .., binary_bufs_sub .., unary_bufs_sub .., binary_bufs_sub .., unary_bufs_sub .., unary_bufs_sub .., reshape_bufs_sub .., reshape_bufs_sub ..⟩

/-- Every run of the reference ends with the four gradients of its arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = gradQ (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg2))
      ∧ r.2.mem ((c.tc : Thread nD τ).loc main_v85) = gradK (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg2))
      ∧ r.2.mem ((c.tc : Thread nD τ).loc main_v56) = gradV (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v84) = gradC (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v86).trans (read_v86 _),
      (h c main_v85).trans (read_v85 _),
      (h c main_v56).trans (read_v56 _),
      (h c main_v84).trans (read_v84 _),
      (h c main_arg0).trans (read_arg0 _),
      (h c main_arg1).trans (read_arg1 _),
      (h c main_arg2).trans (read_arg2 _),
      (h c main_arg3).trans (read_arg3 _),
      (h c main_arg4).trans (read_arg4 _)⟩)
    (run_seq no_refs no_sems defs main (fun _ => line (F := Ideal)) main_line (fun _ => line_sub) m ρ)

end Cert.ReferenceIdeal.Fox
-- ==== Proof.FoxFinite.lean ====
module

public import proofs.«01_k».proof.Defs
public import proofs.«01_k».proof.Proof.FoxTail
public import proofs.«01_k».proof.Proof.FoxRun
public import Idealize.ShloMosaic.Lib.Quiescent

/-!
# The precondition, and the two programs' results

Where every entry of the five arguments is finite, the arguments are real arrays, and both programs end with the same
four gradients of them.
-/

@[expose] public section

set_option maxRecDepth 16384

noncomputable section

namespace Cert.FoxFinite

open Idealize.ShloMosaic Idealize.ShloMosaic.TcCoe Idealize.SL.Sem Cert.Fox Cert.Fox.In
open Cert.ReferenceIdeal.Fox (logit top A B T R Args gradQ gradK gradV gradC gradQ_at gradK_at gradV_at gradC_at)
open Cert.KernelIdeal.Fox (resQ resC arrK arrV)

theorem facts : Cert.Pre_finite.Facts := ⟨by decide, by decide⟩

theorem inf : Ideal.ofBits .f32 0x7F800000#32 = (⊤ : EReal) := by
  simp [Ideal.ofBits, Ideal.ieee, -EReal.coe_mul]

/-- A number whose absolute value is below infinity is real. -/
theorem real_of (a : EReal) (h : max a (-a) < ⊤) : a = ((a.toReal : ℝ) : EReal) := by
  have h1 : a ≠ ⊤ := fun e => by rw [e] at h; simp at h
  have h2 : a ≠ ⊥ := fun e => by rw [e] at h; simp at h
  exact (EReal.coe_toReal h1 h2).symm

theorem wide (hb : Cert.Pre_finite.S_.BroadcastsInDim Cert.Pre_finite.S4096x768 (![] : Fin 0 → Fin 2)) (a : A)
    (h : cmpf .olt (Host.absf a) (broadcastInDim Cert.Pre_finite.S4096x768 ![] hb (constant (F := Ideal) Cert.Pre_finite.S_ .f32 0x7F800000#32)) = fun _ => 1#1)
    (t : Fin 4096) (j : Fin 768) : a (ix2 t j) = (((a (ix2 t j)).toReal : ℝ) : EReal) := by
  have e := congrFun h (ix2 t j)
  refine real_of _ ?_
  pointwise [inf] at e
  have e' : BitVec.ofBool (decide (max (a (ix2 t j)) (-(a (ix2 t j))) < ⊤)) = 1#1 := e
  by_contra hn
  rw [decide_eq_false hn] at e'
  exact absurd e' (by decide)

theorem narrow (hb : Cert.Pre_finite.S_.BroadcastsInDim Cert.Pre_finite.S4096x12 (![] : Fin 0 → Fin 2)) (a : B)
    (h : cmpf .olt (Host.absf a) (broadcastInDim Cert.Pre_finite.S4096x12 ![] hb (constant (F := Ideal) Cert.Pre_finite.S_ .f32 0x7F800000#32)) = fun _ => 1#1)
    (t : Fin 4096) (j : Fin 12) : a (ix2 t j) = (((a (ix2 t j)).toReal : ℝ) : EReal) := by
  have e := congrFun h (ix2 t j)
  refine real_of _ ?_
  pointwise [inf] at e
  have e' : BitVec.ofBool (decide (max (a (ix2 t j)) (-(a (ix2 t j))) < ⊤)) = 1#1 := e
  by_contra hn
  rw [decide_eq_false hn] at e'
  exact absurd e' (by decide)

variable (m : (ℓ : Loc Cert.KernelIdeal.nD Cert.KernelIdeal.τ Cert.KernelIdeal.sig) → Buf (Elt Ideal) ℓ)

/-- Finite arguments are the arrays of some reals. -/
theorem args_of (hpre : Cert.Pre_KernelIdeal_finite (hPre_finite := facts) m) (c : Dev Cert.KernelIdeal.nD) : ∃ x : In,
    Args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) x
    ∧ ∀ h t, top (logit (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (ix2 h t) = ((x.M h t : ℝ) : EReal) := by
  obtain ⟨h0, h1, h2, h3, h4⟩ := hpre c
  generalize m ((c.tc : Thread Cert.KernelIdeal.nD Cert.KernelIdeal.τ).loc Cert.KernelIdeal.main_arg0) = a0 at *
  generalize m ((c.tc : Thread Cert.KernelIdeal.nD Cert.KernelIdeal.τ).loc Cert.KernelIdeal.main_arg1) = a1 at *
  generalize m ((c.tc : Thread Cert.KernelIdeal.nD Cert.KernelIdeal.τ).loc Cert.KernelIdeal.main_arg2) = a2 at *
  generalize m ((c.tc : Thread Cert.KernelIdeal.nD Cert.KernelIdeal.τ).loc Cert.KernelIdeal.main_arg3) = a3 at *
  generalize m ((c.tc : Thread Cert.KernelIdeal.nD Cert.KernelIdeal.τ).loc Cert.KernelIdeal.main_arg4) = a4 at *
  have H : Args (q := a0) (k := a1) (v := a2) (d := a4) (c := a3)
      { Q := fun t j => ((a0 : A) (ix2 t j)).toReal, K := fun t j => ((a1 : A) (ix2 t j)).toReal, V := fun t j => ((a2 : A) (ix2 t j)).toReal,
        D := fun t j => ((a4 : A) (ix2 t j)).toReal, C := fun t h => ((a3 : B) (ix2 t h)).toReal, M := fun _ _ => 0 } :=
    ⟨wide _ a0 h0, wide _ a1 h1, wide _ a2 h2, wide _ a4 h4, narrow _ a3 h3⟩
  obtain ⟨M, HM, hM⟩ := H.withMax
  exact ⟨_, HM, hM⟩

/-- The idealized kernel and the reference end with the same four gradients. -/
theorem algebraic : Cert.algebraic_KernelIdeal_ReferenceIdeal_pre_finite (hKernelIdeal := Cert.KernelIdeal.Gen.facts)
    (hReferenceIdeal := Cert.ReferenceIdeal.Gen.facts) (hPre_finite := facts) := by
  intro m g m' g' hpre hagree
  choose x H HM using args_of m hpre
  refine ⟨fun c => resQ (x c), fun c => arrK (x c), fun c => arrV (x c), fun c => resC (x c), ?_, ?_⟩
  · refine (θ_run _ _ _).mono ?_ (θ_run_and (Cert.KernelIdeal.Fox.run m g) (Cert.KernelIdeal.Gen.unchanged m g))
    rintro r ⟨h, hu⟩ c
    obtain ⟨e0, e1, e2, e3⟩ := h c (x c) (H c) (HM c)
    exact ⟨e0, e1, e2, e3, hu c⟩
  · refine (θ_run _ _ _).mono ?_ (Cert.ReferenceIdeal.Fox.run m' g')
    intro r h c
    obtain ⟨e0, e1, e2, e3, hu⟩ := h c
    obtain ⟨a0, a1, a2, a3, a4⟩ := hagree c
    have Hc := H c
    have Mc := HM c
    refine ⟨e0.trans ?_, e1.trans ?_, e2.trans ?_, e3.trans ?_, hu⟩
    · rw [a0, a1, a2, a3, a4]
      funext i
      obtain ⟨t, j, rfl⟩ : ∃ (t : Fin 4096) (j : Fin 768), i = ix2 t j := ⟨i 0, i 1, (ix2_eta i).symm⟩
      exact gradQ_at Hc Mc t j
    · rw [a0, a1, a2, a3, a4]
      funext i
      obtain ⟨t, j, rfl⟩ : ∃ (t : Fin 4096) (j : Fin 768), i = ix2 t j := ⟨i 0, i 1, (ix2_eta i).symm⟩
      exact gradK_at Hc Mc t j
    · rw [a0, a1, a3, a4]
      funext i
      obtain ⟨t, j, rfl⟩ : ∃ (t : Fin 4096) (j : Fin 768), i = ix2 t j := ⟨i 0, i 1, (ix2_eta i).symm⟩
      exact gradV_at Hc Mc t j
    · rw [a0, a1, a2, a3, a4]
      funext i
      obtain ⟨t, j, rfl⟩ : ∃ (t : Fin 4096) (j : Fin 12), i = ix2 t j := ⟨i 0, i 1, (ix2_eta i).symm⟩
      exact gradC_at Hc Mc t j

/-- The reference leaves its arguments unchanged, and has no counter that could end at anything but zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) := by
  refine (θ_run _ _ _).mono ?_ (Cert.ReferenceIdeal.Fox.run m g)
  intro r h
  exact ⟨fun c => (h c).2.2.2.2, sem_eq_zero_of_no_sems (by decide) _⟩

end Cert.FoxFinite
-- ==== Proof.Dwgu.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import Idealize.ShloMosaic.Lib.Quiescent
public import proofs.«01_k».proof.Proof.Gen.Kernel2Ideal.Frame
public import proofs.«01_k».proof.Proof.Gen.Reference2Ideal

/-!
# The gate and up projections' weight gradient

The grid has one point per quarter of the incoming gradient's columns. A point multiplies the inputs, transposed, into
its columns, so its block is one of the four slabs of the product; the host lays the slabs side by side again. The
reference multiplies the other way round and transposes.
-/

@[expose] public section

set_option maxRecDepth 16384

noncomputable section

namespace Cert.Dwgu

open Idealize.ShloMosaic Finset

/-- The gradient: inputs, transposed, times the incoming gradient. -/
def grad (a : FVec Ideal ⟨2, ![4096, 1024]⟩ .f32) (d : FVec Ideal ⟨2, ![4096, 5632]⟩ .f32) : FVec Ideal ⟨2, ![1024, 5632]⟩ .f32 :=
  fun i => ∑ r : Fin 4096, a (ix2 r (i 0)) * d (ix2 r (i 1))

/-- The same, in four slabs of columns. -/
def slabs (a : FVec Ideal ⟨2, ![4096, 1024]⟩ .f32) (d : FVec Ideal ⟨2, ![4096, 5632]⟩ .f32) : FVec Ideal ⟨3, ![4, 1024, 1408]⟩ .f32 :=
  fun i => ∑ r : Fin 4096, a (ix2 r (i 1)) * d (ix2 r ⟨1408 * (i 0).val + (i 2).val, by
    have h0 : (i 0).val < 4 := (i 0).isLt
    have h2 : (i 2).val < 1408 := (i 2).isLt
    omega⟩)

end Cert.Dwgu

namespace Cert.Kernel2Ideal.Dwgu

open Idealize.ShloMosaic Idealize.ShloMosaic.TcCoe Idealize.SL.Sem Finset
open Cert.Kernel2Ideal Cert.Kernel2Ideal.Gen Cert.Dwgu

/-- The product a point stores, at an index. -/
theorem pay_at (x : FVec Ideal S4096x1024 .bf16) (y : FVec Ideal S4096x1408 .bf16) (u : Fin 1024) (l : Fin 1408) :
    k0_pay1 (F := Ideal) x y (ix3 (0 : Fin 1) u l) = ∑ r : Fin 4096, x (ix2 r u) * y (ix2 r l) := by
  pointwise [k0_pay1]

variable (m : (ℓ : Loc nD τ sig) → Buf (Elt Ideal) ℓ) (c : Dev nD)

theorem host_v0 (W : Valuation τ sig (Elt Ideal)) : StableHlo.after hostOps0 W (Proc.devRef .tc main_v0)
    = (truncf .bf16 (W (Proc.devRef .tc main_arg0) : FVec Ideal S4096x1024 .f32) bitsLt_bf16_f32 : FVec Ideal S4096x1024 .bf16) := by
  after_results
theorem host_v1 (W : Valuation τ sig (Elt Ideal)) : StableHlo.after hostOps0 W (Proc.devRef .tc main_v1)
    = (truncf .bf16 (W (Proc.devRef .tc main_arg1) : FVec Ideal S4096x5632 .f32) bitsLt_bf16_f32 : FVec Ideal S4096x5632 .bf16) := by
  after_results

theorem outs_at (t : Fin cfg0.N) (u : Fin 1024) (l : Fin 1408) :
    outsAt0 m c t (ix3 (0 : Fin 1) u l) = k0_pay1 (iblk m c 0 t) (iblk m c 1 t) (ix3 (0 : Fin 1) u l) := by
  unfold outsAt0
  frame_out

/-- Which block of its array each window holds at a point. -/
theorem place : ∀ t : Fin cfg0.N, win0_0.index t = ![0, 0] ∧ win0_1.index t = ![0, t.val] ∧ win0_2.index t = ![t.val, 0, 0] :=
  (by decide +kernel : ∀ t : Fin grid0.N, _)

theorem block_a (t : Fin cfg0.N) (r : Fin 4096) (l : Fin 1024) :
    (iblk m c 0 t : FVec Ideal S4096x1024 .bf16) (ix2 r l) = (m ((c.tc : Thread nD τ).loc main_arg0) : FVec Ideal S4096x1024 .f32) (ix2 r l) := by
  have e : win0_0.index t = ![0, 0] := (place t).1
  have e0 : win0_0.index t (0 : Fin 2) = 0 := congrFun e 0
  have e1 : win0_0.index t (1 : Fin 2) = 0 := congrFun e 1
  have h0 : ((win0_0.blk t).view.emb (ix2 r l) 0).val = win0_0.index t (0 : Fin 2) * 4096 + 1 * r.val := rfl
  have h1 : ((win0_0.blk t).view.emb (ix2 r l) 1).val = win0_0.index t (1 : Fin 2) * 1024 + 1 * l.val := rfl
  rw [e0] at h0
  rw [e1] at h1
  have hp : ((win0_0.blk t).view.emb (ix2 r l) : S4096x1024.Idx) = ix2 r l := by
    funext a
    match a with
    | ⟨0, _⟩ => exact Fin.ext (h0.trans (by show _ = r.val; omega))
    | ⟨1, _⟩ => exact Fin.ext (h1.trans (by show _ = l.val; omega))
  show (V m c main_v0 : FVec Ideal S4096x1024 .bf16) ((win0_0.blk t).view.emb (ix2 r l)) = _
  rw [hp]
  exact congrFun (host_v0 (fun b => m (c, b))) (ix2 r l)

theorem block_d (t : Fin cfg0.N) (r : Fin 4096) (u : Fin 1408) (h : 1408 * t.val + u.val < 5632) :
    (iblk m c 1 t : FVec Ideal S4096x1408 .bf16) (ix2 r u) = (m ((c.tc : Thread nD τ).loc main_arg1) : FVec Ideal S4096x5632 .f32) (ix2 r ⟨1408 * t.val + u.val, h⟩) := by
  have e : win0_1.index t = ![0, t.val] := (place t).2.1
  have e0 : win0_1.index t (0 : Fin 2) = 0 := congrFun e 0
  have e1 : win0_1.index t (1 : Fin 2) = t.val := congrFun e 1
  have h0 : ((win0_1.blk t).view.emb (ix2 r u) 0).val = win0_1.index t (0 : Fin 2) * 4096 + 1 * r.val := rfl
  have h1 : ((win0_1.blk t).view.emb (ix2 r u) 1).val = win0_1.index t (1 : Fin 2) * 1408 + 1 * u.val := rfl
  rw [e0] at h0
  rw [e1] at h1
  have hp : ((win0_1.blk t).view.emb (ix2 r u) : S4096x5632.Idx) = ix2 r ⟨1408 * t.val + u.val, h⟩ := by
    funext a
    match a with
    | ⟨0, _⟩ => exact Fin.ext (h0.trans (by show _ = r.val; omega))
    | ⟨1, _⟩ => exact Fin.ext (h1.trans (by show _ = 1408 * t.val + u.val; omega))
  show (V m c main_v1 : FVec Ideal S4096x5632 .bf16) ((win0_1.blk t).view.emb (ix2 r u)) = _
  rw [hp]
  exact congrFun (host_v1 (fun b => m (c, b))) (ix2 r _)

/-- The slabs, whole. -/
theorem final : (dats m 0 c).arrAt 2 cfg0.N = slabs (m ((c.tc : Thread nD τ).loc main_arg0)) (m ((c.tc : Thread nD τ).loc main_arg1)) := by
  refine (dats m 0 c).arrAt_eq_of_covers 2 _ (by decide +kernel) fun t hf y => ?_
  blk_simp
  rw [after0_2]
  have hN : t.val < 4 := lt_of_lt_of_eq t.isLt N_0
  have e : win0_2.index t = ![t.val, 0, 0] := (place t).2.2
  have yz : (y 0).val < 1 := (y 0).isLt
  have y0 : (y 1).val < 1024 := (y 1).isLt
  have y1 : (y 2).val < 1408 := (y 2).isLt
  have hz : ((win0_2.blk t).view.emb y 0).val = win0_2.index t (0 : Fin 3) * 1 + 1 * (y 0).val := rfl
  have h0 : ((win0_2.blk t).view.emb y 1).val = win0_2.index t (1 : Fin 3) * 1024 + 1 * (y 1).val := rfl
  have h1 : ((win0_2.blk t).view.emb y 2).val = win0_2.index t (2 : Fin 3) * 1408 + 1 * (y 2).val := rfl
  have ez : win0_2.index t (0 : Fin 3) = t.val := congrFun e 0
  have e0 : win0_2.index t (1 : Fin 3) = 0 := congrFun e 1
  have e1 : win0_2.index t (2 : Fin 3) = 0 := congrFun e 2
  rw [ez] at hz
  rw [e0] at h0
  rw [e1] at h1
  have ey : (y : S1x1024x1408.Idx) = ix3 (0 : Fin 1) ⟨(y 1).val, y0⟩ ⟨(y 2).val, y1⟩ := by
    funext a
    match a with
    | ⟨0, _⟩ => exact Fin.ext (by show (y 0).val = 0; omega)
    | ⟨1, _⟩ => rfl
    | ⟨2, _⟩ => rfl
  refine (congrArg _ ey).trans ((outs_at m c t ⟨(y 1).val, y0⟩ ⟨(y 2).val, y1⟩).trans ((pay_at _ _ _ _).trans ?_))
  refine Finset.sum_congr rfl fun r _ => ?_
  rw [block_d m c t r _ (by show 1408 * t.val + (y 2).val < 5632; omega), block_a]
  have p0 : (⟨(y 1).val, y0⟩ : Fin 1024) = (win0_2.blk t).view.emb y 1 := Fin.ext (by rw [h0]; show (y 1).val = _; omega)
  have p1 : 1408 * t.val + (y 2).val = 1408 * ((win0_2.blk t).view.emb y 0).val + ((win0_2.blk t).view.emb y 2).val := by rw [hz, h1]; omega
  have key : ∀ (a : FVec Ideal S4096x1024 .f32) (d : FVec Ideal S4096x5632 .f32) (p p' : Fin 1024) (q q' : ℕ) (h : q < 5632) (h' : q' < 5632), p = p' → q = q' →
      a (ix2 r p) * d (ix2 r ⟨q, h⟩) = a (ix2 r p') * d (ix2 r ⟨q', h'⟩) := by
    rintro a d p _ q _ h h' rfl rfl; rfl
  exact key _ _ _ _ _ _ _ _ p0 p1

/-- The host's last lines, of any arrays. -/
theorem tail (W : Valuation τ sig (Elt Ideal)) : StableHlo.after hostOps1 W (Proc.devRef .tc main_v4)
    = (shapeCast S1024x5632 (transpose S1024x4x1408 [1, 0, 2] (W (Proc.devRef .tc main_v2) : FVec Ideal S4x1024x1408 .f32) transposes_S4x1024x1408_S1024x4x1408_1_0_2) shapeCasts_S1024x4x1408_S1024x5632 : FVec Ideal S1024x5632 .f32) := by
  after_results
  rfl

/-- The slabs side by side are the gradient. -/
theorem side_by_side (a : FVec Ideal S4096x1024 .f32) (d : FVec Ideal S4096x5632 .f32) :
    shapeCast S1024x5632 (transpose S1024x4x1408 [1, 0, 2] (slabs a d) transposes_S4x1024x1408_S1024x4x1408_1_0_2) shapeCasts_S1024x4x1408_S1024x5632 = grad a d := by
  funext i
  obtain ⟨t, j, rfl⟩ : ∃ (t : Fin 1024) (j : Fin 5632), i = ix2 t j := ⟨i 0, i 1, (ix2_eta i).symm⟩
  have hj := j.isLt
  have e : ∀ s : FVec Ideal S4x1024x1408 .f32, shapeCast S1024x5632 (transpose S1024x4x1408 [1, 0, 2] s transposes_S4x1024x1408_S1024x4x1408_1_0_2) shapeCasts_S1024x4x1408_S1024x5632 (ix2 t j)
      = s (ix3 (⟨j.val / 1408, by omega⟩ : Fin 4) t (⟨j.val % 1408, Nat.mod_lt _ (by norm_num)⟩ : Fin 1408)) := by
    intro s
    pointwise []
  rw [e]
  refine Finset.sum_congr rfl fun r _ => ?_
  have q : (⟨1408 * (j.val / 1408) + j.val % 1408, by omega⟩ : Fin 5632) = j := Fin.ext (by show 1408 * (j.val / 1408) + j.val % 1408 = j.val; omega)
  exact congrArg (fun q : Fin 5632 => a (ix2 r t) * d (ix2 r q)) q

/-- The grid's result, read through the lines' entry contents. -/
theorem exit : Pipeline.withArrays (cfgs 0).spec c (V0 m c) (fun w => (dats m 0 c).arrAt w (cfgs 0).N) (Proc.devRef .tc (Pipeline.arrRef (cfgs 0).spec 2))
    = (dats m 0 c).arrAt 2 (cfgs 0).N :=
  Pipeline.withArrays_arr (cfgs 0).spec (by decide) c (V0 m c) _ 2

theorem after_grad : Pipeline.afterTail₀ cfgs (dats m) 0 (V0 m) [hostOps1] c main_v4 = grad (m ((c.tc : Thread nD τ).loc main_arg0)) (m ((c.tc : Thread nD τ).loc main_arg1)) :=
  (tail _).trans ((congrArg (fun w : FVec Ideal S4x1024x1408 .f32 => (shapeCast S1024x5632 (transpose S1024x4x1408 [1, 0, 2] w transposes_S4x1024x1408_S1024x4x1408_1_0_2) shapeCasts_S1024x4x1408_S1024x5632 : FVec Ideal S1024x5632 .f32))
    ((exit m c).trans (final m c))).trans (side_by_side _ _))

/-- Every run of the idealized kernel ends with the gradient of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v4) = grad (m ((c.tc : Thread nD τ).loc main_arg0)) (m ((c.tc : Thread nD τ).loc main_arg1)) := by
  refine (θ_run _ _ _).mono ?_ (run_main m ρ)
  intro r hr c
  obtain ⟨ha, hb⟩ := hr c
  exact (hb main_v4 (by decide)).trans (after_grad m c)

end Cert.Kernel2Ideal.Dwgu

namespace Cert.Reference2Ideal.Dwgu

open Idealize.ShloMosaic Idealize.ShloMosaic.TcCoe Idealize.ShloMosaic.StableHlo Idealize.SL.Sem Finset
open Cert.Reference2Ideal Cert.Reference2Ideal.Gen Cert.Dwgu

variable {F : FTy → Type} [FloatOps F]

/-- The reference's operations. -/
def line : List (HloOp τ sig (Elt F)) :=
  [ nullary main_cst (constant S_ .f32 0x00000000#32),
    unary main_cst main_v0 (broadcastInDim S1024x5632 ![] bcast_S_S1024x5632 : (⟨S_, .f32⟩ : BufTy).Contents (Elt F) → (⟨S1024x5632, .f32⟩ : BufTy).Contents (Elt F)),
    binary main_arg0 main_v0 main_v1 ((fun l r => Host.dotGeneral dot_S4096x1024_S1024x5632_S4096x5632_1_0_0_1_n_n none l r) : (⟨S4096x1024, .f32⟩ : BufTy).Contents (Elt F) → (⟨S1024x5632, .f32⟩ : BufTy).Contents (Elt F) → (⟨S4096x5632, .f32⟩ : BufTy).Contents (Elt F)),
    binary main_arg1 main_arg0 main_v2 ((fun l r => Host.dotGeneral dot_S4096x5632_S4096x1024_S5632x1024_0_0_1_1_n_n none l r) : (⟨S4096x5632, .f32⟩ : BufTy).Contents (Elt F) → (⟨S4096x1024, .f32⟩ : BufTy).Contents (Elt F) → (⟨S5632x1024, .f32⟩ : BufTy).Contents (Elt F)),
    unary main_v2 main_v3 ((transpose S1024x5632 [1, 0] · transposes_S5632x1024_S1024x5632_1_0) : (⟨S5632x1024, .f32⟩ : BufTy).Contents (Elt F) → (⟨S1024x5632, .f32⟩ : BufTy).Contents (Elt F)) ]

theorem main_line (c : Dev nD) : main (F := F) c = seq line := by
  show _ = (Pipeline.chain [ StableHlo.seq line ] : Prog (TpuEff nD τ sig (Elt F) (Pipeline.Sig Λ₀ (Fin 0) fun p => (pcfgs (F := F) p).Adm) .tc) PUnit)
  chain_rfl

theorem no_refs : (Finset.univ.filter fun b : Ref sig .tc => b.isScoped) = ∅ := by decide
theorem no_sems : (Finset.univ.filter fun s : SemLoc sig => s.isScoped .tc) = ∅ := by decide
theorem line_sub : (line (F := Ideal)).Forall fun op => op.bufs ⊆ tcRefs τ sig :=
  ⟨nullary_bufs_sub .., unary_bufs_sub .., binary_bufs_sub .., binary_bufs_sub .., unary_bufs_sub ..⟩

theorem read_v3 (W : Valuation τ sig (Elt Ideal)) : after line W (Proc.devRef .tc main_v3)
    = (transpose S1024x5632 [1, 0] (Host.dotGeneral (F := Ideal) (φ₁ := .f32) (φ₂ := .f32) dot_S4096x5632_S4096x1024_S5632x1024_0_0_1_1_n_n none (W (Proc.devRef .tc main_arg1) : FVec Ideal S4096x5632 .f32) (W (Proc.devRef .tc main_arg0) : FVec Ideal S4096x1024 .f32)) transposes_S5632x1024_S1024x5632_1_0 : FVec Ideal S1024x5632 .f32) := by
  unfold line
  after_results
theorem read_arg0 (W : Valuation τ sig (Elt Ideal)) : after line W (Proc.devRef .tc main_arg0) = W (Proc.devRef .tc main_arg0) := by
  unfold line
  after_results
theorem read_arg1 (W : Valuation τ sig (Elt Ideal)) : after line W (Proc.devRef .tc main_arg1) = W (Proc.devRef .tc main_arg1) := by
  unfold line
  after_results

theorem product (a : FVec Ideal S4096x1024 .f32) (d : FVec Ideal S4096x5632 .f32) :
    transpose S1024x5632 [1, 0] (Host.dotGeneral (F := Ideal) (φ₁ := .f32) (φ₂ := .f32) dot_S4096x5632_S4096x1024_S5632x1024_0_0_1_1_n_n none d a) transposes_S5632x1024_S1024x5632_1_0 = grad a d := by
  funext i
  obtain ⟨t, j, rfl⟩ : ∃ (t : Fin 1024) (j : Fin 5632), i = ix2 t j := ⟨i 0, i 1, (ix2_eta i).symm⟩
  have e : transpose S1024x5632 [1, 0] (Host.dotGeneral (F := Ideal) (φ₁ := .f32) (φ₂ := .f32) dot_S4096x5632_S4096x1024_S5632x1024_0_0_1_1_n_n none d a) transposes_S5632x1024_S1024x5632_1_0 (ix2 t j)
      = ∑ r : Fin 4096, d (ix2 r j) * a (ix2 r t) := by
    pointwise []
  rw [e]
  exact Finset.sum_congr rfl fun r _ => mul_comm _ _

/-- Every run of the reference ends with the gradient of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans ((read_v3 _).trans (product _ _)), (h c main_arg0).trans (read_arg0 _), (h c main_arg1).trans (read_arg1 _)⟩)
    (run_seq no_refs no_sems defs main (fun _ => line (F := Ideal)) main_line (fun _ => line_sub) m ρ)

end Cert.Reference2Ideal.Dwgu
-- ==== Proof.Dwd.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import Idealize.ShloMosaic.Lib.Quiescent
public import proofs.«01_k».proof.Proof.Gen.Kernel3Ideal.Frame
public import proofs.«01_k».proof.Proof.Gen.Reference3Ideal

/-!
# The down-projection's weight gradient

The grid has one point per half of the activation's columns. A point multiplies its columns, transposed, into the whole
incoming gradient, so the two blocks are the two halves of the product's rows. The reference multiplies the other way
round and transposes.
-/

@[expose] public section

set_option maxRecDepth 16384

noncomputable section

namespace Cert.Dwd

open Idealize.ShloMosaic Finset

/-- The gradient: activations, transposed, times the incoming gradient. -/
def grad (a : FVec Ideal ⟨2, ![4096, 2816]⟩ .f32) (d : FVec Ideal ⟨2, ![4096, 1024]⟩ .f32) : FVec Ideal ⟨2, ![2816, 1024]⟩ .f32 :=
  fun i => ∑ r : Fin 4096, a (ix2 r (i 0)) * d (ix2 r (i 1))

end Cert.Dwd

namespace Cert.Kernel3Ideal.Dwd

open Idealize.ShloMosaic Idealize.ShloMosaic.TcCoe Idealize.SL.Sem Finset
open Cert.Kernel3Ideal Cert.Kernel3Ideal.Gen Cert.Dwd

/-- The product a point stores, at an index. -/
theorem pay_at (x : FVec Ideal S4096x1408 .bf16) (y : FVec Ideal S4096x1024 .bf16) (u : Fin 1408) (l : Fin 1024) :
    k0_pay1 (F := Ideal) x y (ix2 u l) = ∑ r : Fin 4096, x (ix2 r u) * y (ix2 r l) := by
  pointwise [k0_pay1]

variable (m : (ℓ : Loc nD τ sig) → Buf (Elt Ideal) ℓ) (c : Dev nD)

theorem host_v0 (W : Valuation τ sig (Elt Ideal)) : StableHlo.after hostOps0 W (Proc.devRef .tc main_v0)
    = (truncf .bf16 (W (Proc.devRef .tc main_arg0) : FVec Ideal S4096x2816 .f32) bitsLt_bf16_f32 : FVec Ideal S4096x2816 .bf16) := by
  after_results
theorem host_v1 (W : Valuation τ sig (Elt Ideal)) : StableHlo.after hostOps0 W (Proc.devRef .tc main_v1)
    = (truncf .bf16 (W (Proc.devRef .tc main_arg1) : FVec Ideal S4096x1024 .f32) bitsLt_bf16_f32 : FVec Ideal S4096x1024 .bf16) := by
  after_results

theorem outs_at (t : Fin cfg0.N) (u : Fin 1408) (l : Fin 1024) :
    outsAt0 m c t (ix2 u l) = k0_pay1 (iblk m c 0 t) (iblk m c 1 t) (ix2 u l) := by
  unfold outsAt0
  frame_out

/-- Which block of its array each window holds at a point. -/
theorem place : ∀ t : Fin cfg0.N, win0_0.index t = ![0, t.val] ∧ win0_1.index t = ![0, 0] ∧ win0_2.index t = ![t.val, 0] :=
  (by decide +kernel : ∀ t : Fin grid0.N, _)

theorem block_a (t : Fin cfg0.N) (r : Fin 4096) (u : Fin 1408) (h : 1408 * t.val + u.val < 2816) :
    (iblk m c 0 t : FVec Ideal S4096x1408 .bf16) (ix2 r u) = (m ((c.tc : Thread nD τ).loc main_arg0) : FVec Ideal S4096x2816 .f32) (ix2 r ⟨1408 * t.val + u.val, h⟩) := by
  have e : win0_0.index t = ![0, t.val] := (place t).1
  have e0 : win0_0.index t (0 : Fin 2) = 0 := congrFun e 0
  have e1 : win0_0.index t (1 : Fin 2) = t.val := congrFun e 1
  have h0 : ((win0_0.blk t).view.emb (ix2 r u) 0).val = win0_0.index t (0 : Fin 2) * 4096 + 1 * r.val := rfl
  have h1 : ((win0_0.blk t).view.emb (ix2 r u) 1).val = win0_0.index t (1 : Fin 2) * 1408 + 1 * u.val := rfl
  rw [e0] at h0
  rw [e1] at h1
  have hp : ((win0_0.blk t).view.emb (ix2 r u) : S4096x2816.Idx) = ix2 r ⟨1408 * t.val + u.val, h⟩ := by
    funext a
    match a with
    | ⟨0, _⟩ => exact Fin.ext (h0.trans (by show _ = r.val; omega))
    | ⟨1, _⟩ => exact Fin.ext (h1.trans (by show _ = 1408 * t.val + u.val; omega))
  show (V m c main_v0 : FVec Ideal S4096x2816 .bf16) ((win0_0.blk t).view.emb (ix2 r u)) = _
  rw [hp]
  exact congrFun (host_v0 (fun b => m (c, b))) (ix2 r _)

theorem block_d (t : Fin cfg0.N) (r : Fin 4096) (l : Fin 1024) :
    (iblk m c 1 t : FVec Ideal S4096x1024 .bf16) (ix2 r l) = (m ((c.tc : Thread nD τ).loc main_arg1) : FVec Ideal S4096x1024 .f32) (ix2 r l) := by
  have e : win0_1.index t = ![0, 0] := (place t).2.1
  have e0 : win0_1.index t (0 : Fin 2) = 0 := congrFun e 0
  have e1 : win0_1.index t (1 : Fin 2) = 0 := congrFun e 1
  have h0 : ((win0_1.blk t).view.emb (ix2 r l) 0).val = win0_1.index t (0 : Fin 2) * 4096 + 1 * r.val := rfl
  have h1 : ((win0_1.blk t).view.emb (ix2 r l) 1).val = win0_1.index t (1 : Fin 2) * 1024 + 1 * l.val := rfl
  rw [e0] at h0
  rw [e1] at h1
  have hp : ((win0_1.blk t).view.emb (ix2 r l) : S4096x1024.Idx) = ix2 r l := by
    funext a
    match a with
    | ⟨0, _⟩ => exact Fin.ext (h0.trans (by show _ = r.val; omega))
    | ⟨1, _⟩ => exact Fin.ext (h1.trans (by show _ = l.val; omega))
  show (V m c main_v1 : FVec Ideal S4096x1024 .bf16) ((win0_1.blk t).view.emb (ix2 r l)) = _
  rw [hp]
  exact congrFun (host_v1 (fun b => m (c, b))) (ix2 r l)

/-- The result array, whole. -/
theorem final : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  rw [after0_2]
  have hN : t.val < 2 := lt_of_lt_of_eq t.isLt N_0
  have e : win0_2.index t = ![t.val, 0] := (place t).2.2
  have y0 : (y 0).val < 1408 := (y 0).isLt
  have y1 : (y 1).val < 1024 := (y 1).isLt
  have h0 : ((win0_2.blk t).view.emb y 0).val = win0_2.index t (0 : Fin 2) * 1408 + 1 * (y 0).val := rfl
  have h1 : ((win0_2.blk t).view.emb y 1).val = win0_2.index t (1 : Fin 2) * 1024 + 1 * (y 1).val := rfl
  have e0 : win0_2.index t (0 : Fin 2) = t.val := congrFun e 0
  have e1 : win0_2.index t (1 : Fin 2) = 0 := congrFun e 1
  rw [e0] at h0
  rw [e1] at h1
  have ey : (y : S1408x1024.Idx) = ix2 ⟨(y 0).val, y0⟩ ⟨(y 1).val, y1⟩ := by
    funext a
    match a with
    | ⟨0, _⟩ => rfl
    | ⟨1, _⟩ => rfl
  refine (congrArg _ ey).trans ((outs_at m c t ⟨(y 0).val, y0⟩ ⟨(y 1).val, y1⟩).trans ((pay_at _ _ _ _).trans ?_))
  refine Finset.sum_congr rfl fun r _ => ?_
  rw [block_a m c t r _ (by show 1408 * t.val + (y 0).val < 2816; omega), block_d]
  have p0 : (⟨1408 * t.val + (y 0).val, by omega⟩ : Fin 2816) = (win0_2.blk t).view.emb y 0 := Fin.ext (by rw [h0]; show 1408 * t.val + (y 0).val = _; omega)
  have p1 : (⟨(y 1).val, y1⟩ : Fin 1024) = (win0_2.blk t).view.emb y 1 := Fin.ext (by rw [h1]; show (y 1).val = _; omega)
  have key : ∀ (a : FVec Ideal S4096x2816 .f32) (d : FVec Ideal S4096x1024 .f32) (p p' : Fin 2816) (q q' : Fin 1024), p = p' → q = q' →
      a (ix2 r p) * d (ix2 r q) = a (ix2 r p') * d (ix2 r q') := by
    rintro a d p _ q _ rfl rfl; rfl
  exact key _ _ _ _ _ _ p0 p1

/-- Every run of the idealized kernel ends with the gradient of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v2) = grad (m ((c.tc : Thread nD τ).loc main_arg0)) (m ((c.tc : Thread nD τ).loc main_arg1)) := by
  refine (θ_run _ _ _).mono ?_ (run_main m ρ)
  intro r hr c
  obtain ⟨ha, hb⟩ := hr c
  exact (ha 2).trans (final m c)

end Cert.Kernel3Ideal.Dwd

namespace Cert.Reference3Ideal.Dwd

open Idealize.ShloMosaic Idealize.ShloMosaic.TcCoe Idealize.ShloMosaic.StableHlo Idealize.SL.Sem Finset
open Cert.Reference3Ideal Cert.Reference3Ideal.Gen Cert.Dwd

variable {F : FTy → Type} [FloatOps F]

/-- The reference's operations. -/
def line : List (HloOp τ sig (Elt F)) :=
  [ nullary main_cst (constant S_ .f32 0x00000000#32),
    unary main_cst main_v0 (broadcastInDim S2816x1024 ![] bcast_S_S2816x1024 : (⟨S_, .f32⟩ : BufTy).Contents (Elt F) → (⟨S2816x1024, .f32⟩ : BufTy).Contents (Elt F)),
    binary main_arg0 main_v0 main_v1 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    binary main_arg1 main_arg0 main_v2 ((fun l r => Host.dotGeneral dot_S4096x1024_S4096x2816_S1024x2816_0_0_1_1_n_n none l r) : (⟨S4096x1024, .f32⟩ : BufTy).Contents (Elt F) → (⟨S4096x2816, .f32⟩ : BufTy).Contents (Elt F) → (⟨S1024x2816, .f32⟩ : BufTy).Contents (Elt F)),
    unary main_v2 main_v3 ((transpose S2816x1024 [1, 0] · transposes_S1024x2816_S2816x1024_1_0) : (⟨S1024x2816, .f32⟩ : BufTy).Contents (Elt F) → (⟨S2816x1024, .f32⟩ : BufTy).Contents (Elt F))
 ]

theorem main_line (c : Dev nD) : main (F := F) c = seq line := by
  show _ = (Pipeline.chain [ StableHlo.seq line ] : Prog (TpuEff nD τ sig (Elt F) (Pipeline.Sig Λ₀ (Fin 0) fun p => (pcfgs (F := F) p).Adm) .tc) PUnit)
  chain_rfl

theorem no_refs : (Finset.univ.filter fun b : Ref sig .tc => b.isScoped) = ∅ := by decide
theorem no_sems : (Finset.univ.filter fun s : SemLoc sig => s.isScoped .tc) = ∅ := by decide
theorem line_sub : (line (F := Ideal)).Forall fun op => op.bufs ⊆ tcRefs τ sig :=
  ⟨nullary_bufs_sub .., unary_bufs_sub .., binary_bufs_sub .., binary_bufs_sub .., unary_bufs_sub ..⟩

theorem read_v3 (W : Valuation τ sig (Elt Ideal)) : after line W (Proc.devRef .tc main_v3)
    = (transpose S2816x1024 [1, 0] (Host.dotGeneral (F := Ideal) (φ₁ := .f32) (φ₂ := .f32) dot_S4096x1024_S4096x2816_S1024x2816_0_0_1_1_n_n none (W (Proc.devRef .tc main_arg1) : FVec Ideal S4096x1024 .f32) (W (Proc.devRef .tc main_arg0) : FVec Ideal S4096x2816 .f32)) transposes_S1024x2816_S2816x1024_1_0 : FVec Ideal S2816x1024 .f32) := by
  unfold line
  after_results
theorem read_arg0 (W : Valuation τ sig (Elt Ideal)) : after line W (Proc.devRef .tc main_arg0) = W (Proc.devRef .tc main_arg0) := by
  unfold line
  after_results
theorem read_arg1 (W : Valuation τ sig (Elt Ideal)) : after line W (Proc.devRef .tc main_arg1) = W (Proc.devRef .tc main_arg1) := by
  unfold line
  after_results

theorem product (a : FVec Ideal S4096x2816 .f32) (d : FVec Ideal S4096x1024 .f32) :
    transpose S2816x1024 [1, 0] (Host.dotGeneral (F := Ideal) (φ₁ := .f32) (φ₂ := .f32) dot_S4096x1024_S4096x2816_S1024x2816_0_0_1_1_n_n none d a) transposes_S1024x2816_S2816x1024_1_0 = grad a d := by
  funext i
  obtain ⟨t, j, rfl⟩ : ∃ (t : Fin 2816) (j : Fin 1024), i = ix2 t j := ⟨i 0, i 1, (ix2_eta i).symm⟩
  have e : transpose S2816x1024 [1, 0] (Host.dotGeneral (F := Ideal) (φ₁ := .f32) (φ₂ := .f32) dot_S4096x1024_S4096x2816_S1024x2816_0_0_1_1_n_n none d a) transposes_S1024x2816_S2816x1024_1_0 (ix2 t j)
      = ∑ r : Fin 4096, d (ix2 r j) * a (ix2 r t) := by
    pointwise []
  rw [e]
  exact Finset.sum_congr rfl fun r _ => mul_comm _ _

/-- Every run of the reference ends with the gradient of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans ((read_v3 _).trans (product _ _)), (h c main_arg0).trans (read_arg0 _), (h c main_arg1).trans (read_arg1 _)⟩)
    (run_seq no_refs no_sems defs main (fun _ => line (F := Ideal)) main_line (fun _ => line_sub) m ρ)

end Cert.Reference3Ideal.Dwd
-- ==== Proof.Ffn.lean ====
module

public import Idealize.ShloMosaic.Lib.Pointwise

/-!
# The SwiGLU layer with its residual and its normalisation

What a row of the feed-forward sublayer is, over the extended reals: the two halves of the first product, the gated
activation, the scaled residual, and the normalised row.
-/

@[expose] public section

set_option maxRecDepth 16384

noncomputable section

namespace Cert.Ffn

open Idealize.ShloMosaic Finset

abbrev Rows := FVec Ideal ⟨2, ![4096, 1024]⟩ .f32
abbrev Hidden := FVec Ideal ⟨2, ![4096, 2816]⟩ .f32
abbrev Up := FVec Ideal ⟨2, ![1024, 5632]⟩ .f32
abbrev Down := FVec Ideal ⟨2, ![2816, 1024]⟩ .f32
abbrev Lane := FVec Ideal ⟨1, ![1024]⟩ .f32

/-- The residual's scale. -/
def α : EReal := Ideal.ofBits .f32 0x3FB504F3#32
/-- The branch's scale. -/
def half : EReal := Ideal.ofBits .f32 0x3F000000#32
/-- The width. -/
def width : EReal := Ideal.ofBits .f32 0x44800000#32
/-- What keeps the variance's root off zero. -/
def ε : EReal := Ideal.ofBits .f32 0x3727C5AC#32

/-- The gate's half of the first product. -/
def gate (x : Rows) (w : Up) : Hidden := fun i =>
  ∑ k : Fin 1024, x (ix2 (i 0) k) * w (ix2 k ⟨(i 1).val, by have h : (i 1).val < 2816 := (i 1).isLt; omega⟩)
/-- The other half. -/
def up (x : Rows) (w : Up) : Hidden := fun i =>
  ∑ k : Fin 1024, x (ix2 (i 0) k) * w (ix2 k ⟨2816 + (i 1).val, by have h : (i 1).val < 2816 := (i 1).isLt; omega⟩)
/-- The gated activation of one entry. -/
def act (g u : EReal) : EReal := g * Ideal.logistic g * u
/-- The residual stream before its normalisation. -/
def res (x : Rows) (w : Up) (d : Down) : Rows := fun i =>
  α * x (ix2 (i 0) (i 1)) + half * ∑ j : Fin 2816, act (gate x w (ix2 (i 0) j)) (up x w (ix2 (i 0) j)) * d (ix2 j (i 1))

/-- A row's mean. -/
def mean (v : Fin 1024 → EReal) : EReal := Ideal.div (∑ l, v l) width
/-- A row's variance. -/
def var (v : Fin 1024 → EReal) : EReal := Ideal.div (∑ l, (v l - mean v) * (v l - mean v)) width
/-- A row with mean zero and variance one. -/
def unit (v : Fin 1024 → EReal) (l : Fin 1024) : EReal := (v l - mean v) * Ideal.rsqrt (var v + ε)
/-- The sublayer's result. -/
def norm (r : Rows) (γ β : Lane) : Rows := fun i =>
  unit (fun l => r (ix2 (i 0) l)) (i 1) * γ (ix1 (i 1)) + β (ix1 (i 1))

/-- A sum over the hidden width is the sum over its two halves. -/
theorem sum_halves (f : Fin 2816 → EReal) :
    ∑ j, f j = ∑ j : Fin 1408, f ⟨1408 * 0 + j.val, by omega⟩ + ∑ j : Fin 1408, f ⟨1408 * 1 + j.val, by omega⟩ := by
  have e := Fin.sum_univ_add (M := EReal) (a := 1408) (b := 1408) f
  refine e.trans ?_
  refine congrArg₂ (· + ·) (Finset.sum_congr rfl fun j _ => congrArg f (Fin.ext ?_)) (Finset.sum_congr rfl fun j _ => congrArg f (Fin.ext ?_))
  · show j.val = 1408 * 0 + j.val; omega
  · show 1408 + j.val = 1408 * 1 + j.val; omega

end Cert.Ffn
-- ==== Proof.FfnFwd.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import proofs.«01_k».proof.Proof.Gen.Kernel4Ideal.Frame
public import proofs.«01_k».proof.Proof.Ffn

/-!
# The feed-forward sublayer's forward call

A grid point holds 256 rows and both weights whole, the weights in slabs of 1408 hidden columns. It forms the gate's and
the other half's two slabs, adds the two slabs' contributions to the branch, and normalises the rows.
-/

@[expose] public section

set_option maxRecDepth 16384

noncomputable section

namespace Cert.Kernel4Ideal.Ffn

open Idealize.ShloMosaic Idealize.ShloMosaic.TcCoe Idealize.SL.Sem Finset
open Cert.Kernel4Ideal Cert.Kernel4Ideal.Gen Cert.Ffn

variable (x0 : FVec Ideal S256x1024 .f32) (x1 : FVec Ideal S4x1024x1408 .bf16) (x2 : FVec Ideal S2x1408x1024 .bf16) (x3 x4 : FVec Ideal S1x1024 .f32)

/-! ## Loads -/

theorem ld_x : View.ld (Val := Elt Ideal) (e' := .f32) x0 r0_0 = x0 := by
  funext y
  refine congrArg x0 (funext fun a => Fin.ext ?_)
  match a with
  | ⟨0, _⟩ => show 0 + 1 * (y 0).val = (y 0).val; omega
  | ⟨1, _⟩ => show 0 + 1 * (y 1).val = (y 1).val; omega
theorem ld_lane : View.ld (Val := Elt Ideal) (e' := .f32) x3 r0_9 = x3 := by
  funext y
  refine congrArg x3 (funext fun a => Fin.ext ?_)
  match a with
  | ⟨0, _⟩ => show 0 + 1 * (y 0).val = (y 0).val; omega
  | ⟨1, _⟩ => show 0 + 1 * (y 1).val = (y 1).val; omega
theorem ld_up (p : Fin 4) (inb) (k : Fin 1024) (l : Fin 1408) :
    View.ld (Val := Elt Ideal) (e' := .bf16) x1 (Rect.unit (s := S4x1024x1408) ![p.val, 0, 0] S1x1024x1408.size inb) (ix3 (0 : Fin 1) k l) = x1 (ix3 p k l) := by
  refine congrArg x1 (funext fun a => Fin.ext ?_)
  match a with
  | ⟨0, _⟩ => show p.val + 1 * 0 = p.val; omega
  | ⟨1, _⟩ => show 0 + 1 * k.val = k.val; omega
  | ⟨2, _⟩ => show 0 + 1 * l.val = l.val; omega
theorem ld_down (p : Fin 2) (inb) (j : Fin 1408) (l : Fin 1024) :
    View.ld (Val := Elt Ideal) (e' := .bf16) x2 (Rect.unit (s := S2x1408x1024) ![p.val, 0, 0] S1x1408x1024.size inb) (ix3 (0 : Fin 1) j l) = x2 (ix3 p j l) := by
  refine congrArg x2 (funext fun a => Fin.ext ?_)
  match a with
  | ⟨0, _⟩ => show p.val + 1 * 0 = p.val; omega
  | ⟨1, _⟩ => show 0 + 1 * j.val = j.val; omega
  | ⟨2, _⟩ => show 0 + 1 * l.val = l.val; omega

/-! ## The payloads -/

/-- A slab of the first product, of a block of rows. -/
def slab (p : Fin 4) (u : Fin 256) (l : Fin 1408) : EReal := ∑ k : Fin 1024, x0 (ix2 u k) * x1 (ix3 p k l)

theorem pay4_at (v3 : FVec Ideal S1x1024x1408 .bf16) (u : Fin 256) (l : Fin 1408) :
    k0_pay4 (F := Ideal) x0 v3 (ix2 u l) = ∑ r : Fin 1024, x0 (ix2 u r) * v3 (ix3 (0 : Fin 1) r l) := by
  pointwise [k0_pay4, k0_pay3]
theorem pay5_at (v3 : FVec Ideal S1x1024x1408 .bf16) (u : Fin 256) (l : Fin 1408) :
    k0_pay5 (F := Ideal) x0 v3 (ix2 u l) = ∑ r : Fin 1024, x0 (ix2 u r) * v3 (ix3 (0 : Fin 1) r l) := by
  pointwise [k0_pay5, k0_pay3]
theorem pay9_at (v3 : FVec Ideal S1x1024x1408 .bf16) (u : Fin 256) (l : Fin 1408) :
    k0_pay9 (F := Ideal) x0 v3 (ix2 u l) = ∑ r : Fin 1024, x0 (ix2 u r) * v3 (ix3 (0 : Fin 1) r l) := by
  pointwise [k0_pay9, k0_pay3]
theorem pay10_at (v3 : FVec Ideal S1x1024x1408 .bf16) (u : Fin 256) (l : Fin 1408) :
    k0_pay10 (F := Ideal) x0 v3 (ix2 u l) = ∑ r : Fin 1024, x0 (ix2 u r) * v3 (ix3 (0 : Fin 1) r l) := by
  pointwise [k0_pay10, k0_pay3]

theorem slab0 (u : Fin 256) (l : Fin 1408) : k0_pay4 (F := Ideal) x0 (View.ld x1 r0_1) (ix2 u l) = slab x0 x1 0 u l :=
  (pay4_at x0 _ u l).trans (Finset.sum_congr rfl fun k _ => congrArg _ (ld_up x1 0 _ k l))
theorem slab2 (u : Fin 256) (l : Fin 1408) : k0_pay5 (F := Ideal) x0 (View.ld x1 r0_2) (ix2 u l) = slab x0 x1 2 u l :=
  (pay5_at x0 _ u l).trans (Finset.sum_congr rfl fun k _ => congrArg _ (ld_up x1 2 _ k l))
theorem slab1 (u : Fin 256) (l : Fin 1408) : k0_pay9 (F := Ideal) x0 (View.ld x1 r0_5) (ix2 u l) = slab x0 x1 1 u l :=
  (pay9_at x0 _ u l).trans (Finset.sum_congr rfl fun k _ => congrArg _ (ld_up x1 1 _ k l))
theorem slab3 (u : Fin 256) (l : Fin 1408) : k0_pay10 (F := Ideal) x0 (View.ld x1 r0_6) (ix2 u l) = slab x0 x1 3 u l :=
  (pay10_at x0 _ u l).trans (Finset.sum_congr rfl fun k _ => congrArg _ (ld_up x1 3 _ k l))

/-- The branch's part from one slab. -/
def part (p : Fin 2) (u : Fin 256) (l : Fin 1024) : EReal :=
  ∑ j : Fin 1408, act (slab x0 x1 ⟨p.val, by omega⟩ u j) (slab x0 x1 ⟨2 + p.val, by omega⟩ u j) * x2 (ix3 p j l)
/-- The residual stream of a block of rows. -/
def stream (u : Fin 256) (l : Fin 1024) : EReal := α * x0 (ix2 u l) + half * (part x0 x1 x2 0 u l + part x0 x1 x2 1 u l)

theorem pay8_at (v3 v6 : FVec Ideal S1x1024x1408 .bf16) (v17 : FVec Ideal S1x1408x1024 .bf16) (u : Fin 256) (l : Fin 1024) :
    k0_pay8 (F := Ideal) x0 v3 v6 v17 (ix2 u l)
      = ∑ j : Fin 1408, act (k0_pay4 (F := Ideal) x0 v3 (ix2 u j)) (k0_pay5 (F := Ideal) x0 v6 (ix2 u j)) * v17 (ix3 (0 : Fin 1) j l) := by
  pointwise [k0_pay8]
  rfl

theorem pay13_at (a : FVec Ideal S256x1024 .f32) (g h : FVec Ideal S256x1408 .f32) (v17 : FVec Ideal S1x1408x1024 .bf16) (u : Fin 256) (l : Fin 1024) :
    k0_pay13 (F := Ideal) x0 a g h v17 (ix2 u l)
      = α * x0 (ix2 u l) + half * (a (ix2 u l) + ∑ j : Fin 1408, act (g (ix2 u j)) (h (ix2 u j)) * v17 (ix3 (0 : Fin 1) j l)) := by
  pointwise [k0_pay13]
  rfl

theorem pay15_at (a : FVec Ideal S256x1024 .f32) (g h : FVec Ideal S256x1408 .f32) (v17 : FVec Ideal S1x1408x1024 .bf16) (u : Fin 256) (l : Fin 1024) :
    k0_pay15 (F := Ideal) x0 a g h v17 (ix2 u l) = unit (fun j => k0_pay13 (F := Ideal) x0 a g h v17 (ix2 u j)) l := by
  pointwise [k0_pay15]
  rfl

theorem pay17_at (u : Fin 256) (l : Fin 1024) : k0_pay17 (F := Ideal) x0 x1 x2 x3 x4 (ix2 u l) = part x0 x1 x2 0 u l := by
  unfold k0_pay17
  rw [ld_x, pay8_at]
  refine Finset.sum_congr rfl fun j _ => ?_
  rw [slab0, slab2]
  exact congrArg _ (ld_down x2 0 _ j l)

theorem stream_at (u : Fin 256) (l : Fin 1024) :
    k0_pay13 (F := Ideal) (View.ld x0 r0_0) (k0_pay17 x0 x1 x2 x3 x4) (k0_pay18 x0 x1 x2 x3 x4) (k0_pay19 x0 x1 x2 x3 x4) (View.ld x2 r0_8) (ix2 u l) = stream x0 x1 x2 u l := by
  rw [ld_x, pay13_at, pay17_at]
  refine congrArg (fun z => α * x0 (ix2 u l) + half * (part x0 x1 x2 0 u l + z)) ?_
  refine Finset.sum_congr rfl fun j _ => ?_
  unfold k0_pay18 k0_pay19
  rw [ld_x, slab1, slab3]
  exact congrArg _ (ld_down x2 1 _ j l)

/-! ## What a point writes -/

theorem slab_congr {p p' : Fin 4} {u u' : Fin 256} {l l' : Fin 1408} (hp : p.val = p'.val) (hu : u.val = u'.val) (hl : l.val = l'.val) :
    slab x0 x1 p u l = slab x0 x1 p' u' l' := by
  obtain rfl := Fin.ext hp
  obtain rfl := Fin.ext hu
  obtain rfl := Fin.ext hl
  rfl

theorem pay6_at (v3 : FVec Ideal S1x1024x1408 .bf16) (i : S256x1408.Idx) : k0_pay6 (F := Ideal) x0 v3 i = k0_pay4 (F := Ideal) x0 v3 i := rfl
theorem pay7_at (v3 : FVec Ideal S1x1024x1408 .bf16) (i : S256x1408.Idx) : k0_pay7 (F := Ideal) x0 v3 i = k0_pay5 (F := Ideal) x0 v3 i := rfl
theorem pay11_at (v3 : FVec Ideal S1x1024x1408 .bf16) (i : S256x1408.Idx) : k0_pay11 (F := Ideal) x0 v3 i = k0_pay9 (F := Ideal) x0 v3 i := rfl
theorem pay12_at (i : S256x1408.Idx) : k0_pay12 (F := Ideal) (k0_pay19 x0 x1 x2 x3 x4) i = k0_pay10 (F := Ideal) (View.ld x0 r0_0) (View.ld x1 r0_6) i := rfl

theorem out5_at (u : Fin 256) (l : Fin 2816) : out0_5 (F := Ideal) x0 x1 x2 x3 x4 (ix2 u l)
    = slab x0 x1 ⟨l.val / 1408, by omega⟩ u ⟨l.val % 1408, Nat.mod_lt _ (by norm_num)⟩ := by
  unfold out0_5
  rw [ld_x]
  canon_tiles x h
  · have h0' : u.val = (x 0).val := h0
    have h1' : l.val = 1408 + (x 1).val := h1
    rw [← ix2_eta x, pay11_at]
    refine (slab1 x0 x1 (x 0) (x 1)).trans (slab_congr x0 x1 ?_ h0'.symm ?_)
    · show 1 = l.val / 1408; omega
    · show (x 1).val = l.val % 1408; omega
  · have h0' : u.val = (x 0).val := h0
    have h1' : l.val = (x 1).val := h1
    rw [← ix2_eta x, pay6_at]
    refine (slab0 x0 x1 (x 0) (x 1)).trans (slab_congr x0 x1 ?_ h0'.symm ?_)
    · show 0 = l.val / 1408; omega
    · show (x 1).val = l.val % 1408; omega

theorem out6_at (u : Fin 256) (l : Fin 2816) : out0_6 (F := Ideal) x0 x1 x2 x3 x4 (ix2 u l)
    = slab x0 x1 ⟨2 + l.val / 1408, by omega⟩ u ⟨l.val % 1408, Nat.mod_lt _ (by norm_num)⟩ := by
  unfold out0_6
  canon_tiles x h
  · have h0' : u.val = (x 0).val := h0
    have h1' : l.val = 1408 + (x 1).val := h1
    rw [← ix2_eta x, pay12_at, ld_x]
    refine (slab3 x0 x1 (x 0) (x 1)).trans (slab_congr x0 x1 ?_ h0'.symm ?_)
    · show 3 = 2 + l.val / 1408; omega
    · show (x 1).val = l.val % 1408; omega
  · have h0' : u.val = (x 0).val := h0
    have h1' : l.val = (x 1).val := h1
    rw [← ix2_eta x, pay7_at, ld_x]
    refine (slab2 x0 x1 (x 0) (x 1)).trans (slab_congr x0 x1 ?_ h0'.symm ?_)
    · show 2 = 2 + l.val / 1408; omega
    · show (x 1).val = l.val % 1408; omega

theorem out7_at (u : Fin 256) (l : Fin 1024) : out0_7 (F := Ideal) x0 x1 x2 x3 x4 (ix2 u l) = stream x0 x1 x2 u l := by
  refine Eq.trans ?_ (stream_at x0 x1 x2 x3 x4 u l)
  frame_out

theorem pay1_at (v48 : FVec Ideal S1x1024 .f32) (v64 v65 : FVec Ideal S256x1024 .f32) (u : Fin 256) (l : Fin 1024) :
    k0_pay1 (F := Ideal) v48 v64 v65 (ix2 u l) = v64 (ix2 u l) * v65 (ix2 u l) + v48 (ix2 (0 : Fin 1) l) := by
  pointwise [k0_pay1]
theorem pay16_at (v : FVec Ideal S1x1024 .f32) (u : Fin 256) (l : Fin 1024) : k0_pay16 (F := Ideal) v (ix2 u l) = v (ix2 (0 : Fin 1) l) := by
  pointwise [k0_pay16]
theorem pay14_at (v : FVec Ideal S1x1024 .f32) (l : Fin 1024) : k0_pay14 (F := Ideal) v (ix2 (0 : Fin 1) l) = v (ix2 (0 : Fin 1) l) := by
  pointwise [k0_pay14]

theorem out8_at (u : Fin 256) (l : Fin 1024) : out0_8 (F := Ideal) x0 x1 x2 x3 x4 (ix2 u l)
    = unit (stream x0 x1 x2 u) l * x3 (ix2 (0 : Fin 1) l) + x4 (ix2 (0 : Fin 1) l) := by
  frame_out
  rw [pay1_at]
  unfold k0_pay20 k0_pay21 k0_pay22
  rw [pay14_at, pay16_at, pay15_at, ld_lane, ld_lane]
  simp only [stream_at]

end Cert.Kernel4Ideal.Ffn
-- ==== Proof.FfnFwdRun.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import proofs.«01_k».proof.Proof.Gen.Kernel4Ideal.Frame
public import proofs.«01_k».proof.Proof.FfnFwd

/-!
# The feed-forward sublayer's forward call, whole

What each window holds at a grid point in terms of the arguments, the four result arrays, and every run's end.
-/

@[expose] public section

set_option maxRecDepth 16384

noncomputable section

namespace Cert.Kernel4Ideal.Ffn

open Idealize.ShloMosaic Idealize.ShloMosaic.TcCoe Idealize.SL.Sem Finset
open Cert.Kernel4Ideal Cert.Kernel4Ideal.Gen Cert.Ffn

variable (m : (ℓ : Loc nD τ sig) → Buf (Elt Ideal) ℓ) (c : Dev nD)

/-- The call's arguments on a device. -/
abbrev argX : Rows := m ((c.tc : Thread nD τ).loc main_arg0)
abbrev argW : Up := m ((c.tc : Thread nD τ).loc main_arg1)
abbrev argD : Down := m ((c.tc : Thread nD τ).loc main_arg2)
abbrev argG : Lane := m ((c.tc : Thread nD τ).loc main_arg3)
abbrev argB : Lane := m ((c.tc : Thread nD τ).loc main_arg4)

theorem host_v2 (W : Valuation τ sig (Elt Ideal)) : StableHlo.after hostOps0 W (Proc.devRef .tc main_v2)
    = (transpose S4x1024x1408 [1, 0, 2] (shapeCast S1024x4x1408 (truncf .bf16 (W (Proc.devRef .tc main_arg1) : FVec Ideal S1024x5632 .f32) bitsLt_bf16_f32) shapeCasts_S1024x5632_S1024x4x1408) transposes_S1024x4x1408_S4x1024x1408_1_0_2 : FVec Ideal S4x1024x1408 .bf16) := by
  after_results
  rfl
theorem host_v4 (W : Valuation τ sig (Elt Ideal)) : StableHlo.after hostOps0 W (Proc.devRef .tc main_v4)
    = (shapeCast S2x1408x1024 (truncf .bf16 (W (Proc.devRef .tc main_arg2) : FVec Ideal S2816x1024 .f32) bitsLt_bf16_f32) shapeCasts_S2816x1024_S2x1408x1024 : FVec Ideal S2x1408x1024 .bf16) := by
  after_results
  rfl
theorem host_v5 (W : Valuation τ sig (Elt Ideal)) : StableHlo.after hostOps0 W (Proc.devRef .tc main_v5)
    = (shapeCast S1x1024 (W (Proc.devRef .tc main_arg3) : FVec Ideal S1024 .f32) shapeCasts_S1024_S1x1024 : FVec Ideal S1x1024 .f32) := by
  after_results
  rfl
theorem host_v6 (W : Valuation τ sig (Elt Ideal)) : StableHlo.after hostOps0 W (Proc.devRef .tc main_v6)
    = (shapeCast S1x1024 (W (Proc.devRef .tc main_arg4) : FVec Ideal S1024 .f32) shapeCasts_S1024_S1x1024 : FVec Ideal S1x1024 .f32) := by
  after_results
  rfl
theorem host_arg0 (W : Valuation τ sig (Elt Ideal)) : StableHlo.after hostOps0 W (Proc.devRef .tc main_arg0) = W (Proc.devRef .tc main_arg0) := by
  after_results

theorem slabs_at (a : FVec Ideal S1024x5632 .f32) (p : Fin 4) (k : Fin 1024) (l : Fin 1408) :
    (transpose S4x1024x1408 [1, 0, 2] (shapeCast S1024x4x1408 (truncf .bf16 a bitsLt_bf16_f32) shapeCasts_S1024x5632_S1024x4x1408) transposes_S1024x4x1408_S4x1024x1408_1_0_2 : FVec Ideal S4x1024x1408 .bf16) (ix3 p k l)
      = a (ix2 k ⟨1408 * p.val + l.val, by omega⟩) := by
  pointwise []
  exact congrArg (fun q : Fin 5632 => a (ix2 k q)) (Fin.ext (by show p.val * 1408 + l.val = 1408 * p.val + l.val; omega))
theorem halves_at (a : FVec Ideal S2816x1024 .f32) (p : Fin 2) (j : Fin 1408) (l : Fin 1024) :
    (shapeCast S2x1408x1024 (truncf .bf16 a bitsLt_bf16_f32) shapeCasts_S2816x1024_S2x1408x1024 : FVec Ideal S2x1408x1024 .bf16) (ix3 p j l)
      = a (ix2 ⟨1408 * p.val + j.val, by omega⟩ l) := by
  pointwise []
  exact congrArg (fun q : Fin 2816 => a (ix2 q l)) (Fin.ext (by show p.val * 1408 + j.val = 1408 * p.val + j.val; omega))
theorem lane_at (a : FVec Ideal S1024 .f32) (l : Fin 1024) :
    (shapeCast S1x1024 a shapeCasts_S1024_S1x1024 : FVec Ideal S1x1024 .f32) (ix2 (0 : Fin 1) l) = a (ix1 l) := by
  pointwise []

/-- Which block of its array each window holds at a point. -/
theorem place : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem block_x (t : Fin cfg0.N) (u : Fin 256) (k : Fin 1024) (h : 256 * t.val + u.val < 4096) :
    (iblk m c 0 t : FVec Ideal S256x1024 .f32) (ix2 u k) = argX m c (ix2 ⟨256 * t.val + u.val, h⟩ k) := by
  have e : win0_0.index t = ![t.val, 0] := (place t).1
  have e0 : win0_0.index t (0 : Fin 2) = t.val := congrFun e 0
  have e1 : win0_0.index t (1 : Fin 2) = 0 := congrFun e 1
  have h0 : ((win0_0.blk t).view.emb (ix2 u k) 0).val = win0_0.index t (0 : Fin 2) * 256 + 1 * u.val := rfl
  have h1 : ((win0_0.blk t).view.emb (ix2 u k) 1).val = win0_0.index t (1 : Fin 2) * 1024 + 1 * k.val := rfl
  rw [e0] at h0
  rw [e1] at h1
  have hp : ((win0_0.blk t).view.emb (ix2 u k) : S4096x1024.Idx) = ix2 ⟨256 * t.val + u.val, h⟩ k := by
    funext a
    match a with
    | ⟨0, _⟩ => exact Fin.ext (h0.trans (by show _ = 256 * t.val + u.val; omega))
    | ⟨1, _⟩ => exact Fin.ext (h1.trans (by show _ = k.val; omega))
  show (V m c main_arg0 : FVec Ideal S4096x1024 .f32) ((win0_0.blk t).view.emb (ix2 u k)) = _
  rw [hp]
  exact congrFun (host_arg0 (fun b => m (c, b))) (ix2 _ k)

theorem block_w (t : Fin cfg0.N) (p : Fin 4) (k : Fin 1024) (l : Fin 1408) :
    (iblk m c 1 t : FVec Ideal S4x1024x1408 .bf16) (ix3 p k l) = argW m c (ix2 k ⟨1408 * p.val + l.val, by omega⟩) := by
  have e : win0_1.index t = ![0, 0, 0] := (place t).2.1
  have e0 : win0_1.index t (0 : Fin 3) = 0 := congrFun e 0
  have e1 : win0_1.index t (1 : Fin 3) = 0 := congrFun e 1
  have e2 : win0_1.index t (2 : Fin 3) = 0 := congrFun e 2
  have h0 : ((win0_1.blk t).view.emb (ix3 p k l) 0).val = win0_1.index t (0 : Fin 3) * 4 + 1 * p.val := rfl
  have h1 : ((win0_1.blk t).view.emb (ix3 p k l) 1).val = win0_1.index t (1 : Fin 3) * 1024 + 1 * k.val := rfl
  have h2 : ((win0_1.blk t).view.emb (ix3 p k l) 2).val = win0_1.index t (2 : Fin 3) * 1408 + 1 * l.val := rfl
  rw [e0] at h0
  rw [e1] at h1
  rw [e2] at h2
  have hp : ((win0_1.blk t).view.emb (ix3 p k l) : S4x1024x1408.Idx) = ix3 p k l := by
    funext a
    match a with
    | ⟨0, _⟩ => exact Fin.ext (h0.trans (by show _ = p.val; omega))
    | ⟨1, _⟩ => exact Fin.ext (h1.trans (by show _ = k.val; omega))
    | ⟨2, _⟩ => exact Fin.ext (h2.trans (by show _ = l.val; omega))
  show (V m c main_v2 : FVec Ideal S4x1024x1408 .bf16) ((win0_1.blk t).view.emb (ix3 p k l)) = _
  rw [hp]
  exact (congrFun (host_v2 (fun b => m (c, b))) (ix3 p k l)).trans (slabs_at _ p k l)

theorem block_d (t : Fin cfg0.N) (p : Fin 2) (j : Fin 1408) (l : Fin 1024) :
    (iblk m c 2 t : FVec Ideal S2x1408x1024 .bf16) (ix3 p j l) = argD m c (ix2 ⟨1408 * p.val + j.val, by omega⟩ l) := by
  have e : win0_2.index t = ![0, 0, 0] := (place t).2.2.1
  have e0 : win0_2.index t (0 : Fin 3) = 0 := congrFun e 0
  have e1 : win0_2.index t (1 : Fin 3) = 0 := congrFun e 1
  have e2 : win0_2.index t (2 : Fin 3) = 0 := congrFun e 2
  have h0 : ((win0_2.blk t).view.emb (ix3 p j l) 0).val = win0_2.index t (0 : Fin 3) * 2 + 1 * p.val := rfl
  have h1 : ((win0_2.blk t).view.emb (ix3 p j l) 1).val = win0_2.index t (1 : Fin 3) * 1408 + 1 * j.val := rfl
  have h2 : ((win0_2.blk t).view.emb (ix3 p j l) 2).val = win0_2.index t (2 : Fin 3) * 1024 + 1 * l.val := rfl
  rw [e0] at h0
  rw [e1] at h1
  rw [e2] at h2
  have hp : ((win0_2.blk t).view.emb (ix3 p j l) : S2x1408x1024.Idx) = ix3 p j l := by
    funext a
    match a with
    | ⟨0, _⟩ => exact Fin.ext (h0.trans (by show _ = p.val; omega))
    | ⟨1, _⟩ => exact Fin.ext (h1.trans (by show _ = j.val; omega))
    | ⟨2, _⟩ => exact Fin.ext (h2.trans (by show _ = l.val; omega))
  show (V m c main_v4 : FVec Ideal S2x1408x1024 .bf16) ((win0_2.blk t).view.emb (ix3 p j l)) = _
  rw [hp]
  exact (congrFun (host_v4 (fun b => m (c, b))) (ix3 p j l)).trans (halves_at _ p j l)

theorem block_g (t : Fin cfg0.N) (l : Fin 1024) :
    (iblk m c 3 t : FVec Ideal S1x1024 .f32) (ix2 (0 : Fin 1) l) = argG m c (ix1 l) := by
  have e : win0_3.index t = ![0, 0] := (place t).2.2.2.1
  have e0 : win0_3.index t (0 : Fin 2) = 0 := congrFun e 0
  have e1 : win0_3.index t (1 : Fin 2) = 0 := congrFun e 1
  have h0 : ((win0_3.blk t).view.emb (ix2 (0 : Fin 1) l) 0).val = win0_3.index t (0 : Fin 2) * 1 + 1 * 0 := rfl
  have h1 : ((win0_3.blk t).view.emb (ix2 (0 : Fin 1) l) 1).val = win0_3.index t (1 : Fin 2) * 1024 + 1 * l.val := rfl
  rw [e0] at h0
  rw [e1] at h1
  have hp : ((win0_3.blk t).view.emb (ix2 (0 : Fin 1) l) : S1x1024.Idx) = ix2 (0 : Fin 1) l := by
    funext a
    match a with
    | ⟨0, _⟩ => exact Fin.ext (h0.trans (by show _ = 0; omega))
    | ⟨1, _⟩ => exact Fin.ext (h1.trans (by show _ = l.val; omega))
  show (V m c main_v5 : FVec Ideal S1x1024 .f32) ((win0_3.blk t).view.emb (ix2 (0 : Fin 1) l)) = _
  rw [hp]
  exact (congrFun (host_v5 (fun b => m (c, b))) (ix2 (0 : Fin 1) l)).trans (lane_at _ l)

theorem block_b (t : Fin cfg0.N) (l : Fin 1024) :
    (iblk m c 4 t : FVec Ideal S1x1024 .f32) (ix2 (0 : Fin 1) l) = argB m c (ix1 l) := by
  have e : win0_4.index t = ![0, 0] := (place t).2.2.2.2.1
  have e0 : win0_4.index t (0 : Fin 2) = 0 := congrFun e 0
  have e1 : win0_4.index t (1 : Fin 2) = 0 := congrFun e 1
  have h0 : ((win0_4.blk t).view.emb (ix2 (0 : Fin 1) l) 0).val = win0_4.index t (0 : Fin 2) * 1 + 1 * 0 := rfl
  have h1 : ((win0_4.blk t).view.emb (ix2 (0 : Fin 1) l) 1).val = win0_4.index t (1 : Fin 2) * 1024 + 1 * l.val := rfl
  rw [e0] at h0
  rw [e1] at h1
  have hp : ((win0_4.blk t).view.emb (ix2 (0 : Fin 1) l) : S1x1024.Idx) = ix2 (0 : Fin 1) l := by
    funext a
    match a with
    | ⟨0, _⟩ => exact Fin.ext (h0.trans (by show _ = 0; omega))
    | ⟨1, _⟩ => exact Fin.ext (h1.trans (by show _ = l.val; omega))
  show (V m c main_v6 : FVec Ideal S1x1024 .f32) ((win0_4.blk t).view.emb (ix2 (0 : Fin 1) l)) = _
  rw [hp]
  exact (congrFun (host_v6 (fun b => m (c, b))) (ix2 (0 : Fin 1) l)).trans (lane_at _ l)

/-! ## A point's values in terms of the arguments -/

theorem slab_gate (t : Fin cfg0.N) (p : Fin 2) (u : Fin 256) (l : Fin 1408) (h : 256 * t.val + u.val < 4096) :
    slab (iblk m c 0 t) (iblk m c 1 t) ⟨p.val, by omega⟩ u l = gate (argX m c) (argW m c) (ix2 ⟨256 * t.val + u.val, h⟩ ⟨1408 * p.val + l.val, by omega⟩) := by
  refine Finset.sum_congr rfl fun k _ => ?_
  rw [block_x m c t u k h, block_w]
  rfl

theorem slab_up (t : Fin cfg0.N) (p : Fin 2) (u : Fin 256) (l : Fin 1408) (h : 256 * t.val + u.val < 4096) :
    slab (iblk m c 0 t) (iblk m c 1 t) ⟨2 + p.val, by omega⟩ u l = up (argX m c) (argW m c) (ix2 ⟨256 * t.val + u.val, h⟩ ⟨1408 * p.val + l.val, by omega⟩) := by
  refine Finset.sum_congr rfl fun k _ => ?_
  rw [block_x m c t u k h, block_w]
  exact congrArg (fun q : Fin 5632 => argX m c (ix2 ⟨256 * t.val + u.val, h⟩ k) * argW m c (ix2 k q)) (Fin.ext (by show 1408 * (2 + p.val) + l.val = 2816 + (1408 * p.val + l.val); omega))

theorem part_at (t : Fin cfg0.N) (p : Fin 2) (u : Fin 256) (l : Fin 1024) (h : 256 * t.val + u.val < 4096) :
    part (iblk m c 0 t) (iblk m c 1 t) (iblk m c 2 t) p u l
      = ∑ j : Fin 1408, act (gate (argX m c) (argW m c) (ix2 ⟨256 * t.val + u.val, h⟩ ⟨1408 * p.val + j.val, by omega⟩))
          (up (argX m c) (argW m c) (ix2 ⟨256 * t.val + u.val, h⟩ ⟨1408 * p.val + j.val, by omega⟩)) * argD m c (ix2 ⟨1408 * p.val + j.val, by omega⟩ l) := by
  refine Finset.sum_congr rfl fun j _ => ?_
  rw [slab_gate m c t p u j h, slab_up m c t p u j h, block_d]

theorem stream_res (t : Fin cfg0.N) (u : Fin 256) (l : Fin 1024) (h : 256 * t.val + u.val < 4096) :
    stream (iblk m c 0 t) (iblk m c 1 t) (iblk m c 2 t) u l = res (argX m c) (argW m c) (argD m c) (ix2 ⟨256 * t.val + u.val, h⟩ l) := by
  unfold stream res
  rw [block_x m c t u l h, part_at m c t 0 u l h, part_at m c t 1 u l h, sum_halves]
  rfl

/-! ## The result arrays -/

theorem row (t : Fin cfg0.N) : t.val < 16 := lt_of_lt_of_eq t.isLt N_0

theorem at5 (t : Fin cfg0.N) (u : Fin 256) (l : Fin 2816) (h : 256 * t.val + u.val < 4096) :
    out0_5 (F := Ideal) (iblk m c 0 t) (iblk m c 1 t) (iblk m c 2 t) (iblk m c 3 t) (iblk m c 4 t) (ix2 u l) = gate (argX m c) (argW m c) (ix2 ⟨256 * t.val + u.val, h⟩ l) := by
  refine (out5_at _ _ _ _ _ u l).trans ((slab_gate m c t ⟨l.val / 1408, by omega⟩ u ⟨l.val % 1408, Nat.mod_lt _ (by norm_num)⟩ h).trans ?_)
  exact congrArg (fun q : Fin 2816 => gate (argX m c) (argW m c) (ix2 ⟨256 * t.val + u.val, h⟩ q)) (Fin.ext (by show 1408 * (l.val / 1408) + l.val % 1408 = l.val; omega))

theorem final5 : (dats m 0 c).arrAt 5 cfg0.N = (gate (argX m c) (argW m c) : FVec Ideal ⟨2, ![4096, 2816]⟩ .bf16) := by
  refine (dats m 0 c).arrAt_eq_of_covers 5 _ (by decide +kernel) fun t hf y => ?_
  blk_simp
  rw [after0_5]
  have hN := row t
  have e : win0_5.index t = ![t.val, 0] := (place t).2.2.2.2.2.1
  have y0 : (y 0).val < 256 := (y 0).isLt
  have y1 : (y 1).val < 2816 := (y 1).isLt
  have h0 : ((win0_5.blk t).view.emb y 0).val = win0_5.index t (0 : Fin 2) * 256 + 1 * (y 0).val := rfl
  have h1 : ((win0_5.blk t).view.emb y 1).val = win0_5.index t (1 : Fin 2) * 2816 + 1 * (y 1).val := rfl
  have e0 : win0_5.index t (0 : Fin 2) = t.val := congrFun e 0
  have e1 : win0_5.index t (1 : Fin 2) = 0 := congrFun e 1
  rw [e0] at h0
  rw [e1] at h1
  have ey : (y : (⟨2, ![256, 2816]⟩ : Shape).Idx) = ix2 ⟨(y 0).val, y0⟩ ⟨(y 1).val, y1⟩ := by
    funext a
    match a with
    | ⟨0, _⟩ => rfl
    | ⟨1, _⟩ => rfl
  have hp : ((win0_5.blk t).view.emb y : (⟨2, ![4096, 2816]⟩ : Shape).Idx) = ix2 ⟨256 * t.val + (y 0).val, by omega⟩ ⟨(y 1).val, y1⟩ := by
    funext a
    match a with
    | ⟨0, _⟩ => exact Fin.ext (h0.trans (by show _ = 256 * t.val + (y 0).val; omega))
    | ⟨1, _⟩ => exact Fin.ext (h1.trans (by show _ = (y 1).val; omega))
  refine (congrArg _ ey).trans ((at5 m c t ⟨(y 0).val, y0⟩ ⟨(y 1).val, y1⟩ (by show 256 * t.val + (y 0).val < 4096; omega)).trans ?_)
  exact (congrArg (gate (argX m c) (argW m c)) hp).symm

theorem at6 (t : Fin cfg0.N) (u : Fin 256) (l : Fin 2816) (h : 256 * t.val + u.val < 4096) :
    out0_6 (F := Ideal) (iblk m c 0 t) (iblk m c 1 t) (iblk m c 2 t) (iblk m c 3 t) (iblk m c 4 t) (ix2 u l) = up (argX m c) (argW m c) (ix2 ⟨256 * t.val + u.val, h⟩ l) := by
  refine (out6_at _ _ _ _ _ u l).trans ((slab_up m c t ⟨l.val / 1408, by omega⟩ u ⟨l.val % 1408, Nat.mod_lt _ (by norm_num)⟩ h).trans ?_)
  exact congrArg (fun q : Fin 2816 => up (argX m c) (argW m c) (ix2 ⟨256 * t.val + u.val, h⟩ q)) (Fin.ext (by show 1408 * (l.val / 1408) + l.val % 1408 = l.val; omega))

theorem final6 : (dats m 0 c).arrAt 6 cfg0.N = (up (argX m c) (argW m c) : FVec Ideal ⟨2, ![4096, 2816]⟩ .bf16) := by
  refine (dats m 0 c).arrAt_eq_of_covers 6 _ (by decide +kernel) fun t hf y => ?_
  blk_simp
  rw [after0_6]
  have hN := row t
  have e : win0_6.index t = ![t.val, 0] := (place t).2.2.2.2.2.2.1
  have y0 : (y 0).val < 256 := (y 0).isLt
  have y1 : (y 1).val < 2816 := (y 1).isLt
  have h0 : ((win0_6.blk t).view.emb y 0).val = win0_6.index t (0 : Fin 2) * 256 + 1 * (y 0).val := rfl
  have h1 : ((win0_6.blk t).view.emb y 1).val = win0_6.index t (1 : Fin 2) * 2816 + 1 * (y 1).val := rfl
  have e0 : win0_6.index t (0 : Fin 2) = t.val := congrFun e 0
  have e1 : win0_6.index t (1 : Fin 2) = 0 := congrFun e 1
  rw [e0] at h0
  rw [e1] at h1
  have ey : (y : (⟨2, ![256, 2816]⟩ : Shape).Idx) = ix2 ⟨(y 0).val, y0⟩ ⟨(y 1).val, y1⟩ := by
    funext a
    match a with
    | ⟨0, _⟩ => rfl
    | ⟨1, _⟩ => rfl
  have hp : ((win0_6.blk t).view.emb y : (⟨2, ![4096, 2816]⟩ : Shape).Idx) = ix2 ⟨256 * t.val + (y 0).val, by omega⟩ ⟨(y 1).val, y1⟩ := by
    funext a
    match a with
    | ⟨0, _⟩ => exact Fin.ext (h0.trans (by show _ = 256 * t.val + (y 0).val; omega))
    | ⟨1, _⟩ => exact Fin.ext (h1.trans (by show _ = (y 1).val; omega))
  refine (congrArg _ ey).trans ((at6 m c t ⟨(y 0).val, y0⟩ ⟨(y 1).val, y1⟩ (by show 256 * t.val + (y 0).val < 4096; omega)).trans ?_)
  exact (congrArg (up (argX m c) (argW m c)) hp).symm

theorem at7 (t : Fin cfg0.N) (u : Fin 256) (l : Fin 1024) (h : 256 * t.val + u.val < 4096) :
    out0_7 (F := Ideal) (iblk m c 0 t) (iblk m c 1 t) (iblk m c 2 t) (iblk m c 3 t) (iblk m c 4 t) (ix2 u l) = res (argX m c) (argW m c) (argD m c) (ix2 ⟨256 * t.val + u.val, h⟩ l) :=
  (out7_at _ _ _ _ _ u l).trans (stream_res m c t u l h)

theorem at8 (t : Fin cfg0.N) (u : Fin 256) (l : Fin 1024) (h : 256 * t.val + u.val < 4096) :
    out0_8 (F := Ideal) (iblk m c 0 t) (iblk m c 1 t) (iblk m c 2 t) (iblk m c 3 t) (iblk m c 4 t) (ix2 u l)
      = norm (res (argX m c) (argW m c) (argD m c)) (argG m c) (argB m c) (ix2 ⟨256 * t.val + u.val, h⟩ l) := by
  refine (out8_at _ _ _ _ _ u l).trans ?_
  have e : stream (iblk m c 0 t) (iblk m c 1 t) (iblk m c 2 t) u = fun l => res (argX m c) (argW m c) (argD m c) (ix2 ⟨256 * t.val + u.val, h⟩ l) :=
    funext fun l => stream_res m c t u l h
  rw [e, block_g, block_b]
  rfl

theorem final7 : (dats m 0 c).arrAt 7 cfg0.N = (res (argX m c) (argW m c) (argD m c) : FVec Ideal ⟨2, ![4096, 1024]⟩ .f32) := by
  refine (dats m 0 c).arrAt_eq_of_covers 7 _ (by decide +kernel) fun t hf y => ?_
  blk_simp
  rw [after0_7]
  have hN := row t
  have e : win0_7.index t = ![t.val, 0] := (place t).2.2.2.2.2.2.2.1
  have y0 : (y 0).val < 256 := (y 0).isLt
  have y1 : (y 1).val < 1024 := (y 1).isLt
  have h0 : ((win0_7.blk t).view.emb y 0).val = win0_7.index t (0 : Fin 2) * 256 + 1 * (y 0).val := rfl
  have h1 : ((win0_7.blk t).view.emb y 1).val = win0_7.index t (1 : Fin 2) * 1024 + 1 * (y 1).val := rfl
  have e0 : win0_7.index t (0 : Fin 2) = t.val := congrFun e 0
  have e1 : win0_7.index t (1 : Fin 2) = 0 := congrFun e 1
  rw [e0] at h0
  rw [e1] at h1
  have ey : (y : (⟨2, ![256, 1024]⟩ : Shape).Idx) = ix2 ⟨(y 0).val, y0⟩ ⟨(y 1).val, y1⟩ := by
    funext a
    match a with
    | ⟨0, _⟩ => rfl
    | ⟨1, _⟩ => rfl
  have hp : ((win0_7.blk t).view.emb y : (⟨2, ![4096, 1024]⟩ : Shape).Idx) = ix2 ⟨256 * t.val + (y 0).val, by omega⟩ ⟨(y 1).val, y1⟩ := by
    funext a
    match a with
    | ⟨0, _⟩ => exact Fin.ext (h0.trans (by show _ = 256 * t.val + (y 0).val; omega))
    | ⟨1, _⟩ => exact Fin.ext (h1.trans (by show _ = (y 1).val; omega))
  refine (congrArg _ ey).trans ((at7 m c t ⟨(y 0).val, y0⟩ ⟨(y 1).val, y1⟩ (by show 256 * t.val + (y 0).val < 4096; omega)).trans ?_)
  exact (congrArg (res (argX m c) (argW m c) (argD m c)) hp).symm

theorem final8 : (dats m 0 c).arrAt 8 cfg0.N = (norm (res (argX m c) (argW m c) (argD m c)) (argG m c) (argB m c) : FVec Ideal ⟨2, ![4096, 1024]⟩ .f32) := by
  refine (dats m 0 c).arrAt_eq_of_covers 8 _ (by decide +kernel) fun t hf y => ?_
  blk_simp
  rw [after0_8]
  have hN := row t
  have e : win0_8.index t = ![t.val, 0] := (place t).2.2.2.2.2.2.2.2
  have y0 : (y 0).val < 256 := (y 0).isLt
  have y1 : (y 1).val < 1024 := (y 1).isLt
  have h0 : ((win0_8.blk t).view.emb y 0).val = win0_8.index t (0 : Fin 2) * 256 + 1 * (y 0).val := rfl
  have h1 : ((win0_8.blk t).view.emb y 1).val = win0_8.index t (1 : Fin 2) * 1024 + 1 * (y 1).val := rfl
  have e0 : win0_8.index t (0 : Fin 2) = t.val := congrFun e 0
  have e1 : win0_8.index t (1 : Fin 2) = 0 := congrFun e 1
  rw [e0] at h0
  rw [e1] at h1
  have ey : (y : (⟨2, ![256, 1024]⟩ : Shape).Idx) = ix2 ⟨(y 0).val, y0⟩ ⟨(y 1).val, y1⟩ := by
    funext a
    match a with
    | ⟨0, _⟩ => rfl
    | ⟨1, _⟩ => rfl
  have hp : ((win0_8.blk t).view.emb y : (⟨2, ![4096, 1024]⟩ : Shape).Idx) = ix2 ⟨256 * t.val + (y 0).val, by omega⟩ ⟨(y 1).val, y1⟩ := by
    funext a
    match a with
    | ⟨0, _⟩ => exact Fin.ext (h0.trans (by show _ = 256 * t.val + (y 0).val; omega))
    | ⟨1, _⟩ => exact Fin.ext (h1.trans (by show _ = (y 1).val; omega))
  refine (congrArg _ ey).trans ((at8 m c t ⟨(y 0).val, y0⟩ ⟨(y 1).val, y1⟩ (by show 256 * t.val + (y 0).val < 4096; omega)).trans ?_)
  exact (congrArg (norm (res (argX m c) (argW m c) (argD m c)) (argG m c) (argB m c)) hp).symm

/-! ## Every run -/

theorem tail_v8 (W : Valuation τ sig (Elt Ideal)) : StableHlo.after hostOps1 W (Proc.devRef .tc main_v8)
    = (extf .f32 (W (Proc.devRef .tc main_v7_0) : FVec Ideal S4096x2816 .bf16) bitsLt_bf16_f32 : FVec Ideal S4096x2816 .f32) := by
  after_results
theorem tail_v9 (W : Valuation τ sig (Elt Ideal)) : StableHlo.after hostOps1 W (Proc.devRef .tc main_v9)
    = (extf .f32 (W (Proc.devRef .tc main_v7_1) : FVec Ideal S4096x2816 .bf16) bitsLt_bf16_f32 : FVec Ideal S4096x2816 .f32) := by
  after_results

theorem exit5 : Pipeline.withArrays (cfgs 0).spec c (V0 m c) (fun w => (dats m 0 c).arrAt w (cfgs 0).N) (Proc.devRef .tc (Pipeline.arrRef (cfgs 0).spec 5))
    = (dats m 0 c).arrAt 5 (cfgs 0).N :=
  Pipeline.withArrays_arr (cfgs 0).spec (by decide) c (V0 m c) _ 5
theorem exit6 : Pipeline.withArrays (cfgs 0).spec c (V0 m c) (fun w => (dats m 0 c).arrAt w (cfgs 0).N) (Proc.devRef .tc (Pipeline.arrRef (cfgs 0).spec 6))
    = (dats m 0 c).arrAt 6 (cfgs 0).N :=
  Pipeline.withArrays_arr (cfgs 0).spec (by decide) c (V0 m c) _ 6

theorem after_gate : Pipeline.afterTail₀ cfgs (dats m) 0 (V0 m) [hostOps1] c main_v8 = gate (argX m c) (argW m c) :=
  (tail_v8 _).trans ((exit5 m c).trans (final5 m c))
theorem after_up : Pipeline.afterTail₀ cfgs (dats m) 0 (V0 m) [hostOps1] c main_v9 = up (argX m c) (argW m c) :=
  (tail_v9 _).trans ((exit6 m c).trans (final6 m c))

/-- Every run of the idealized kernel ends with the sublayer's values. -/
theorem run (ρ : Dev nD → PrngReg) :
    θ_run defs (onTc (τ := τ) (main (F := Ideal))) ⟨m, fun _ => 0, ρ⟩ fun r => ∀ c : Dev nD,
      r.2.mem ((c.tc : Thread nD τ).loc main_v8) = gate (argX m c) (argW m c)
      ∧ r.2.mem ((c.tc : Thread nD τ).loc main_v9) = up (argX m c) (argW m c)
      ∧ r.2.mem ((c.tc : Thread nD τ).loc main_v7_2) = res (argX m c) (argW m c) (argD m c)
      ∧ r.2.mem ((c.tc : Thread nD τ).loc main_v7_3) = norm (res (argX m c) (argW m c) (argD m c)) (argG m c) (argB m c) := by
  refine (θ_run _ _ _).mono ?_ (run_main m ρ)
  intro r hr c
  obtain ⟨ha, hb⟩ := hr c
  exact ⟨(hb main_v8 (by decide)).trans (after_gate m c), (hb main_v9 (by decide)).trans (after_up m c), (ha 7).trans (final7 m c), (ha 8).trans (final8 m c)⟩

end Cert.Kernel4Ideal.Ffn
-- ==== Proof.FfnRef.lean ====
module

public import Idealize.ShloMosaic.Lib.Pointwise
public import Idealize.ShloMosaic.Lib.StableHlo.Run
public import Idealize.ShloMosaic.Lib.Pipeline.Regions
public import Idealize.ShloMosaic.Lib.Quiescent
public import proofs.«01_k».proof.Proof.Gen.Reference4Ideal
public import proofs.«01_k».proof.Proof.Ffn

/-!
# The feed-forward sublayer's reference

The reference is one line of host operations. It is read back in two stretches: the residual stream, and its
normalisation.
-/

@[expose] public section

set_option maxRecDepth 16384

noncomputable section

namespace Cert.Reference4Ideal.Ffn

open Idealize.ShloMosaic Idealize.ShloMosaic.TcCoe Idealize.ShloMosaic.StableHlo Idealize.SL.Sem Finset
open Cert.Reference4Ideal Cert.Reference4Ideal.Gen Cert.Ffn

variable {F : FTy → Type} [FloatOps F]

/-- The residual stream. -/
def line0 : List (HloOp τ sig (Elt F)) :=
  [ binary main_arg0 main_arg1 main_v0 ((fun l r => Host.dotGeneral dot_S4096x1024_S1024x5632_S4096x5632_1_0_0_1_n_n none l r) : (⟨S4096x1024, .f32⟩ : BufTy).Contents (Elt F) → (⟨S1024x5632, .f32⟩ : BufTy).Contents (Elt F) → (⟨S4096x5632, .f32⟩ : BufTy).Contents (Elt F)),
    unary main_v0 main_v1 ((extractStridedSlice S4096x2816 ![0, 0] · slices_S4096x5632_S4096x2816_0_0) : (⟨S4096x5632, .f32⟩ : BufTy).Contents (Elt F) → (⟨S4096x2816, .f32⟩ : BufTy).Contents (Elt F)),
    unary main_v0 main_v2 ((extractStridedSlice S4096x2816 ![0, 2816] · slices_S4096x5632_S4096x2816_0_2816) : (⟨S4096x5632, .f32⟩ : BufTy).Contents (Elt F) → (⟨S4096x2816, .f32⟩ : BufTy).Contents (Elt F)),
    nullary main_cst (constant S_ .f32 0x3FB504F3#32),
    unary main_cst main_v3 (broadcastInDim S4096x1024 ![] bcast_S_S4096x1024 : (⟨S_, .f32⟩ : BufTy).Contents (Elt F) → (⟨S4096x1024, .f32⟩ : BufTy).Contents (Elt F)),
    binary main_v3 main_arg0 main_v4 (mulf : (⟨S4096x1024, .f32⟩ : BufTy).Contents (Elt F) → (⟨S4096x1024, .f32⟩ : BufTy).Contents (Elt F) → (⟨S4096x1024, .f32⟩ : BufTy).Contents (Elt F)),
    TRef.unary (TRef.of (T := ⟨S4096x2816, .f32⟩) main_v1) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_call0_v5) Host.divf,
    TRef.binary (TRef.of (T := ⟨S4096x2816, .f32⟩) main_v1) (TRef.of (T := ⟨S4096x2816, .f32⟩) main_call0_v5) (TRef.of (T := ⟨S4096x2816, .f32⟩) main_v5) mulf,
    binary main_v5 main_v2 main_v6 (mulf : (⟨S4096x2816, .f32⟩ : BufTy).Contents (Elt F) → (⟨S4096x2816, .f32⟩ : BufTy).Contents (Elt F) → (⟨S4096x2816, .f32⟩ : BufTy).Contents (Elt F)),
    binary main_v6 main_arg2 main_v7 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    nullary main_cst_0 (constant S_ .f32 0x3F000000#32),
    unary main_cst_0 main_v8 (broadcastInDim S4096x1024 ![] bcast_S_S4096x1024 : (⟨S_, .f32⟩ : BufTy).Contents (Elt F) → (⟨S4096x1024, .f32⟩ : BufTy).Contents (Elt F)),
    binary main_v8 main_v7 main_v9 (mulf : (⟨S4096x1024, .f32⟩ : BufTy).Contents (Elt F) → (⟨S4096x1024, .f32⟩ : BufTy).Contents (Elt F) → (⟨S4096x1024, .f32⟩ : BufTy).Contents (Elt F)),
    binary main_v4 main_v9 main_v10 (addf : (⟨S4096x1024, .f32⟩ : BufTy).Contents (Elt F) → (⟨S4096x1024, .f32⟩ : BufTy).Contents (Elt F) → (⟨S4096x1024, .f32⟩ : BufTy).Contents (Elt F)) ]

/-- Its normalisation. -/
def line1 : List (HloOp τ sig (Elt F)) :=
  [ nullary main_cst_1 (constant S_ .f32 0x00000000#32),
    binary main_v10 main_cst_1 main_v11 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    nullary main_cst_2 (constant S_ .f32 0x44800000#32),
    unary main_cst_2 main_v13 (broadcastInDim S4096x1 ![] bcast_S_S4096x1 : (⟨S_, .f32⟩ : BufTy).Contents (Elt F) → (⟨S4096x1, .f32⟩ : BufTy).Contents (Elt F)),
    binary main_v12 main_v13 main_v14 (Host.divf : (⟨S4096x1, .f32⟩ : BufTy).Contents (Elt F) → (⟨S4096x1, .f32⟩ : BufTy).Contents (Elt F) → (⟨S4096x1, .f32⟩ : BufTy).Contents (Elt F)),
    unary main_v14 main_v15 (broadcastInDim S4096x1024 ![0, 1] bcast_S4096x1_S4096x1024_0_1 : (⟨S4096x1, .f32⟩ : BufTy).Contents (Elt F) → (⟨S4096x1024, .f32⟩ : BufTy).Contents (Elt F)),
    binary main_v10 main_v15 main_v16 (subf : (⟨S4096x1024, .f32⟩ : BufTy).Contents (Elt F) → (⟨S4096x1024, .f32⟩ : BufTy).Contents (Elt F) → (⟨S4096x1024, .f32⟩ : BufTy).Contents (Elt F)),
    binary main_v16 main_v16 main_v17 (mulf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x00000000#32),
    binary main_v17 main_cst_3 main_v18 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    nullary main_cst_4 (constant S_ .f32 0x44800000#32),
    unary main_cst_4 main_v20 (broadcastInDim S4096x1 ![] bcast_S_S4096x1 : (⟨S_, .f32⟩ : BufTy).Contents (Elt F) → (⟨S4096x1, .f32⟩ : BufTy).Contents (Elt F)),
    binary main_v19 main_v20 main_v21 (Host.divf : (⟨S4096x1, .f32⟩ : BufTy).Contents (Elt F) → (⟨S4096x1, .f32⟩ : BufTy).Contents (Elt F) → (⟨S4096x1, .f32⟩ : BufTy).Contents (Elt F)),
    unary main_v14 main_v22 (broadcastInDim S4096x1024 ![0, 1] bcast_S4096x1_S4096x1024_0_1 : (⟨S4096x1, .f32⟩ : BufTy).Contents (Elt F) → (⟨S4096x1024, .f32⟩ : BufTy).Contents (Elt F)),
    binary main_v10 main_v22 main_v23 (subf : (⟨S4096x1024, .f32⟩ : BufTy).Contents (Elt F) → (⟨S4096x1024, .f32⟩ : BufTy).Contents (Elt F) → (⟨S4096x1024, .f32⟩ : BufTy).Contents (Elt F)),
    nullary main_cst_5 (constant S_ .f32 0x3727C5AC#32),
    unary main_cst_5 main_v24 (broadcastInDim S4096x1 ![] bcast_S_S4096x1 : (⟨S_, .f32⟩ : BufTy).Contents (Elt F) → (⟨S4096x1, .f32⟩ : BufTy).Contents (Elt F)),
    binary main_v21 main_v24 main_v25 (addf : (⟨S4096x1, .f32⟩ : BufTy).Contents (Elt F) → (⟨S4096x1, .f32⟩ : BufTy).Contents (Elt F) → (⟨S4096x1, .f32⟩ : BufTy).Contents (Elt F)),
    unary main_v25 main_v26 (Host.rsqrt : (⟨S4096x1, .f32⟩ : BufTy).Contents (Elt F) → (⟨S4096x1, .f32⟩ : BufTy).Contents (Elt F)),
    unary main_v26 main_v27 (broadcastInDim S4096x1024 ![0, 1] bcast_S4096x1_S4096x1024_0_1 : (⟨S4096x1, .f32⟩ : BufTy).Contents (Elt F) → (⟨S4096x1024, .f32⟩ : BufTy).Contents (Elt F)),
    binary main_v23 main_v27 main_v28 (mulf : (⟨S4096x1024, .f32⟩ : BufTy).Contents (Elt F) → (⟨S4096x1024, .f32⟩ : BufTy).Contents (Elt F) → (⟨S4096x1024, .f32⟩ : BufTy).Contents (Elt F)),
    unary main_arg3 main_v29 (broadcastInDim S1x1024 ![1] bcast_S1024_S1x1024_1 : (⟨S1024, .f32⟩ : BufTy).Contents (Elt F) → (⟨S1x1024, .f32⟩ : BufTy).Contents (Elt F)),
    unary main_v29 main_v30 (broadcastInDim S4096x1024 ![0, 1] bcast_S1x1024_S4096x1024_0_1 : (⟨S1x1024, .f32⟩ : BufTy).Contents (Elt F) → (⟨S4096x1024, .f32⟩ : BufTy).Contents (Elt F)),
    binary main_v28 main_v30 main_v31 (mulf : (⟨S4096x1024, .f32⟩ : BufTy).Contents (Elt F) → (⟨S4096x1024, .f32⟩ : BufTy).Contents (Elt F) → (⟨S4096x1024, .f32⟩ : BufTy).Contents (Elt F)),
    unary main_arg4 main_v32 (broadcastInDim S1x1024 ![1] bcast_S1024_S1x1024_1 : (⟨S1024, .f32⟩ : BufTy).Contents (Elt F) → (⟨S1x1024, .f32⟩ : BufTy).Contents (Elt F)),
    unary main_v32 main_v33 (broadcastInDim S4096x1024 ![0, 1] bcast_S1x1024_S4096x1024_0_1 : (⟨S1x1024, .f32⟩ : BufTy).Contents (Elt F) → (⟨S4096x1024, .f32⟩ : BufTy).Contents (Elt F)),
    binary main_v31 main_v33 main_v34 (addf : (⟨S4096x1024, .f32⟩ : BufTy).Contents (Elt F) → (⟨S4096x1024, .f32⟩ : BufTy).Contents (Elt F) → (⟨S4096x1024, .f32⟩ : BufTy).Contents (Elt F)) ]

/-- The whole line. -/
def line : List (HloOp τ sig (Elt F)) :=
  [ binary main_arg0 main_arg1 main_v0 ((fun l r => Host.dotGeneral dot_S4096x1024_S1024x5632_S4096x5632_1_0_0_1_n_n none l r) : (⟨S4096x1024, .f32⟩ : BufTy).Contents (Elt F) → (⟨S1024x5632, .f32⟩ : BufTy).Contents (Elt F) → (⟨S4096x5632, .f32⟩ : BufTy).Contents (Elt F)),
    unary main_v0 main_v1 ((extractStridedSlice S4096x2816 ![0, 0] · slices_S4096x5632_S4096x2816_0_0) : (⟨S4096x5632, .f32⟩ : BufTy).Contents (Elt F) → (⟨S4096x2816, .f32⟩ : BufTy).Contents (Elt F)),
    unary main_v0 main_v2 ((extractStridedSlice S4096x2816 ![0, 2816] · slices_S4096x5632_S4096x2816_0_2816) : (⟨S4096x5632, .f32⟩ : BufTy).Contents (Elt F) → (⟨S4096x2816, .f32⟩ : BufTy).Contents (Elt F)),
    nullary main_cst (constant S_ .f32 0x3FB504F3#32),
    unary main_cst main_v3 (broadcastInDim S4096x1024 ![] bcast_S_S4096x1024 : (⟨S_, .f32⟩ : BufTy).Contents (Elt F) → (⟨S4096x1024, .f32⟩ : BufTy).Contents (Elt F)),
    binary main_v3 main_arg0 main_v4 (mulf : (⟨S4096x1024, .f32⟩ : BufTy).Contents (Elt F) → (⟨S4096x1024, .f32⟩ : BufTy).Contents (Elt F) → (⟨S4096x1024, .f32⟩ : BufTy).Contents (Elt F)),
    TRef.unary (TRef.of (T := ⟨S4096x2816, .f32⟩) main_v1) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_call0_v5) Host.divf,
    TRef.binary (TRef.of (T := ⟨S4096x2816, .f32⟩) main_v1) (TRef.of (T := ⟨S4096x2816, .f32⟩) main_call0_v5) (TRef.of (T := ⟨S4096x2816, .f32⟩) main_v5) mulf,
    binary main_v5 main_v2 main_v6 (mulf : (⟨S4096x2816, .f32⟩ : BufTy).Contents (Elt F) → (⟨S4096x2816, .f32⟩ : BufTy).Contents (Elt F) → (⟨S4096x2816, .f32⟩ : BufTy).Contents (Elt F)),
    binary main_v6 main_arg2 main_v7 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    nullary main_cst_0 (constant S_ .f32 0x3F000000#32),
    unary main_cst_0 main_v8 (broadcastInDim S4096x1024 ![] bcast_S_S4096x1024 : (⟨S_, .f32⟩ : BufTy).Contents (Elt F) → (⟨S4096x1024, .f32⟩ : BufTy).Contents (Elt F)),
    binary main_v8 main_v7 main_v9 (mulf : (⟨S4096x1024, .f32⟩ : BufTy).Contents (Elt F) → (⟨S4096x1024, .f32⟩ : BufTy).Contents (Elt F) → (⟨S4096x1024, .f32⟩ : BufTy).Contents (Elt F)),
    binary main_v4 main_v9 main_v10 (addf : (⟨S4096x1024, .f32⟩ : BufTy).Contents (Elt F) → (⟨S4096x1024, .f32⟩ : BufTy).Contents (Elt F) → (⟨S4096x1024, .f32⟩ : BufTy).Contents (Elt F)),
    nullary main_cst_1 (constant S_ .f32 0x00000000#32),
    binary main_v10 main_cst_1 main_v11 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    nullary main_cst_2 (constant S_ .f32 0x44800000#32),
    unary main_cst_2 main_v13 (broadcastInDim S4096x1 ![] bcast_S_S4096x1 : (⟨S_, .f32⟩ : BufTy).Contents (Elt F) → (⟨S4096x1, .f32⟩ : BufTy).Contents (Elt F)),
    binary main_v12 main_v13 main_v14 (Host.divf : (⟨S4096x1, .f32⟩ : BufTy).Contents (Elt F) → (⟨S4096x1, .f32⟩ : BufTy).Contents (Elt F) → (⟨S4096x1, .f32⟩ : BufTy).Contents (Elt F)),
    unary main_v14 main_v15 (broadcastInDim S4096x1024 ![0, 1] bcast_S4096x1_S4096x1024_0_1 : (⟨S4096x1, .f32⟩ : BufTy).Contents (Elt F) → (⟨S4096x1024, .f32⟩ : BufTy).Contents (Elt F)),
    binary main_v10 main_v15 main_v16 (subf : (⟨S4096x1024, .f32⟩ : BufTy).Contents (Elt F) → (⟨S4096x1024, .f32⟩ : BufTy).Contents (Elt F) → (⟨S4096x1024, .f32⟩ : BufTy).Contents (Elt F)),
    binary main_v16 main_v16 main_v17 (mulf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x00000000#32),
    binary main_v17 main_cst_3 main_v18 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    nullary main_cst_4 (constant S_ .f32 0x44800000#32),
    unary main_cst_4 main_v20 (broadcastInDim S4096x1 ![] bcast_S_S4096x1 : (⟨S_, .f32⟩ : BufTy).Contents (Elt F) → (⟨S4096x1, .f32⟩ : BufTy).Contents (Elt F)),
    binary main_v19 main_v20 main_v21 (Host.divf : (⟨S4096x1, .f32⟩ : BufTy).Contents (Elt F) → (⟨S4096x1, .f32⟩ : BufTy).Contents (Elt F) → (⟨S4096x1, .f32⟩ : BufTy).Contents (Elt F)),
    unary main_v14 main_v22 (broadcastInDim S4096x1024 ![0, 1] bcast_S4096x1_S4096x1024_0_1 : (⟨S4096x1, .f32⟩ : BufTy).Contents (Elt F) → (⟨S4096x1024, .f32⟩ : BufTy).Contents (Elt F)),
    binary main_v10 main_v22 main_v23 (subf : (⟨S4096x1024, .f32⟩ : BufTy).Contents (Elt F) → (⟨S4096x1024, .f32⟩ : BufTy).Contents (Elt F) → (⟨S4096x1024, .f32⟩ : BufTy).Contents (Elt F)),
    nullary main_cst_5 (constant S_ .f32 0x3727C5AC#32),
    unary main_cst_5 main_v24 (broadcastInDim S4096x1 ![] bcast_S_S4096x1 : (⟨S_, .f32⟩ : BufTy).Contents (Elt F) → (⟨S4096x1, .f32⟩ : BufTy).Contents (Elt F)),
    binary main_v21 main_v24 main_v25 (addf : (⟨S4096x1, .f32⟩ : BufTy).Contents (Elt F) → (⟨S4096x1, .f32⟩ : BufTy).Contents (Elt F) → (⟨S4096x1, .f32⟩ : BufTy).Contents (Elt F)),
    unary main_v25 main_v26 (Host.rsqrt : (⟨S4096x1, .f32⟩ : BufTy).Contents (Elt F) → (⟨S4096x1, .f32⟩ : BufTy).Contents (Elt F)),
    unary main_v26 main_v27 (broadcastInDim S4096x1024 ![0, 1] bcast_S4096x1_S4096x1024_0_1 : (⟨S4096x1, .f32⟩ : BufTy).Contents (Elt F) → (⟨S4096x1024, .f32⟩ : BufTy).Contents (Elt F)),
    binary main_v23 main_v27 main_v28 (mulf : (⟨S4096x1024, .f32⟩ : BufTy).Contents (Elt F) → (⟨S4096x1024, .f32⟩ : BufTy).Contents (Elt F) → (⟨S4096x1024, .f32⟩ : BufTy).Contents (Elt F)),
    unary main_arg3 main_v29 (broadcastInDim S1x1024 ![1] bcast_S1024_S1x1024_1 : (⟨S1024, .f32⟩ : BufTy).Contents (Elt F) → (⟨S1x1024, .f32⟩ : BufTy).Contents (Elt F)),
    unary main_v29 main_v30 (broadcastInDim S4096x1024 ![0, 1] bcast_S1x1024_S4096x1024_0_1 : (⟨S1x1024, .f32⟩ : BufTy).Contents (Elt F) → (⟨S4096x1024, .f32⟩ : BufTy).Contents (Elt F)),
    binary main_v28 main_v30 main_v31 (mulf : (⟨S4096x1024, .f32⟩ : BufTy).Contents (Elt F) → (⟨S4096x1024, .f32⟩ : BufTy).Contents (Elt F) → (⟨S4096x1024, .f32⟩ : BufTy).Contents (Elt F)),
    unary main_arg4 main_v32 (broadcastInDim S1x1024 ![1] bcast_S1024_S1x1024_1 : (⟨S1024, .f32⟩ : BufTy).Contents (Elt F) → (⟨S1x1024, .f32⟩ : BufTy).Contents (Elt F)),
    unary main_v32 main_v33 (broadcastInDim S4096x1024 ![0, 1] bcast_S1x1024_S4096x1024_0_1 : (⟨S1x1024, .f32⟩ : BufTy).Contents (Elt F) → (⟨S4096x1024, .f32⟩ : BufTy).Contents (Elt F)),
    binary main_v31 main_v33 main_v34 (addf : (⟨S4096x1024, .f32⟩ : BufTy).Contents (Elt F) → (⟨S4096x1024, .f32⟩ : BufTy).Contents (Elt F) → (⟨S4096x1024, .f32⟩ : BufTy).Contents (Elt F)) ]

theorem line_cut : line (F := Ideal) = line0 ++ line1 := rfl

theorem main_line (c : Dev nD) : main (F := F) c = seq line := by
  show _ = (Pipeline.chain [ StableHlo.seq line ] : Prog (TpuEff nD τ sig (Elt F) (Pipeline.Sig Λ₀ (Fin 0) fun p => (pcfgs (F := F) p).Adm) .tc) PUnit)
  chain_rfl

theorem no_refs : (Finset.univ.filter fun b : Ref sig .tc => b.isScoped) = ∅ := by decide
theorem no_sems : (Finset.univ.filter fun s : SemLoc sig => s.isScoped .tc) = ∅ := by decide
theorem line_sub : (line (F := Ideal)).Forall fun op => op.bufs ⊆ tcRefs τ sig :=
  ⟨binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The values, as the host writes them -/

abbrev Product := FVec Ideal S4096x5632 .f32

def product (x : Rows) (w : Up) : Product :=
  Host.dotGeneral (F := Ideal) (φ₁ := .f32) (φ₂ := .f32) dot_S4096x1024_S1024x5632_S4096x5632_1_0_0_1_n_n none x w
def hostGate (x : Rows) (w : Up) : Hidden := extractStridedSlice S4096x2816 ![0, 0] (product x w) slices_S4096x5632_S4096x2816_0_0
def hostUp (x : Rows) (w : Up) : Hidden := extractStridedSlice S4096x2816 ![0, 2816] (product x w) slices_S4096x5632_S4096x2816_0_2816
def ones : Hidden := broadcastInDim S4096x2816 ![] bcast_S_S4096x2816 (constant (F := Ideal) S_ .f32 0x3F800000#32)
def hostAct (g u : Hidden) : Hidden := mulf (mulf g (Host.divf ones (addf ones (Host.exp (Host.negf g))))) u
def hostRes (x : Rows) (a : Hidden) (d : Down) : Rows :=
  addf (mulf (broadcastInDim S4096x1024 ![] bcast_S_S4096x1024 (constant (F := Ideal) S_ .f32 0x3FB504F3#32)) x)
    (mulf (broadcastInDim S4096x1024 ![] bcast_S_S4096x1024 (constant (F := Ideal) S_ .f32 0x3F000000#32))
      (Host.dotGeneral (F := Ideal) (φ₁ := .f32) (φ₂ := .f32) dot_S4096x2816_S2816x1024_S4096x1024_1_0_0_1_n_n none a d))

abbrev Col := FVec Ideal S4096x1 .f32
def rowMean (v : Rows) : Col :=
  Host.divf (broadcastInDim S4096x1 ![0] bcast_S4096_S4096x1_0 (Host.reduceAdd v (constant (F := Ideal) S_ .f32 0x00000000#32) reducesTo_S4096x1024_S4096_d1 h_S_))
    (broadcastInDim S4096x1 ![] bcast_S_S4096x1 (constant (F := Ideal) S_ .f32 0x44800000#32))
def centred (v : Rows) : Rows := subf v (broadcastInDim S4096x1024 ![0, 1] bcast_S4096x1_S4096x1024_0_1 (rowMean v))
def scale (v : Rows) : Col :=
  Host.rsqrt (addf (rowMean (mulf (centred v) (centred v))) (broadcastInDim S4096x1 ![] bcast_S_S4096x1 (constant (F := Ideal) S_ .f32 0x3727C5AC#32)))
def lanes (γ : Lane) : Rows := broadcastInDim S4096x1024 ![0, 1] bcast_S1x1024_S4096x1024_0_1 (broadcastInDim S1x1024 ![1] bcast_S1024_S1x1024_1 γ)
def hostNorm (v : Rows) (γ β : Lane) : Rows :=
  addf (mulf (mulf (centred v) (broadcastInDim S4096x1024 ![0, 1] bcast_S4096x1_S4096x1024_0_1 (scale v))) (lanes γ)) (lanes β)

/-! ## Reading the line back -/

variable (W : Valuation τ sig (Elt Ideal))

theorem after_line : after (line (F := Ideal)) W = after (line1 (F := Ideal)) (after (line0 (F := Ideal)) W) := by
  rw [line_cut, after_append]

theorem at0_v1 : after (line0 (F := Ideal)) W (Proc.devRef .tc main_v1) = (hostGate (W (Proc.devRef .tc main_arg0)) (W (Proc.devRef .tc main_arg1)) : Hidden) := by
  unfold line0
  after_results <;> rfl
theorem at0_v2 : after (line0 (F := Ideal)) W (Proc.devRef .tc main_v2) = (hostUp (W (Proc.devRef .tc main_arg0)) (W (Proc.devRef .tc main_arg1)) : Hidden) := by
  unfold line0
  after_results <;> rfl
theorem at0_v10 : after (line0 (F := Ideal)) W (Proc.devRef .tc main_v10) = (hostRes (W (Proc.devRef .tc main_arg0)) (hostAct (hostGate (W (Proc.devRef .tc main_arg0)) (W (Proc.devRef .tc main_arg1))) (hostUp (W (Proc.devRef .tc main_arg0)) (W (Proc.devRef .tc main_arg1)))) (W (Proc.devRef .tc main_arg2)) : Rows) := by
  unfold line0
  after_results <;> rfl
theorem keep0_arg0 : after (line0 (F := Ideal)) W (Proc.devRef .tc main_arg0) = W (Proc.devRef .tc main_arg0) := by
  unfold line0
  after_results
theorem keep0_arg1 : after (line0 (F := Ideal)) W (Proc.devRef .tc main_arg1) = W (Proc.devRef .tc main_arg1) := by
  unfold line0
  after_results
theorem keep0_arg2 : after (line0 (F := Ideal)) W (Proc.devRef .tc main_arg2) = W (Proc.devRef .tc main_arg2) := by
  unfold line0
  after_results
theorem keep0_arg3 : after (line0 (F := Ideal)) W (Proc.devRef .tc main_arg3) = W (Proc.devRef .tc main_arg3) := by
  unfold line0
  after_results
theorem keep0_arg4 : after (line0 (F := Ideal)) W (Proc.devRef .tc main_arg4) = W (Proc.devRef .tc main_arg4) := by
  unfold line0
  after_results
theorem at1_v34 : after (line1 (F := Ideal)) W (Proc.devRef .tc main_v34) = (hostNorm (W (Proc.devRef .tc main_v10)) (W (Proc.devRef .tc main_arg3)) (W (Proc.devRef .tc main_arg4)) : Rows) := by
  unfold line1
  after_results <;> rfl
theorem keep1_v1 : after (line1 (F := Ideal)) W (Proc.devRef .tc main_v1) = W (Proc.devRef .tc main_v1) := by
  unfold line1
  after_results
theorem keep1_v2 : after (line1 (F := Ideal)) W (Proc.devRef .tc main_v2) = W (Proc.devRef .tc main_v2) := by
  unfold line1
  after_results
theorem keep1_v10 : after (line1 (F := Ideal)) W (Proc.devRef .tc main_v10) = W (Proc.devRef .tc main_v10) := by
  unfold line1
  after_results
theorem keep1_arg0 : after (line1 (F := Ideal)) W (Proc.devRef .tc main_arg0) = W (Proc.devRef .tc main_arg0) := by
  unfold line1
  after_results
theorem keep1_arg1 : after (line1 (F := Ideal)) W (Proc.devRef .tc main_arg1) = W (Proc.devRef .tc main_arg1) := by
  unfold line1
  after_results
theorem keep1_arg2 : after (line1 (F := Ideal)) W (Proc.devRef .tc main_arg2) = W (Proc.devRef .tc main_arg2) := by
  unfold line1
  after_results
theorem keep1_arg3 : after (line1 (F := Ideal)) W (Proc.devRef .tc main_arg3) = W (Proc.devRef .tc main_arg3) := by
  unfold line1
  after_results
theorem keep1_arg4 : after (line1 (F := Ideal)) W (Proc.devRef .tc main_arg4) = W (Proc.devRef .tc main_arg4) := by
  unfold line1
  after_results

theorem read_v34 : after (line (F := Ideal)) W (Proc.devRef .tc main_v34) = (hostNorm (hostRes (W (Proc.devRef .tc main_arg0)) (hostAct (hostGate (W (Proc.devRef .tc main_arg0)) (W (Proc.devRef .tc main_arg1))) (hostUp (W (Proc.devRef .tc main_arg0)) (W (Proc.devRef .tc main_arg1)))) (W (Proc.devRef .tc main_arg2))) (W (Proc.devRef .tc main_arg3)) (W (Proc.devRef .tc main_arg4)) : Rows) := by
  rw [after_line, at1_v34, at0_v10, keep0_arg3, keep0_arg4]
theorem read_v1 : after (line (F := Ideal)) W (Proc.devRef .tc main_v1) = (hostGate (W (Proc.devRef .tc main_arg0)) (W (Proc.devRef .tc main_arg1)) : Hidden) := by
  rw [after_line, keep1_v1, at0_v1]
theorem read_v2 : after (line (F := Ideal)) W (Proc.devRef .tc main_v2) = (hostUp (W (Proc.devRef .tc main_arg0)) (W (Proc.devRef .tc main_arg1)) : Hidden) := by
  rw [after_line, keep1_v2, at0_v2]
theorem read_v10 : after (line (F := Ideal)) W (Proc.devRef .tc main_v10) = (hostRes (W (Proc.devRef .tc main_arg0)) (hostAct (hostGate (W (Proc.devRef .tc main_arg0)) (W (Proc.devRef .tc main_arg1))) (hostUp (W (Proc.devRef .tc main_arg0)) (W (Proc.devRef .tc main_arg1)))) (W (Proc.devRef .tc main_arg2)) : Rows) := by
  rw [after_line, keep1_v10, at0_v10]
theorem read_arg0 : after (line (F := Ideal)) W (Proc.devRef .tc main_arg0) = W (Proc.devRef .tc main_arg0) := by
  rw [after_line, keep1_arg0, keep0_arg0]
theorem read_arg1 : after (line (F := Ideal)) W (Proc.devRef .tc main_arg1) = W (Proc.devRef .tc main_arg1) := by
  rw [after_line, keep1_arg1, keep0_arg1]
theorem read_arg2 : after (line (F := Ideal)) W (Proc.devRef .tc main_arg2) = W (Proc.devRef .tc main_arg2) := by
  rw [after_line, keep1_arg2, keep0_arg2]
theorem read_arg3 : after (line (F := Ideal)) W (Proc.devRef .tc main_arg3) = W (Proc.devRef .tc main_arg3) := by
  rw [after_line, keep1_arg3, keep0_arg3]
theorem read_arg4 : after (line (F := Ideal)) W (Proc.devRef .tc main_arg4) = W (Proc.devRef .tc main_arg4) := by
  rw [after_line, keep1_arg4, keep0_arg4]

/-! ## At an index -/

theorem gate_eq (x : Rows) (w : Up) : hostGate x w = gate x w := by
  funext i
  obtain ⟨t, j, rfl⟩ : ∃ (t : Fin 4096) (j : Fin 2816), i = ix2 t j := ⟨i 0, i 1, (ix2_eta i).symm⟩
  pointwise [hostGate, product]
  rfl
theorem up_eq (x : Rows) (w : Up) : hostUp x w = up x w := by
  funext i
  obtain ⟨t, j, rfl⟩ : ∃ (t : Fin 4096) (j : Fin 2816), i = ix2 t j := ⟨i 0, i 1, (ix2_eta i).symm⟩
  pointwise [hostUp, product]
  rfl
theorem act_eq (g u : Hidden) (t : Fin 4096) (j : Fin 2816) : hostAct g u (ix2 t j) = act (g (ix2 t j)) (u (ix2 t j)) := by
  pointwise [hostAct, ones]
  rfl
theorem res_at (x : Rows) (a : Hidden) (d : Down) (t : Fin 4096) (l : Fin 1024) :
    hostRes x a d (ix2 t l) = α * x (ix2 t l) + half * ∑ j : Fin 2816, a (ix2 t j) * d (ix2 j l) := by
  pointwise [hostRes]
  rfl
theorem res_eq (x : Rows) (w : Up) (d : Down) : hostRes x (hostAct (hostGate x w) (hostUp x w)) d = res x w d := by
  funext i
  obtain ⟨t, l, rfl⟩ : ∃ (t : Fin 4096) (l : Fin 1024), i = ix2 t l := ⟨i 0, i 1, (ix2_eta i).symm⟩
  rw [res_at]
  simp only [act_eq, gate_eq, up_eq]
  rfl
theorem mean_at (v : Rows) (t : Fin 4096) : rowMean v (ix2 t (0 : Fin 1)) = mean fun l => v (ix2 t l) := by
  pointwise [rowMean]
  rfl
theorem centred_at (v : Rows) (t : Fin 4096) (l : Fin 1024) : centred v (ix2 t l) = v (ix2 t l) - mean fun l => v (ix2 t l) := by
  rw [← mean_at]
  pointwise [centred]
theorem scale_at (v : Rows) (t : Fin 4096) : scale v (ix2 t (0 : Fin 1)) = Ideal.rsqrt (var (fun l => v (ix2 t l)) + ε) := by
  have e : scale v (ix2 t (0 : Fin 1)) = Ideal.rsqrt (rowMean (mulf (centred v) (centred v)) (ix2 t (0 : Fin 1)) + ε) := by
    pointwise [scale]
    rfl
  have c : ∀ l, mulf (F := Ideal) (φ := .f32) (centred v) (centred v) (ix2 t l) = centred v (ix2 t l) * centred v (ix2 t l) := fun l => rfl
  rw [e, mean_at]
  simp only [c, centred_at]
  rfl
theorem norm_eq (v : Rows) (γ β : Lane) : hostNorm v γ β = norm v γ β := by
  funext i
  obtain ⟨t, l, rfl⟩ : ∃ (t : Fin 4096) (l : Fin 1024), i = ix2 t l := ⟨i 0, i 1, (ix2_eta i).symm⟩
  have e : hostNorm v γ β (ix2 t l) = centred v (ix2 t l) * scale v (ix2 t (0 : Fin 1)) * γ (ix1 l) + β (ix1 l) := by
    pointwise [hostNorm, lanes]
  rw [e, centred_at, scale_at]
  rfl

/-- Every run of the reference ends with the sublayer's values of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = gate (m ((c.tc : Thread nD τ).loc main_arg0)) (m ((c.tc : Thread nD τ).loc main_arg1))
      ∧ r.2.mem ((c.tc : Thread nD τ).loc main_v2) = up (m ((c.tc : Thread nD τ).loc main_arg0)) (m ((c.tc : Thread nD τ).loc main_arg1))
      ∧ r.2.mem ((c.tc : Thread nD τ).loc main_v10) = res (m ((c.tc : Thread nD τ).loc main_arg0)) (m ((c.tc : Thread nD τ).loc main_arg1)) (m ((c.tc : Thread nD τ).loc main_arg2))
      ∧ r.2.mem ((c.tc : Thread nD τ).loc main_v34) = norm (res (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v1).trans ((read_v1 _).trans (gate_eq _ _)), (h c main_v2).trans ((read_v2 _).trans (up_eq _ _)),
      (h c main_v10).trans ((read_v10 _).trans (res_eq _ _ _)),
      (h c main_v34).trans ((read_v34 _).trans ((congrArg (fun v => hostNorm v _ _) (res_eq _ _ _)).trans (norm_eq _ _ _))),
      (h c main_arg0).trans (read_arg0 _),
      (h c main_arg1).trans (read_arg1 _),
      (h c main_arg2).trans (read_arg2 _),
      (h c main_arg3).trans (read_arg3 _),
      (h c main_arg4).trans (read_arg4 _)⟩)
    (run_seq no_refs no_sems defs main (fun _ => line (F := Ideal)) main_line (fun _ => line_sub) m ρ)

end Cert.Reference4Ideal.Ffn
-- ==== Proof.Steps.lean ====
module

public import Idealize.ShloMosaic.Lib.Quiescent
public import proofs.«01_k».proof.Defs
public import proofs.«01_k».proof.Proof.Dwgu
public import proofs.«01_k».proof.Proof.Dwd
public import proofs.«01_k».proof.Proof.FfnFwdRun
public import proofs.«01_k».proof.Proof.FfnRef

/-!
# The claims about the matrix products and the feed-forward sublayer

The weight gradients and the sublayer's forward call hold of any contents, so their claims carry no precondition.
-/

@[expose] public section

set_option maxRecDepth 16384

noncomputable section

namespace Cert.Steps2

open Idealize.ShloMosaic Idealize.ShloMosaic.TcCoe Idealize.SL.Sem

/-- The reference leaves its arguments unchanged, and has no counter that could end at anything but zero. -/
theorem reference_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) := by
  refine (θ_run _ _ _).mono ?_ (Cert.Reference2Ideal.Dwgu.run m g)
  intro r h
  exact ⟨fun c => (h c).2, sem_eq_zero_of_no_sems (by decide) _⟩

/-- Kernel and reference end with the same results. -/
theorem algebraic : Cert.algebraic_Kernel2Ideal_Reference2Ideal (hKernel2Ideal := Cert.Kernel2Ideal.Gen.facts) (hReference2Ideal := Cert.Reference2Ideal.Gen.facts) := by
  intro m g m' g' hpre hagree
  refine ⟨fun c => Cert.Dwgu.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run _ _ _).mono ?_ (θ_run_and (Cert.Kernel2Ideal.Dwgu.run m g) (Cert.Kernel2Ideal.Gen.unchanged m g))
    rintro r ⟨h, hu⟩ c
    obtain e0 := h c
    exact ⟨e0, hu c⟩
  · refine (θ_run _ _ _).mono ?_ (Cert.Reference2Ideal.Dwgu.run m' g')
    intro r h c
    obtain ⟨e0, hu⟩ := h c
    obtain ⟨a0, a1⟩ := hagree c
    refine ⟨e0.trans ?_, hu⟩
    · rw [a0, a1]

end Cert.Steps2

namespace Cert.Steps3

open Idealize.ShloMosaic Idealize.ShloMosaic.TcCoe Idealize.SL.Sem

/-- The reference leaves its arguments unchanged, and has no counter that could end at anything but zero. -/
theorem reference_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) := by
  refine (θ_run _ _ _).mono ?_ (Cert.Reference3Ideal.Dwd.run m g)
  intro r h
  exact ⟨fun c => (h c).2, sem_eq_zero_of_no_sems (by decide) _⟩

/-- Kernel and reference end with the same results. -/
theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => Cert.Dwd.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run _ _ _).mono ?_ (θ_run_and (Cert.Kernel3Ideal.Dwd.run m g) (Cert.Kernel3Ideal.Gen.unchanged m g))
    rintro r ⟨h, hu⟩ c
    obtain e0 := h c
    exact ⟨e0, hu c⟩
  · refine (θ_run _ _ _).mono ?_ (Cert.Reference3Ideal.Dwd.run m' g')
    intro r h c
    obtain ⟨e0, hu⟩ := h c
    obtain ⟨a0, a1⟩ := hagree c
    refine ⟨e0.trans ?_, hu⟩
    · rw [a0, a1]

end Cert.Steps3

namespace Cert.Steps4

open Idealize.ShloMosaic Idealize.ShloMosaic.TcCoe Idealize.SL.Sem

/-- The reference leaves its arguments unchanged, and has no counter that could end at anything but zero. -/
theorem reference_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) := by
  refine (θ_run _ _ _).mono ?_ (Cert.Reference4Ideal.Ffn.run m g)
  intro r h
  exact ⟨fun c => (h c).2.2.2.2, sem_eq_zero_of_no_sems (by decide) _⟩

/-- Kernel and reference end with the same results. -/
theorem algebraic : Cert.algebraic_Kernel4Ideal_Reference4Ideal (hKernel4Ideal := Cert.Kernel4Ideal.Gen.facts) (hReference4Ideal := Cert.Reference4Ideal.Gen.facts) := by
  intro m g m' g' hpre hagree
  refine ⟨fun c => Cert.Ffn.gate (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.Ffn.up (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.Ffn.res (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Ffn.norm (Cert.Ffn.res (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · refine (θ_run _ _ _).mono ?_ (θ_run_and (Cert.Kernel4Ideal.Ffn.run m g) (Cert.Kernel4Ideal.Gen.unchanged m g))
    rintro r ⟨h, hu⟩ c
    obtain ⟨e0, e1, e2, e3⟩ := h c
    exact ⟨e0, e1, e2, e3, hu c⟩
  · refine (θ_run _ _ _).mono ?_ (Cert.Reference4Ideal.Ffn.run m' g')
    intro r h c
    obtain ⟨e0, e1, e2, e3, hu⟩ := h c
    obtain ⟨a0, a1, a2, a3, a4⟩ := hagree c
    refine ⟨e0.trans ?_, e1.trans ?_, e2.trans ?_, e3.trans ?_, hu⟩
    · rw [a0, a1]
    · rw [a0, a1]
    · rw [a0, a1, a2]
    · rw [a0, a1, a2, a3, a4]

end Cert.Steps4
-- ==== Proof.FfnBwdLine.lean ====
module

public import Idealize.ShloMosaic.Lib.Pointwise
public import Idealize.ShloMosaic.Lib.StableHlo.Run
public import Idealize.ShloMosaic.Lib.Pipeline.Regions
public import Idealize.ShloMosaic.Lib.Quiescent
public import proofs.«01_k».proof.Proof.Gen.Reference5Ideal

/-!
# The reference of the sublayer's backward call

One line of host operations: the residual stream, its normalisation's steps, the two lane gradients, the stream's
gradient, and the input's.
-/

@[expose] public section

set_option maxRecDepth 16384

noncomputable section

namespace Cert.Reference5Ideal.Ffn

open Idealize.ShloMosaic Idealize.ShloMosaic.TcCoe Idealize.ShloMosaic.StableHlo Idealize.SL.Sem Finset
open Cert.Reference5Ideal Cert.Reference5Ideal.Gen

/-- What a buffer of float32 entries holds. -/
abbrev Arr (F : FTy → Type) (s : Shape) : Type := (⟨s, .f32⟩ : BufTy).Contents (Elt F)

variable {F : FTy → Type} [FloatOps F]

/-- The residual stream. -/
def line0 : List (HloOp τ sig (Elt F)) :=
  [ nullary main_cst (constant S_ .f32 0x3FB504F3#32),
    unary main_cst main_v0 (broadcastInDim S4096x1024 ![] bcast_S_S4096x1024 : Arr F S_ → Arr F S4096x1024),
    binary main_v0 main_arg0 main_v1 (mulf : Arr F S4096x1024 → Arr F S4096x1024 → Arr F S4096x1024),
    binary main_arg0 main_arg1 main_v2 ((fun l r => Host.dotGeneral dot_S4096x1024_S1024x5632_S4096x5632_1_0_0_1_n_n none l r) : Arr F S4096x1024 → Arr F S1024x5632 → Arr F S4096x5632),
    unary main_v2 main_v3 ((extractStridedSlice S4096x2816 ![0, 0] · slices_S4096x5632_S4096x2816_0_0) : Arr F S4096x5632 → Arr F S4096x2816),
    unary main_v2 main_v4 ((extractStridedSlice S4096x2816 ![0, 2816] · slices_S4096x5632_S4096x2816_0_2816) : Arr F S4096x5632 → Arr F S4096x2816),
    TRef.unary (TRef.of (T := ⟨S4096x2816, .f32⟩) main_v3) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_v5_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x2816, .f32⟩) main_call0_v6) (broadcastInDim S4096x2816 ![] bcast_S_S4096x2816),
    TRef.binary (TRef.of (T := ⟨S4096x2816, .f32⟩) main_call0_v6) (TRef.of (T := ⟨S4096x2816, .f32⟩) main_v5_2) (TRef.of (T := ⟨S4096x2816, .f32⟩) main_call0_v7) subf,
    TRef.binary (TRef.of (T := ⟨S4096x2816, .f32⟩) main_v5_2) (TRef.of (T := ⟨S4096x2816, .f32⟩) main_call0_v7) (TRef.of (T := ⟨S4096x2816, .f32⟩) main_v5_1) mulf,
    TRef.binary (TRef.of (T := ⟨S4096x2816, .f32⟩) main_v3) (TRef.of (T := ⟨S4096x2816, .f32⟩) main_v5_2) (TRef.of (T := ⟨S4096x2816, .f32⟩) main_v5_0) mulf,
    binary main_v5_0 main_v4 main_v6 (mulf : Arr F S4096x2816 → Arr F S4096x2816 → Arr F S4096x2816),
    binary main_v6 main_arg2 main_v7 ((fun l r => Host.dotGeneral dot_S4096x2816_S2816x1024_S4096x1024_1_0_0_1_n_n none l r) : Arr F S4096x2816 → Arr F S2816x1024 → Arr F S4096x1024),
    nullary main_cst_0 (constant S_ .f32 0x3F000000#32),
    unary main_cst_0 main_v8 (broadcastInDim S4096x1024 ![] bcast_S_S4096x1024 : Arr F S_ → Arr F S4096x1024),
    binary main_v8 main_v7 main_v9 (mulf : Arr F S4096x1024 → Arr F S4096x1024 → Arr F S4096x1024),
    binary main_v1 main_v9 main_v10 (addf : Arr F S4096x1024 → Arr F S4096x1024 → Arr F S4096x1024) ]

/-- Its normalisation. -/
def line1 : List (HloOp τ sig (Elt F)) :=
  [ nullary main_cst_1 (constant S_ .f32 0x00000000#32),
    binary main_v10 main_cst_1 main_v11 ((fun x v => Host.reduceAdd x v reducesTo_S4096x1024_S4096_d1 h_S_) : Arr F S4096x1024 → Arr F S_ → Arr F S4096),
    unary main_v11 main_v12 (broadcastInDim S4096x1 ![0] bcast_S4096_S4096x1_0 : Arr F S4096 → Arr F S4096x1),
    nullary main_cst_2 (constant S_ .f32 0x44800000#32),
    unary main_cst_2 main_v13 (broadcastInDim S4096x1 ![] bcast_S_S4096x1 : Arr F S_ → Arr F S4096x1),
    binary main_v12 main_v13 main_v14 (Host.divf : Arr F S4096x1 → Arr F S4096x1 → Arr F S4096x1),
    unary main_v14 main_v15 (broadcastInDim S4096x1024 ![0, 1] bcast_S4096x1_S4096x1024_0_1 : Arr F S4096x1 → Arr F S4096x1024),
    binary main_v10 main_v15 main_v16 (subf : Arr F S4096x1024 → Arr F S4096x1024 → Arr F S4096x1024),
    binary main_v16 main_v16 main_v17 (mulf : Arr F S4096x1024 → Arr F S4096x1024 → Arr F S4096x1024),
    nullary main_cst_3 (constant S_ .f32 0x40000000#32),
    unary main_cst_3 main_v18 (broadcastInDim S4096x1024 ![] bcast_S_S4096x1024 : Arr F S_ → Arr F S4096x1024),
    binary main_v18 main_v16 main_v19 (mulf : Arr F S4096x1024 → Arr F S4096x1024 → Arr F S4096x1024),
    nullary main_cst_4 (constant S_ .f32 0x00000000#32),
    binary main_v17 main_cst_4 main_v20 ((fun x v => Host.reduceAdd x v reducesTo_S4096x1024_S4096_d1 h_S_) : Arr F S4096x1024 → Arr F S_ → Arr F S4096),
    unary main_v20 main_v21 (broadcastInDim S4096x1 ![0] bcast_S4096_S4096x1_0 : Arr F S4096 → Arr F S4096x1),
    nullary main_cst_5 (constant S_ .f32 0x44800000#32),
    unary main_cst_5 main_v22 (broadcastInDim S4096x1 ![] bcast_S_S4096x1 : Arr F S_ → Arr F S4096x1),
    binary main_v21 main_v22 main_v23 (Host.divf : Arr F S4096x1 → Arr F S4096x1 → Arr F S4096x1),
    unary main_v14 main_v24 (broadcastInDim S4096x1024 ![0, 1] bcast_S4096x1_S4096x1024_0_1 : Arr F S4096x1 → Arr F S4096x1024),
    binary main_v10 main_v24 main_v25 (subf : Arr F S4096x1024 → Arr F S4096x1024 → Arr F S4096x1024),
    nullary main_cst_6 (constant S_ .f32 0x3727C5AC#32),
    unary main_cst_6 main_v26 (broadcastInDim S4096x1 ![] bcast_S_S4096x1 : Arr F S_ → Arr F S4096x1),
    binary main_v23 main_v26 main_v27 (addf : Arr F S4096x1 → Arr F S4096x1 → Arr F S4096x1),
    unary main_v27 main_v28 (Host.rsqrt : Arr F S4096x1 → Arr F S4096x1),
    binary main_v28 main_v27 main_v29 (Host.divf : Arr F S4096x1 → Arr F S4096x1 → Arr F S4096x1),
    nullary main_cst_7 (constant S_ .f32 0xBF000000#32),
    unary main_cst_7 main_v30 (broadcastInDim S4096x1 ![] bcast_S_S4096x1 : Arr F S_ → Arr F S4096x1),
    binary main_v30 main_v29 main_v31 (mulf : Arr F S4096x1 → Arr F S4096x1 → Arr F S4096x1),
    unary main_v28 main_v32 (broadcastInDim S4096x1024 ![0, 1] bcast_S4096x1_S4096x1024_0_1 : Arr F S4096x1 → Arr F S4096x1024),
    binary main_v25 main_v32 main_v33 (mulf : Arr F S4096x1024 → Arr F S4096x1024 → Arr F S4096x1024) ]

/-- The gradients of the scale and the shift. -/
def line2 : List (HloOp τ sig (Elt F)) :=
  [ unary main_arg3 main_v34 (broadcastInDim S1x1024 ![1] bcast_S1024_S1x1024_1 : Arr F S1024 → Arr F S1x1024),
    unary main_v34 main_v35 (broadcastInDim S4096x1024 ![0, 1] bcast_S1x1024_S4096x1024_0_1 : Arr F S1x1024 → Arr F S4096x1024),
    binary main_v33 main_v35 main_v36 (mulf : Arr F S4096x1024 → Arr F S4096x1024 → Arr F S4096x1024),
    unary main_arg4 main_v37 (broadcastInDim S1x1024 ![1] bcast_S1024_S1x1024_1 : Arr F S1024 → Arr F S1x1024),
    unary main_v37 main_v38 (broadcastInDim S4096x1024 ![0, 1] bcast_S1x1024_S4096x1024_0_1 : Arr F S1x1024 → Arr F S4096x1024),
    binary main_v36 main_v38 main_v39 (addf : Arr F S4096x1024 → Arr F S4096x1024 → Arr F S4096x1024),
    reshape main_arg5 main_v40 (rfl : (.f32 : EltTy) = .f32) shapeCasts_S4096x1024_S4096x1024,
    nullary main_cst_8 (constant S_ .f32 0x00000000#32),
    binary main_arg5 main_cst_8 main_v41 ((fun x v => Host.reduceAdd x v reducesTo_S4096x1024_S1024_d0 h_S_) : Arr F S4096x1024 → Arr F S_ → Arr F S1024),
    reshape main_v41 main_v42 (rfl : (.f32 : EltTy) = .f32) shapeCasts_S1024_S1x1024,
    nullary main_cst_9 (constant S_ .f32 0x00000000#32),
    binary main_v42 main_cst_9 main_v43 ((fun x v => Host.reduceAdd x v reducesTo_S1x1024_S1024_d0 h_S_) : Arr F S1x1024 → Arr F S_ → Arr F S1024),
    binary main_v33 main_v40 main_v44 (mulf : Arr F S4096x1024 → Arr F S4096x1024 → Arr F S4096x1024),
    nullary main_cst_10 (constant S_ .f32 0x00000000#32),
    binary main_v44 main_cst_10 main_v45 ((fun x v => Host.reduceAdd x v reducesTo_S4096x1024_S1024_d0 h_S_) : Arr F S4096x1024 → Arr F S_ → Arr F S1024),
    reshape main_v45 main_v46 (rfl : (.f32 : EltTy) = .f32) shapeCasts_S1024_S1x1024,
    unary main_v34 main_v47 (broadcastInDim S4096x1024 ![0, 1] bcast_S1x1024_S4096x1024_0_1 : Arr F S1x1024 → Arr F S4096x1024),
    binary main_v40 main_v47 main_v48 (mulf : Arr F S4096x1024 → Arr F S4096x1024 → Arr F S4096x1024),
    nullary main_cst_11 (constant S_ .f32 0x00000000#32),
    binary main_v46 main_cst_11 main_v49 ((fun x v => Host.reduceAdd x v reducesTo_S1x1024_S1024_d0 h_S_) : Arr F S1x1024 → Arr F S_ → Arr F S1024) ]

/-- The stream's gradient. -/
def line3 : List (HloOp τ sig (Elt F)) :=
  [ binary main_v25 main_v48 main_v50 (mulf : Arr F S4096x1024 → Arr F S4096x1024 → Arr F S4096x1024),
    nullary main_cst_12 (constant S_ .f32 0x00000000#32),
    binary main_v50 main_cst_12 main_v51 ((fun x v => Host.reduceAdd x v reducesTo_S4096x1024_S4096_d1 h_S_) : Arr F S4096x1024 → Arr F S_ → Arr F S4096),
    reshape main_v51 main_v52 (rfl : (.f32 : EltTy) = .f32) shapeCasts_S4096_S4096x1,
    unary main_v28 main_v53 (broadcastInDim S4096x1024 ![0, 1] bcast_S4096x1_S4096x1024_0_1 : Arr F S4096x1 → Arr F S4096x1024),
    binary main_v48 main_v53 main_v54 (mulf : Arr F S4096x1024 → Arr F S4096x1024 → Arr F S4096x1024),
    binary main_v52 main_v31 main_v55 (mulf : Arr F S4096x1 → Arr F S4096x1 → Arr F S4096x1),
    unary main_v54 main_v56 (Host.negf : Arr F S4096x1024 → Arr F S4096x1024),
    nullary main_cst_13 (constant S_ .f32 0x00000000#32),
    binary main_v56 main_cst_13 main_v57 ((fun x v => Host.reduceAdd x v reducesTo_S4096x1024_S4096_d1 h_S_) : Arr F S4096x1024 → Arr F S_ → Arr F S4096),
    reshape main_v57 main_v58 (rfl : (.f32 : EltTy) = .f32) shapeCasts_S4096_S4096x1,
    nullary main_cst_14 (constant S_ .f32 0x44800000#32),
    unary main_cst_14 main_v59 (broadcastInDim S4096x1 ![] bcast_S_S4096x1 : Arr F S_ → Arr F S4096x1),
    binary main_v55 main_v59 main_v60 (Host.divf : Arr F S4096x1 → Arr F S4096x1 → Arr F S4096x1),
    nullary main_cst_15 (constant S_ .f32 0x00000000#32),
    binary main_v60 main_cst_15 main_v61 ((fun x v => Host.reduceAdd x v reducesTo_S4096x1_S4096_d1 h_S_) : Arr F S4096x1 → Arr F S_ → Arr F S4096),
    unary main_v61 main_v62 (broadcastInDim S4096x1024 ![0] bcast_S4096_S4096x1024_0 : Arr F S4096 → Arr F S4096x1024),
    binary main_v62 main_v19 main_v63 (mulf : Arr F S4096x1024 → Arr F S4096x1024 → Arr F S4096x1024),
    unary main_v63 main_v64 (Host.negf : Arr F S4096x1024 → Arr F S4096x1024),
    nullary main_cst_16 (constant S_ .f32 0x00000000#32),
    binary main_v64 main_cst_16 main_v65 ((fun x v => Host.reduceAdd x v reducesTo_S4096x1024_S4096_d1 h_S_) : Arr F S4096x1024 → Arr F S_ → Arr F S4096),
    reshape main_v65 main_v66 (rfl : (.f32 : EltTy) = .f32) shapeCasts_S4096_S4096x1,
    binary main_v54 main_v63 main_v67 (addf : Arr F S4096x1024 → Arr F S4096x1024 → Arr F S4096x1024),
    binary main_v58 main_v66 main_v68 (addf : Arr F S4096x1 → Arr F S4096x1 → Arr F S4096x1),
    nullary main_cst_17 (constant S_ .f32 0x44800000#32),
    unary main_cst_17 main_v69 (broadcastInDim S4096x1 ![] bcast_S_S4096x1 : Arr F S_ → Arr F S4096x1),
    binary main_v68 main_v69 main_v70 (Host.divf : Arr F S4096x1 → Arr F S4096x1 → Arr F S4096x1),
    nullary main_cst_18 (constant S_ .f32 0x00000000#32),
    binary main_v70 main_cst_18 main_v71 ((fun x v => Host.reduceAdd x v reducesTo_S4096x1_S4096_d1 h_S_) : Arr F S4096x1 → Arr F S_ → Arr F S4096),
    unary main_v71 main_v72 (broadcastInDim S4096x1024 ![0] bcast_S4096_S4096x1024_0 : Arr F S4096 → Arr F S4096x1024),
    binary main_v67 main_v72 main_v73 (addf : Arr F S4096x1024 → Arr F S4096x1024 → Arr F S4096x1024) ]

/-- The input's gradient. -/
def line4 : List (HloOp τ sig (Elt F)) :=
  [ nullary main_cst_19 (constant S_ .f32 0x3F000000#32),
    unary main_cst_19 main_v74 (broadcastInDim S4096x1024 ![] bcast_S_S4096x1024 : Arr F S_ → Arr F S4096x1024),
    binary main_v74 main_v73 main_v75 (mulf : Arr F S4096x1024 → Arr F S4096x1024 → Arr F S4096x1024),
    binary main_v75 main_arg2 main_v76 ((fun l r => Host.dotGeneral dot_S4096x1024_S2816x1024_S4096x2816_1_1_0_0_n_n none l r) : Arr F S4096x1024 → Arr F S2816x1024 → Arr F S4096x2816),
    binary main_v5_0 main_v76 main_v77 (mulf : Arr F S4096x2816 → Arr F S4096x2816 → Arr F S4096x2816),
    binary main_v76 main_v4 main_v78 (mulf : Arr F S4096x2816 → Arr F S4096x2816 → Arr F S4096x2816),
    TRef.binary (TRef.of (T := ⟨S4096x2816, .f32⟩) main_v3) (TRef.of (T := ⟨S4096x2816, .f32⟩) main_v78) (TRef.of (T := ⟨S4096x2816, .f32⟩) main_call1_v0) mulf,
    TRef.binary (TRef.of (T := ⟨S4096x2816, .f32⟩) main_v78) (TRef.of (T := ⟨S4096x2816, .f32⟩) main_v5_2) (TRef.of (T := ⟨S4096x2816, .f32⟩) main_call1_v1) mulf,
    TRef.binary (TRef.of (T := ⟨S4096x2816, .f32⟩) main_call1_v0) (TRef.of (T := ⟨S4096x2816, .f32⟩) main_v5_1) (TRef.of (T := ⟨S4096x2816, .f32⟩) main_call1_v2) mulf,
    TRef.binary (TRef.of (T := ⟨S4096x2816, .f32⟩) main_call1_v1) (TRef.of (T := ⟨S4096x2816, .f32⟩) main_call1_v2) (TRef.of (T := ⟨S4096x2816, .f32⟩) main_v79) addf,
    binary main_v79 main_v77 main_v80 ((fun a b => concatenate S4096x5632 1 [⟨S4096x2816, a⟩, ⟨S4096x2816, b⟩] concatenates_S4096x2816_S4096x2816_S4096x5632_d1) : Arr F S4096x2816 → Arr F S4096x2816 → Arr F S4096x5632),
    binary main_v80 main_arg1 main_v81 ((fun l r => Host.dotGeneral dot_S4096x5632_S1024x5632_S4096x1024_1_1_0_0_n_n none l r) : Arr F S4096x5632 → Arr F S1024x5632 → Arr F S4096x1024),
    nullary main_cst_20 (constant S_ .f32 0x3FB504F3#32),
    unary main_cst_20 main_v82 (broadcastInDim S4096x1024 ![] bcast_S_S4096x1024 : Arr F S_ → Arr F S4096x1024),
    binary main_v82 main_v73 main_v83 (mulf : Arr F S4096x1024 → Arr F S4096x1024 → Arr F S4096x1024),
    binary main_v81 main_v83 main_v84 (addf : Arr F S4096x1024 → Arr F S4096x1024 → Arr F S4096x1024) ]

def part_a : List (HloOp τ sig (Elt F)) :=
  [ nullary main_cst (constant S_ .f32 0x3FB504F3#32),
    unary main_cst main_v0 (broadcastInDim S4096x1024 ![] bcast_S_S4096x1024 : Arr F S_ → Arr F S4096x1024),
    binary main_v0 main_arg0 main_v1 (mulf : Arr F S4096x1024 → Arr F S4096x1024 → Arr F S4096x1024),
    binary main_arg0 main_arg1 main_v2 ((fun l r => Host.dotGeneral dot_S4096x1024_S1024x5632_S4096x5632_1_0_0_1_n_n none l r) : Arr F S4096x1024 → Arr F S1024x5632 → Arr F S4096x5632),
    unary main_v2 main_v3 ((extractStridedSlice S4096x2816 ![0, 0] · slices_S4096x5632_S4096x2816_0_0) : Arr F S4096x5632 → Arr F S4096x2816),
    unary main_v2 main_v4 ((extractStridedSlice S4096x2816 ![0, 2816] · slices_S4096x5632_S4096x2816_0_2816) : Arr F S4096x5632 → Arr F S4096x2816) ]

def part_b : List (HloOp τ sig (Elt F)) :=
  [ TRef.unary (TRef.of (T := ⟨S4096x2816, .f32⟩) main_v3) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_v5_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x2816, .f32⟩) main_call0_v6) (broadcastInDim S4096x2816 ![] bcast_S_S4096x2816),
    TRef.binary (TRef.of (T := ⟨S4096x2816, .f32⟩) main_call0_v6) (TRef.of (T := ⟨S4096x2816, .f32⟩) main_v5_2) (TRef.of (T := ⟨S4096x2816, .f32⟩) main_call0_v7) subf,
    TRef.binary (TRef.of (T := ⟨S4096x2816, .f32⟩) main_v5_2) (TRef.of (T := ⟨S4096x2816, .f32⟩) main_call0_v7) (TRef.of (T := ⟨S4096x2816, .f32⟩) main_v5_1) mulf,
    TRef.binary (TRef.of (T := ⟨S4096x2816, .f32⟩) main_v3) (TRef.of (T := ⟨S4096x2816, .f32⟩) main_v5_2) (TRef.of (T := ⟨S4096x2816, .f32⟩) main_v5_0) mulf ]

def part_c : List (HloOp τ sig (Elt F)) :=
  [ binary main_v5_0 main_v4 main_v6 (mulf : Arr F S4096x2816 → Arr F S4096x2816 → Arr F S4096x2816),
    binary main_v6 main_arg2 main_v7 ((fun l r => Host.dotGeneral dot_S4096x2816_S2816x1024_S4096x1024_1_0_0_1_n_n none l r) : Arr F S4096x2816 → Arr F S2816x1024 → Arr F S4096x1024),
    nullary main_cst_0 (constant S_ .f32 0x3F000000#32),
    unary main_cst_0 main_v8 (broadcastInDim S4096x1024 ![] bcast_S_S4096x1024 : Arr F S_ → Arr F S4096x1024),
    binary main_v8 main_v7 main_v9 (mulf : Arr F S4096x1024 → Arr F S4096x1024 → Arr F S4096x1024),
    binary main_v1 main_v9 main_v10 (addf : Arr F S4096x1024 → Arr F S4096x1024 → Arr F S4096x1024),
    nullary main_cst_1 (constant S_ .f32 0x00000000#32),
    binary main_v10 main_cst_1 main_v11 ((fun x v => Host.reduceAdd x v reducesTo_S4096x1024_S4096_d1 h_S_) : Arr F S4096x1024 → Arr F S_ → Arr F S4096),
    unary main_v11 main_v12 (broadcastInDim S4096x1 ![0] bcast_S4096_S4096x1_0 : Arr F S4096 → Arr F S4096x1),
    nullary main_cst_2 (constant S_ .f32 0x44800000#32),
    unary main_cst_2 main_v13 (broadcastInDim S4096x1 ![] bcast_S_S4096x1 : Arr F S_ → Arr F S4096x1),
    binary main_v12 main_v13 main_v14 (Host.divf : Arr F S4096x1 → Arr F S4096x1 → Arr F S4096x1),
    unary main_v14 main_v15 (broadcastInDim S4096x1024 ![0, 1] bcast_S4096x1_S4096x1024_0_1 : Arr F S4096x1 → Arr F S4096x1024),
    binary main_v10 main_v15 main_v16 (subf : Arr F S4096x1024 → Arr F S4096x1024 → Arr F S4096x1024),
    binary main_v16 main_v16 main_v17 (mulf : Arr F S4096x1024 → Arr F S4096x1024 → Arr F S4096x1024),
    nullary main_cst_3 (constant S_ .f32 0x40000000#32),
    unary main_cst_3 main_v18 (broadcastInDim S4096x1024 ![] bcast_S_S4096x1024 : Arr F S_ → Arr F S4096x1024),
    binary main_v18 main_v16 main_v19 (mulf : Arr F S4096x1024 → Arr F S4096x1024 → Arr F S4096x1024),
    nullary main_cst_4 (constant S_ .f32 0x00000000#32),
    binary main_v17 main_cst_4 main_v20 ((fun x v => Host.reduceAdd x v reducesTo_S4096x1024_S4096_d1 h_S_) : Arr F S4096x1024 → Arr F S_ → Arr F S4096),
    unary main_v20 main_v21 (broadcastInDim S4096x1 ![0] bcast_S4096_S4096x1_0 : Arr F S4096 → Arr F S4096x1),
    nullary main_cst_5 (constant S_ .f32 0x44800000#32),
    unary main_cst_5 main_v22 (broadcastInDim S4096x1 ![] bcast_S_S4096x1 : Arr F S_ → Arr F S4096x1),
    binary main_v21 main_v22 main_v23 (Host.divf : Arr F S4096x1 → Arr F S4096x1 → Arr F S4096x1),
    unary main_v14 main_v24 (broadcastInDim S4096x1024 ![0, 1] bcast_S4096x1_S4096x1024_0_1 : Arr F S4096x1 → Arr F S4096x1024),
    binary main_v10 main_v24 main_v25 (subf : Arr F S4096x1024 → Arr F S4096x1024 → Arr F S4096x1024),
    nullary main_cst_6 (constant S_ .f32 0x3727C5AC#32),
    unary main_cst_6 main_v26 (broadcastInDim S4096x1 ![] bcast_S_S4096x1 : Arr F S_ → Arr F S4096x1),
    binary main_v23 main_v26 main_v27 (addf : Arr F S4096x1 → Arr F S4096x1 → Arr F S4096x1),
    unary main_v27 main_v28 (Host.rsqrt : Arr F S4096x1 → Arr F S4096x1),
    binary main_v28 main_v27 main_v29 (Host.divf : Arr F S4096x1 → Arr F S4096x1 → Arr F S4096x1),
    nullary main_cst_7 (constant S_ .f32 0xBF000000#32),
    unary main_cst_7 main_v30 (broadcastInDim S4096x1 ![] bcast_S_S4096x1 : Arr F S_ → Arr F S4096x1),
    binary main_v30 main_v29 main_v31 (mulf : Arr F S4096x1 → Arr F S4096x1 → Arr F S4096x1),
    unary main_v28 main_v32 (broadcastInDim S4096x1024 ![0, 1] bcast_S4096x1_S4096x1024_0_1 : Arr F S4096x1 → Arr F S4096x1024),
    binary main_v25 main_v32 main_v33 (mulf : Arr F S4096x1024 → Arr F S4096x1024 → Arr F S4096x1024),
    unary main_arg3 main_v34 (broadcastInDim S1x1024 ![1] bcast_S1024_S1x1024_1 : Arr F S1024 → Arr F S1x1024),
    unary main_v34 main_v35 (broadcastInDim S4096x1024 ![0, 1] bcast_S1x1024_S4096x1024_0_1 : Arr F S1x1024 → Arr F S4096x1024),
    binary main_v33 main_v35 main_v36 (mulf : Arr F S4096x1024 → Arr F S4096x1024 → Arr F S4096x1024),
    unary main_arg4 main_v37 (broadcastInDim S1x1024 ![1] bcast_S1024_S1x1024_1 : Arr F S1024 → Arr F S1x1024),
    unary main_v37 main_v38 (broadcastInDim S4096x1024 ![0, 1] bcast_S1x1024_S4096x1024_0_1 : Arr F S1x1024 → Arr F S4096x1024),
    binary main_v36 main_v38 main_v39 (addf : Arr F S4096x1024 → Arr F S4096x1024 → Arr F S4096x1024),
    reshape main_arg5 main_v40 (rfl : (.f32 : EltTy) = .f32) shapeCasts_S4096x1024_S4096x1024,
    nullary main_cst_8 (constant S_ .f32 0x00000000#32),
    binary main_arg5 main_cst_8 main_v41 ((fun x v => Host.reduceAdd x v reducesTo_S4096x1024_S1024_d0 h_S_) : Arr F S4096x1024 → Arr F S_ → Arr F S1024),
    reshape main_v41 main_v42 (rfl : (.f32 : EltTy) = .f32) shapeCasts_S1024_S1x1024,
    nullary main_cst_9 (constant S_ .f32 0x00000000#32),
    binary main_v42 main_cst_9 main_v43 ((fun x v => Host.reduceAdd x v reducesTo_S1x1024_S1024_d0 h_S_) : Arr F S1x1024 → Arr F S_ → Arr F S1024),
    binary main_v33 main_v40 main_v44 (mulf : Arr F S4096x1024 → Arr F S4096x1024 → Arr F S4096x1024),
    nullary main_cst_10 (constant S_ .f32 0x00000000#32),
    binary main_v44 main_cst_10 main_v45 ((fun x v => Host.reduceAdd x v reducesTo_S4096x1024_S1024_d0 h_S_) : Arr F S4096x1024 → Arr F S_ → Arr F S1024),
    reshape main_v45 main_v46 (rfl : (.f32 : EltTy) = .f32) shapeCasts_S1024_S1x1024,
    unary main_v34 main_v47 (broadcastInDim S4096x1024 ![0, 1] bcast_S1x1024_S4096x1024_0_1 : Arr F S1x1024 → Arr F S4096x1024) ]

def part_d : List (HloOp τ sig (Elt F)) :=
  [ binary main_v40 main_v47 main_v48 (mulf : Arr F S4096x1024 → Arr F S4096x1024 → Arr F S4096x1024),
    nullary main_cst_11 (constant S_ .f32 0x00000000#32),
    binary main_v46 main_cst_11 main_v49 ((fun x v => Host.reduceAdd x v reducesTo_S1x1024_S1024_d0 h_S_) : Arr F S1x1024 → Arr F S_ → Arr F S1024),
    binary main_v25 main_v48 main_v50 (mulf : Arr F S4096x1024 → Arr F S4096x1024 → Arr F S4096x1024),
    nullary main_cst_12 (constant S_ .f32 0x00000000#32),
    binary main_v50 main_cst_12 main_v51 ((fun x v => Host.reduceAdd x v reducesTo_S4096x1024_S4096_d1 h_S_) : Arr F S4096x1024 → Arr F S_ → Arr F S4096),
    reshape main_v51 main_v52 (rfl : (.f32 : EltTy) = .f32) shapeCasts_S4096_S4096x1,
    unary main_v28 main_v53 (broadcastInDim S4096x1024 ![0, 1] bcast_S4096x1_S4096x1024_0_1 : Arr F S4096x1 → Arr F S4096x1024),
    binary main_v48 main_v53 main_v54 (mulf : Arr F S4096x1024 → Arr F S4096x1024 → Arr F S4096x1024),
    binary main_v52 main_v31 main_v55 (mulf : Arr F S4096x1 → Arr F S4096x1 → Arr F S4096x1),
    unary main_v54 main_v56 (Host.negf : Arr F S4096x1024 → Arr F S4096x1024),
    nullary main_cst_13 (constant S_ .f32 0x00000000#32),
    binary main_v56 main_cst_13 main_v57 ((fun x v => Host.reduceAdd x v reducesTo_S4096x1024_S4096_d1 h_S_) : Arr F S4096x1024 → Arr F S_ → Arr F S4096),
    reshape main_v57 main_v58 (rfl : (.f32 : EltTy) = .f32) shapeCasts_S4096_S4096x1,
    nullary main_cst_14 (constant S_ .f32 0x44800000#32),
    unary main_cst_14 main_v59 (broadcastInDim S4096x1 ![] bcast_S_S4096x1 : Arr F S_ → Arr F S4096x1),
    binary main_v55 main_v59 main_v60 (Host.divf : Arr F S4096x1 → Arr F S4096x1 → Arr F S4096x1),
    nullary main_cst_15 (constant S_ .f32 0x00000000#32),
    binary main_v60 main_cst_15 main_v61 ((fun x v => Host.reduceAdd x v reducesTo_S4096x1_S4096_d1 h_S_) : Arr F S4096x1 → Arr F S_ → Arr F S4096),
    unary main_v61 main_v62 (broadcastInDim S4096x1024 ![0] bcast_S4096_S4096x1024_0 : Arr F S4096 → Arr F S4096x1024),
    binary main_v62 main_v19 main_v63 (mulf : Arr F S4096x1024 → Arr F S4096x1024 → Arr F S4096x1024),
    unary main_v63 main_v64 (Host.negf : Arr F S4096x1024 → Arr F S4096x1024),
    nullary main_cst_16 (constant S_ .f32 0x00000000#32),
    binary main_v64 main_cst_16 main_v65 ((fun x v => Host.reduceAdd x v reducesTo_S4096x1024_S4096_d1 h_S_) : Arr F S4096x1024 → Arr F S_ → Arr F S4096),
    reshape main_v65 main_v66 (rfl : (.f32 : EltTy) = .f32) shapeCasts_S4096_S4096x1,
    binary main_v54 main_v63 main_v67 (addf : Arr F S4096x1024 → Arr F S4096x1024 → Arr F S4096x1024),
    binary main_v58 main_v66 main_v68 (addf : Arr F S4096x1 → Arr F S4096x1 → Arr F S4096x1),
    nullary main_cst_17 (constant S_ .f32 0x44800000#32),
    unary main_cst_17 main_v69 (broadcastInDim S4096x1 ![] bcast_S_S4096x1 : Arr F S_ → Arr F S4096x1),
    binary main_v68 main_v69 main_v70 (Host.divf : Arr F S4096x1 → Arr F S4096x1 → Arr F S4096x1),
    nullary main_cst_18 (constant S_ .f32 0x00000000#32),
    binary main_v70 main_cst_18 main_v71 ((fun x v => Host.reduceAdd x v reducesTo_S4096x1_S4096_d1 h_S_) : Arr F S4096x1 → Arr F S_ → Arr F S4096),
    unary main_v71 main_v72 (broadcastInDim S4096x1024 ![0] bcast_S4096_S4096x1024_0 : Arr F S4096 → Arr F S4096x1024),
    binary main_v67 main_v72 main_v73 (addf : Arr F S4096x1024 → Arr F S4096x1024 → Arr F S4096x1024),
    nullary main_cst_19 (constant S_ .f32 0x3F000000#32),
    unary main_cst_19 main_v74 (broadcastInDim S4096x1024 ![] bcast_S_S4096x1024 : Arr F S_ → Arr F S4096x1024),
    binary main_v74 main_v73 main_v75 (mulf : Arr F S4096x1024 → Arr F S4096x1024 → Arr F S4096x1024),
    binary main_v75 main_arg2 main_v76 ((fun l r => Host.dotGeneral dot_S4096x1024_S2816x1024_S4096x2816_1_1_0_0_n_n none l r) : Arr F S4096x1024 → Arr F S2816x1024 → Arr F S4096x2816),
    binary main_v5_0 main_v76 main_v77 (mulf : Arr F S4096x2816 → Arr F S4096x2816 → Arr F S4096x2816),
    binary main_v76 main_v4 main_v78 (mulf : Arr F S4096x2816 → Arr F S4096x2816 → Arr F S4096x2816) ]

def part_e : List (HloOp τ sig (Elt F)) :=
  [ TRef.binary (TRef.of (T := ⟨S4096x2816, .f32⟩) main_v3) (TRef.of (T := ⟨S4096x2816, .f32⟩) main_v78) (TRef.of (T := ⟨S4096x2816, .f32⟩) main_call1_v0) mulf,
    TRef.binary (TRef.of (T := ⟨S4096x2816, .f32⟩) main_v78) (TRef.of (T := ⟨S4096x2816, .f32⟩) main_v5_2) (TRef.of (T := ⟨S4096x2816, .f32⟩) main_call1_v1) mulf,
    TRef.binary (TRef.of (T := ⟨S4096x2816, .f32⟩) main_call1_v0) (TRef.of (T := ⟨S4096x2816, .f32⟩) main_v5_1) (TRef.of (T := ⟨S4096x2816, .f32⟩) main_call1_v2) mulf,
    TRef.binary (TRef.of (T := ⟨S4096x2816, .f32⟩) main_call1_v1) (TRef.of (T := ⟨S4096x2816, .f32⟩) main_call1_v2) (TRef.of (T := ⟨S4096x2816, .f32⟩) main_v79) addf ]

def part_f : List (HloOp τ sig (Elt F)) :=
  [ binary main_v79 main_v77 main_v80 ((fun a b => concatenate S4096x5632 1 [⟨S4096x2816, a⟩, ⟨S4096x2816, b⟩] concatenates_S4096x2816_S4096x2816_S4096x5632_d1) : Arr F S4096x2816 → Arr F S4096x2816 → Arr F S4096x5632),
    binary main_v80 main_arg1 main_v81 ((fun l r => Host.dotGeneral dot_S4096x5632_S1024x5632_S4096x1024_1_1_0_0_n_n none l r) : Arr F S4096x5632 → Arr F S1024x5632 → Arr F S4096x1024),
    nullary main_cst_20 (constant S_ .f32 0x3FB504F3#32),
    unary main_cst_20 main_v82 (broadcastInDim S4096x1024 ![] bcast_S_S4096x1024 : Arr F S_ → Arr F S4096x1024),
    binary main_v82 main_v73 main_v83 (mulf : Arr F S4096x1024 → Arr F S4096x1024 → Arr F S4096x1024),
    binary main_v81 main_v83 main_v84 (addf : Arr F S4096x1024 → Arr F S4096x1024 → Arr F S4096x1024) ]

/-- The whole line. -/
def line : List (HloOp τ sig (Elt F)) := line0 ++ (line1 ++ (line2 ++ (line3 ++ line4)))

theorem first_half (c : Dev nD) : main_part0 (F := F) c = (Pipeline.chainK [ StableHlo.seq part_a, StableHlo.seq part_b ] (StableHlo.seq part_c) : Prog (TpuEff nD τ sig (Elt F) (Pipeline.Sig Λ₀ (Fin 0) fun p => (pcfgs (F := F) p).Adm) .tc) PUnit) := by
  rewrite [StableHlo.chainK_seq_cons, Pipeline.chainK_cons]
  chain_rfl
theorem second_half (c : Dev nD) : main_part1 (F := F) c = (Pipeline.chain [ StableHlo.seq part_d, StableHlo.seq part_e, StableHlo.seq part_f ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons]
  chain_rfl
theorem line_parts : (line : List (HloOp τ sig (Elt F))) = part_a ++ (part_b ++ (part_c ++ (part_d ++ (part_e ++ part_f)))) := rfl
theorem main_line (c : Dev nD) : main (F := F) c = seq line := by
  show (main_part0 (F := F) c >>= fun _ => main_part1 (F := F) c) = _
  rw [second_half, first_half, Pipeline.chainK_bind_chain, line_parts]
  simp only [List.cons_append, List.nil_append, Pipeline.chain_cons, seq_append]
  rw [show (Pipeline.chain [] : Prog (TpuEff nD τ sig (Elt F) (Pipeline.Sig Λ₀ (Fin 0) fun p => (pcfgs (F := F) p).Adm) .tc) PUnit) = pure ⟨⟩ from rfl, bind_pure_unit]

theorem no_refs : (Finset.univ.filter fun b : Ref sig .tc => b.isScoped) = ∅ := by decide
theorem no_sems : (Finset.univ.filter fun s : SemLoc sig => s.isScoped .tc) = ∅ := by decide
theorem line_sub : (line (F := Ideal)).Forall fun op => op.bufs ⊆ tcRefs τ sig :=
  ⟨nullary_bufs_sub .., unary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., reshape_bufs_sub .., nullary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., unary_bufs_sub .., nullary_bufs_sub .., binary_bufs_sub .., reshape_bufs_sub .., nullary_bufs_sub .., unary_bufs_sub .., binary_bufs_sub .., nullary_bufs_sub .., binary_bufs_sub .., unary_bufs_sub .., binary_bufs_sub .., unary_bufs_sub .., nullary_bufs_sub .., binary_bufs_sub .., reshape_bufs_sub .., binary_bufs_sub .., binary_bufs_sub .., nullary_bufs_sub .., unary_bufs_sub .., binary_bufs_sub .., nullary_bufs_sub .., binary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub ..⟩

end Cert.Reference5Ideal.Ffn
-- ==== Proof.FfnGrad.lean ====
module

public import Mathlib.Tactic.Abel
public import Mathlib.Tactic.FieldSimp
public import Mathlib.Tactic.LinearCombination
public import proofs.«01_k».proof.Proof.Ffn

/-!
# The gradient of a normalised row, two ways

The gradient of the normalisation at a row, as one formula and as the chain of its steps; where the row and what comes
back are real the two agree, and are real.
-/

@[expose] public section

set_option maxRecDepth 16384

noncomputable section

namespace Cert.Ffn

open Idealize.ShloMosaic Finset

def one : EReal := Ideal.ofBits .f32 0x3F800000#32
def two : EReal := Ideal.ofBits .f32 0x40000000#32
def mhalf : EReal := Ideal.ofBits .f32 0xBF000000#32

/-- The reciprocal of a row's deviation. -/
def rs (v : Fin 1024 → EReal) : EReal := Ideal.rsqrt (var v + ε)
/-- The row's gradient, as one formula: `t` is what comes back, scaled. -/
def back (v t : Fin 1024 → EReal) (l : Fin 1024) : EReal :=
  rs v * (t l - mean t - unit v l * mean fun k => t k * unit v k)
/-- The variance's part of the gradient. -/
def pull (v t : Fin 1024 → EReal) : EReal :=
  Ideal.div ((∑ l, (v l - mean v) * t l) * (mhalf * Ideal.div (rs v) (var v + ε))) width
/-- What reaches the row's entry past the mean. -/
def direct (v t : Fin 1024 → EReal) (l : Fin 1024) : EReal := t l * rs v
def bent (v t : Fin 1024 → EReal) (l : Fin 1024) : EReal := pull v t * (two * (v l - mean v))
/-- The row's gradient, step by step. -/
def steps (v t : Fin 1024 → EReal) (l : Fin 1024) : EReal :=
  direct v t l + bent v t l + Ideal.div ((∑ k, -direct v t k) + ∑ k, -bent v t k) width

/-! ## The constants -/

theorem one_eq : one = ((1 : ℝ) : EReal) := by
  simp [one, Ideal.ofBits, Ideal.ieee, -EReal.coe_mul]
  norm_num
theorem two_eq : two = ((2 : ℝ) : EReal) := by
  simp [two, Ideal.ofBits, Ideal.ieee, -EReal.coe_mul]
  norm_num
theorem half_eq : half = ((1 / 2 : ℝ) : EReal) := by
  simp [half, Ideal.ofBits, Ideal.ieee, -EReal.coe_mul]
  norm_num
theorem mhalf_eq : mhalf = ((-(1 / 2) : ℝ) : EReal) := by
  simp [mhalf, Ideal.ofBits, Ideal.ieee, -EReal.coe_mul]
  norm_num
theorem width_eq : width = ((1024 : ℝ) : EReal) := by
  simp [width, Ideal.ofBits, Ideal.ieee, -EReal.coe_mul]
  norm_num
theorem α_real : ∃ a : ℝ, α = (a : EReal) := by
  refine ⟨11863283 * (2 ^ 23)⁻¹, ?_⟩
  simp [α, Ideal.ofBits, Ideal.ieee, -EReal.coe_mul]
theorem ε_real : ∃ e : ℝ, 0 < e ∧ ε = (e : EReal) := by
  refine ⟨10995116 * (2 ^ 40)⁻¹, by positivity, ?_⟩
  simp [ε, Ideal.ofBits, Ideal.ieee, -EReal.coe_mul]

/-! ## Sums and means of reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_width (a : ℝ) : Ideal.div (a : EReal) width = ((a / 1024 : ℝ) : EReal) := by
  rw [width_eq]
  unfold Ideal.div
  rw [if_neg (by norm_num), ← EReal.coe_inv, ← EReal.coe_mul, div_eq_mul_inv]

theorem div_pos_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

def meanR (v : Fin 1024 → ℝ) : ℝ := (∑ l, v l) / 1024
def varR (v : Fin 1024 → ℝ) : ℝ := (∑ l, (v l - meanR v) * (v l - meanR v)) / 1024

theorem mean_coe (v : Fin 1024 → ℝ) : mean (fun l => (v l : EReal)) = ((meanR v : ℝ) : EReal) := by
  unfold mean
  rw [coe_sum, div_width]
  rfl
theorem var_coe (v : Fin 1024 → ℝ) : var (fun l => (v l : EReal)) = ((varR v : ℝ) : EReal) := by
  unfold var
  rw [mean_coe]
  simp only [← EReal.coe_sub, ← EReal.coe_mul]
  rw [coe_sum, div_width]
  rfl
theorem varR_nonneg (v : Fin 1024 → ℝ) : 0 ≤ varR v :=
  div_nonneg (Finset.sum_nonneg fun l _ => mul_self_nonneg _) (by norm_num)

theorem rsqrt_pos (σ : ℝ) (h : 0 < σ) : Ideal.rsqrt (σ : EReal) = (((Real.sqrt σ)⁻¹ : ℝ) : EReal) := by
  show (if σ < 0 then (⊥ : EReal) else if σ = 0 then ⊤ else (((Real.sqrt σ)⁻¹ : ℝ) : EReal)) = _
  rw [if_neg (not_lt.mpr h.le), if_neg h.ne']

/-- The row's gradient over the reals. -/
def backR (v t : Fin 1024 → ℝ) (R : ℝ) (l : Fin 1024) : ℝ :=
  R * (t l - meanR t - (v l - meanR v) * R * meanR fun k => t k * ((v k - meanR v) * R))

theorem sum_centred (v : Fin 1024 → ℝ) : ∑ l, (v l - meanR v) = 0 := by
  rw [Finset.sum_sub_distrib]
  simp [meanR]
  ring

/-- Step by step the row's gradient is the formula, and a real. -/
theorem grad_real (v t : Fin 1024 → ℝ) : ∃ f : Fin 1024 → ℝ,
    (∀ l, back (fun k => (v k : EReal)) (fun k => (t k : EReal)) l = ((f l : ℝ) : EReal))
    ∧ ∀ l, steps (fun k => (v k : EReal)) (fun k => (t k : EReal)) l = ((f l : ℝ) : EReal) := by
  obtain ⟨e, he, hε⟩ := ε_real
  have hσ : 0 < varR v + e := add_pos_of_nonneg_of_pos (varR_nonneg v) he
  set σ := varR v + e with hs
  have hvar : var (fun l => (v l : EReal)) + ε = ((σ : ℝ) : EReal) := by rw [var_coe, hε, ← EReal.coe_add]
  set R := (Real.sqrt σ)⁻¹ with hR
  have hrs : rs (fun l => (v l : EReal)) = ((R : ℝ) : EReal) := by unfold rs; rw [hvar, rsqrt_pos σ hσ]
  have hRR : R / σ = R * R * R := by
    have h1 : R * R = σ⁻¹ := by rw [hR, ← mul_inv, Real.mul_self_sqrt hσ.le]
    rw [h1, div_eq_mul_inv, mul_comm]
  have hunit : ∀ l, unit (fun l => (v l : EReal)) l = (((v l - meanR v) * R : ℝ) : EReal) := fun l => by
    have := hrs
    unfold rs at this
    unfold unit
    rw [this, mean_coe, ← EReal.coe_sub, ← EReal.coe_mul]
  refine ⟨backR v t R, fun l => ?_, fun l => ?_⟩
  · unfold back
    simp only [hunit, hrs, ← EReal.coe_mul, mean_coe, ← EReal.coe_sub]
    rfl
  · have hpull : pull (fun l => (v l : EReal)) (fun k => (t k : EReal)) = (((∑ l, (v l - meanR v) * t l) * (-(1 / 2) * (R * R * R)) / 1024 : ℝ) : EReal) := by
      unfold pull
      rw [hvar, hrs, div_pos_real _ _ hσ, hRR, mhalf_eq, mean_coe]
      simp only [← EReal.coe_mul, ← EReal.coe_sub, coe_sum]
      rw [div_width]
    unfold steps direct bent
    rw [hpull, hrs, two_eq, mean_coe]
    simp only [← EReal.coe_mul, ← EReal.coe_sub, ← EReal.coe_neg, coe_sum, ← EReal.coe_add, div_width]
    refine congrArg (fun z : ℝ => (z : EReal)) ?_
    have h1 : ∑ k, -(t k * R) = -(∑ k, t k) * R := by
      rw [Finset.sum_neg_distrib, ← Finset.sum_mul]; ring
    have h2 : ∀ q : ℝ, ∑ k, -(q * (2 * (v k - meanR v))) = 0 := fun q => by
      rw [Finset.sum_neg_distrib, ← Finset.mul_sum, ← Finset.mul_sum, sum_centred]; ring
    have h3 : ∑ k, t k * ((v k - meanR v) * R) = (∑ k, (v k - meanR v) * t k) * R := by
      rw [Finset.sum_mul]
      exact Finset.sum_congr rfl fun k _ => by ring
    rw [h1, h2]
    unfold backR
    rw [show (meanR fun k => t k * ((v k - meanR v) * R)) = (∑ k, (v k - meanR v) * t k) * R / 1024 by unfold meanR at *; rw [← h3], show meanR t = (∑ k, t k) / 1024 from rfl]
    ring

end Cert.Ffn
-- ==== Proof.FfnBwdRef.lean ====
module

public import proofs.«01_k».proof.Proof.FfnBwdLine
public import proofs.«01_k».proof.Proof.FfnGrad

/-!
# What the reference of the sublayer's backward call computes

Its line of host operations read back in the stretches it was cut into, and every value at an index.
-/

@[expose] public section

set_option maxRecDepth 16384

noncomputable section

namespace Cert.Reference5Ideal.Ffn

open Idealize.ShloMosaic Idealize.ShloMosaic.TcCoe Idealize.ShloMosaic.StableHlo Idealize.SL.Sem Finset
open Cert.Reference5Ideal Cert.Reference5Ideal.Gen Cert.Ffn

/-! ## The values, as the host writes them -/

abbrev Product := FVec Ideal S4096x5632 .f32

def product (x : Rows) (w : Up) : Product :=
  Host.dotGeneral (F := Ideal) (φ₁ := .f32) (φ₂ := .f32) dot_S4096x1024_S1024x5632_S4096x5632_1_0_0_1_n_n none x w
def hostGate (x : Rows) (w : Up) : Hidden := extractStridedSlice S4096x2816 ![0, 0] (product x w) slices_S4096x5632_S4096x2816_0_0
def hostUp (x : Rows) (w : Up) : Hidden := extractStridedSlice S4096x2816 ![0, 2816] (product x w) slices_S4096x5632_S4096x2816_0_2816
def ones : Hidden := broadcastInDim S4096x2816 ![] bcast_S_S4096x2816 (constant (F := Ideal) S_ .f32 0x3F800000#32)
def hostAct (g u : Hidden) : Hidden := mulf (mulf g (Host.divf ones (addf ones (Host.exp (Host.negf g))))) u
def hostRes (x : Rows) (a : Hidden) (d : Down) : Rows :=
  addf (mulf (broadcastInDim S4096x1024 ![] bcast_S_S4096x1024 (constant (F := Ideal) S_ .f32 0x3FB504F3#32)) x)
    (mulf (broadcastInDim S4096x1024 ![] bcast_S_S4096x1024 (constant (F := Ideal) S_ .f32 0x3F000000#32))
      (Host.dotGeneral (F := Ideal) (φ₁ := .f32) (φ₂ := .f32) dot_S4096x2816_S2816x1024_S4096x1024_1_0_0_1_n_n none a d))

abbrev Col := FVec Ideal S4096x1 .f32
def rowMean (v : Rows) : Col :=
  Host.divf (broadcastInDim S4096x1 ![0] bcast_S4096_S4096x1_0 (Host.reduceAdd v (constant (F := Ideal) S_ .f32 0x00000000#32) reducesTo_S4096x1024_S4096_d1 h_S_))
    (broadcastInDim S4096x1 ![] bcast_S_S4096x1 (constant (F := Ideal) S_ .f32 0x44800000#32))
def centred (v : Rows) : Rows := subf v (broadcastInDim S4096x1024 ![0, 1] bcast_S4096x1_S4096x1024_0_1 (rowMean v))
def scale (v : Rows) : Col :=
  Host.rsqrt (addf (rowMean (mulf (centred v) (centred v))) (broadcastInDim S4096x1 ![] bcast_S_S4096x1 (constant (F := Ideal) S_ .f32 0x3727C5AC#32)))
def lanes (γ : Lane) : Rows := broadcastInDim S4096x1024 ![0, 1] bcast_S1x1024_S4096x1024_0_1 (broadcastInDim S1x1024 ![1] bcast_S1024_S1x1024_1 γ)

/-- The gate's logistic function, and its derivative. -/
def sgm (g : Hidden) : Hidden := Host.divf ones (addf ones (Host.exp (Host.negf g)))
def sgm' (g : Hidden) : Hidden := mulf (sgm g) (subf ones (sgm g))
/-- The variance kept off zero. -/
def stab (v : Rows) : Col :=
  addf (rowMean (mulf (centred v) (centred v))) (broadcastInDim S4096x1 ![] bcast_S_S4096x1 (constant (F := Ideal) S_ .f32 0x3727C5AC#32))
def bend (v : Rows) : Col :=
  mulf (broadcastInDim S4096x1 ![] bcast_S_S4096x1 (constant (F := Ideal) S_ .f32 0xBF000000#32)) (Host.divf (scale v) (stab v))
def twice (v : Rows) : Rows := mulf (broadcastInDim S4096x1024 ![] bcast_S_S4096x1024 (constant (F := Ideal) S_ .f32 0x40000000#32)) (centred v)
def units (v : Rows) : Rows := mulf (centred v) (broadcastInDim S4096x1024 ![0, 1] bcast_S4096x1_S4096x1024_0_1 (scale v))
/-- What comes back, as the reference takes it. -/
def seen (d : Rows) : Rows := shapeCast _ d shapeCasts_S4096x1024_S4096x1024
/-- The sum over all rows. -/
def total (d : Rows) : Lane :=
  Host.reduceAdd (F := Ideal) (φ := .f32) (shapeCast S1x1024 (Host.reduceAdd (F := Ideal) (φ := .f32) d (constant (F := Ideal) S_ .f32 0x00000000#32) reducesTo_S4096x1024_S1024_d0 h_S_) shapeCasts_S1024_S1x1024)
    (constant (F := Ideal) S_ .f32 0x00000000#32) reducesTo_S1x1024_S1024_d0 h_S_
/-- The sum over a row. -/
def rowSum (d : Rows) : Col :=
  shapeCast S4096x1 (Host.reduceAdd (F := Ideal) (φ := .f32) d (constant (F := Ideal) S_ .f32 0x00000000#32) reducesTo_S4096x1024_S4096_d1 h_S_) shapeCasts_S4096_S4096x1
/-- A column over the width, spread over the rows' entries. -/
def spread (e : Col) : Rows :=
  broadcastInDim S4096x1024 ![0] bcast_S4096_S4096x1024_0 (Host.reduceAdd (F := Ideal) (φ := .f32)
    (Host.divf e (broadcastInDim S4096x1 ![] bcast_S_S4096x1 (constant (F := Ideal) S_ .f32 0x44800000#32)))
    (constant (F := Ideal) S_ .f32 0x00000000#32) reducesTo_S4096x1_S4096_d1 h_S_)
def hostDirect (s : Col) (t : Rows) : Rows := mulf t (broadcastInDim S4096x1024 ![0, 1] bcast_S4096x1_S4096x1024_0_1 s)
def hostBent (q : Rows) (b : Col) (z t : Rows) : Rows := mulf (spread (mulf (rowSum (mulf q t)) b)) z
/-- The stream's gradient: of the centred rows, their scale, the variance's factor, twice the centred rows, and what comes back. -/
def hostStream (q : Rows) (s b : Col) (z t : Rows) : Rows :=
  addf (addf (hostDirect s t) (hostBent q b z t))
    (spread (addf (rowSum (Host.negf (hostDirect s t))) (rowSum (Host.negf (hostBent q b z t)))))
/-- The activation's gradient. -/
def hostDown (r : Rows) (d : Down) : Hidden :=
  Host.dotGeneral (F := Ideal) (φ₁ := .f32) (φ₂ := .f32) dot_S4096x1024_S2816x1024_S4096x2816_1_1_0_0_n_n none
    (mulf (broadcastInDim S4096x1024 ![] bcast_S_S4096x1024 (constant (F := Ideal) S_ .f32 0x3F000000#32)) r) d
def hostPair (s s' σ g u a : Hidden) : Product :=
  concatenate S4096x5632 1 [⟨S4096x2816, (addf (mulf (mulf a u) σ) (mulf (mulf g (mulf a u)) s') : Hidden)⟩, ⟨S4096x2816, (mulf s a : Hidden)⟩] concatenates_S4096x2816_S4096x2816_S4096x5632_d1
def hostIn (p : Product) (w : Up) (r : Rows) : Rows :=
  addf (Host.dotGeneral (F := Ideal) (φ₁ := .f32) (φ₂ := .f32) dot_S4096x5632_S1024x5632_S4096x1024_1_1_0_0_n_n none p w)
    (mulf (broadcastInDim S4096x1024 ![] bcast_S_S4096x1024 (constant (F := Ideal) S_ .f32 0x3FB504F3#32)) r)

/-! ## Reading the line back -/

variable (W : Valuation τ sig (Elt Ideal))

theorem at0_v3 : after (line0 (F := Ideal)) W (Proc.devRef .tc main_v3) = (hostGate (W (Proc.devRef .tc main_arg0)) (W (Proc.devRef .tc main_arg1)) : Hidden) := by
  unfold line0
  after_results <;> rfl
theorem at0_v4 : after (line0 (F := Ideal)) W (Proc.devRef .tc main_v4) = (hostUp (W (Proc.devRef .tc main_arg0)) (W (Proc.devRef .tc main_arg1)) : Hidden) := by
  unfold line0
  after_results <;> rfl
theorem at0_v5_0 : after (line0 (F := Ideal)) W (Proc.devRef .tc main_v5_0) = (mulf (hostGate (W (Proc.devRef .tc main_arg0)) (W (Proc.devRef .tc main_arg1))) (sgm (hostGate (W (Proc.devRef .tc main_arg0)) (W (Proc.devRef .tc main_arg1)))) : Hidden) := by
  unfold line0
  after_results <;> rfl
theorem at0_v5_1 : after (line0 (F := Ideal)) W (Proc.devRef .tc main_v5_1) = (sgm' (hostGate (W (Proc.devRef .tc main_arg0)) (W (Proc.devRef .tc main_arg1))) : Hidden) := by
  unfold line0
  after_results <;> rfl
theorem at0_v5_2 : after (line0 (F := Ideal)) W (Proc.devRef .tc main_v5_2) = (sgm (hostGate (W (Proc.devRef .tc main_arg0)) (W (Proc.devRef .tc main_arg1))) : Hidden) := by
  unfold line0
  after_results <;> rfl
theorem at0_v10 : after (line0 (F := Ideal)) W (Proc.devRef .tc main_v10) = (hostRes (W (Proc.devRef .tc main_arg0)) (hostAct (hostGate (W (Proc.devRef .tc main_arg0)) (W (Proc.devRef .tc main_arg1))) (hostUp (W (Proc.devRef .tc main_arg0)) (W (Proc.devRef .tc main_arg1)))) (W (Proc.devRef .tc main_arg2)) : Rows) := by
  unfold line0
  after_results <;> rfl
theorem at1_v19 : after (line1 (F := Ideal)) W (Proc.devRef .tc main_v19) = (twice (W (Proc.devRef .tc main_v10)) : Rows) := by
  unfold line1
  after_results <;> rfl
theorem at1_v25 : after (line1 (F := Ideal)) W (Proc.devRef .tc main_v25) = (centred (W (Proc.devRef .tc main_v10)) : Rows) := by
  unfold line1
  after_results <;> rfl
theorem at1_v28 : after (line1 (F := Ideal)) W (Proc.devRef .tc main_v28) = (scale (W (Proc.devRef .tc main_v10)) : Col) := by
  unfold line1
  after_results <;> rfl
theorem at1_v31 : after (line1 (F := Ideal)) W (Proc.devRef .tc main_v31) = (bend (W (Proc.devRef .tc main_v10)) : Col) := by
  unfold line1
  after_results
  unfold bend stab scale centred rowMean
  rfl
theorem at1_v33 : after (line1 (F := Ideal)) W (Proc.devRef .tc main_v33) = (units (W (Proc.devRef .tc main_v10)) : Rows) := by
  unfold line1
  after_results <;> rfl
theorem at2_v43 : after (line2 (F := Ideal)) W (Proc.devRef .tc main_v43) = (total (W (Proc.devRef .tc main_arg5)) : Lane) := by
  unfold line2
  after_results <;> rfl
theorem at2_v49 : after (line2 (F := Ideal)) W (Proc.devRef .tc main_v49) = (total (mulf (W (Proc.devRef .tc main_v33)) (seen (W (Proc.devRef .tc main_arg5)))) : Lane) := by
  unfold line2
  after_results <;> rfl
theorem at2_v48 : after (line2 (F := Ideal)) W (Proc.devRef .tc main_v48) = (mulf (seen (W (Proc.devRef .tc main_arg5))) (lanes (W (Proc.devRef .tc main_arg3))) : Rows) := by
  unfold line2
  after_results <;> rfl
theorem at3_v73 : after (line3 (F := Ideal)) W (Proc.devRef .tc main_v73) = (hostStream (W (Proc.devRef .tc main_v25)) (W (Proc.devRef .tc main_v28)) (W (Proc.devRef .tc main_v31)) (W (Proc.devRef .tc main_v19)) (W (Proc.devRef .tc main_v48)) : Rows) := by
  unfold line3
  after_results <;> rfl
theorem at4_v84 : after (line4 (F := Ideal)) W (Proc.devRef .tc main_v84) = (hostIn (hostPair (W (Proc.devRef .tc main_v5_0)) (W (Proc.devRef .tc main_v5_1)) (W (Proc.devRef .tc main_v5_2)) (W (Proc.devRef .tc main_v3)) (W (Proc.devRef .tc main_v4)) (hostDown (W (Proc.devRef .tc main_v73)) (W (Proc.devRef .tc main_arg2)))) (W (Proc.devRef .tc main_arg1)) (W (Proc.devRef .tc main_v73)) : Rows) := by
  unfold line4
  after_results
  unfold hostIn hostPair hostDown
  rfl
theorem keep0_arg0 : after (line0 (F := Ideal)) W (Proc.devRef .tc main_arg0) = W (Proc.devRef .tc main_arg0) := by
  unfold line0
  after_results
theorem keep0_arg1 : after (line0 (F := Ideal)) W (Proc.devRef .tc main_arg1) = W (Proc.devRef .tc main_arg1) := by
  unfold line0
  after_results
theorem keep0_arg2 : after (line0 (F := Ideal)) W (Proc.devRef .tc main_arg2) = W (Proc.devRef .tc main_arg2) := by
  unfold line0
  after_results
theorem keep0_arg3 : after (line0 (F := Ideal)) W (Proc.devRef .tc main_arg3) = W (Proc.devRef .tc main_arg3) := by
  unfold line0
  after_results
theorem keep0_arg4 : after (line0 (F := Ideal)) W (Proc.devRef .tc main_arg4) = W (Proc.devRef .tc main_arg4) := by
  unfold line0
  after_results
theorem keep0_arg5 : after (line0 (F := Ideal)) W (Proc.devRef .tc main_arg5) = W (Proc.devRef .tc main_arg5) := by
  unfold line0
  after_results
theorem keep1_arg0 : after (line1 (F := Ideal)) W (Proc.devRef .tc main_arg0) = W (Proc.devRef .tc main_arg0) := by
  unfold line1
  after_results
theorem keep1_arg1 : after (line1 (F := Ideal)) W (Proc.devRef .tc main_arg1) = W (Proc.devRef .tc main_arg1) := by
  unfold line1
  after_results
theorem keep1_arg2 : after (line1 (F := Ideal)) W (Proc.devRef .tc main_arg2) = W (Proc.devRef .tc main_arg2) := by
  unfold line1
  after_results
theorem keep1_arg3 : after (line1 (F := Ideal)) W (Proc.devRef .tc main_arg3) = W (Proc.devRef .tc main_arg3) := by
  unfold line1
  after_results
theorem keep1_arg4 : after (line1 (F := Ideal)) W (Proc.devRef .tc main_arg4) = W (Proc.devRef .tc main_arg4) := by
  unfold line1
  after_results
theorem keep1_arg5 : after (line1 (F := Ideal)) W (Proc.devRef .tc main_arg5) = W (Proc.devRef .tc main_arg5) := by
  unfold line1
  after_results
theorem keep2_arg0 : after (line2 (F := Ideal)) W (Proc.devRef .tc main_arg0) = W (Proc.devRef .tc main_arg0) := by
  unfold line2
  after_results
theorem keep2_arg1 : after (line2 (F := Ideal)) W (Proc.devRef .tc main_arg1) = W (Proc.devRef .tc main_arg1) := by
  unfold line2
  after_results
theorem keep2_arg2 : after (line2 (F := Ideal)) W (Proc.devRef .tc main_arg2) = W (Proc.devRef .tc main_arg2) := by
  unfold line2
  after_results
theorem keep2_arg3 : after (line2 (F := Ideal)) W (Proc.devRef .tc main_arg3) = W (Proc.devRef .tc main_arg3) := by
  unfold line2
  after_results
theorem keep2_arg4 : after (line2 (F := Ideal)) W (Proc.devRef .tc main_arg4) = W (Proc.devRef .tc main_arg4) := by
  unfold line2
  after_results
theorem keep2_arg5 : after (line2 (F := Ideal)) W (Proc.devRef .tc main_arg5) = W (Proc.devRef .tc main_arg5) := by
  unfold line2
  after_results
theorem keep3_arg0 : after (line3 (F := Ideal)) W (Proc.devRef .tc main_arg0) = W (Proc.devRef .tc main_arg0) := by
  unfold line3
  after_results
theorem keep3_arg1 : after (line3 (F := Ideal)) W (Proc.devRef .tc main_arg1) = W (Proc.devRef .tc main_arg1) := by
  unfold line3
  after_results
theorem keep3_arg2 : after (line3 (F := Ideal)) W (Proc.devRef .tc main_arg2) = W (Proc.devRef .tc main_arg2) := by
  unfold line3
  after_results
theorem keep3_arg3 : after (line3 (F := Ideal)) W (Proc.devRef .tc main_arg3) = W (Proc.devRef .tc main_arg3) := by
  unfold line3
  after_results
theorem keep3_arg4 : after (line3 (F := Ideal)) W (Proc.devRef .tc main_arg4) = W (Proc.devRef .tc main_arg4) := by
  unfold line3
  after_results
theorem keep3_arg5 : after (line3 (F := Ideal)) W (Proc.devRef .tc main_arg5) = W (Proc.devRef .tc main_arg5) := by
  unfold line3
  after_results
theorem keep4_arg0 : after (line4 (F := Ideal)) W (Proc.devRef .tc main_arg0) = W (Proc.devRef .tc main_arg0) := by
  unfold line4
  after_results
theorem keep4_arg1 : after (line4 (F := Ideal)) W (Proc.devRef .tc main_arg1) = W (Proc.devRef .tc main_arg1) := by
  unfold line4
  after_results
theorem keep4_arg2 : after (line4 (F := Ideal)) W (Proc.devRef .tc main_arg2) = W (Proc.devRef .tc main_arg2) := by
  unfold line4
  after_results
theorem keep4_arg3 : after (line4 (F := Ideal)) W (Proc.devRef .tc main_arg3) = W (Proc.devRef .tc main_arg3) := by
  unfold line4
  after_results
theorem keep4_arg4 : after (line4 (F := Ideal)) W (Proc.devRef .tc main_arg4) = W (Proc.devRef .tc main_arg4) := by
  unfold line4
  after_results
theorem keep4_arg5 : after (line4 (F := Ideal)) W (Proc.devRef .tc main_arg5) = W (Proc.devRef .tc main_arg5) := by
  unfold line4
  after_results
theorem keep1_v3 : after (line1 (F := Ideal)) W (Proc.devRef .tc main_v3) = W (Proc.devRef .tc main_v3) := by
  unfold line1
  after_results
theorem keep1_v4 : after (line1 (F := Ideal)) W (Proc.devRef .tc main_v4) = W (Proc.devRef .tc main_v4) := by
  unfold line1
  after_results
theorem keep1_v5_0 : after (line1 (F := Ideal)) W (Proc.devRef .tc main_v5_0) = W (Proc.devRef .tc main_v5_0) := by
  unfold line1
  after_results
theorem keep1_v5_1 : after (line1 (F := Ideal)) W (Proc.devRef .tc main_v5_1) = W (Proc.devRef .tc main_v5_1) := by
  unfold line1
  after_results
theorem keep1_v5_2 : after (line1 (F := Ideal)) W (Proc.devRef .tc main_v5_2) = W (Proc.devRef .tc main_v5_2) := by
  unfold line1
  after_results
theorem keep2_v3 : after (line2 (F := Ideal)) W (Proc.devRef .tc main_v3) = W (Proc.devRef .tc main_v3) := by
  unfold line2
  after_results
theorem keep2_v4 : after (line2 (F := Ideal)) W (Proc.devRef .tc main_v4) = W (Proc.devRef .tc main_v4) := by
  unfold line2
  after_results
theorem keep2_v5_0 : after (line2 (F := Ideal)) W (Proc.devRef .tc main_v5_0) = W (Proc.devRef .tc main_v5_0) := by
  unfold line2
  after_results
theorem keep2_v5_1 : after (line2 (F := Ideal)) W (Proc.devRef .tc main_v5_1) = W (Proc.devRef .tc main_v5_1) := by
  unfold line2
  after_results
theorem keep2_v5_2 : after (line2 (F := Ideal)) W (Proc.devRef .tc main_v5_2) = W (Proc.devRef .tc main_v5_2) := by
  unfold line2
  after_results
theorem keep3_v3 : after (line3 (F := Ideal)) W (Proc.devRef .tc main_v3) = W (Proc.devRef .tc main_v3) := by
  unfold line3
  after_results
theorem keep3_v4 : after (line3 (F := Ideal)) W (Proc.devRef .tc main_v4) = W (Proc.devRef .tc main_v4) := by
  unfold line3
  after_results
theorem keep3_v5_0 : after (line3 (F := Ideal)) W (Proc.devRef .tc main_v5_0) = W (Proc.devRef .tc main_v5_0) := by
  unfold line3
  after_results
theorem keep3_v5_1 : after (line3 (F := Ideal)) W (Proc.devRef .tc main_v5_1) = W (Proc.devRef .tc main_v5_1) := by
  unfold line3
  after_results
theorem keep3_v5_2 : after (line3 (F := Ideal)) W (Proc.devRef .tc main_v5_2) = W (Proc.devRef .tc main_v5_2) := by
  unfold line3
  after_results
theorem keep2_v25 : after (line2 (F := Ideal)) W (Proc.devRef .tc main_v25) = W (Proc.devRef .tc main_v25) := by
  unfold line2
  after_results
theorem keep2_v28 : after (line2 (F := Ideal)) W (Proc.devRef .tc main_v28) = W (Proc.devRef .tc main_v28) := by
  unfold line2
  after_results
theorem keep2_v31 : after (line2 (F := Ideal)) W (Proc.devRef .tc main_v31) = W (Proc.devRef .tc main_v31) := by
  unfold line2
  after_results
theorem keep2_v19 : after (line2 (F := Ideal)) W (Proc.devRef .tc main_v19) = W (Proc.devRef .tc main_v19) := by
  unfold line2
  after_results
theorem keep3_v43 : after (line3 (F := Ideal)) W (Proc.devRef .tc main_v43) = W (Proc.devRef .tc main_v43) := by
  unfold line3
  after_results
theorem keep3_v49 : after (line3 (F := Ideal)) W (Proc.devRef .tc main_v49) = W (Proc.devRef .tc main_v49) := by
  unfold line3
  after_results
theorem keep4_v43 : after (line4 (F := Ideal)) W (Proc.devRef .tc main_v43) = W (Proc.devRef .tc main_v43) := by
  unfold line4
  after_results
theorem keep4_v49 : after (line4 (F := Ideal)) W (Proc.devRef .tc main_v49) = W (Proc.devRef .tc main_v49) := by
  unfold line4
  after_results
theorem after_line : after (line (F := Ideal)) W = after (line4 (F := Ideal)) (after (line3 (F := Ideal)) (after (line2 (F := Ideal)) (after (line1 (F := Ideal)) (after (line0 (F := Ideal)) W)))) := by
  unfold line
  rw [after_append, after_append, after_append, after_append]
theorem read_arg0 : after (line (F := Ideal)) W (Proc.devRef .tc main_arg0) = W (Proc.devRef .tc main_arg0) := by
  rw [after_line, keep4_arg0, keep3_arg0, keep2_arg0, keep1_arg0, keep0_arg0]
theorem read_arg1 : after (line (F := Ideal)) W (Proc.devRef .tc main_arg1) = W (Proc.devRef .tc main_arg1) := by
  rw [after_line, keep4_arg1, keep3_arg1, keep2_arg1, keep1_arg1, keep0_arg1]
theorem read_arg2 : after (line (F := Ideal)) W (Proc.devRef .tc main_arg2) = W (Proc.devRef .tc main_arg2) := by
  rw [after_line, keep4_arg2, keep3_arg2, keep2_arg2, keep1_arg2, keep0_arg2]
theorem read_arg3 : after (line (F := Ideal)) W (Proc.devRef .tc main_arg3) = W (Proc.devRef .tc main_arg3) := by
  rw [after_line, keep4_arg3, keep3_arg3, keep2_arg3, keep1_arg3, keep0_arg3]
theorem read_arg4 : after (line (F := Ideal)) W (Proc.devRef .tc main_arg4) = W (Proc.devRef .tc main_arg4) := by
  rw [after_line, keep4_arg4, keep3_arg4, keep2_arg4, keep1_arg4, keep0_arg4]
theorem read_arg5 : after (line (F := Ideal)) W (Proc.devRef .tc main_arg5) = W (Proc.devRef .tc main_arg5) := by
  rw [after_line, keep4_arg5, keep3_arg5, keep2_arg5, keep1_arg5, keep0_arg5]

/-- The stream, as the host writes it. -/
def streamOf (x : Rows) (w : Up) (d : Down) : Rows := hostRes x (hostAct (hostGate x w) (hostUp x w)) d
/-- The stream's gradient, as the host writes it. -/
def gradOf (v : Rows) (γ : Lane) (o : Rows) : Rows := hostStream (centred v) (scale v) (bend v) (twice v) (mulf (seen o) (lanes γ))

theorem read_v43 : after (line (F := Ideal)) W (Proc.devRef .tc main_v43) = (total (W (Proc.devRef .tc main_arg5)) : Lane) := by
  rw [after_line, keep4_v43, keep3_v43, at2_v43, keep1_arg5, keep0_arg5]
theorem read_v49 : after (line (F := Ideal)) W (Proc.devRef .tc main_v49) = (total (mulf (units (streamOf (W (Proc.devRef .tc main_arg0)) (W (Proc.devRef .tc main_arg1)) (W (Proc.devRef .tc main_arg2)))) (seen (W (Proc.devRef .tc main_arg5)))) : Lane) := by
  rw [after_line, keep4_v49, keep3_v49, at2_v49, keep1_arg5, keep0_arg5, at1_v33, at0_v10]
  rfl
theorem read_v84 : after (line (F := Ideal)) W (Proc.devRef .tc main_v84)
    = (hostIn (hostPair (mulf (hostGate (W (Proc.devRef .tc main_arg0)) (W (Proc.devRef .tc main_arg1))) (sgm (hostGate (W (Proc.devRef .tc main_arg0)) (W (Proc.devRef .tc main_arg1))))) (sgm' (hostGate (W (Proc.devRef .tc main_arg0)) (W (Proc.devRef .tc main_arg1)))) (sgm (hostGate (W (Proc.devRef .tc main_arg0)) (W (Proc.devRef .tc main_arg1)))) (hostGate (W (Proc.devRef .tc main_arg0)) (W (Proc.devRef .tc main_arg1))) (hostUp (W (Proc.devRef .tc main_arg0)) (W (Proc.devRef .tc main_arg1)))
        (hostDown (gradOf (streamOf (W (Proc.devRef .tc main_arg0)) (W (Proc.devRef .tc main_arg1)) (W (Proc.devRef .tc main_arg2))) (W (Proc.devRef .tc main_arg3)) (W (Proc.devRef .tc main_arg5))) (W (Proc.devRef .tc main_arg2)))) (W (Proc.devRef .tc main_arg1))
        (gradOf (streamOf (W (Proc.devRef .tc main_arg0)) (W (Proc.devRef .tc main_arg1)) (W (Proc.devRef .tc main_arg2))) (W (Proc.devRef .tc main_arg3)) (W (Proc.devRef .tc main_arg5))) : Rows) := by
  rw [after_line, at4_v84, at3_v73]
  rw [keep3_v3, keep3_v4, keep3_v5_0, keep3_v5_1, keep3_v5_2, keep3_arg1, keep3_arg2, keep2_v3, keep2_v4, keep2_v5_0, keep2_v5_1, keep2_v5_2, keep2_arg1, keep2_arg2, keep2_v25, keep2_v28, keep2_v31, keep2_v19, at2_v48, keep1_v3, keep1_v4, keep1_v5_0, keep1_v5_1, keep1_v5_2, keep1_arg1, keep1_arg2, keep1_arg3, keep1_arg5,
    at1_v25, at1_v28, at1_v31, at1_v19, at0_v3, at0_v4, at0_v5_0, at0_v5_1, at0_v5_2, at0_v10, keep0_arg1, keep0_arg2, keep0_arg3, keep0_arg5]
  rfl

end Cert.Reference5Ideal.Ffn
-- ==== Proof.FfnBwdAt.lean ====
module

public import proofs.«01_k».proof.Proof.FfnBwdRef

/-!
# The reference of the sublayer's backward call, at an index
-/

@[expose] public section

set_option maxRecDepth 16384

noncomputable section

namespace Cert.Reference5Ideal.Ffn

open Idealize.ShloMosaic Idealize.ShloMosaic.TcCoe Idealize.ShloMosaic.StableHlo Idealize.SL.Sem Finset
open Cert.Reference5Ideal Cert.Reference5Ideal.Gen Cert.Ffn

/-! ## At an index -/

theorem gate_eq (x : Rows) (w : Up) : hostGate x w = gate x w := by
  funext i
  obtain ⟨t, j, rfl⟩ : ∃ (t : Fin 4096) (j : Fin 2816), i = ix2 t j := ⟨i 0, i 1, (ix2_eta i).symm⟩
  pointwise [hostGate, product]
  rfl
theorem up_eq (x : Rows) (w : Up) : hostUp x w = up x w := by
  funext i
  obtain ⟨t, j, rfl⟩ : ∃ (t : Fin 4096) (j : Fin 2816), i = ix2 t j := ⟨i 0, i 1, (ix2_eta i).symm⟩
  pointwise [hostUp, product]
  rfl
theorem act_eq (g u : Hidden) (t : Fin 4096) (j : Fin 2816) : hostAct g u (ix2 t j) = act (g (ix2 t j)) (u (ix2 t j)) := by
  pointwise [hostAct, ones]
  rfl
theorem res_at (x : Rows) (a : Hidden) (d : Down) (t : Fin 4096) (l : Fin 1024) :
    hostRes x a d (ix2 t l) = α * x (ix2 t l) + half * ∑ j : Fin 2816, a (ix2 t j) * d (ix2 j l) := by
  pointwise [hostRes]
  rfl
theorem res_eq (x : Rows) (w : Up) (d : Down) : hostRes x (hostAct (hostGate x w) (hostUp x w)) d = res x w d := by
  funext i
  obtain ⟨t, l, rfl⟩ : ∃ (t : Fin 4096) (l : Fin 1024), i = ix2 t l := ⟨i 0, i 1, (ix2_eta i).symm⟩
  rw [res_at]
  simp only [act_eq, gate_eq, up_eq]
  rfl
theorem mean_at (v : Rows) (t : Fin 4096) : rowMean v (ix2 t (0 : Fin 1)) = mean fun l => v (ix2 t l) := by
  pointwise [rowMean]
  rfl
theorem centred_at (v : Rows) (t : Fin 4096) (l : Fin 1024) : centred v (ix2 t l) = v (ix2 t l) - mean fun l => v (ix2 t l) := by
  rw [← mean_at]
  pointwise [centred]
theorem scale_at (v : Rows) (t : Fin 4096) : scale v (ix2 t (0 : Fin 1)) = Ideal.rsqrt (var (fun l => v (ix2 t l)) + ε) := by
  have e : scale v (ix2 t (0 : Fin 1)) = Ideal.rsqrt (rowMean (mulf (centred v) (centred v)) (ix2 t (0 : Fin 1)) + ε) := by
    pointwise [scale]
    rfl
  have c : ∀ l, mulf (F := Ideal) (φ := .f32) (centred v) (centred v) (ix2 t l) = centred v (ix2 t l) * centred v (ix2 t l) := fun l => rfl
  rw [e, mean_at]
  simp only [c, centred_at]
  rfl

theorem sgm_at (g : Hidden) (t : Fin 4096) (j : Fin 2816) : sgm g (ix2 t j) = Ideal.logistic (g (ix2 t j)) := by
  pointwise [sgm, ones]
  rfl
theorem sgm'_at (g : Hidden) (t : Fin 4096) (j : Fin 2816) :
    sgm' g (ix2 t j) = Ideal.logistic (g (ix2 t j)) * (one - Ideal.logistic (g (ix2 t j))) := by
  rw [← sgm_at]
  pointwise [sgm', ones]
  rw [one_eq]
  rfl
theorem stab_at (v : Rows) (t : Fin 4096) : stab v (ix2 t (0 : Fin 1)) = var (fun l => v (ix2 t l)) + ε := by
  have e : stab v (ix2 t (0 : Fin 1)) = rowMean (mulf (centred v) (centred v)) (ix2 t (0 : Fin 1)) + ε := by
    pointwise [stab]
    rfl
  have c : ∀ l, mulf (F := Ideal) (φ := .f32) (centred v) (centred v) (ix2 t l) = centred v (ix2 t l) * centred v (ix2 t l) := fun l => rfl
  rw [e, mean_at]
  simp only [c, centred_at]
  rfl
theorem bend_at (v : Rows) (t : Fin 4096) : bend v (ix2 t (0 : Fin 1)) = mhalf * Ideal.div (rs fun l => v (ix2 t l)) (var (fun l => v (ix2 t l)) + ε) := by
  have e : bend v (ix2 t (0 : Fin 1)) = mhalf * Ideal.div (scale v (ix2 t (0 : Fin 1))) (stab v (ix2 t (0 : Fin 1))) := by
    pointwise [bend]
    rfl
  rw [e, scale_at, stab_at]
  rfl
theorem twice_at (v : Rows) (t : Fin 4096) (l : Fin 1024) : twice v (ix2 t l) = two * centred v (ix2 t l) := by
  pointwise [twice]
  rfl
theorem units_at (v : Rows) (t : Fin 4096) (l : Fin 1024) : units v (ix2 t l) = unit (fun k => v (ix2 t k)) l := by
  have e : units v (ix2 t l) = centred v (ix2 t l) * scale v (ix2 t (0 : Fin 1)) := by
    pointwise [units]
  rw [e, centred_at, scale_at]
  rfl
theorem seen_eq (d : Rows) : seen d = d := by
  funext i
  obtain ⟨t, l, rfl⟩ : ∃ (t : Fin 4096) (l : Fin 1024), i = ix2 t l := ⟨i 0, i 1, (ix2_eta i).symm⟩
  pointwise [seen]
theorem total_at (d : Rows) (l : Fin 1024) : total d (ix1 l) = ∑ t : Fin 4096, d (ix2 t l) := by
  pointwise [total]
  exact Fin.sum_univ_one _
theorem rowSum_at (d : Rows) (t : Fin 4096) : rowSum d (ix2 t (0 : Fin 1)) = ∑ l : Fin 1024, d (ix2 t l) := by
  pointwise [rowSum]
theorem spread_at (e : Col) (t : Fin 4096) (l : Fin 1024) : spread e (ix2 t l) = Ideal.div (e (ix2 t (0 : Fin 1))) width := by
  pointwise [spread]
  exact Fin.sum_univ_one _
theorem lanes_at (γ : Lane) (t : Fin 4096) (l : Fin 1024) : lanes γ (ix2 t l) = γ (ix1 l) := by
  pointwise [lanes]
theorem direct_at (s : Col) (r : Rows) (t : Fin 4096) (l : Fin 1024) : hostDirect s r (ix2 t l) = r (ix2 t l) * s (ix2 t (0 : Fin 1)) := by
  pointwise [hostDirect]
theorem bent_at (q : Rows) (b : Col) (z r : Rows) (t : Fin 4096) (l : Fin 1024) :
    hostBent q b z r (ix2 t l) = Ideal.div ((∑ k : Fin 1024, q (ix2 t k) * r (ix2 t k)) * b (ix2 t (0 : Fin 1))) width * z (ix2 t l) := by
  have e : hostBent q b z r (ix2 t l) = spread (mulf (rowSum (mulf q r)) b) (ix2 t l) * z (ix2 t l) := rfl
  have c : mulf (F := Ideal) (φ := .f32) (rowSum (mulf q r)) b (ix2 t (0 : Fin 1)) = rowSum (mulf q r) (ix2 t (0 : Fin 1)) * b (ix2 t (0 : Fin 1)) := rfl
  rw [e, spread_at, c, rowSum_at]
  rfl
theorem stream_at (q : Rows) (s b : Col) (z r : Rows) (t : Fin 4096) (l : Fin 1024) :
    hostStream q s b z r (ix2 t l) = hostDirect s r (ix2 t l) + hostBent q b z r (ix2 t l)
      + Ideal.div ((∑ k : Fin 1024, -hostDirect s r (ix2 t k)) + ∑ k : Fin 1024, -hostBent q b z r (ix2 t k)) width := by
  have e : hostStream q s b z r (ix2 t l) = hostDirect s r (ix2 t l) + hostBent q b z r (ix2 t l)
      + spread (addf (rowSum (Host.negf (hostDirect s r))) (rowSum (Host.negf (hostBent q b z r)))) (ix2 t l) := rfl
  have c : addf (F := Ideal) (φ := .f32) (rowSum (Host.negf (hostDirect s r))) (rowSum (Host.negf (hostBent q b z r))) (ix2 t (0 : Fin 1))
      = rowSum (Host.negf (hostDirect s r)) (ix2 t (0 : Fin 1)) + rowSum (Host.negf (hostBent q b z r)) (ix2 t (0 : Fin 1)) := rfl
  rw [e, spread_at, c, rowSum_at, rowSum_at]
  rfl
theorem grad_at (v : Rows) (γ : Lane) (o : Rows) (t : Fin 4096) (l : Fin 1024) :
    gradOf v γ o (ix2 t l) = steps (fun k => v (ix2 t k)) (fun k => o (ix2 t k) * γ (ix1 k)) l := by
  have m : ∀ k, mulf (F := Ideal) (φ := .f32) o (lanes γ) (ix2 t k) = o (ix2 t k) * γ (ix1 k) := fun k => by
    rw [← lanes_at γ t k]; rfl
  unfold gradOf
  rw [seen_eq, stream_at]
  simp only [direct_at, bent_at, m, centred_at, twice_at, scale_at, bend_at]
  rfl
theorem down_at (r : Rows) (d : Down) (t : Fin 4096) (j : Fin 2816) :
    hostDown r d (ix2 t j) = ∑ l : Fin 1024, half * r (ix2 t l) * d (ix2 j l) := by
  pointwise [hostDown]
  rfl
theorem pair_lo (s s' σ g u a : Hidden) (t : Fin 4096) (j : Fin 2816) :
    hostPair s s' σ g u a (ix2 t ⟨j.val, by omega⟩) = a (ix2 t j) * u (ix2 t j) * σ (ix2 t j) + g (ix2 t j) * (a (ix2 t j) * u (ix2 t j)) * s' (ix2 t j) := by
  pointwise [hostPair]
theorem pair_hi (s s' σ g u a : Hidden) (t : Fin 4096) (j : Fin 2816) :
    hostPair s s' σ g u a (ix2 t ⟨2816 + j.val, by omega⟩) = s (ix2 t j) * a (ix2 t j) := by
  pointwise [hostPair]
theorem in_at (p : Product) (w : Up) (r : Rows) (t : Fin 4096) (l : Fin 1024) :
    hostIn p w r (ix2 t l) = (∑ n : Fin 5632, p (ix2 t n) * w (ix2 l n)) + α * r (ix2 t l) := by
  pointwise [hostIn]
  rfl

end Cert.Reference5Ideal.Ffn
-- ==== Proof.FfnBwd.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import proofs.«01_k».proof.Proof.Gen.Kernel5Ideal.Frame
public import proofs.«01_k».proof.Proof.FfnGrad

/-!
# The feed-forward sublayer's backward call

A grid point holds 256 rows: what comes back, the residual stream, the gate's and the other half's values, and both
weights in slabs of 1408 hidden columns. It forms the gradient of the normalisation's rows, then the gradients of the two
halves slab by slab, and adds up the input's gradient; over the points it sums the gradients of the scale and the shift.
-/

@[expose] public section

set_option maxRecDepth 16384

noncomputable section

namespace Cert.Kernel5Ideal.Ffn

open Idealize.ShloMosaic Idealize.ShloMosaic.TcCoe Idealize.SL.Sem Finset
open Cert.Kernel5Ideal Cert.Kernel5Ideal.Gen Cert.Ffn

variable (x0 x1 : FVec Ideal S256x1024 .f32) (x2 : FVec Ideal S1x1024 .f32) (x3 x4 : FVec Ideal S256x2816 .bf16)
  (x5 : FVec Ideal S4x1024x1408 .bf16) (x6 : FVec Ideal S2x1408x1024 .bf16)

/-! ## Loads -/

theorem ld_cols (k : ℕ) (inb) (u : Fin 256) (l : Fin 1408) (h : k + l.val < 2816) :
    View.ld (Val := Elt Ideal) (e' := .bf16) x3 (Rect.unit (s := S256x2816) ![0, k] S256x1408.size inb) (ix2 u l) = x3 (ix2 u ⟨k + l.val, h⟩) := by
  refine congrArg x3 (funext fun a => Fin.ext ?_)
  match a with
  | ⟨0, _⟩ => show 0 + 1 * u.val = u.val; omega
  | ⟨1, _⟩ => show k + 1 * l.val = k + l.val; omega
theorem ld_up (p : Fin 4) (inb) (k : Fin 1024) (l : Fin 1408) :
    View.ld (Val := Elt Ideal) (e' := .bf16) x5 (Rect.unit (s := S4x1024x1408) ![p.val, 0, 0] S1x1024x1408.size inb) (ix3 (0 : Fin 1) k l) = x5 (ix3 p k l) := by
  refine congrArg x5 (funext fun a => Fin.ext ?_)
  match a with
  | ⟨0, _⟩ => show p.val + 1 * 0 = p.val; omega
  | ⟨1, _⟩ => show 0 + 1 * k.val = k.val; omega
  | ⟨2, _⟩ => show 0 + 1 * l.val = l.val; omega
theorem ld_down (p : Fin 2) (inb) (j : Fin 1408) (l : Fin 1024) :
    View.ld (Val := Elt Ideal) (e' := .bf16) x6 (Rect.unit (s := S2x1408x1024) ![p.val, 0, 0] S1x1408x1024.size inb) (ix3 (0 : Fin 1) j l) = x6 (ix3 p j l) := by
  refine congrArg x6 (funext fun a => Fin.ext ?_)
  match a with
  | ⟨0, _⟩ => show p.val + 1 * 0 = p.val; omega
  | ⟨1, _⟩ => show 0 + 1 * j.val = j.val; omega
  | ⟨2, _⟩ => show 0 + 1 * l.val = l.val; omega

/-! ## The normalisation's rows -/

theorem pay6_at (u : Fin 256) (l : Fin 1024) : k0_pay6 (F := Ideal) x1 (ix2 u l) = x1 (ix2 u l) - mean fun k => x1 (ix2 u k) := by
  pointwise [k0_pay6]
  rfl
theorem pay7_at (u : Fin 256) : k0_pay7 (F := Ideal) x1 (ix2 u (0 : Fin 1)) = rs fun k => x1 (ix2 u k) := by
  have e : k0_pay7 (F := Ideal) x1 (ix2 u (0 : Fin 1))
      = Ideal.rsqrt (Ideal.div (∑ l : Fin 1024, k0_pay6 (F := Ideal) x1 (ix2 u l) * k0_pay6 (F := Ideal) x1 (ix2 u l)) width + ε) := by
    pointwise [k0_pay7]
    rfl
  rw [e]
  simp only [pay6_at]
  rfl
theorem pay8_at (u : Fin 256) (l : Fin 1024) : k0_pay8 (F := Ideal) x1 (ix2 u l) = unit (fun k => x1 (ix2 u k)) l := by
  have e : k0_pay8 (F := Ideal) x1 (ix2 u l) = k0_pay6 (F := Ideal) x1 (ix2 u l) * k0_pay7 (F := Ideal) x1 (ix2 u (0 : Fin 1)) := by
    pointwise [k0_pay8]
  rw [e, pay6_at, pay7_at]
  rfl
theorem pay10_at (u : Fin 256) (l : Fin 1024) : k0_pay10 (F := Ideal) x1 (ix2 u l) = rs fun k => x1 (ix2 u k) := by
  rw [← pay7_at]
  pointwise [k0_pay10]
theorem pay9_at (u : Fin 256) (l : Fin 1024) : k0_pay9 (F := Ideal) x0 x1 x2 (ix2 u l)
    = x0 (ix2 u l) * x2 (ix2 (0 : Fin 1) l) - (mean fun k => x0 (ix2 u k) * x2 (ix2 (0 : Fin 1) k))
      - unit (fun k => x1 (ix2 u k)) l * mean fun k => x0 (ix2 u k) * x2 (ix2 (0 : Fin 1) k) * unit (fun k => x1 (ix2 u k)) k := by
  have e : k0_pay9 (F := Ideal) x0 x1 x2 (ix2 u l)
      = x0 (ix2 u l) * x2 (ix2 (0 : Fin 1) l) - (mean fun k => x0 (ix2 u k) * x2 (ix2 (0 : Fin 1) k))
        - k0_pay8 (F := Ideal) x1 (ix2 u l) * mean fun k => x0 (ix2 u k) * x2 (ix2 (0 : Fin 1) k) * k0_pay8 (F := Ideal) x1 (ix2 u k) := by
    pointwise [k0_pay9]
    rfl
  rw [e]
  simp only [pay8_at]

/-- The gradient of the residual stream, in a block of rows. -/
def drf (u : Fin 256) (l : Fin 1024) : EReal := back (fun k => x1 (ix2 u k)) (fun k => x0 (ix2 u k) * x2 (ix2 (0 : Fin 1) k)) l

theorem pay11_at (u : Fin 256) (l : Fin 1024) :
    k0_pay11 (F := Ideal) (k0_pay9 x0 x1 x2) (k0_pay10 x1) (ix2 u l) = drf x0 x1 x2 u l := by
  have e : k0_pay11 (F := Ideal) (k0_pay9 x0 x1 x2) (k0_pay10 x1) (ix2 u l)
      = k0_pay10 (F := Ideal) x1 (ix2 u l) * k0_pay9 (F := Ideal) x0 x1 x2 (ix2 u l) := rfl
  rw [e, pay10_at, pay9_at]
  rfl
theorem pay14_at (a b : FVec Ideal S256x1024 .f32) (u : Fin 256) (l : Fin 1024) :
    k0_pay14 (F := Ideal) a b (ix2 u l) = half * k0_pay11 (F := Ideal) a b (ix2 u l) := rfl
theorem pay15_at (a b : FVec Ideal S256x1024 .f32) (u : Fin 256) (l : Fin 1024) :
    k0_pay15 (F := Ideal) a b (ix2 u l) = α * k0_pay11 (F := Ideal) a b (ix2 u l) := rfl

theorem pay12_at (v : FVec Ideal S256x1024 .f32) (a : FVec Ideal S1x1024 .f32) (l : Fin 1024) :
    k0_pay12 (F := Ideal) x0 v a (ix2 (0 : Fin 1) l) = a (ix2 (0 : Fin 1) l) + ∑ u : Fin 256, x0 (ix2 u l) * v (ix2 u l) := by
  pointwise [k0_pay12]
theorem pay13_at (a : FVec Ideal S1x1024 .f32) (l : Fin 1024) :
    k0_pay13 (F := Ideal) x0 a (ix2 (0 : Fin 1) l) = a (ix2 (0 : Fin 1) l) + ∑ u : Fin 256, x0 (ix2 u l) := by
  pointwise [k0_pay13]
theorem pay4_at (i : S1x1024.Idx) : k0_pay4 (F := Ideal) i = 0 := Ideal.ofBits_zero .f32
theorem pay5_at (i : S1x1024.Idx) : k0_pay5 (F := Ideal) i = 0 := Ideal.ofBits_zero .f32

/-! ## The slabs -/

/-- The activation's gradient at a hidden column of a slab. -/
def da (p : Fin 2) (u : Fin 256) (j : Fin 1408) : EReal := ∑ l : Fin 1024, half * drf x0 x1 x2 u l * x6 (ix3 p j l)
/-- The gate's gradient, from the activation's. -/
def dgate (a g u : EReal) : EReal := a * u * (Ideal.logistic g * (one + g * (one - Ideal.logistic g)))
/-- The other half's. -/
def dup (a g : EReal) : EReal := a * (g * Ideal.logistic g)

theorem pay16_at (w : FVec Ideal S1x1408x1024 .bf16) (a b : FVec Ideal S256x1024 .f32) (u : Fin 256) (j : Fin 1408) :
    k0_pay16 (F := Ideal) a b w (ix2 u j) = ∑ l : Fin 1024, half * k0_pay11 (F := Ideal) a b (ix2 u l) * w (ix3 (0 : Fin 1) j l) := by
  pointwise [k0_pay16]
  rfl
theorem pay25_at (w : FVec Ideal S1x1408x1024 .bf16) (a b : FVec Ideal S256x1024 .f32) (u : Fin 256) (j : Fin 1408) :
    k0_pay25 (F := Ideal) (k0_pay14 a b) w (ix2 u j) = ∑ l : Fin 1024, half * k0_pay11 (F := Ideal) a b (ix2 u l) * w (ix3 (0 : Fin 1) j l) := by
  pointwise [k0_pay25]
  rfl
theorem da0 (inb) (u : Fin 256) (j : Fin 1408) :
    k0_pay16 (F := Ideal) (k0_pay9 x0 x1 x2) (k0_pay10 x1) (View.ld x6 (Rect.unit (s := S2x1408x1024) ![0, 0, 0] S1x1408x1024.size inb)) (ix2 u j) = da x0 x1 x2 x6 0 u j := by
  rw [pay16_at]
  refine Finset.sum_congr rfl fun l _ => ?_
  rw [pay11_at]
  exact congrArg _ (ld_down x6 0 inb j l)
theorem da1 (inb) (u : Fin 256) (j : Fin 1408) :
    k0_pay25 (F := Ideal) (k0_pay14 (k0_pay9 x0 x1 x2) (k0_pay10 x1)) (View.ld x6 (Rect.unit (s := S2x1408x1024) ![1, 0, 0] S1x1408x1024.size inb)) (ix2 u j) = da x0 x1 x2 x6 1 u j := by
  rw [pay25_at]
  refine Finset.sum_congr rfl fun l _ => ?_
  rw [pay11_at]
  exact congrArg _ (ld_down x6 1 inb j l)

theorem pay22_at (a h : FVec Ideal S256x1408 .f32) (g : FVec Ideal S256x1408 .bf16) (u : Fin 256) (j : Fin 1408) :
    k0_pay22 (F := Ideal) a (k0_pay17 g) h (k0_pay19 g) (ix2 u j) = dgate (a (ix2 u j)) (g (ix2 u j)) (h (ix2 u j)) := by
  pointwise [k0_pay22, k0_pay19, k0_pay17]
  unfold dgate
  rw [one_eq]
  rfl
theorem pay1_at (a h : FVec Ideal S256x1408 .f32) (g : FVec Ideal S256x1408 .bf16) (u : Fin 256) (j : Fin 1408) :
    k0_pay1 (F := Ideal) a (k0_pay26 g) h (k0_pay28 g) (ix2 u j) = dgate (a (ix2 u j)) (g (ix2 u j)) (h (ix2 u j)) := by
  pointwise [k0_pay1, k0_pay28, k0_pay26]
  unfold dgate
  rw [one_eq]
  rfl
theorem pay23_at (a : FVec Ideal S256x1408 .f32) (g : FVec Ideal S256x1408 .bf16) (u : Fin 256) (j : Fin 1408) :
    k0_pay23 (F := Ideal) a (k0_pay20 g) (ix2 u j) = dup (a (ix2 u j)) (g (ix2 u j)) := by
  pointwise [k0_pay23, k0_pay20, k0_pay19, k0_pay17]
  rfl
theorem pay2_at (a : FVec Ideal S256x1408 .f32) (g : FVec Ideal S256x1408 .bf16) (u : Fin 256) (j : Fin 1408) :
    k0_pay2 (F := Ideal) a (k0_pay29 g) (ix2 u j) = dup (a (ix2 u j)) (g (ix2 u j)) := by
  pointwise [k0_pay2, k0_pay29, k0_pay28, k0_pay26]
  rfl
theorem pay18_at (h : FVec Ideal S256x1408 .bf16) (u : Fin 256) (j : Fin 1408) : k0_pay18 (F := Ideal) h (ix2 u j) = h (ix2 u j) := by
  pointwise [k0_pay18]
theorem pay27_at (h : FVec Ideal S256x1408 .bf16) (u : Fin 256) (j : Fin 1408) : k0_pay27 (F := Ideal) h (ix2 u j) = h (ix2 u j) := by
  pointwise [k0_pay27]

theorem pay24_at (r : FVec Ideal S256x1024 .f32) (a g h s q : FVec Ideal S256x1408 .f32) (v w : FVec Ideal S1x1024x1408 .bf16) (u : Fin 256) (l : Fin 1024) :
    k0_pay24 (F := Ideal) r a g h s q v w (ix2 u l)
      = r (ix2 u l) + (∑ j : Fin 1408, k0_pay22 (F := Ideal) a g h s (ix2 u j) * v (ix3 (0 : Fin 1) l j))
        + ∑ j : Fin 1408, k0_pay23 (F := Ideal) a q (ix2 u j) * w (ix3 (0 : Fin 1) l j) := by
  pointwise [k0_pay24]
theorem pay3_at (r : FVec Ideal S256x1024 .f32) (a g h s q : FVec Ideal S256x1408 .f32) (v w : FVec Ideal S1x1024x1408 .bf16) (u : Fin 256) (l : Fin 1024) :
    k0_pay3 (F := Ideal) r a g h s q v w (ix2 u l)
      = r (ix2 u l) + (∑ j : Fin 1408, k0_pay1 (F := Ideal) a g h s (ix2 u j) * v (ix3 (0 : Fin 1) l j))
        + ∑ j : Fin 1408, k0_pay2 (F := Ideal) a q (ix2 u j) * w (ix3 (0 : Fin 1) l j) := by
  pointwise [k0_pay3]

/-- The two halves' gradients at a hidden column of a slab. -/
def dg (p : Fin 2) (u : Fin 256) (j : Fin 1408) : EReal :=
  dgate (da x0 x1 x2 x6 p u j) (x3 (ix2 u ⟨1408 * p.val + j.val, by omega⟩)) (x4 (ix2 u ⟨1408 * p.val + j.val, by omega⟩))
def du (p : Fin 2) (u : Fin 256) (j : Fin 1408) : EReal := dup (da x0 x1 x2 x6 p u j) (x3 (ix2 u ⟨1408 * p.val + j.val, by omega⟩))

/-- The input's gradient in a block of rows. -/
def dx (u : Fin 256) (l : Fin 1024) : EReal :=
  α * drf x0 x1 x2 u l + (∑ j : Fin 1408, dg x0 x1 x2 x3 x4 x6 0 u j * x5 (ix3 0 l j)) + (∑ j : Fin 1408, du x0 x1 x2 x3 x6 0 u j * x5 (ix3 2 l j))
    + (∑ j : Fin 1408, dg x0 x1 x2 x3 x4 x6 1 u j * x5 (ix3 1 l j)) + ∑ j : Fin 1408, du x0 x1 x2 x3 x6 1 u j * x5 (ix3 3 l j)

theorem colsA (a b : FVec Ideal S256x2816 .bf16) (inb) (u : Fin 256) (j : Fin 1408) :
    View.ld (Val := Elt Ideal) (e' := .bf16) a (Rect.unit (s := S256x2816) ![0, 0] S256x1408.size inb) (ix2 u j) = a (ix2 u ⟨1408 * (0 : Fin 2).val + j.val, by have h : (0 : Fin 2).val = 0 := rfl; omega⟩) :=
  (ld_cols a 0 inb u j (by omega)).trans rfl
theorem colsB (a b : FVec Ideal S256x2816 .bf16) (inb) (u : Fin 256) (j : Fin 1408) :
    View.ld (Val := Elt Ideal) (e' := .bf16) a (Rect.unit (s := S256x2816) ![0, 1408] S256x1408.size inb) (ix2 u j) = a (ix2 u ⟨1408 * (1 : Fin 2).val + j.val, by have h : (1 : Fin 2).val = 1 := rfl; omega⟩) :=
  (ld_cols a 1408 inb u j (by omega)).trans rfl

theorem dx_at (i0 i1 i2 i3 i4 i5 i6 i7) (u : Fin 256) (l : Fin 1024) :
    k0_pay3 (F := Ideal)
      (k0_pay24 (k0_pay15 (k0_pay9 x0 x1 x2) (k0_pay10 x1))
        (k0_pay16 (k0_pay9 x0 x1 x2) (k0_pay10 x1) (View.ld x6 (Rect.unit (s := S2x1408x1024) ![0, 0, 0] S1x1408x1024.size i0)))
        (k0_pay17 (View.ld x3 (Rect.unit (s := S256x2816) ![0, 0] S256x1408.size i1)))
        (k0_pay18 (View.ld x4 (Rect.unit (s := S256x2816) ![0, 0] S256x1408.size i1)))
        (k0_pay19 (View.ld x3 (Rect.unit (s := S256x2816) ![0, 0] S256x1408.size i1)))
        (k0_pay20 (View.ld x3 (Rect.unit (s := S256x2816) ![0, 0] S256x1408.size i1)))
        (View.ld x5 (Rect.unit (s := S4x1024x1408) ![0, 0, 0] S1x1024x1408.size i2))
        (View.ld x5 (Rect.unit (s := S4x1024x1408) ![2, 0, 0] S1x1024x1408.size i3)))
      (k0_pay25 (k0_pay14 (k0_pay9 x0 x1 x2) (k0_pay10 x1)) (View.ld x6 (Rect.unit (s := S2x1408x1024) ![1, 0, 0] S1x1408x1024.size i4)))
      (k0_pay26 (View.ld x3 (Rect.unit (s := S256x2816) ![0, 1408] S256x1408.size i5)))
      (k0_pay27 (View.ld x4 (Rect.unit (s := S256x2816) ![0, 1408] S256x1408.size i5)))
      (k0_pay28 (View.ld x3 (Rect.unit (s := S256x2816) ![0, 1408] S256x1408.size i5)))
      (k0_pay29 (View.ld x3 (Rect.unit (s := S256x2816) ![0, 1408] S256x1408.size i5)))
      (View.ld x5 (Rect.unit (s := S4x1024x1408) ![1, 0, 0] S1x1024x1408.size i6))
      (View.ld x5 (Rect.unit (s := S4x1024x1408) ![3, 0, 0] S1x1024x1408.size i7)) (ix2 u l)
      = dx x0 x1 x2 x3 x4 x5 x6 u l := by
  rw [pay3_at, pay24_at, pay15_at, pay11_at]
  unfold dx
  refine congrArg₂ (· + ·) (congrArg₂ (· + ·) (congrArg₂ (· + ·) (congrArg₂ (· + ·) rfl ?_) ?_) ?_) ?_
  · refine Finset.sum_congr rfl fun j _ => ?_
    rw [pay22_at, da0, pay18_at, colsA x3 x3, colsA x4 x4]
    exact congrArg _ (ld_up x5 0 i2 l j)
  · refine Finset.sum_congr rfl fun j _ => ?_
    rw [pay23_at, da0, colsA x3 x3]
    exact congrArg _ (ld_up x5 2 i3 l j)
  · refine Finset.sum_congr rfl fun j _ => ?_
    rw [pay1_at, da1, pay27_at, colsB x3 x3, colsB x4 x4]
    exact congrArg _ (ld_up x5 1 i6 l j)
  · refine Finset.sum_congr rfl fun j _ => ?_
    rw [pay2_at, da1, colsB x3 x3]
    exact congrArg _ (ld_up x5 3 i7 l j)

/-! ## What a point writes -/

variable (m : (ℓ : Loc nD τ sig) → Buf (Elt Ideal) ℓ) (c : Dev nD) (t : Fin cfg0.N)

theorem point_dx (u : Fin 256) (l : Fin 1024) : (outsAt0 m c t.val t.isLt).2.2.1 (ix2 u l)
    = dx (iblk m c 0 t) (iblk m c 1 t) (iblk m c 2 t) (iblk m c 3 t) (iblk m c 4 t) (iblk m c 5 t) (iblk m c 6 t) u l := by
  by_cases h0 : t.val % 16 = 0
  · rw [outsAt0_A m c t h0]
    frame_out
    exact dx_at _ _ _ _ _ _ _ _ _ _ _ _ _ _ _ u l
  · rw [outsAt0_B m c t h0]
    frame_out
    exact dx_at _ _ _ _ _ _ _ _ _ _ _ _ _ _ _ u l

/-- What comes back, and the residual stream, in a point's rows. -/
abbrev blkD : FVec Ideal S256x1024 .f32 := iblk m c 0 t
abbrev blkR : FVec Ideal S256x1024 .f32 := iblk m c 1 t

theorem scale_first (h0 : t.val % 16 = 0) (l : Fin 1024) : (outsAt0 m c t.val t.isLt).2.2.2.2.1 (ix2 (0 : Fin 1) l)
    = ∑ u : Fin 256, blkD m c t (ix2 u l) * unit (fun k => blkR m c t (ix2 u k)) l := by
  rw [outsAt0_A m c t h0]
  frame_out
  refine (pay12_at _ _ _ l).trans ?_
  rw [pay4_at, zero_add]
  exact Finset.sum_congr rfl fun u _ => congrArg _ (pay8_at _ u l)
theorem scale_next (h0 : ¬ t.val % 16 = 0) (l : Fin 1024) : (outsAt0 m c t.val t.isLt).2.2.2.2.1 (ix2 (0 : Fin 1) l)
    = (outsAt0 m c (t.val - 1) (Nat.lt_of_le_of_lt (Nat.sub_le _ _) t.isLt)).2.2.2.2.1 (ix2 (0 : Fin 1) l)
      + ∑ u : Fin 256, blkD m c t (ix2 u l) * unit (fun k => blkR m c t (ix2 u k)) l := by
  rw [outsAt0_B m c t h0]
  frame_out
  refine (pay12_at _ _ _ l).trans ?_
  exact congrArg _ (Finset.sum_congr rfl fun u _ => congrArg _ (pay8_at _ u l))
theorem shift_first (h0 : t.val % 16 = 0) (l : Fin 1024) : (outsAt0 m c t.val t.isLt).2.2.2.2.2 (ix2 (0 : Fin 1) l)
    = ∑ u : Fin 256, blkD m c t (ix2 u l) := by
  rw [outsAt0_A m c t h0]
  frame_out
  refine (pay13_at _ _ l).trans ?_
  rw [pay5_at, zero_add]
theorem shift_next (h0 : ¬ t.val % 16 = 0) (l : Fin 1024) : (outsAt0 m c t.val t.isLt).2.2.2.2.2 (ix2 (0 : Fin 1) l)
    = (outsAt0 m c (t.val - 1) (Nat.lt_of_le_of_lt (Nat.sub_le _ _) t.isLt)).2.2.2.2.2 (ix2 (0 : Fin 1) l)
      + ∑ u : Fin 256, blkD m c t (ix2 u l) := by
  rw [outsAt0_B m c t h0]
  frame_out
  exact pay13_at _ _ l

end Cert.Kernel5Ideal.Ffn
-- ==== Proof.FfnBwdHost.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import proofs.«01_k».proof.Proof.Gen.Kernel5Ideal.Frame
public import proofs.«01_k».proof.Proof.FfnBwd

/-!
# The backward call's host lines before the grid, and its blocks

What the forward pass saved is formed on the host: the gate's and the other half's values and the residual stream.
-/

@[expose] public section

set_option maxRecDepth 16384

noncomputable section

namespace Cert.Kernel5Ideal.Ffn

open Idealize.ShloMosaic Idealize.ShloMosaic.TcCoe Idealize.SL.Sem Finset
open Cert.Kernel5Ideal Cert.Kernel5Ideal.Gen Cert.Ffn

abbrev Env := Valuation τ sig (Elt Ideal)

def product (x : Rows) (w : Up) : FVec Ideal S4096x5632 .f32 :=
  Host.dotGeneral (F := Ideal) (φ₁ := .f32) (φ₂ := .f32) dot_S4096x1024_S1024x5632_S4096x5632_1_0_0_1_n_n none x w
def hostGate (x : Rows) (w : Up) : Hidden := extractStridedSlice S4096x2816 ![0, 0] (product x w) slices_S4096x5632_S4096x2816_0_0
def hostUp (x : Rows) (w : Up) : Hidden := extractStridedSlice S4096x2816 ![0, 2816] (product x w) slices_S4096x5632_S4096x2816_0_2816
def ones : Hidden := broadcastInDim S4096x2816 ![] bcast_S_S4096x2816 (constant (F := Ideal) S_ .f32 0x3F800000#32)
def hostSilu (g : Hidden) : Hidden := mulf g (Host.divf ones (addf ones (Host.exp (Host.negf g))))
def hostScaled (x : Rows) : Rows := mulf (broadcastInDim S4096x1024 ![] bcast_S_S4096x1024 (constant (F := Ideal) S_ .f32 0x3FB504F3#32)) x
def hostRes (s : Rows) (a u : Hidden) (d : Down) : Rows :=
  addf s (mulf (broadcastInDim S4096x1024 ![] bcast_S_S4096x1024 (constant (F := Ideal) S_ .f32 0x3F000000#32))
    (Host.dotGeneral (F := Ideal) (φ₁ := .f32) (φ₂ := .f32) dot_S4096x2816_S2816x1024_S4096x1024_1_0_0_1_n_n none (mulf (F := Ideal) (φ := .f32) a u) d))
def slabs (a : Up) : FVec Ideal S4x1024x1408 .bf16 :=
  transpose S4x1024x1408 [1, 0, 2] (shapeCast S1024x4x1408 (truncf .bf16 (a : FVec Ideal S1024x5632 .f32) bitsLt_bf16_f32) shapeCasts_S1024x5632_S1024x4x1408) transposes_S1024x4x1408_S4x1024x1408_1_0_2
def halves (a : Down) : FVec Ideal S2x1408x1024 .bf16 :=
  shapeCast S2x1408x1024 (truncf .bf16 (a : FVec Ideal S2816x1024 .f32) bitsLt_bf16_f32) shapeCasts_S2816x1024_S2x1408x1024
def narrowed (a : Hidden) : FVec Ideal S4096x2816 .bf16 := truncf .bf16 (a : FVec Ideal S4096x2816 .f32) bitsLt_bf16_f32
def lane (a : Lane) : FVec Ideal S1x1024 .f32 := shapeCast S1x1024 (a : FVec Ideal S1024 .f32) shapeCasts_S1024_S1x1024

/-! ## The values at an index -/

theorem gate_eq (x : Rows) (w : Up) : hostGate x w = gate x w := by
  funext i
  obtain ⟨t, j, rfl⟩ : ∃ (t : Fin 4096) (j : Fin 2816), i = ix2 t j := ⟨i 0, i 1, (ix2_eta i).symm⟩
  pointwise [hostGate, product]
  rfl
theorem up_eq (x : Rows) (w : Up) : hostUp x w = up x w := by
  funext i
  obtain ⟨t, j, rfl⟩ : ∃ (t : Fin 4096) (j : Fin 2816), i = ix2 t j := ⟨i 0, i 1, (ix2_eta i).symm⟩
  pointwise [hostUp, product]
  rfl
theorem silu_at (g : Hidden) (t : Fin 4096) (j : Fin 2816) : hostSilu g (ix2 t j) = g (ix2 t j) * Ideal.logistic (g (ix2 t j)) := by
  pointwise [hostSilu, ones]
  rfl
theorem res_at (x : Rows) (a u : Hidden) (d : Down) (t : Fin 4096) (l : Fin 1024) :
    hostRes (hostScaled x) a u d (ix2 t l) = α * x (ix2 t l) + half * ∑ j : Fin 2816, a (ix2 t j) * u (ix2 t j) * d (ix2 j l) := by
  pointwise [hostRes, hostScaled]
  rfl
theorem res_eq (x : Rows) (w : Up) (d : Down) : hostRes (hostScaled x) (hostSilu (hostGate x w)) (hostUp x w) d = res x w d := by
  funext i
  obtain ⟨t, l, rfl⟩ : ∃ (t : Fin 4096) (l : Fin 1024), i = ix2 t l := ⟨i 0, i 1, (ix2_eta i).symm⟩
  rw [res_at]
  simp only [silu_at, gate_eq, up_eq]
  rfl
theorem slabs_at (a : Up) (p : Fin 4) (k : Fin 1024) (l : Fin 1408) : slabs a (ix3 p k l) = a (ix2 k ⟨1408 * p.val + l.val, by omega⟩) := by
  pointwise [slabs]
  exact congrArg (fun q : Fin 5632 => a (ix2 k q)) (Fin.ext (by show p.val * 1408 + l.val = 1408 * p.val + l.val; omega))
theorem halves_at (a : Down) (p : Fin 2) (j : Fin 1408) (l : Fin 1024) : halves a (ix3 p j l) = a (ix2 ⟨1408 * p.val + j.val, by omega⟩ l) := by
  pointwise [halves]
  exact congrArg (fun q : Fin 2816 => a (ix2 q l)) (Fin.ext (by show p.val * 1408 + j.val = 1408 * p.val + j.val; omega))
theorem lane_at (a : Lane) (l : Fin 1024) : lane a (ix2 (0 : Fin 1) l) = a (ix1 l) := by
  pointwise [lane]
theorem narrowed_eq (a : Hidden) : narrowed a = (a : FVec Ideal S4096x2816 .bf16) := rfl

/-! ## The host lines, stretch by stretch -/

theorem at0_v1 (W : Env) : StableHlo.after (hostOps0 (F := Ideal)) W (Proc.devRef .tc main_v1) = (hostGate (W (Proc.devRef .tc main_arg0)) (W (Proc.devRef .tc main_arg1)) : Hidden) := by
  after_results
  rfl
theorem at0_v2 (W : Env) : StableHlo.after (hostOps0 (F := Ideal)) W (Proc.devRef .tc main_v2) = (hostUp (W (Proc.devRef .tc main_arg0)) (W (Proc.devRef .tc main_arg1)) : Hidden) := by
  after_results
  rfl
theorem at0_v4 (W : Env) : StableHlo.after (hostOps0 (F := Ideal)) W (Proc.devRef .tc main_v4) = (hostScaled (W (Proc.devRef .tc main_arg0)) : Rows) := by
  after_results
  rfl
theorem keep0_arg1 (W : Env) : StableHlo.after (hostOps0 (F := Ideal)) W (Proc.devRef .tc main_arg1) = W (Proc.devRef .tc main_arg1) := by
  after_results
theorem keep0_arg2 (W : Env) : StableHlo.after (hostOps0 (F := Ideal)) W (Proc.devRef .tc main_arg2) = W (Proc.devRef .tc main_arg2) := by
  after_results
theorem keep0_arg3 (W : Env) : StableHlo.after (hostOps0 (F := Ideal)) W (Proc.devRef .tc main_arg3) = W (Proc.devRef .tc main_arg3) := by
  after_results
theorem at1_v5 (W : Env) : StableHlo.after (hostOps0_1 (F := Ideal)) W (Proc.devRef .tc main_v5) = (hostSilu (W (Proc.devRef .tc main_v1)) : Hidden) := by
  simp only [hostOps0_1, StableHlo.TRef.nullary, StableHlo.TRef.ternary, StableHlo.TRef.binary, StableHlo.TRef.unary, StableHlo.TRef.toBuf, StableHlo.TRef.ofBuf, cast_eq]
  after_results_simp
  all_goals rfl
theorem keep1_v1 (W : Env) : StableHlo.after (hostOps0_1 (F := Ideal)) W (Proc.devRef .tc main_v1) = W (Proc.devRef .tc main_v1) := by
  simp only [hostOps0_1, StableHlo.TRef.nullary, StableHlo.TRef.ternary, StableHlo.TRef.binary, StableHlo.TRef.unary, StableHlo.TRef.toBuf, StableHlo.TRef.ofBuf, cast_eq]
  after_results_simp
theorem keep1_v2 (W : Env) : StableHlo.after (hostOps0_1 (F := Ideal)) W (Proc.devRef .tc main_v2) = W (Proc.devRef .tc main_v2) := by
  simp only [hostOps0_1, StableHlo.TRef.nullary, StableHlo.TRef.ternary, StableHlo.TRef.binary, StableHlo.TRef.unary, StableHlo.TRef.toBuf, StableHlo.TRef.ofBuf, cast_eq]
  after_results_simp
theorem keep1_v4 (W : Env) : StableHlo.after (hostOps0_1 (F := Ideal)) W (Proc.devRef .tc main_v4) = W (Proc.devRef .tc main_v4) := by
  simp only [hostOps0_1, StableHlo.TRef.nullary, StableHlo.TRef.ternary, StableHlo.TRef.binary, StableHlo.TRef.unary, StableHlo.TRef.toBuf, StableHlo.TRef.ofBuf, cast_eq]
  after_results_simp
theorem keep1_arg1 (W : Env) : StableHlo.after (hostOps0_1 (F := Ideal)) W (Proc.devRef .tc main_arg1) = W (Proc.devRef .tc main_arg1) := by
  simp only [hostOps0_1, StableHlo.TRef.nullary, StableHlo.TRef.ternary, StableHlo.TRef.binary, StableHlo.TRef.unary, StableHlo.TRef.toBuf, StableHlo.TRef.ofBuf, cast_eq]
  after_results_simp
theorem keep1_arg2 (W : Env) : StableHlo.after (hostOps0_1 (F := Ideal)) W (Proc.devRef .tc main_arg2) = W (Proc.devRef .tc main_arg2) := by
  simp only [hostOps0_1, StableHlo.TRef.nullary, StableHlo.TRef.ternary, StableHlo.TRef.binary, StableHlo.TRef.unary, StableHlo.TRef.toBuf, StableHlo.TRef.ofBuf, cast_eq]
  after_results_simp
theorem keep1_arg3 (W : Env) : StableHlo.after (hostOps0_1 (F := Ideal)) W (Proc.devRef .tc main_arg3) = W (Proc.devRef .tc main_arg3) := by
  simp only [hostOps0_1, StableHlo.TRef.nullary, StableHlo.TRef.ternary, StableHlo.TRef.binary, StableHlo.TRef.unary, StableHlo.TRef.toBuf, StableHlo.TRef.ofBuf, cast_eq]
  after_results_simp
theorem at2_v10 (W : Env) : StableHlo.after (hostOps0_2 (F := Ideal)) W (Proc.devRef .tc main_v10) = (hostRes (W (Proc.devRef .tc main_v4)) (W (Proc.devRef .tc main_v5)) (W (Proc.devRef .tc main_v2)) (W (Proc.devRef .tc main_arg2)) : Rows) := by
  after_results
  rfl
theorem at2_v13 (W : Env) : StableHlo.after (hostOps0_2 (F := Ideal)) W (Proc.devRef .tc main_v13) = (slabs (W (Proc.devRef .tc main_arg1)) : FVec Ideal S4x1024x1408 .bf16) := by
  after_results
  rfl
theorem at2_v15 (W : Env) : StableHlo.after (hostOps0_2 (F := Ideal)) W (Proc.devRef .tc main_v15) = (halves (W (Proc.devRef .tc main_arg2)) : FVec Ideal S2x1408x1024 .bf16) := by
  after_results
  rfl
theorem at2_v16 (W : Env) : StableHlo.after (hostOps0_2 (F := Ideal)) W (Proc.devRef .tc main_v16) = (narrowed (W (Proc.devRef .tc main_v1)) : FVec Ideal S4096x2816 .bf16) := by
  after_results
  rfl
theorem at2_v17 (W : Env) : StableHlo.after (hostOps0_2 (F := Ideal)) W (Proc.devRef .tc main_v17) = (narrowed (W (Proc.devRef .tc main_v2)) : FVec Ideal S4096x2816 .bf16) := by
  after_results
  rfl
theorem at2_v18 (W : Env) : StableHlo.after (hostOps0_2 (F := Ideal)) W (Proc.devRef .tc main_v18) = (lane (W (Proc.devRef .tc main_arg3)) : FVec Ideal S1x1024 .f32) := by
  after_results
  rfl

variable (m : (ℓ : Loc nD τ sig) → Buf (Elt Ideal) ℓ) (c : Dev nD)

/-- The call's arguments on a device. -/
abbrev argX : Rows := m ((c.tc : Thread nD τ).loc main_arg0)
abbrev argW : Up := m ((c.tc : Thread nD τ).loc main_arg1)
abbrev argD : Down := m ((c.tc : Thread nD τ).loc main_arg2)
abbrev argG : Lane := m ((c.tc : Thread nD τ).loc main_arg3)
abbrev argO : Rows := m ((c.tc : Thread nD τ).loc main_arg5)

theorem after_app (l l' : List (HloOp τ sig (Elt Ideal))) (V : Env) : StableHlo.after (l ++ l') V = StableHlo.after l' (StableHlo.after l V) := by
  induction l generalizing V with
  | nil => rfl
  | cons o l ih => exact ih _

theorem cut : List.flatten [hostOps0 (F := Ideal), hostOps0_1, hostOps0_2] = hostOps0 ++ (hostOps0_1 ++ hostOps0_2) := rfl

theorem V0_eq : V0 m c = StableHlo.after (hostOps0_2 (F := Ideal)) (StableHlo.after (hostOps0_1 (F := Ideal)) (StableHlo.after (hostOps0 (F := Ideal)) (fun b => m (c, b)))) := by
  unfold V0
  rw [cut, after_app, after_app]

theorem V_v10 : V m c main_v10 = (res (argX m c) (argW m c) (argD m c) : Rows) := by
  show V0 m c (Proc.devRef .tc main_v10) = _
  rw [V0_eq, at2_v10, keep1_v4, at1_v5, keep1_v2, keep1_arg2, at0_v4, at0_v1, at0_v2, keep0_arg2]
  exact res_eq _ _ _
theorem V_v13 : V m c main_v13 = (slabs (argW m c) : FVec Ideal S4x1024x1408 .bf16) := by
  show V0 m c (Proc.devRef .tc main_v13) = _
  rw [V0_eq, at2_v13, keep1_arg1, keep0_arg1]
theorem V_v15 : V m c main_v15 = (halves (argD m c) : FVec Ideal S2x1408x1024 .bf16) := by
  show V0 m c (Proc.devRef .tc main_v15) = _
  rw [V0_eq, at2_v15, keep1_arg2, keep0_arg2]
theorem V_v16 : V m c main_v16 = (gate (argX m c) (argW m c) : FVec Ideal S4096x2816 .bf16) := by
  show V0 m c (Proc.devRef .tc main_v16) = _
  rw [V0_eq, at2_v16, keep1_v1, at0_v1]
  exact gate_eq _ _
theorem V_v17 : V m c main_v17 = (up (argX m c) (argW m c) : FVec Ideal S4096x2816 .bf16) := by
  show V0 m c (Proc.devRef .tc main_v17) = _
  rw [V0_eq, at2_v17, keep1_v2, at0_v2]
  exact up_eq _ _
theorem V_v18 : V m c main_v18 = (lane (argG m c) : FVec Ideal S1x1024 .f32) := by
  show V0 m c (Proc.devRef .tc main_v18) = _
  rw [V0_eq, at2_v18, keep1_arg3, keep0_arg3]

/-- Which block of its array each window holds at a point. -/
theorem place : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0, 0] ∧ win0_6.index t = ![0, 0, 0] ∧ win0_9.index t = ![t.val, 0] ∧ win0_11.index t = ![0, 0] ∧ win0_12.index t = ![0, 0] :=
  (by decide +kernel : ∀ t : Fin grid0.N, _)

theorem block_o (t : Fin cfg0.N) (u : Fin 256) (k : Fin 1024) (h : 256 * t.val + u.val < 4096) :
    (iblk m c 0 t : FVec Ideal S256x1024 .f32) (ix2 u k) = argO m c (ix2 ⟨256 * t.val + u.val, h⟩ k) := by
  have e : win0_0.index t = ![t.val, 0] := (place t).1
  have e0 : win0_0.index t (0 : Fin 2) = t.val := congrFun e 0
  have e1 : win0_0.index t (1 : Fin 2) = 0 := congrFun e 1
  have h0 : ((win0_0.blk t).view.emb (ix2 u k) 0).val = win0_0.index t (0 : Fin 2) * 256 + 1 * u.val := rfl
  have h1 : ((win0_0.blk t).view.emb (ix2 u k) 1).val = win0_0.index t (1 : Fin 2) * 1024 + 1 * k.val := rfl
  rw [e0] at h0
  rw [e1] at h1
  have hp : ((win0_0.blk t).view.emb (ix2 u k) : S4096x1024.Idx) = ix2 ⟨256 * t.val + u.val, h⟩ k := by
    funext a
    match a with
    | ⟨0, _⟩ => exact Fin.ext (h0.trans (by show _ = 256 * t.val + u.val; omega))
    | ⟨1, _⟩ => exact Fin.ext (h1.trans (by show _ = k.val; omega))
  show (V m c main_arg5 : FVec Ideal S4096x1024 .f32) ((win0_0.blk t).view.emb (ix2 u k)) = _
  rw [hp]
  exact congrFun (V_main_arg5 m c) (ix2 _ k)

theorem block_r (t : Fin cfg0.N) (u : Fin 256) (k : Fin 1024) (h : 256 * t.val + u.val < 4096) :
    (iblk m c 1 t : FVec Ideal S256x1024 .f32) (ix2 u k) = res (argX m c) (argW m c) (argD m c) (ix2 ⟨256 * t.val + u.val, h⟩ k) := by
  have e : win0_1.index t = ![t.val, 0] := (place t).2.1
  have e0 : win0_1.index t (0 : Fin 2) = t.val := congrFun e 0
  have e1 : win0_1.index t (1 : Fin 2) = 0 := congrFun e 1
  have h0 : ((win0_1.blk t).view.emb (ix2 u k) 0).val = win0_1.index t (0 : Fin 2) * 256 + 1 * u.val := rfl
  have h1 : ((win0_1.blk t).view.emb (ix2 u k) 1).val = win0_1.index t (1 : Fin 2) * 1024 + 1 * k.val := rfl
  rw [e0] at h0
  rw [e1] at h1
  have hp : ((win0_1.blk t).view.emb (ix2 u k) : S4096x1024.Idx) = ix2 ⟨256 * t.val + u.val, h⟩ k := by
    funext a
    match a with
    | ⟨0, _⟩ => exact Fin.ext (h0.trans (by show _ = 256 * t.val + u.val; omega))
    | ⟨1, _⟩ => exact Fin.ext (h1.trans (by show _ = k.val; omega))
  show (V m c main_v10 : FVec Ideal S4096x1024 .f32) ((win0_1.blk t).view.emb (ix2 u k)) = _
  rw [hp]
  exact congrFun (V_v10 m c) (ix2 _ k)

theorem block_a (t : Fin cfg0.N) (u : Fin 256) (k : Fin 2816) (h : 256 * t.val + u.val < 4096) :
    (iblk m c 3 t : FVec Ideal S256x2816 .bf16) (ix2 u k) = gate (argX m c) (argW m c) (ix2 ⟨256 * t.val + u.val, h⟩ k) := by
  have e : win0_3.index t = ![t.val, 0] := (place t).2.2.2.1
  have e0 : win0_3.index t (0 : Fin 2) = t.val := congrFun e 0
  have e1 : win0_3.index t (1 : Fin 2) = 0 := congrFun e 1
  have h0 : ((win0_3.blk t).view.emb (ix2 u k) 0).val = win0_3.index t (0 : Fin 2) * 256 + 1 * u.val := rfl
  have h1 : ((win0_3.blk t).view.emb (ix2 u k) 1).val = win0_3.index t (1 : Fin 2) * 2816 + 1 * k.val := rfl
  rw [e0] at h0
  rw [e1] at h1
  have hp : ((win0_3.blk t).view.emb (ix2 u k) : S4096x2816.Idx) = ix2 ⟨256 * t.val + u.val, h⟩ k := by
    funext a
    match a with
    | ⟨0, _⟩ => exact Fin.ext (h0.trans (by show _ = 256 * t.val + u.val; omega))
    | ⟨1, _⟩ => exact Fin.ext (h1.trans (by show _ = k.val; omega))
  show (V m c main_v16 : FVec Ideal S4096x2816 .bf16) ((win0_3.blk t).view.emb (ix2 u k)) = _
  rw [hp]
  exact congrFun (V_v16 m c) (ix2 _ k)

theorem block_u (t : Fin cfg0.N) (u : Fin 256) (k : Fin 2816) (h : 256 * t.val + u.val < 4096) :
    (iblk m c 4 t : FVec Ideal S256x2816 .bf16) (ix2 u k) = up (argX m c) (argW m c) (ix2 ⟨256 * t.val + u.val, h⟩ k) := by
  have e : win0_4.index t = ![t.val, 0] := (place t).2.2.2.2.1
  have e0 : win0_4.index t (0 : Fin 2) = t.val := congrFun e 0
  have e1 : win0_4.index t (1 : Fin 2) = 0 := congrFun e 1
  have h0 : ((win0_4.blk t).view.emb (ix2 u k) 0).val = win0_4.index t (0 : Fin 2) * 256 + 1 * u.val := rfl
  have h1 : ((win0_4.blk t).view.emb (ix2 u k) 1).val = win0_4.index t (1 : Fin 2) * 2816 + 1 * k.val := rfl
  rw [e0] at h0
  rw [e1] at h1
  have hp : ((win0_4.blk t).view.emb (ix2 u k) : S4096x2816.Idx) = ix2 ⟨256 * t.val + u.val, h⟩ k := by
    funext a
    match a with
    | ⟨0, _⟩ => exact Fin.ext (h0.trans (by show _ = 256 * t.val + u.val; omega))
    | ⟨1, _⟩ => exact Fin.ext (h1.trans (by show _ = k.val; omega))
  show (V m c main_v17 : FVec Ideal S4096x2816 .bf16) ((win0_4.blk t).view.emb (ix2 u k)) = _
  rw [hp]
  exact congrFun (V_v17 m c) (ix2 _ k)

theorem block_w (t : Fin cfg0.N) (p : Fin 4) (k : Fin 1024) (l : Fin 1408) :
    (iblk m c 5 t : FVec Ideal S4x1024x1408 .bf16) (ix3 p k l) = argW m c (ix2 k ⟨1408 * p.val + l.val, by omega⟩) := by
  have e : win0_5.index t = ![0, 0, 0] := (place t).2.2.2.2.2.1
  have e0 : win0_5.index t (0 : Fin 3) = 0 := congrFun e 0
  have e1 : win0_5.index t (1 : Fin 3) = 0 := congrFun e 1
  have e2 : win0_5.index t (2 : Fin 3) = 0 := congrFun e 2
  have h0 : ((win0_5.blk t).view.emb (ix3 p k l) 0).val = win0_5.index t (0 : Fin 3) * 4 + 1 * p.val := rfl
  have h1 : ((win0_5.blk t).view.emb (ix3 p k l) 1).val = win0_5.index t (1 : Fin 3) * 1024 + 1 * k.val := rfl
  have h2 : ((win0_5.blk t).view.emb (ix3 p k l) 2).val = win0_5.index t (2 : Fin 3) * 1408 + 1 * l.val := rfl
  rw [e0] at h0
  rw [e1] at h1
  rw [e2] at h2
  have hp : ((win0_5.blk t).view.emb (ix3 p k l) : S4x1024x1408.Idx) = ix3 p k l := by
    funext a
    match a with
    | ⟨0, _⟩ => exact Fin.ext (h0.trans (by show _ = p.val; omega))
    | ⟨1, _⟩ => exact Fin.ext (h1.trans (by show _ = k.val; omega))
    | ⟨2, _⟩ => exact Fin.ext (h2.trans (by show _ = l.val; omega))
  show (V m c main_v13 : FVec Ideal S4x1024x1408 .bf16) ((win0_5.blk t).view.emb (ix3 p k l)) = _
  rw [hp]
  exact (congrFun (V_v13 m c) (ix3 p k l)).trans (slabs_at _ p k l)

theorem block_d (t : Fin cfg0.N) (p : Fin 2) (j : Fin 1408) (l : Fin 1024) :
    (iblk m c 6 t : FVec Ideal S2x1408x1024 .bf16) (ix3 p j l) = argD m c (ix2 ⟨1408 * p.val + j.val, by omega⟩ l) := by
  have e : win0_6.index t = ![0, 0, 0] := (place t).2.2.2.2.2.2.1
  have e0 : win0_6.index t (0 : Fin 3) = 0 := congrFun e 0
  have e1 : win0_6.index t (1 : Fin 3) = 0 := congrFun e 1
  have e2 : win0_6.index t (2 : Fin 3) = 0 := congrFun e 2
  have h0 : ((win0_6.blk t).view.emb (ix3 p j l) 0).val = win0_6.index t (0 : Fin 3) * 2 + 1 * p.val := rfl
  have h1 : ((win0_6.blk t).view.emb (ix3 p j l) 1).val = win0_6.index t (1 : Fin 3) * 1408 + 1 * j.val := rfl
  have h2 : ((win0_6.blk t).view.emb (ix3 p j l) 2).val = win0_6.index t (2 : Fin 3) * 1024 + 1 * l.val := rfl
  rw [e0] at h0
  rw [e1] at h1
  rw [e2] at h2
  have hp : ((win0_6.blk t).view.emb (ix3 p j l) : S2x1408x1024.Idx) = ix3 p j l := by
    funext a
    match a with
    | ⟨0, _⟩ => exact Fin.ext (h0.trans (by show _ = p.val; omega))
    | ⟨1, _⟩ => exact Fin.ext (h1.trans (by show _ = j.val; omega))
    | ⟨2, _⟩ => exact Fin.ext (h2.trans (by show _ = l.val; omega))
  show (V m c main_v15 : FVec Ideal S2x1408x1024 .bf16) ((win0_6.blk t).view.emb (ix3 p j l)) = _
  rw [hp]
  exact (congrFun (V_v15 m c) (ix3 p j l)).trans (halves_at _ p j l)

theorem block_g (t : Fin cfg0.N) (l : Fin 1024) :
    (iblk m c 2 t : FVec Ideal S1x1024 .f32) (ix2 (0 : Fin 1) l) = argG m c (ix1 l) := by
  have e : win0_2.index t = ![0, 0] := (place t).2.2.1
  have e0 : win0_2.index t (0 : Fin 2) = 0 := congrFun e 0
  have e1 : win0_2.index t (1 : Fin 2) = 0 := congrFun e 1
  have h0 : ((win0_2.blk t).view.emb (ix2 (0 : Fin 1) l) 0).val = win0_2.index t (0 : Fin 2) * 1 + 1 * 0 := rfl
  have h1 : ((win0_2.blk t).view.emb (ix2 (0 : Fin 1) l) 1).val = win0_2.index t (1 : Fin 2) * 1024 + 1 * l.val := rfl
  rw [e0] at h0
  rw [e1] at h1
  have hp : ((win0_2.blk t).view.emb (ix2 (0 : Fin 1) l) : S1x1024.Idx) = ix2 (0 : Fin 1) l := by
    funext a
    match a with
    | ⟨0, _⟩ => exact Fin.ext (h0.trans (by show _ = 0; omega))
    | ⟨1, _⟩ => exact Fin.ext (h1.trans (by show _ = l.val; omega))
  show (V m c main_v18 : FVec Ideal S1x1024 .f32) ((win0_2.blk t).view.emb (ix2 (0 : Fin 1) l)) = _
  rw [hp]
  exact (congrFun (V_v18 m c) (ix2 (0 : Fin 1) l)).trans (lane_at _ l)

theorem row (t : Fin cfg0.N) : t.val < 16 := lt_of_lt_of_eq t.isLt N_0

end Cert.Kernel5Ideal.Ffn
-- ==== Proof.FfnBwdRun.lean ====
module

public import Idealize.ShloMosaic.Lib.Pointwise
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.StableHlo.Run
public import Idealize.ShloMosaic.Lib.Pipeline.Regions
public import proofs.«01_k».proof.Proof.Gen.Kernel5Ideal.Frame
public import proofs.«01_k».proof.Proof.FfnBwdHost

/-!
# The backward call, whole

The input's gradient row by row, the gradients of the scale and the shift summed over the grid points, and every run's end.
-/

@[expose] public section

set_option maxRecDepth 16384

noncomputable section

namespace Cert.Kernel5Ideal.Ffn

open Idealize.ShloMosaic Idealize.ShloMosaic.TcCoe Idealize.SL.Sem Finset
open Cert.Kernel5Ideal Cert.Kernel5Ideal.Gen Cert.Ffn

/-! ## The gradients as functions of the arguments -/

section Spec

variable (x : Rows) (w : Up) (d : Down) (γ : Lane) (o : Rows)

/-- The residual stream's gradient in a row. -/
def gradRow (t : Fin 4096) (l : Fin 1024) : EReal := back (fun k => res x w d (ix2 t k)) (fun k => o (ix2 t k) * γ (ix1 k)) l
/-- The activation's gradient. -/
def actGrad (t : Fin 4096) (j : Fin 2816) : EReal := ∑ l : Fin 1024, half * gradRow x w d γ o t l * d (ix2 j l)
/-- The input's gradient. -/
def inGrad : Rows := fun i =>
  α * gradRow x w d γ o (i 0) (i 1)
    + (∑ j : Fin 2816, dgate (actGrad x w d γ o (i 0) j) (gate x w (ix2 (i 0) j)) (up x w (ix2 (i 0) j)) * w (ix2 (i 1) ⟨j.val, by omega⟩))
    + ∑ j : Fin 2816, dup (actGrad x w d γ o (i 0) j) (gate x w (ix2 (i 0) j)) * w (ix2 (i 1) ⟨2816 + j.val, by omega⟩)
/-- The scale's gradient. -/
def scaleGrad : Lane := fun i => ∑ t : Fin 4096, o (ix2 t (i 0)) * unit (fun k => res x w d (ix2 t k)) (i 0)
/-- The shift's gradient. -/
def shiftGrad : Lane := fun i => ∑ t : Fin 4096, o (ix2 t (i 0))

end Spec

variable (m : (ℓ : Loc nD τ sig) → Buf (Elt Ideal) ℓ) (c : Dev nD)

/-! ## A point's input gradient -/

theorem drf_at (t : Fin cfg0.N) (u : Fin 256) (l : Fin 1024) (h : 256 * t.val + u.val < 4096) :
    drf (iblk m c 0 t) (iblk m c 1 t) (iblk m c 2 t) u l = gradRow (argX m c) (argW m c) (argD m c) (argG m c) (argO m c) ⟨256 * t.val + u.val, h⟩ l := by
  unfold drf gradRow
  refine congrArg₂ (fun a b => back a b l) (funext fun k => block_r m c t u k h) (funext fun k => ?_)
  rw [block_o m c t u k h, block_g]
theorem da_at (t : Fin cfg0.N) (p : Fin 2) (u : Fin 256) (j : Fin 1408) (h : 256 * t.val + u.val < 4096) :
    da (iblk m c 0 t) (iblk m c 1 t) (iblk m c 2 t) (iblk m c 6 t) p u j
      = actGrad (argX m c) (argW m c) (argD m c) (argG m c) (argO m c) ⟨256 * t.val + u.val, h⟩ ⟨1408 * p.val + j.val, by omega⟩ := by
  refine Finset.sum_congr rfl fun l _ => ?_
  rw [drf_at m c t u l h, block_d]

/-- A row's gate term at a hidden column. -/
def gateTerm (t : Fin 4096) (l : Fin 1024) (j : Fin 2816) : EReal :=
  dgate (actGrad (argX m c) (argW m c) (argD m c) (argG m c) (argO m c) t j) (gate (argX m c) (argW m c) (ix2 t j)) (up (argX m c) (argW m c) (ix2 t j)) * argW m c (ix2 l ⟨j.val, by omega⟩)
/-- The other half's term. -/
def upTerm (t : Fin 4096) (l : Fin 1024) (j : Fin 2816) : EReal :=
  dup (actGrad (argX m c) (argW m c) (argD m c) (argG m c) (argO m c) t j) (gate (argX m c) (argW m c) (ix2 t j)) * argW m c (ix2 l ⟨2816 + j.val, by omega⟩)

theorem gate_slab (t : Fin cfg0.N) (p : Fin 2) (u : Fin 256) (l : Fin 1024) (h : 256 * t.val + u.val < 4096) (j : Fin 1408) :
    dg (iblk m c 0 t) (iblk m c 1 t) (iblk m c 2 t) (iblk m c 3 t) (iblk m c 4 t) (iblk m c 6 t) p u j * (iblk m c 5 t : FVec Ideal S4x1024x1408 .bf16) (ix3 ⟨p.val, by omega⟩ l j)
      = gateTerm m c ⟨256 * t.val + u.val, h⟩ l ⟨1408 * p.val + j.val, by omega⟩ := by
  unfold dg gateTerm
  rw [da_at m c t p u j h, block_a m c t u _ h, block_u m c t u _ h, block_w]
theorem up_slab (t : Fin cfg0.N) (p : Fin 2) (u : Fin 256) (l : Fin 1024) (h : 256 * t.val + u.val < 4096) (j : Fin 1408) :
    du (iblk m c 0 t) (iblk m c 1 t) (iblk m c 2 t) (iblk m c 3 t) (iblk m c 6 t) p u j * (iblk m c 5 t : FVec Ideal S4x1024x1408 .bf16) (ix3 ⟨2 + p.val, by omega⟩ l j)
      = upTerm m c ⟨256 * t.val + u.val, h⟩ l ⟨1408 * p.val + j.val, by omega⟩ := by
  unfold du upTerm
  rw [da_at m c t p u j h, block_a m c t u _ h, block_w]
  exact congrArg (fun q : Fin 5632 => dup _ _ * argW m c (ix2 l q)) (Fin.ext (by show 1408 * (2 + p.val) + j.val = 2816 + (1408 * p.val + j.val); omega))

theorem five (a b c d e : EReal) : a + b + c + d + e = a + (b + d) + (c + e) := by
  rw [add_assoc a b c, add_assoc a (b + c) d, add_assoc a (b + c + d) e, add_assoc a (b + d) (c + e)]
  refine congrArg (a + ·) ?_
  rw [add_right_comm b c d, add_assoc (b + d) c e]

theorem dx_row (t : Fin cfg0.N) (u : Fin 256) (l : Fin 1024) (h : 256 * t.val + u.val < 4096) :
    dx (iblk m c 0 t) (iblk m c 1 t) (iblk m c 2 t) (iblk m c 3 t) (iblk m c 4 t) (iblk m c 5 t) (iblk m c 6 t) u l
      = inGrad (argX m c) (argW m c) (argD m c) (argG m c) (argO m c) (ix2 ⟨256 * t.val + u.val, h⟩ l) := by
  have e : inGrad (argX m c) (argW m c) (argD m c) (argG m c) (argO m c) (ix2 ⟨256 * t.val + u.val, h⟩ l)
      = α * gradRow (argX m c) (argW m c) (argD m c) (argG m c) (argO m c) ⟨256 * t.val + u.val, h⟩ l
        + (∑ j : Fin 2816, gateTerm m c ⟨256 * t.val + u.val, h⟩ l j) + ∑ j : Fin 2816, upTerm m c ⟨256 * t.val + u.val, h⟩ l j := rfl
  rw [e, sum_halves (gateTerm m c ⟨256 * t.val + u.val, h⟩ l), sum_halves (upTerm m c ⟨256 * t.val + u.val, h⟩ l), ← five]
  unfold dx
  refine congrArg₂ (· + ·) (congrArg₂ (· + ·) (congrArg₂ (· + ·) (congrArg₂ (· + ·) (congrArg (α * ·) (drf_at m c t u l h)) ?_) ?_) ?_) ?_
  · exact Finset.sum_congr rfl fun j _ => gate_slab m c t 0 u l h j
  · exact Finset.sum_congr rfl fun j _ => up_slab m c t 0 u l h j
  · exact Finset.sum_congr rfl fun j _ => gate_slab m c t 1 u l h j
  · exact Finset.sum_congr rfl fun j _ => up_slab m c t 1 u l h j

theorem final9 : (dats m 0 c).arrAt 9 cfg0.N = (inGrad (argX m c) (argW m c) (argD m c) (argG m c) (argO m c) : FVec Ideal ⟨2, ![4096, 1024]⟩ .f32) := by
  refine (dats m 0 c).arrAt_eq_of_covers 9 _ (by decide +kernel) fun t hf y => ?_
  blk_simp
  rw [after0_9]
  have hN := row t
  have e : win0_9.index t = ![t.val, 0] := (place t).2.2.2.2.2.2.2.1
  have y0 : (y 0).val < 256 := (y 0).isLt
  have y1 : (y 1).val < 1024 := (y 1).isLt
  have h0 : ((win0_9.blk t).view.emb y 0).val = win0_9.index t (0 : Fin 2) * 256 + 1 * (y 0).val := rfl
  have h1 : ((win0_9.blk t).view.emb y 1).val = win0_9.index t (1 : Fin 2) * 1024 + 1 * (y 1).val := rfl
  have e0 : win0_9.index t (0 : Fin 2) = t.val := congrFun e 0
  have e1 : win0_9.index t (1 : Fin 2) = 0 := congrFun e 1
  rw [e0] at h0
  rw [e1] at h1
  have ey : (y : (⟨2, ![256, 1024]⟩ : Shape).Idx) = ix2 ⟨(y 0).val, y0⟩ ⟨(y 1).val, y1⟩ := by
    funext a
    match a with
    | ⟨0, _⟩ => rfl
    | ⟨1, _⟩ => rfl
  have hp : ((win0_9.blk t).view.emb y : (⟨2, ![4096, 1024]⟩ : Shape).Idx) = ix2 ⟨256 * t.val + (y 0).val, by omega⟩ ⟨(y 1).val, y1⟩ := by
    funext a
    match a with
    | ⟨0, _⟩ => exact Fin.ext (h0.trans (by show _ = 256 * t.val + (y 0).val; omega))
    | ⟨1, _⟩ => exact Fin.ext (h1.trans (by show _ = (y 1).val; omega))
  refine (congrArg _ ey).trans ((point_dx m c t ⟨(y 0).val, y0⟩ ⟨(y 1).val, y1⟩).trans ((dx_row m c t ⟨(y 0).val, y0⟩ ⟨(y 1).val, y1⟩ (by show 256 * t.val + (y 0).val < 4096; omega)).trans ?_))
  exact (congrArg (inGrad (argX m c) (argW m c) (argD m c) (argG m c) (argO m c)) hp).symm

/-! ## The sums over the points -/

/-- A sum over all rows, block by block. -/
theorem sum_rows (f : Fin 4096 → EReal) : ∑ t, f t = ∑ s : Fin 16, ∑ u : Fin 256, f ⟨256 * s.val + u.val, by omega⟩ := by
  rw [← Fintype.sum_prod_type' (f := fun (s : Fin 16) (u : Fin 256) => f ⟨256 * s.val + u.val, by omega⟩)]
  refine (Equiv.sum_comp (finProdFinEquiv (m := 16) (n := 256)) f).symm.trans (Finset.sum_congr rfl fun q _ => congrArg f (Fin.ext ?_))
  show q.2.val + 256 * q.1.val = 256 * q.1.val + q.2.val
  omega

/-- One block's part of a sum over all rows. -/
def part (f : Fin 4096 → EReal) (s : ℕ) : EReal := if h : s < 16 then ∑ u : Fin 256, f ⟨256 * s + u.val, by omega⟩ else 0

theorem sum_parts (f : Fin 4096 → EReal) : ∑ s ∈ range 16, part f s = ∑ t, f t := by
  rw [sum_rows, Finset.sum_range]
  refine Finset.sum_congr rfl fun s _ => ?_
  unfold part
  rw [dif_pos s.isLt]

/-- A row's term of the scale's gradient, and of the shift's. -/
def scaleTerm (l : Fin 1024) (t : Fin 4096) : EReal := argO m c (ix2 t l) * unit (fun k => res (argX m c) (argW m c) (argD m c) (ix2 t k)) l
def shiftTerm (l : Fin 1024) (t : Fin 4096) : EReal := argO m c (ix2 t l)

theorem scale_block (t : Fin cfg0.N) (l : Fin 1024) :
    ∑ u : Fin 256, blkD m c t (ix2 u l) * unit (fun k => blkR m c t (ix2 u k)) l = part (scaleTerm m c l) t.val := by
  unfold part
  rw [dif_pos (row t)]
  refine Finset.sum_congr rfl fun u _ => ?_
  have h : 256 * t.val + u.val < 4096 := by have := row t; omega
  exact congrArg₂ (· * ·) (block_o m c t u l h) (congrArg (fun v => unit v l) (funext fun k => block_r m c t u k h))
theorem shift_block (t : Fin cfg0.N) (l : Fin 1024) :
    ∑ u : Fin 256, blkD m c t (ix2 u l) = part (shiftTerm m c l) t.val := by
  unfold part
  rw [dif_pos (row t)]
  refine Finset.sum_congr rfl fun u _ => ?_
  exact block_o m c t u l (by have := row t; omega)

theorem scale_sum (l : Fin 1024) (n : ℕ) (hn : n < cfg0.N) :
    (outsAt0 m c n hn).2.2.2.2.1 (ix2 (0 : Fin 1) l) = ∑ s ∈ range (n + 1), part (scaleTerm m c l) s := by
  induction n with
  | zero =>
    refine (scale_first m c ⟨0, hn⟩ rfl l).trans ((scale_block m c ⟨0, hn⟩ l).trans ?_)
    rw [Finset.sum_range_one]
  | succ n ih =>
    have hN : n + 1 < 16 := row ⟨n + 1, hn⟩
    refine (scale_next m c ⟨n + 1, hn⟩ (by show ¬ (n + 1) % 16 = 0; omega) l).trans ?_
    rw [scale_block, Finset.sum_range_succ]
    exact congrArg (· + _) (ih (Nat.lt_of_succ_lt hn))
theorem shift_sum (l : Fin 1024) (n : ℕ) (hn : n < cfg0.N) :
    (outsAt0 m c n hn).2.2.2.2.2 (ix2 (0 : Fin 1) l) = ∑ s ∈ range (n + 1), part (shiftTerm m c l) s := by
  induction n with
  | zero =>
    refine (shift_first m c ⟨0, hn⟩ rfl l).trans ((shift_block m c ⟨0, hn⟩ l).trans ?_)
    rw [Finset.sum_range_one]
  | succ n ih =>
    have hN : n + 1 < 16 := row ⟨n + 1, hn⟩
    refine (shift_next m c ⟨n + 1, hn⟩ (by show ¬ (n + 1) % 16 = 0; omega) l).trans ?_
    rw [shift_block, Finset.sum_range_succ]
    exact congrArg (· + _) (ih (Nat.lt_of_succ_lt hn))

theorem scale_last (t : Fin cfg0.N) (h : t.val = 15) (l : Fin 1024) :
    (outsAt0 m c t.val t.isLt).2.2.2.2.1 (ix2 (0 : Fin 1) l) = scaleGrad (argX m c) (argW m c) (argD m c) (argO m c) (ix1 l) := by
  refine (scale_sum m c l t.val t.isLt).trans ?_
  rw [h, sum_parts]
  rfl
theorem shift_last (t : Fin cfg0.N) (h : t.val = 15) (l : Fin 1024) :
    (outsAt0 m c t.val t.isLt).2.2.2.2.2 (ix2 (0 : Fin 1) l) = shiftGrad (argO m c) (ix1 l) := by
  refine (shift_sum m c l t.val t.isLt).trans ?_
  rw [h, sum_parts]
  rfl

theorem final11 : (dats m 0 c).arrAt 11 cfg0.N = (fun i => scaleGrad (argX m c) (argW m c) (argD m c) (argO m c) (ix1 (i 1)) : FVec Ideal ⟨2, ![1, 1024]⟩ .f32) := by
  refine (dats m 0 c).arrAt_eq_of_covers 11 _ (by decide +kernel) fun t hf y => ?_
  blk_simp
  rw [after0_11]
  have hm : t.val % 16 = 15 := (flush0_11 t).mp hf
  have hN := row t
  have e : win0_11.index t = ![0, 0] := (place t).2.2.2.2.2.2.2.2.1
  have y0 : (y 0).val < 1 := (y 0).isLt
  have y1 : (y 1).val < 1024 := (y 1).isLt
  have h1 : ((win0_11.blk t).view.emb y 1).val = win0_11.index t (1 : Fin 2) * 1024 + 1 * (y 1).val := rfl
  have e1 : win0_11.index t (1 : Fin 2) = 0 := congrFun e 1
  rw [e1] at h1
  have ey : (y : (⟨2, ![1, 1024]⟩ : Shape).Idx) = ix2 (0 : Fin 1) ⟨(y 1).val, y1⟩ := by
    funext a
    match a with
    | ⟨0, _⟩ => exact Fin.ext (by show (y 0).val = 0; omega)
    | ⟨1, _⟩ => rfl
  refine (congrArg _ ey).trans ((scale_last m c t (by omega) ⟨(y 1).val, y1⟩).trans ?_)
  exact congrArg (fun q : Fin 1024 => scaleGrad (argX m c) (argW m c) (argD m c) (argO m c) (ix1 q)) (Fin.ext (by show (y 1).val = ((win0_11.blk t).view.emb y 1).val; omega))

theorem final12 : (dats m 0 c).arrAt 12 cfg0.N = (fun i => shiftGrad (argO m c) (ix1 (i 1)) : FVec Ideal ⟨2, ![1, 1024]⟩ .f32) := by
  refine (dats m 0 c).arrAt_eq_of_covers 12 _ (by decide +kernel) fun t hf y => ?_
  blk_simp
  rw [after0_12]
  have hm : t.val % 16 = 15 := (flush0_12 t).mp hf
  have hN := row t
  have e : win0_12.index t = ![0, 0] := (place t).2.2.2.2.2.2.2.2.2
  have y0 : (y 0).val < 1 := (y 0).isLt
  have y1 : (y 1).val < 1024 := (y 1).isLt
  have h1 : ((win0_12.blk t).view.emb y 1).val = win0_12.index t (1 : Fin 2) * 1024 + 1 * (y 1).val := rfl
  have e1 : win0_12.index t (1 : Fin 2) = 0 := congrFun e 1
  rw [e1] at h1
  have ey : (y : (⟨2, ![1, 1024]⟩ : Shape).Idx) = ix2 (0 : Fin 1) ⟨(y 1).val, y1⟩ := by
    funext a
    match a with
    | ⟨0, _⟩ => exact Fin.ext (by show (y 0).val = 0; omega)
    | ⟨1, _⟩ => rfl
  refine (congrArg _ ey).trans ((shift_last m c t (by omega) ⟨(y 1).val, y1⟩).trans ?_)
  exact congrArg (fun q : Fin 1024 => shiftGrad (argO m c) (ix1 q)) (Fin.ext (by show (y 1).val = ((win0_12.blk t).view.emb y 1).val; omega))

/-! ## Every run -/

theorem flat_at (a : FVec Ideal S1x1024 .f32) (l : Fin 1024) :
    (shapeCast S1024 a shapeCasts_S1x1024_S1024 : FVec Ideal S1024 .f32) (ix1 l) = a (ix2 (0 : Fin 1) l) := by
  pointwise []
theorem flat_eq (f : Lane) : (shapeCast S1024 (fun i => f (ix1 (i 1)) : FVec Ideal S1x1024 .f32) shapeCasts_S1x1024_S1024 : FVec Ideal S1024 .f32) = f := by
  funext i
  obtain ⟨l, rfl⟩ : ∃ l : Fin 1024, i = ix1 l := ⟨i 0, funext fun a => by match a with | ⟨0, _⟩ => rfl⟩
  exact flat_at _ l
theorem tail_v20 (W : Valuation τ sig (Elt Ideal)) : StableHlo.after hostOps1 W (Proc.devRef .tc main_v20)
    = (shapeCast S1024 (W (Proc.devRef .tc main_v19_4) : FVec Ideal S1x1024 .f32) shapeCasts_S1x1024_S1024 : FVec Ideal S1024 .f32) := by
  after_results
  rfl
theorem tail_v21 (W : Valuation τ sig (Elt Ideal)) : StableHlo.after hostOps1 W (Proc.devRef .tc main_v21)
    = (shapeCast S1024 (W (Proc.devRef .tc main_v19_5) : FVec Ideal S1x1024 .f32) shapeCasts_S1x1024_S1024 : FVec Ideal S1024 .f32) := by
  after_results
  rfl
theorem exit (w : Fin cfg0.W) : Pipeline.withArrays (cfgs 0).spec c (V0 m c) (fun w => (dats m 0 c).arrAt w (cfgs 0).N) (Proc.devRef .tc (Pipeline.arrRef (cfgs 0).spec w))
    = (dats m 0 c).arrAt w (cfgs 0).N :=
  Pipeline.withArrays_arr (cfgs 0).spec (by decide) c (V0 m c) _ w

theorem after_scale : Pipeline.afterTail₀ cfgs (dats m) 0 (V0 m) [hostOps1] c main_v20 = scaleGrad (argX m c) (argW m c) (argD m c) (argO m c) :=
  (tail_v20 _).trans ((congrArg (fun a : FVec Ideal S1x1024 .f32 => (shapeCast S1024 a shapeCasts_S1x1024_S1024 : FVec Ideal S1024 .f32)) ((exit m c 11).trans (final11 m c))).trans (flat_eq _))
theorem after_shift : Pipeline.afterTail₀ cfgs (dats m) 0 (V0 m) [hostOps1] c main_v21 = shiftGrad (argO m c) :=
  (tail_v21 _).trans ((congrArg (fun a : FVec Ideal S1x1024 .f32 => (shapeCast S1024 a shapeCasts_S1x1024_S1024 : FVec Ideal S1024 .f32)) ((exit m c 12).trans (final12 m c))).trans (flat_eq _))

/-- Every run of the idealized kernel ends with the three gradients. -/
theorem run (ρ : Dev nD → PrngReg) :
    θ_run defs (onTc (τ := τ) (main (F := Ideal))) ⟨m, fun _ => 0, ρ⟩ fun r => ∀ c : Dev nD,
      r.2.mem ((c.tc : Thread nD τ).loc main_v19_2) = inGrad (argX m c) (argW m c) (argD m c) (argG m c) (argO m c)
      ∧ r.2.mem ((c.tc : Thread nD τ).loc main_v20) = scaleGrad (argX m c) (argW m c) (argD m c) (argO m c)
      ∧ r.2.mem ((c.tc : Thread nD τ).loc main_v21) = shiftGrad (argO m c) := by
  refine (θ_run _ _ _).mono ?_ (run_main m ρ)
  intro r hr c
  obtain ⟨ha, hb⟩ := hr c
  exact ⟨(ha 9).trans (final9 m c), (hb main_v20 (by decide)).trans (after_scale m c), (hb main_v21 (by decide)).trans (after_shift m c)⟩

end Cert.Kernel5Ideal.Ffn
-- ==== Proof.FfnBwdEnd.lean ====
module

public import proofs.«01_k».proof.Defs
public import proofs.«01_k».proof.Proof.FfnBwdAt
public import proofs.«01_k».proof.Proof.FfnBwdRun
public import Idealize.ShloMosaic.Lib.Quiescent

/-!
# The backward call's claims

Where the arguments are finite, everything both programs form is real: there the reference's gradients, step by step, are
the kernel's formulas.
-/

@[expose] public section

set_option maxRecDepth 16384

noncomputable section

namespace Cert.Ffn

open Idealize.ShloMosaic Idealize.ShloMosaic.TcCoe Idealize.SL.Sem Finset
open Cert.Kernel5Ideal.Ffn (dgate dup gradRow actGrad inGrad scaleGrad shiftGrad)

/-! ## Real values -/

/-- The value is a real number. -/
def Finite (a : EReal) : Prop := ∃ r : ℝ, a = (r : EReal)

theorem Finite.add {a b : EReal} (ha : Finite a) (hb : Finite b) : Finite (a + b) := by
  obtain ⟨x, rfl⟩ := ha
  obtain ⟨y, rfl⟩ := hb
  exact ⟨x + y, (EReal.coe_add x y).symm⟩
theorem Finite.mul {a b : EReal} (ha : Finite a) (hb : Finite b) : Finite (a * b) := by
  obtain ⟨x, rfl⟩ := ha
  obtain ⟨y, rfl⟩ := hb
  exact ⟨x * y, (EReal.coe_mul x y).symm⟩
theorem Finite.sum {n : ℕ} {f : Fin n → EReal} (h : ∀ i, Finite (f i)) : Finite (∑ i, f i) := by
  choose g hg using h
  exact ⟨∑ i, g i, by rw [← coe_sum]; exact Finset.sum_congr rfl fun i _ => hg i⟩
theorem Finite.logistic {a : EReal} (ha : Finite a) : Finite (Ideal.logistic a) := by
  obtain ⟨x, rfl⟩ := ha
  exact ⟨_, Ideal.logistic_coe x⟩
theorem half_finite : Finite half := ⟨_, half_eq⟩

/-- A number whose absolute value is below infinity is real. -/
theorem finite_of (a : EReal) (h : max a (-a) < ⊤) : Finite a := by
  have h1 : a ≠ ⊤ := fun e => by rw [e] at h; simp at h
  have h2 : a ≠ ⊥ := fun e => by rw [e] at h; simp at h
  exact ⟨a.toReal, (EReal.coe_toReal h1 h2).symm⟩
theorem inf : Ideal.ofBits .f32 0x7F800000#32 = (⊤ : EReal) := by
  simp [Ideal.ofBits, Ideal.ieee, -EReal.coe_mul]
theorem entry {s : Shape} (hb : Cert.Pre_finite5.S_.BroadcastsInDim s (![] : Fin 0 → Fin s.rank)) (a : FVec Ideal s .f32)
    (h : cmpf .olt (Host.absf a) (broadcastInDim s ![] hb (constant (F := Ideal) Cert.Pre_finite5.S_ .f32 0x7F800000#32)) = fun _ => 1#1) (i : s.Idx) : Finite (a i) := by
  have e : BitVec.ofBool (decide (max (a i) (-(a i)) < Ideal.ofBits .f32 0x7F800000#32)) = 1#1 := congrFun h i
  rw [inf] at e
  refine finite_of _ ?_
  by_contra hn
  rw [decide_eq_false hn] at e
  exact absurd e (by decide)

/-! ## The gradients of real arguments -/

/-- Step by step a row's gradient is the formula. -/
theorem steps_eq (v t : Fin 1024 → EReal) (hv : ∀ k, Finite (v k)) (ht : ∀ k, Finite (t k)) (l : Fin 1024) :
    steps v t l = back v t l ∧ Finite (back v t l) := by
  choose v' ev using hv
  choose t' et using ht
  obtain rfl : v = fun k => (v' k : EReal) := funext ev
  obtain rfl : t = fun k => (t' k : EReal) := funext et
  obtain ⟨f, hb, hs⟩ := grad_real v' t'
  exact ⟨(hs l).trans (hb l).symm, f l, hb l⟩

theorem dgate_eq (a g u : EReal) (ha : Finite a) (hg : Finite g) (hu : Finite u) :
    a * u * Ideal.logistic g + g * (a * u) * (Ideal.logistic g * (one - Ideal.logistic g)) = dgate a g u := by
  obtain ⟨s, es⟩ := hg.logistic
  obtain ⟨a, rfl⟩ := ha
  obtain ⟨g, rfl⟩ := hg
  obtain ⟨u, rfl⟩ := hu
  unfold dgate
  rw [es, one_eq]
  simp only [← EReal.coe_mul, ← EReal.coe_sub, ← EReal.coe_add]
  exact congrArg (fun z : ℝ => (z : EReal)) (by ring)
theorem dup_eq (a g : EReal) : g * Ideal.logistic g * a = dup a g := mul_comm _ _

section Args

variable {x : Rows} {w : Up} {d : Down} {γ : Lane} {o : Rows}
  (hx : ∀ i, Finite (x i)) (hw : ∀ i, Finite (w i)) (hd : ∀ i, Finite (d i)) (hγ : ∀ i, Finite (γ i)) (ho : ∀ i, Finite (o i))

include hx hw in
theorem gate_finite (i) : Finite (gate x w i) := Finite.sum fun k => (hx _).mul (hw _)
include hx hw in
theorem up_finite (i) : Finite (up x w i) := Finite.sum fun k => (hx _).mul (hw _)
include hx hw hd in
theorem res_finite (i) : Finite (res x w d i) :=
  Finite.add (Finite.mul α_real (hx _)) (half_finite.mul (Finite.sum fun j =>
    Finite.mul (Finite.mul ((gate_finite hx hw _).mul (gate_finite hx hw _).logistic) (up_finite hx hw _)) (hd _)))
include hx hw hd hγ ho in
theorem row_eq (t : Fin 4096) (l : Fin 1024) :
    steps (fun k => res x w d (ix2 t k)) (fun k => o (ix2 t k) * γ (ix1 k)) l = gradRow x w d γ o t l ∧ Finite (gradRow x w d γ o t l) :=
  steps_eq _ _ (fun k => res_finite hx hw hd _) (fun k => (ho _).mul (hγ _)) l
include hx hw hd hγ ho in
theorem act_finite (t : Fin 4096) (j : Fin 2816) : Finite (actGrad x w d γ o t j) :=
  Finite.sum fun l => (half_finite.mul (row_eq hx hw hd hγ ho t l).2).mul (hd _)

end Args

end Cert.Ffn

namespace Cert.Reference5Ideal.Ffn

open Idealize.ShloMosaic Idealize.ShloMosaic.TcCoe Idealize.ShloMosaic.StableHlo Idealize.SL.Sem Finset
open Cert.Reference5Ideal Cert.Reference5Ideal.Gen Cert.Ffn
open Cert.Kernel5Ideal.Ffn (dgate dup gradRow actGrad inGrad scaleGrad shiftGrad)

/-- The reference's input gradient, as the host writes it. -/
def backIn (x : Rows) (w : Up) (d : Down) (γ : Lane) (o : Rows) : Rows :=
  hostIn (hostPair (mulf (hostGate x w) (sgm (hostGate x w))) (sgm' (hostGate x w)) (sgm (hostGate x w)) (hostGate x w) (hostUp x w)
    (hostDown (gradOf (streamOf x w d) γ o) d)) w (gradOf (streamOf x w d) γ o)
/-- Its scale gradient, as the host writes it. -/
def backScale (x : Rows) (w : Up) (d : Down) (o : Rows) : Lane := total (mulf (units (streamOf x w d)) (seen o))

theorem stream_eq (x : Rows) (w : Up) (d : Down) : streamOf x w d = res x w d := res_eq x w d

theorem sum_pair (f : Fin 5632 → EReal) : ∑ n, f n = ∑ j : Fin 2816, f ⟨j.val, by omega⟩ + ∑ j : Fin 2816, f ⟨2816 + j.val, by omega⟩ :=
  (Fin.sum_univ_add (M := EReal) (a := 2816) (b := 2816) f).trans rfl

theorem backIn_eq (x : Rows) (w : Up) (d : Down) (γ : Lane) (o : Rows)
    (hx : ∀ i, Finite (x i)) (hw : ∀ i, Finite (w i)) (hd : ∀ i, Finite (d i)) (hγ : ∀ i, Finite (γ i)) (ho : ∀ i, Finite (o i)) :
    backIn x w d γ o = inGrad x w d γ o := by
  funext i
  obtain ⟨t, l, rfl⟩ : ∃ (t : Fin 4096) (l : Fin 1024), i = ix2 t l := ⟨i 0, i 1, (ix2_eta i).symm⟩
  have hr : ∀ l, gradOf (streamOf x w d) γ o (ix2 t l) = gradRow x w d γ o t l := fun l => by
    rw [grad_at, stream_eq]
    exact (row_eq hx hw hd hγ ho t l).1
  have ha : ∀ j, hostDown (gradOf (streamOf x w d) γ o) d (ix2 t j) = actGrad x w d γ o t j := fun j => by
    rw [down_at]
    exact Finset.sum_congr rfl fun l _ => by rw [hr]
  have hs : ∀ j, mulf (F := Ideal) (φ := .f32) (hostGate x w) (sgm (hostGate x w)) (ix2 t j) = gate x w (ix2 t j) * Ideal.logistic (gate x w (ix2 t j)) := fun j => by
    rw [← gate_eq, ← sgm_at]
    rfl
  unfold backIn
  rw [in_at, hr, add_comm, sum_pair, ← add_assoc]
  refine congrArg₂ (· + ·) (congrArg₂ (· + ·) rfl ?_) ?_
  · refine Finset.sum_congr rfl fun j _ => ?_
    rw [pair_lo, ha, sgm_at, sgm'_at, gate_eq, up_eq,
      dgate_eq _ _ _ (act_finite hx hw hd hγ ho t j) (gate_finite hx hw _) (up_finite hx hw _)]
    rfl
  · refine Finset.sum_congr rfl fun j _ => ?_
    rw [pair_hi, ha, hs, dup_eq]
    rfl
theorem backScale_eq (x : Rows) (w : Up) (d : Down) (o : Rows) : backScale x w d o = scaleGrad x w d o := by
  funext i
  obtain ⟨l, rfl⟩ : ∃ l : Fin 1024, i = ix1 l := ⟨i 0, funext fun a => by match a with | ⟨0, _⟩ => rfl⟩
  unfold backScale
  rw [total_at, seen_eq, stream_eq]
  refine Finset.sum_congr rfl fun t _ => ?_
  have e : mulf (F := Ideal) (φ := .f32) (units (res x w d)) o (ix2 t l) = units (res x w d) (ix2 t l) * o (ix2 t l) := rfl
  rw [e, units_at, mul_comm]
  rfl
theorem total_eq (o : Rows) : total o = shiftGrad o := by
  funext i
  obtain ⟨l, rfl⟩ : ∃ l : Fin 1024, i = ix1 l := ⟨i 0, funext fun a => by match a with | ⟨0, _⟩ => rfl⟩
  exact total_at o l

/-- Every run of the reference ends with the gradients of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = backIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v49) = backScale (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v43) = total (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c => ⟨(h c main_v84).trans (read_v84 _), (h c main_v49).trans (read_v49 _), (h c main_v43).trans (read_v43 _),
      (h c main_arg0).trans (read_arg0 _),
      (h c main_arg1).trans (read_arg1 _),
      (h c main_arg2).trans (read_arg2 _),
      (h c main_arg3).trans (read_arg3 _),
      (h c main_arg4).trans (read_arg4 _),
      (h c main_arg5).trans (read_arg5 _)⟩)
    (run_seq no_refs no_sems defs main (fun _ => line (F := Ideal)) main_line (fun _ => line_sub) m ρ)

end Cert.Reference5Ideal.Ffn

namespace Cert.Steps5

open Idealize.ShloMosaic Idealize.ShloMosaic.TcCoe Idealize.SL.Sem Cert.Ffn
open Cert.Kernel5Ideal.Ffn (inGrad scaleGrad shiftGrad)
open Cert.Reference5Ideal.Ffn (backIn_eq backScale_eq total_eq)

theorem facts : Cert.Pre_finite5.Facts := ⟨by decide, by decide, by decide, by decide⟩

/-- The reference leaves its arguments unchanged, and has no counter that could end at anything but zero. -/
theorem reference_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) := by
  refine (θ_run _ _ _).mono ?_ (Cert.Reference5Ideal.Ffn.run m g)
  intro r h
  exact ⟨fun c => (h c).2.2.2, sem_eq_zero_of_no_sems (by decide) _⟩

/-- Of finite arguments the idealized kernel and the reference end with the same three gradients. -/
theorem algebraic : Cert.algebraic_Kernel5Ideal_Reference5Ideal_pre_finite5 (hKernel5Ideal := Cert.Kernel5Ideal.Gen.facts)
    (hReference5Ideal := Cert.Reference5Ideal.Gen.facts) (hPre_finite5 := facts) := by
  intro m g m' g' hpre hagree
  refine ⟨fun c => inGrad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)), fun c => scaleGrad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg5)), fun c => shiftGrad (m ((c.tc : Thread Cert.Kernel5Ideal.nD Cert.Kernel5Ideal.τ).loc Cert.Kernel5Ideal.main_arg5)), ?_, ?_⟩
  · refine (θ_run _ _ _).mono ?_ (θ_run_and (Cert.Kernel5Ideal.Ffn.run m g) (Cert.Kernel5Ideal.Gen.unchanged m g))
    rintro r ⟨h, hu⟩ c
    obtain ⟨e0, e1, e2⟩ := h c
    exact ⟨e0, e1, e2, hu c⟩
  · refine (θ_run _ _ _).mono ?_ (Cert.Reference5Ideal.Ffn.run m' g')
    intro r h c
    obtain ⟨e0, e1, e2, hu⟩ := h c
    obtain ⟨a0, a1, a2, a3, a4, a5⟩ := hagree c
    obtain ⟨h0, h1, h2, h3, h5⟩ := hpre c
    refine ⟨e0.trans ?_, e1.trans ?_, e2.trans ?_, hu⟩
    · rw [a0, a1, a2, a3, a5]
      exact backIn_eq _ _ _ _ _ (entry _ _ h0) (entry _ _ h1) (entry _ _ h2) (entry _ _ h3) (entry _ _ h5)
    · rw [a0, a1, a2, a5]
      exact backScale_eq _ _ _ _
    · rw [a5]
      exact total_eq _

end Cert.Steps5
-- ==== Proof.Adam.lean ====
module

public import Idealize.ShloMosaic.Lib.Quiescent
public import proofs.«01_k».proof.Defs
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run

/-!
# The optimiser's calls

A grid point updates one block of rows of a weight: its running mean, its running mean of squares, and the step. Every entry
of the three results is one expression in the four entries at its place, and it is the expression the reference writes for the
whole array, constants included. So the blocks only have to tile the arrays.
-/

@[expose] public section

set_option maxRecDepth 16384

noncomputable section

open Idealize.ShloMosaic Idealize.ShloMosaic.TcCoe Idealize.SL.Sem

/-! ## The second sublayer's w_gate_up -/

namespace Cert.Adam6

/-- Kernel and reference end with the same step and the same two running means. -/
theorem algebraic : Cert.algebraic_Kernel6Ideal_Reference6Ideal (hKernel6Ideal := Cert.Kernel6Ideal.Gen.facts) (hReference6Ideal := Cert.Reference6Ideal.Gen.facts) := by
  intro m g m' g' hpre hagree
  refine ⟨_, _, _, Cert.Kernel6Ideal.Value.run m g, (θ_run _ _ _).mono (fun r h c => ?_) (Cert.Reference6Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam6

/-! ## The second sublayer's w_down -/

namespace Cert.Adam7

/-- Kernel and reference end with the same step and the same two running means. -/
theorem algebraic : Cert.algebraic_Kernel7Ideal_Reference7Ideal (hKernel7Ideal := Cert.Kernel7Ideal.Gen.facts) (hReference7Ideal := Cert.Reference7Ideal.Gen.facts) := by
  intro m g m' g' hpre hagree
  refine ⟨_, _, _, Cert.Kernel7Ideal.Value.run m g, (θ_run _ _ _).mono (fun r h c => ?_) (Cert.Reference7Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam7

/-! ## The memory's w_kv -/

namespace Cert.Adam8

/-- Kernel and reference end with the same step and the same two running means. -/
theorem algebraic : Cert.algebraic_Kernel8Ideal_Reference8Ideal (hKernel8Ideal := Cert.Kernel8Ideal.Gen.facts) (hReference8Ideal := Cert.Reference8Ideal.Gen.facts) := by
  intro m g m' g' hpre hagree
  refine ⟨_, _, _, Cert.Kernel8Ideal.Value.run m g, (θ_run _ _ _).mono (fun r h c => ?_) (Cert.Reference8Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam8

/-! ## Layer A's w_in -/

namespace Cert.Adam9

/-- Kernel and reference end with the same step and the same two running means. -/
theorem algebraic : Cert.algebraic_Kernel9Ideal_Reference9Ideal (hKernel9Ideal := Cert.Kernel9Ideal.Gen.facts) (hReference9Ideal := Cert.Reference9Ideal.Gen.facts) := by
  intro m g m' g' hpre hagree
  refine ⟨_, _, _, Cert.Kernel9Ideal.Value.run m g, (θ_run _ _ _).mono (fun r h c => ?_) (Cert.Reference9Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam9

/-! ## Layer A's w_out -/

namespace Cert.Adam10

/-- Kernel and reference end with the same step and the same two running means. -/
theorem algebraic : Cert.algebraic_Kernel10Ideal_Reference10Ideal (hKernel10Ideal := Cert.Kernel10Ideal.Gen.facts) (hReference10Ideal := Cert.Reference10Ideal.Gen.facts) := by
  intro m g m' g' hpre hagree
  refine ⟨_, _, _, Cert.Kernel10Ideal.Value.run m g, (θ_run _ _ _).mono (fun r h c => ?_) (Cert.Reference10Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam10

/-! ## Layer B's w_in -/

namespace Cert.Adam11

/-- Kernel and reference end with the same step and the same two running means. -/
theorem algebraic : Cert.algebraic_Kernel11Ideal_Reference11Ideal (hKernel11Ideal := Cert.Kernel11Ideal.Gen.facts) (hReference11Ideal := Cert.Reference11Ideal.Gen.facts) := by
  intro m g m' g' hpre hagree
  refine ⟨_, _, _, Cert.Kernel11Ideal.Value.run m g, (θ_run _ _ _).mono (fun r h c => ?_) (Cert.Reference11Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam11

/-! ## Layer B's w_out -/

namespace Cert.Adam12

/-- Kernel and reference end with the same step and the same two running means. -/
theorem algebraic : Cert.algebraic_Kernel12Ideal_Reference12Ideal (hKernel12Ideal := Cert.Kernel12Ideal.Gen.facts) (hReference12Ideal := Cert.Reference12Ideal.Gen.facts) := by
  intro m g m' g' hpre hagree
  refine ⟨_, _, _, Cert.Kernel12Ideal.Value.run m g, (θ_run _ _ _).mono (fun r h c => ?_) (Cert.Reference12Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam12

/-! ## The packed rows of the small weights -/

namespace Cert.Adam13

/-- Kernel and reference end with the same step and the same two running means. -/
theorem algebraic : Cert.algebraic_Kernel13Ideal_Reference13Ideal (hKernel13Ideal := Cert.Kernel13Ideal.Gen.facts) (hReference13Ideal := Cert.Reference13Ideal.Gen.facts) := by
  intro m g m' g' hpre hagree
  refine ⟨_, _, _, Cert.Kernel13Ideal.Value.run m g, (θ_run _ _ _).mono (fun r h c => ?_) (Cert.Reference13Ideal.Value.run m' g')⟩
  obtain ⟨h0, h1, h2, hu⟩ := h c
  obtain ⟨a0, a1, a2, a3⟩ := hagree c
  rw [a0, a1, a2, a3] at h0
  rw [a1, a2] at h1
  rw [a1, a3] at h2
  exact ⟨h0.trans rfl, h1.trans rfl, h2.trans rfl, hu⟩

end Cert.Adam13

end
-- ==== Proof.lean ====
module

public import proofs.«01_k».proof.Proof.Gen.Kernel14.Frame
public import proofs.«01_k».proof.Proof.Gen.Kernel15.Frame
public import proofs.«01_k».proof.Proof.AdamPair
public import proofs.«01_k».proof.Proof.AdamPairDown
public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.FoxFinite
public import proofs.«01_k».proof.Proof.Steps
public import proofs.«01_k».proof.Proof.FfnBwdEnd
public import proofs.«01_k».proof.Proof.Adam

@[expose] public section

noncomputable section

namespace Cert.Proof

open Idealize.ShloMosaic Idealize.SL.Sem

/-- The claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.FoxFinite.facts, Cert.Steps5.facts,
    fun m ρ _ => Cert.Kernel.Gen.frame m ρ,
    fun m ρ _ => Cert.KernelIdeal.Gen.frame m ρ,
    fun m ρ _ => Cert.KernelIdeal.Gen.frame m ρ,
    fun m ρ _ => Cert.FoxFinite.reference_frame m ρ,
    fun m ρ _ => Cert.FoxFinite.reference_frame m ρ,
    fun m ρ _ => Cert.Kernel2.Gen.frame m ρ,
    fun m ρ _ => Cert.Kernel2Ideal.Gen.frame m ρ,
    fun m ρ _ => Cert.Steps2.reference_frame m ρ,
    fun m ρ _ => Cert.Kernel3.Gen.frame m ρ,
    fun m ρ _ => Cert.Kernel3Ideal.Gen.frame m ρ,
    fun m ρ _ => Cert.Steps3.reference_frame m ρ,
    fun m ρ _ => Cert.Kernel4.Gen.frame m ρ,
    fun m ρ _ => Cert.Kernel4Ideal.Gen.frame m ρ,
    fun m ρ _ => Cert.Steps4.reference_frame m ρ,
    fun m ρ _ => Cert.Kernel5.Gen.frame m ρ,
    fun m ρ _ => Cert.Kernel5Ideal.Gen.frame m ρ,
    fun m ρ _ => Cert.Kernel5Ideal.Gen.frame m ρ,
    fun m ρ _ => Cert.Steps5.reference_frame m ρ,
    fun m ρ _ => Cert.Steps5.reference_frame m ρ,
    fun m ρ _ => Cert.Kernel6.Gen.frame m ρ,
    fun m ρ _ => Cert.Kernel6Ideal.Gen.frame m ρ,
    fun m ρ _ => (θ_run _ _ _).mono (fun r h => ⟨fun c => (h c).2.2.2, sem_eq_zero_of_no_sems (by decide) _⟩) (Cert.Reference6Ideal.Value.run m ρ),
    fun m ρ _ => Cert.Kernel7.Gen.frame m ρ,
    fun m ρ _ => Cert.Kernel7Ideal.Gen.frame m ρ,
    fun m ρ _ => (θ_run _ _ _).mono (fun r h => ⟨fun c => (h c).2.2.2, sem_eq_zero_of_no_sems (by decide) _⟩) (Cert.Reference7Ideal.Value.run m ρ),
    fun m ρ _ => Cert.Kernel8.Gen.frame m ρ,
    fun m ρ _ => Cert.Kernel8Ideal.Gen.frame m ρ,
    fun m ρ _ => (θ_run _ _ _).mono (fun r h => ⟨fun c => (h c).2.2.2, sem_eq_zero_of_no_sems (by decide) _⟩) (Cert.Reference8Ideal.Value.run m ρ),
    fun m ρ _ => Cert.Kernel9.Gen.frame m ρ,
    fun m ρ _ => Cert.Kernel9Ideal.Gen.frame m ρ,
    fun m ρ _ => (θ_run _ _ _).mono (fun r h => ⟨fun c => (h c).2.2.2, sem_eq_zero_of_no_sems (by decide) _⟩) (Cert.Reference9Ideal.Value.run m ρ),
    fun m ρ _ => Cert.Kernel10.Gen.frame m ρ,
    fun m ρ _ => Cert.Kernel10Ideal.Gen.frame m ρ,
    fun m ρ _ => (θ_run _ _ _).mono (fun r h => ⟨fun c => (h c).2.2.2, sem_eq_zero_of_no_sems (by decide) _⟩) (Cert.Reference10Ideal.Value.run m ρ),
    fun m ρ _ => Cert.Kernel11.Gen.frame m ρ,
    fun m ρ _ => Cert.Kernel11Ideal.Gen.frame m ρ,
    fun m ρ _ => (θ_run _ _ _).mono (fun r h => ⟨fun c => (h c).2.2.2, sem_eq_zero_of_no_sems (by decide) _⟩) (Cert.Reference11Ideal.Value.run m ρ),
    fun m ρ _ => Cert.Kernel12.Gen.frame m ρ,
    fun m ρ _ => Cert.Kernel12Ideal.Gen.frame m ρ,
    fun m ρ _ => (θ_run _ _ _).mono (fun r h => ⟨fun c => (h c).2.2.2, sem_eq_zero_of_no_sems (by decide) _⟩) (Cert.Reference12Ideal.Value.run m ρ),
    fun m ρ _ => Cert.Kernel13.Gen.frame m ρ,
    fun m ρ _ => Cert.Kernel13Ideal.Gen.frame m ρ,
    fun m ρ _ => (θ_run _ _ _).mono (fun r h => ⟨fun c => (h c).2.2.2, sem_eq_zero_of_no_sems (by decide) _⟩) (Cert.Reference13Ideal.Value.run m ρ),
    fun m ρ _ => Cert.Kernel14.Gen.frame m ρ,
    fun m ρ _ => Cert.Kernel14Ideal.Gen.frame m ρ,
    fun m ρ _ => (θ_run _ _ _).mono (fun r h => ⟨fun c => (h c).2.2.2, sem_eq_zero_of_no_sems (by decide) _⟩) (Cert.Reference14Ideal.Value.run m ρ),
    fun m ρ _ => Cert.Kernel15.Gen.frame m ρ,
    fun m ρ _ => Cert.Kernel15Ideal.Gen.frame m ρ,
    fun m ρ _ => (θ_run _ _ _).mono (fun r h => ⟨fun c => (h c).2.2.2, sem_eq_zero_of_no_sems (by decide) _⟩) (Cert.Reference15Ideal.Value.run m ρ),
    IdealRules.named_const.statement Cert.KernelIdeal.κ "mask" .f32 0xF149F2CA#32 ⊥ rfl,
    Cert.FoxFinite.algebraic,
    trivial, Cert.Steps2.algebraic,
    trivial, Cert.Steps3.algebraic,
    trivial, Cert.Steps4.algebraic,
    trivial, Cert.Steps5.algebraic,
    trivial, Cert.Adam6.algebraic,
    trivial, Cert.Adam7.algebraic,
    trivial, Cert.Adam8.algebraic,
    trivial, Cert.Adam9.algebraic,
    trivial, Cert.Adam10.algebraic,
    trivial, Cert.Adam11.algebraic,
    trivial, Cert.Adam12.algebraic,
    trivial, Cert.Adam13.algebraic,
    trivial, Cert.AdamPair14.algebraic,
    trivial, Cert.AdamPair15.algebraic⟩

end Cert.Proof

end
